-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 [hPre_finite23 : Cert.Pre_finite23.Facts] (m : (ℓ : Loc Cert.Kernel23.nD Cert.Kernel23.τ Cert.Kernel23.sig) → Buf (Elt Bits) ℓ) : Prop :=
  ∀ c : Dev Cert.Kernel23.nD,
    (Cert.Pre_finite23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3))) = (fun _ => 1#1)

def Pre_Kernel23Ideal [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))) = (fun _ => 1#1)

def Pre_Reference23Ideal [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel33 [hPre_chip_named33 : Cert.Pre_chip_named33.Facts] (m : (ℓ : Loc Cert.Kernel33.nD Cert.Kernel33.τ Cert.Kernel33.sig) → Buf (Elt Bits) ℓ) : Prop :=
  ∀ c : Dev Cert.Kernel33.nD,
    (Cert.Pre_chip_named33.fn (F := Bits) (m ((c.tc : Thread Cert.Kernel33.nD Cert.Kernel33.τ).loc Cert.Kernel33.main_arg0)) (m ((c.tc : Thread Cert.Kernel33.nD Cert.Kernel33.τ).loc Cert.Kernel33.main_arg1)) (m ((c.tc : Thread Cert.Kernel33.nD Cert.Kernel33.τ).loc Cert.Kernel33.main_arg2)) (m ((c.tc : Thread Cert.Kernel33.nD Cert.Kernel33.τ).loc Cert.Kernel33.main_arg3)) (m ((c.tc : Thread Cert.Kernel33.nD Cert.Kernel33.τ).loc Cert.Kernel33.main_arg4)) (m ((c.tc : Thread Cert.Kernel33.nD Cert.Kernel33.τ).loc Cert.Kernel33.main_arg5))) = (fun _ => 1#1)

def Pre_Kernel33Ideal [hPre_chip_named33 : Cert.Pre_chip_named33.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_chip_named33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4)) (m ((c.tc : Thread Cert.Kernel33Ideal.nD Cert.Kernel33Ideal.τ).loc Cert.Kernel33Ideal.main_arg5))) = (fun _ => 1#1)

def Pre_Reference33Ideal [hPre_chip_named33 : Cert.Pre_chip_named33.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_chip_named33.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4)) (m ((c.tc : Thread Cert.Reference33Ideal.nD Cert.Reference33Ideal.τ).loc Cert.Reference33Ideal.main_arg5))) = (fun _ => 1#1)

def Pre_Kernel34 [hPre_chip_named34 : Cert.Pre_chip_named34.Facts] (m : (ℓ : Loc Cert.Kernel34.nD Cert.Kernel34.τ Cert.Kernel34.sig) → Buf (Elt Bits) ℓ) : Prop :=
  ∀ c : Dev Cert.Kernel34.nD,
    (Cert.Pre_chip_named34.fn (F := Bits) (m ((c.tc : Thread Cert.Kernel34.nD Cert.Kernel34.τ).loc Cert.Kernel34.main_arg0)) (m ((c.tc : Thread Cert.Kernel34.nD Cert.Kernel34.τ).loc Cert.Kernel34.main_arg1)) (m ((c.tc : Thread Cert.Kernel34.nD Cert.Kernel34.τ).loc Cert.Kernel34.main_arg2)) (m ((c.tc : Thread Cert.Kernel34.nD Cert.Kernel34.τ).loc Cert.Kernel34.main_arg3)) (m ((c.tc : Thread Cert.Kernel34.nD Cert.Kernel34.τ).loc Cert.Kernel34.main_arg4)) (m ((c.tc : Thread Cert.Kernel34.nD Cert.Kernel34.τ).loc Cert.Kernel34.main_arg5))) = (fun _ => 1#1)

def Pre_Kernel34Ideal [hPre_chip_named34 : Cert.Pre_chip_named34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_chip_named34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4)) (m ((c.tc : Thread Cert.Kernel34Ideal.nD Cert.Kernel34Ideal.τ).loc Cert.Kernel34Ideal.main_arg5))) = (fun _ => 1#1)

def Pre_Reference34Ideal [hPre_chip_named34 : Cert.Pre_chip_named34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_chip_named34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4)) (m ((c.tc : Thread Cert.Reference34Ideal.nD Cert.Reference34Ideal.τ).loc Cert.Reference34Ideal.main_arg5))) = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 [hPre_chip_named36 : Cert.Pre_chip_named36.Facts] (m : (ℓ : Loc Cert.Kernel36.nD Cert.Kernel36.τ Cert.Kernel36.sig) → Buf (Elt Bits) ℓ) : Prop :=
  ∀ c : Dev Cert.Kernel36.nD,
    (Cert.Pre_chip_named36.fn (F := Bits) (m ((c.tc : Thread Cert.Kernel36.nD Cert.Kernel36.τ).loc Cert.Kernel36.main_arg0)) (m ((c.tc : Thread Cert.Kernel36.nD Cert.Kernel36.τ).loc Cert.Kernel36.main_arg1)) (m ((c.tc : Thread Cert.Kernel36.nD Cert.Kernel36.τ).loc Cert.Kernel36.main_arg2))) = (fun _ => 1#1)

def Pre_Kernel36Ideal [hPre_chip_named36 : Cert.Pre_chip_named36.Facts] (m : (ℓ : Loc Cert.Kernel36Ideal.nD Cert.Kernel36Ideal.τ Cert.Kernel36Ideal.sig) → Buf (Elt Ideal) ℓ) : Prop :=
  ∀ c : Dev Cert.Kernel36Ideal.nD,
    (Cert.Pre_chip_named36.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))) = (fun _ => 1#1)

def Pre_Reference36Ideal [hPre_chip_named36 : Cert.Pre_chip_named36.Facts] (m : (ℓ : Loc Cert.Reference36Ideal.nD Cert.Reference36Ideal.τ Cert.Reference36Ideal.sig) → Buf (Elt Ideal) ℓ) : Prop :=
  ∀ c : Dev Cert.Reference36Ideal.nD,
    (Cert.Pre_chip_named36.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))) = (fun _ => 1#1)

def Pre_Kernel37 [hPre_chip_named37 : Cert.Pre_chip_named37.Facts] (m : (ℓ : Loc Cert.Kernel37.nD Cert.Kernel37.τ Cert.Kernel37.sig) → Buf (Elt Bits) ℓ) : Prop :=
  ∀ c : Dev Cert.Kernel37.nD,
    (Cert.Pre_chip_named37.fn (F := Bits) (m ((c.tc : Thread Cert.Kernel37.nD Cert.Kernel37.τ).loc Cert.Kernel37.main_arg0)) (m ((c.tc : Thread Cert.Kernel37.nD Cert.Kernel37.τ).loc Cert.Kernel37.main_arg1)) (m ((c.tc : Thread Cert.Kernel37.nD Cert.Kernel37.τ).loc Cert.Kernel37.main_arg2))) = (fun _ => 1#1)

def Pre_Kernel37Ideal [hPre_chip_named37 : Cert.Pre_chip_named37.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_chip_named37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2))) = (fun _ => 1#1)

def Pre_Reference37Ideal [hPre_chip_named37 : Cert.Pre_chip_named37.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_chip_named37.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2))) = (fun _ => 1#1)

def Pre_Kernel38 [hPre_chip_named38 : Cert.Pre_chip_named38.Facts] (m : (ℓ : Loc Cert.Kernel38.nD Cert.Kernel38.τ Cert.Kernel38.sig) → Buf (Elt Bits) ℓ) : Prop :=
  ∀ c : Dev Cert.Kernel38.nD,
    (Cert.Pre_chip_named38.fn (F := Bits) (m ((c.tc : Thread Cert.Kernel38.nD Cert.Kernel38.τ).loc Cert.Kernel38.main_arg0)) (m ((c.tc : Thread Cert.Kernel38.nD Cert.Kernel38.τ).loc Cert.Kernel38.main_arg1)) (m ((c.tc : Thread Cert.Kernel38.nD Cert.Kernel38.τ).loc Cert.Kernel38.main_arg2))) = (fun _ => 1#1)

def Pre_Kernel38Ideal [hPre_chip_named38 : Cert.Pre_chip_named38.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_chip_named38.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2))) = (fun _ => 1#1)

def Pre_Reference38Ideal [hPre_chip_named38 : Cert.Pre_chip_named38.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_chip_named38.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] [hPre_finite23 : Cert.Pre_finite23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel33 [hKernel33 : Cert.Kernel33.Facts] [hPre_chip_named33 : Cert.Pre_chip_named33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5))
      ∧ r.2.sem = fun _ => 0)

def quiescent_Kernel33Ideal [hKernel33Ideal : Cert.Kernel33Ideal.Facts] [hPre_chip_named33 : Cert.Pre_chip_named33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ r.2.sem = fun _ => 0)

def quiescent_Reference33Ideal [hReference33Ideal : Cert.Reference33Ideal.Facts] [hPre_chip_named33 : Cert.Pre_chip_named33.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5))
      ∧ r.2.sem = fun _ => 0)

def quiescent_Kernel34 [hKernel34 : Cert.Kernel34.Facts] [hPre_chip_named34 : Cert.Pre_chip_named34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5))
      ∧ r.2.sem = fun _ => 0)

def quiescent_Kernel34Ideal [hKernel34Ideal : Cert.Kernel34Ideal.Facts] [hPre_chip_named34 : Cert.Pre_chip_named34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ r.2.sem = fun _ => 0)

def quiescent_Reference34Ideal [hReference34Ideal : Cert.Reference34Ideal.Facts] [hPre_chip_named34 : Cert.Pre_chip_named34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] [hPre_chip_named36 : Cert.Pre_chip_named36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] [hPre_chip_named36 : Cert.Pre_chip_named36.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] [hPre_chip_named36 : Cert.Pre_chip_named36.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] [hPre_chip_named37 : Cert.Pre_chip_named37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] [hPre_chip_named37 : Cert.Pre_chip_named37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] [hPre_chip_named37 : Cert.Pre_chip_named37.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] [hPre_chip_named38 : Cert.Pre_chip_named38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] [hPre_chip_named38 : Cert.Pre_chip_named38.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] [hPre_chip_named38 : Cert.Pre_chip_named38.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v38) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_v39) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v81) = v0 c
          ∧ r.2.mem ((c.tc : Thread Cert.Reference22Ideal.nD Cert.Reference22Ideal.τ).loc Cert.Reference22Ideal.main_v85) = v1 c
          ∧ r.2.mem ((c.tc : Thread Cert.Reference22Ideal.nD Cert.Reference22Ideal.τ).loc Cert.Reference22Ideal.main_v84) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v83) = v0 c
          ∧ r.2.mem ((c.tc : Thread Cert.Reference23Ideal.nD Cert.Reference23Ideal.τ).loc Cert.Reference23Ideal.main_v76) = v1 c
          ∧ r.2.mem ((c.tc : Thread Cert.Reference23Ideal.nD Cert.Reference23Ideal.τ).loc Cert.Reference23Ideal.main_v77) = v2 c
          ∧ r.2.mem ((c.tc : Thread Cert.Reference23Ideal.nD Cert.Reference23Ideal.τ).loc Cert.Reference23Ideal.main_v78) = v3 c
          ∧ r.2.mem ((c.tc : Thread Cert.Reference23Ideal.nD Cert.Reference23Ideal.τ).loc Cert.Reference23Ideal.main_v79) = v4 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v28) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v31) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v51) = v0 c
          ∧ r.2.mem ((c.tc : Thread Cert.Reference28Ideal.nD Cert.Reference28Ideal.τ).loc Cert.Reference28Ideal.main_v71) = v1 c
          ∧ r.2.mem ((c.tc : Thread Cert.Reference28Ideal.nD Cert.Reference28Ideal.τ).loc Cert.Reference28Ideal.main_v52) = v2 c
          ∧ r.2.mem ((c.tc : Thread Cert.Reference28Ideal.nD Cert.Reference28Ideal.τ).loc Cert.Reference28Ideal.main_v70) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel33_Kernel33Ideal : Prop :=
  True

def algebraic_Kernel33Ideal_Reference33Ideal [hKernel33Ideal : Cert.Kernel33Ideal.Facts] [hReference33Ideal : Cert.Reference33Ideal.Facts] [hPre_chip_named33 : Cert.Pre_chip_named33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v9) = v0 c
          ∧ r.2.mem ((c.tc : Thread Cert.Reference33Ideal.nD Cert.Reference33Ideal.τ).loc Cert.Reference33Ideal.main_v33) = v1 c
          ∧ r.2.mem ((c.tc : Thread Cert.Reference33Ideal.nD Cert.Reference33Ideal.τ).loc Cert.Reference33Ideal.main_v14) = v2 c
          ∧ r.2.mem ((c.tc : Thread Cert.Reference33Ideal.nD Cert.Reference33Ideal.τ).loc Cert.Reference33Ideal.main_v20) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5))

def preserves_Kernel34_Kernel34Ideal : Prop :=
  True

def algebraic_Kernel34Ideal_Reference34Ideal [hKernel34Ideal : Cert.Kernel34Ideal.Facts] [hReference34Ideal : Cert.Reference34Ideal.Facts] [hPre_chip_named34 : Cert.Pre_chip_named34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v9) = v0 c
          ∧ r.2.mem ((c.tc : Thread Cert.Reference34Ideal.nD Cert.Reference34Ideal.τ).loc Cert.Reference34Ideal.main_v33) = v1 c
          ∧ r.2.mem ((c.tc : Thread Cert.Reference34Ideal.nD Cert.Reference34Ideal.τ).loc Cert.Reference34Ideal.main_v14) = v2 c
          ∧ r.2.mem ((c.tc : Thread Cert.Reference34Ideal.nD Cert.Reference34Ideal.τ).loc Cert.Reference34Ideal.main_v20) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] [hPre_chip_named36 : Cert.Pre_chip_named36.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v9) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] [hPre_chip_named37 : Cert.Pre_chip_named37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v9) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] [hPre_chip_named38 : Cert.Pre_chip_named38.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v9) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite23 : Cert.Pre_finite23.Facts) (hPre_chip_named33 : Cert.Pre_chip_named33.Facts) (hPre_chip_named34 : Cert.Pre_chip_named34.Facts) (hPre_chip_named36 : Cert.Pre_chip_named36.Facts) (hPre_chip_named37 : Cert.Pre_chip_named37.Facts) (hPre_chip_named38 : Cert.Pre_chip_named38.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23) (hPre_finite23 := hPre_finite23)
    ∧ quiescent_Kernel23Ideal (hKernel23Ideal := hKernel23Ideal) (hPre_finite23 := hPre_finite23)
    ∧ quiescent_Reference23Ideal (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel33 (hKernel33 := hKernel33) (hPre_chip_named33 := hPre_chip_named33)
    ∧ quiescent_Kernel33Ideal (hKernel33Ideal := hKernel33Ideal) (hPre_chip_named33 := hPre_chip_named33)
    ∧ quiescent_Reference33Ideal (hReference33Ideal := hReference33Ideal) (hPre_chip_named33 := hPre_chip_named33)
    ∧ quiescent_Kernel34 (hKernel34 := hKernel34) (hPre_chip_named34 := hPre_chip_named34)
    ∧ quiescent_Kernel34Ideal (hKernel34Ideal := hKernel34Ideal) (hPre_chip_named34 := hPre_chip_named34)
    ∧ quiescent_Reference34Ideal (hReference34Ideal := hReference34Ideal) (hPre_chip_named34 := hPre_chip_named34)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36) (hPre_chip_named36 := hPre_chip_named36)
    ∧ quiescent_Kernel36Ideal (hKernel36Ideal := hKernel36Ideal) (hPre_chip_named36 := hPre_chip_named36)
    ∧ quiescent_Reference36Ideal (hReference36Ideal := hReference36Ideal) (hPre_chip_named36 := hPre_chip_named36)
    ∧ quiescent_Kernel37 (hKernel37 := hKernel37) (hPre_chip_named37 := hPre_chip_named37)
    ∧ quiescent_Kernel37Ideal (hKernel37Ideal := hKernel37Ideal) (hPre_chip_named37 := hPre_chip_named37)
    ∧ quiescent_Reference37Ideal (hReference37Ideal := hReference37Ideal) (hPre_chip_named37 := hPre_chip_named37)
    ∧ quiescent_Kernel38 (hKernel38 := hKernel38) (hPre_chip_named38 := hPre_chip_named38)
    ∧ quiescent_Kernel38Ideal (hKernel38Ideal := hKernel38Ideal) (hPre_chip_named38 := hPre_chip_named38)
    ∧ quiescent_Reference38Ideal (hReference38Ideal := hReference38Ideal) (hPre_chip_named38 := hPre_chip_named38)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel33_Kernel33Ideal
    ∧ algebraic_Kernel33Ideal_Reference33Ideal (hKernel33Ideal := hKernel33Ideal) (hReference33Ideal := hReference33Ideal) (hPre_chip_named33 := hPre_chip_named33)
    ∧ preserves_Kernel34_Kernel34Ideal
    ∧ algebraic_Kernel34Ideal_Reference34Ideal (hKernel34Ideal := hKernel34Ideal) (hReference34Ideal := hReference34Ideal) (hPre_chip_named34 := hPre_chip_named34)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal) (hPre_chip_named36 := hPre_chip_named36)
    ∧ preserves_Kernel37_Kernel37Ideal
    ∧ algebraic_Kernel37Ideal_Reference37Ideal (hKernel37Ideal := hKernel37Ideal) (hReference37Ideal := hReference37Ideal) (hPre_chip_named37 := hPre_chip_named37)
    ∧ preserves_Kernel38_Kernel38Ideal
    ∧ algebraic_Kernel38Ideal_Reference38Ideal (hKernel38Ideal := hKernel38Ideal) (hReference38Ideal := hReference38Ideal) (hPre_chip_named38 := hPre_chip_named38)
-- ==== Pre_chip_named33.lean ====
abbrev S4x128x1024 : Shape := ⟨3, ![4, 128, 1024]⟩
abbrev S3x128x1024 : Shape := ⟨3, ![3, 128, 1024]⟩
abbrev S1 : Shape := ⟨1, ![1]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x128x1024 .bf16) (main_arg1 : FVec F S3x128x1024 .bf16) (main_arg2 : IVec S1 32) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_chip_named34.lean ====
abbrev S4x352x1024 : Shape := ⟨3, ![4, 352, 1024]⟩
abbrev S3x352x1024 : Shape := ⟨3, ![3, 352, 1024]⟩
abbrev S1 : Shape := ⟨1, ![1]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x352x1024 .bf16) (main_arg1 : FVec F S3x352x1024 .bf16) (main_arg2 : IVec S1 32) (main_arg3 : FVec F S352x1024 .f32) (main_arg4 : FVec F S352x1024 .f32) (main_arg5 : FVec F S352x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_chip_named36.lean ====
abbrev S4x384x1024 : Shape := ⟨3, ![4, 384, 1024]⟩
abbrev S3x384x1024 : Shape := ⟨3, ![3, 384, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x384x1024 .bf16) (main_arg1 : FVec F S3x384x1024 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_chip_named37.lean ====
abbrev S4x256x1024 : Shape := ⟨3, ![4, 256, 1024]⟩
abbrev S3x256x1024 : Shape := ⟨3, ![3, 256, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x1024 .bf16) (main_arg1 : FVec F S3x256x1024 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_chip_named38.lean ====
abbrev S4x704x1024 : Shape := ⟨3, ![4, 704, 1024]⟩
abbrev S3x704x1024 : Shape := ⟨3, ![3, 704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x1024 .bf16) (main_arg1 : FVec F S3x704x1024 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_finite23.lean ====
abbrev S2x4096x5632 : Shape := ⟨3, ![2, 4096, 5632]⟩
abbrev S2x4096x2816 : Shape := ⟨3, ![2, 4096, 2816]⟩
abbrev S3x5632 : Shape := ⟨2, ![3, 5632]⟩
abbrev S1x5632 : Shape := ⟨2, ![1, 5632]⟩
abbrev S_ : Shape := ⟨0, ![]⟩
abbrev S5632 : Shape := ⟨1, ![5632]⟩
abbrev S1x1x5632 : Shape := ⟨3, ![1, 1, 5632]⟩

class Facts : Prop where
  concatenates_S2x4096x2816_S2x4096x2816_S2x4096x5632_d2 : Shape.Concatenates [S2x4096x2816, S2x4096x2816] S2x4096x5632 2
  bitsLt_bf16_f32 : FTy.bits .bf16 < FTy.bits .f32
  bcast_S_S2x4096x5632 : S_.BroadcastsInDim S2x4096x5632 (![] : Fin 0 → Fin S2x4096x5632.rank)
  bcast_S_S3x5632 : S_.BroadcastsInDim S3x5632 (![] : Fin 0 → Fin S3x5632.rank)
  bcast_S_S1x5632 : S_.BroadcastsInDim S1x5632 (![] : Fin 0 → Fin S1x5632.rank)
  slices_S3x5632_S1x5632_0_0 : S3x5632.Slices ![0, 0] S1x5632
  shapeCasts_S1x5632_S5632 : S1x5632.ShapeCasts S5632
  bcast_S5632_S1x1x5632_2 : S5632.BroadcastsInDim S1x1x5632 (![2] : Fin 1 → Fin S1x1x5632.rank)
  bcast_S1x1x5632_S2x4096x5632_0_1_2 : S1x1x5632.BroadcastsInDim S2x4096x5632 (![0, 1, 2] : Fin 3 → Fin S2x4096x5632.rank)
  slices_S3x5632_S1x5632_1_0 : S3x5632.Slices ![1, 0] S1x5632
  slices_S3x5632_S1x5632_2_0 : S3x5632.Slices ![2, 0] S1x5632

variable [Facts]

def fn_part1 {F : FTy → Type} [FloatOps F] (main_v11 : IVec S3x5632 1) (main_v14 : IVec S1x5632 1) (main_v15 : IVec S2x4096x5632 1) (main_v19 : IVec S2x4096x5632 1) : IVec S2x4096x5632 1 :=
  let main_v20 : IVec S2x4096x5632 1 := andi main_v15 main_v19
  let main_v21 : IVec S1x5632 1 := (extractStridedSlice S1x5632 ![1, 0] · slices_S3x5632_S1x5632_1_0) main_v11
  let main_v22 : IVec S5632 1 := shapeCast S5632 main_v21 shapeCasts_S1x5632_S5632
  let main_v23 : IVec S1x1x5632 1 := broadcastInDim S1x1x5632 ![2] bcast_S5632_S1x1x5632_2 main_v22
  let main_v24 : IVec S2x4096x5632 1 := broadcastInDim S2x4096x5632 ![0, 1, 2] bcast_S1x1x5632_S2x4096x5632_0_1_2 main_v23
  let main_v25 : IVec S2x4096x5632 1 := andi main_v20 main_v24
  let main_v26 : IVec S1x5632 1 := (extractStridedSlice S1x5632 ![2, 0] · slices_S3x5632_S1x5632_2_0) main_v11
  let main_v27 : IVec S5632 1 := shapeCast S5632 main_v26 shapeCasts_S1x5632_S5632
  let main_v28 : IVec S1x1x5632 1 := broadcastInDim S1x1x5632 ![2] bcast_S5632_S1x1x5632_2 main_v27
  let main_v29 : IVec S2x4096x5632 1 := broadcastInDim S2x4096x5632 ![0, 1, 2] bcast_S1x1x5632_S2x4096x5632_0_1_2 main_v28
  let main_v30 : IVec S2x4096x5632 1 := andi main_v25 main_v29
  let main_v31 : IVec S5632 1 := shapeCast S5632 main_v14 shapeCasts_S1x5632_S5632
  let main_v32 : IVec S1x1x5632 1 := broadcastInDim S1x1x5632 ![2] bcast_S5632_S1x1x5632_2 main_v31
  let main_v33 : IVec S2x4096x5632 1 := broadcastInDim S2x4096x5632 ![0, 1, 2] bcast_S1x1x5632_S2x4096x5632_0_1_2 main_v32
  let main_v34 : IVec S2x4096x5632 1 := andi main_v30 main_v33
  main_v34

def fn {F : FTy → Type} [FloatOps F] (main_arg0 : FVec F S2x4096x5632 .bf16) (main_arg1 : FVec F S2x4096x2816 .bf16) (main_arg2 : FVec F S3x5632 .f32) (main_arg3 : FVec F S1x5632 .f32) : IVec S2x4096x5632 1 :=
  let main_v0 : FVec F S2x4096x5632 .bf16 := (fun a b => concatenate S2x4096x5632 2 [⟨S2x4096x2816, a⟩, ⟨S2x4096x2816, b⟩] concatenates_S2x4096x2816_S2x4096x2816_S2x4096x5632_d2) main_arg1 main_arg1
  let main_v1 : FVec F S2x4096x5632 .f32 := (extf .f32 · bitsLt_bf16_f32) main_arg0
  let main_v2 : FVec F S2x4096x5632 .f32 := Host.absf main_v1
  let main_cst : FVec F S_ .f32 := constant S_ .f32 0x7F800000#32
  let main_v3 : FVec F S2x4096x5632 .f32 := broadcastInDim S2x4096x5632 ![] bcast_S_S2x4096x5632 main_cst
  let main_v4 : IVec S2x4096x5632 1 := cmpf .olt main_v2 main_v3
  let main_v5 : FVec F S2x4096x5632 .f32 := (extf .f32 · bitsLt_bf16_f32) main_v0
  let main_v6 : FVec F S2x4096x5632 .f32 := Host.absf main_v5
  let main_cst_0 : FVec F S_ .f32 := constant S_ .f32 0x7F800000#32
  let main_v7 : FVec F S2x4096x5632 .f32 := broadcastInDim S2x4096x5632 ![] bcast_S_S2x4096x5632 main_cst_0
  let main_v8 : IVec S2x4096x5632 1 := cmpf .olt main_v6 main_v7
  let main_v9 : FVec F S3x5632 .f32 := Host.absf main_arg2
  let main_cst_1 : FVec F S_ .f32 := constant S_ .f32 0x7F800000#32
  let main_v10 : FVec F S3x5632 .f32 := broadcastInDim S3x5632 ![] bcast_S_S3x5632 main_cst_1
  let main_v11 : IVec S3x5632 1 := cmpf .olt main_v9 main_v10
  let main_v12 : FVec F S1x5632 .f32 := Host.absf main_arg3
  let main_cst_2 : FVec F S_ .f32 := constant S_ .f32 0x7F800000#32
  let main_v13 : FVec F S1x5632 .f32 := broadcastInDim S1x5632 ![] bcast_S_S1x5632 main_cst_2
  let main_v14 : IVec S1x5632 1 := cmpf .olt main_v12 main_v13
  let main_v15 : IVec S2x4096x5632 1 := andi main_v4 main_v8
  let main_v16 : IVec S1x5632 1 := (extractStridedSlice S1x5632 ![0, 0] · slices_S3x5632_S1x5632_0_0) main_v11
  let main_v17 : IVec S5632 1 := shapeCast S5632 main_v16 shapeCasts_S1x5632_S5632
  let main_v18 : IVec S1x1x5632 1 := broadcastInDim S1x1x5632 ![2] bcast_S5632_S1x1x5632_2 main_v17
  let main_v19 : IVec S2x4096x5632 1 := broadcastInDim S2x4096x5632 ![0, 1, 2] bcast_S1x1x5632_S2x4096x5632_0_1_2 main_v18
  fn_part1 (F := F) main_v11 main_v14 main_v15 main_v19
-- ==== Kernel.lean ====
abbrev S2x4096x3072 : Shape := ⟨3, ![2, 4096, 3072]⟩
abbrev S2x4096x1024 : Shape := ⟨3, ![2, 4096, 1024]⟩
abbrev S3x1024 : Shape := ⟨2, ![3, 1024]⟩
abbrev S3x2x4096x1024 : Shape := ⟨4, ![3, 2, 4096, 1024]⟩
abbrev S1x1024x512 : Shape := ⟨3, ![1, 1024, 512]⟩
abbrev S1x16x512 : Shape := ⟨3, ![1, 16, 512]⟩
abbrev S3x512 : Shape := ⟨2, ![3, 512]⟩
abbrev S3x1x1024x512 : Shape := ⟨4, ![3, 1, 1024, 512]⟩
abbrev S1024x512 : Shape := ⟨2, ![1024, 512]⟩
abbrev S16x512 : Shape := ⟨2, ![16, 512]⟩
abbrev S1056x512 : Shape := ⟨2, ![1056, 512]⟩
abbrev S1x512 : Shape := ⟨2, ![1, 512]⟩
abbrev S1x1x1024x512 : Shape := ⟨4, ![1, 1, 1024, 512]⟩
abbrev S512 : Shape := ⟨1, ![512]⟩

abbrev nBuf : Space → Nat
  | .hbm => 5
  | .vmem => 26
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x1024, .bf16⟩
  | .hbm, ⟨2, _⟩ => ⟨S3x1024, .f32⟩
  | .hbm, ⟨3, _⟩ => ⟨S3x2x4096x1024, .bf16⟩
  | .hbm, ⟨4, _⟩ => ⟨S3x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x16x512, .bf16⟩
  | .local _ .vmem, ⟨19, _⟩ => ⟨S1x16x512, .bf16⟩
  | .local _ .vmem, ⟨20, _⟩ => ⟨S3x512, .f32⟩
  | .local _ .vmem, ⟨21, _⟩ => ⟨S3x512, .f32⟩
  | .local _ .vmem, ⟨22, _⟩ => ⟨S3x1x1024x512, .bf16⟩
  | .local _ .vmem, ⟨23, _⟩ => ⟨S3x1x1024x512, .bf16⟩
  | .local _ .vmem, ⟨24, _⟩ => ⟨S3x512, .f32⟩
  | .local _ .vmem, ⟨25, _⟩ => ⟨S3x512, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![arg1.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c2_i32 : BitVec 32 := 2#32
  let v3 : BitVec 32 := Scalar.addi c2_i32 arg0
  let c0_i32 : BitVec 32 := 0#32
  ![arg1.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![arg1.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c4_i32 : BitVec 32 := 4#32
  let v3 : BitVec 32 := Scalar.addi c4_i32 arg0
  let c0_i32 : BitVec 32 := 0#32
  ![arg1.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![arg1.toNat, v2.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S3x1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== ReferenceIdeal.lean ====
abbrev S2x4096x3072 : Shape := ⟨3, ![2, 4096, 3072]⟩
abbrev S2x4096x1024 : Shape := ⟨3, ![2, 4096, 1024]⟩
abbrev S3x1024 : Shape := ⟨2, ![3, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S1x2x4096x1024 : Shape := ⟨4, ![1, 2, 4096, 1024]⟩
abbrev S3x2x4096x1024 : Shape := ⟨4, ![3, 2, 4096, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x1024, .bf16⟩
  | .hbm, ⟨2, _⟩ => ⟨S3x1024, .f32⟩
  | .hbm, ⟨3, _⟩ => ⟨S2x4096x3072, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x2x1024, .f32⟩
  | .hbm, ⟨10, _⟩ => ⟨S2x4098x1024, .f32⟩
  | .hbm, ⟨11, _⟩ => ⟨S_, .f32⟩
  | .hbm, ⟨12, _⟩ => ⟨S2x2x1024, .f32⟩
  | .hbm, ⟨13, _⟩ => ⟨S2x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S1024, .f32⟩
  | .hbm, ⟨40, _⟩ => ⟨S1x1x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S_, .f32⟩
  | .hbm, ⟨49, _⟩ => ⟨S2x4098x1024, .f32⟩
  | .hbm, ⟨50, _⟩ => ⟨S2x4096x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S3x1024, .f32⟩
  | .hbm, ⟨62, _⟩ => ⟨S_, .f32⟩
  | .hbm, ⟨63, _⟩ => ⟨S2x4098x1024, .f32⟩
  | .hbm, ⟨64, _⟩ => ⟨S2x4098x1024, .f32⟩
  | .hbm, ⟨65, _⟩ => ⟨S2x4096x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x4096x1024, .f32⟩
  | .hbm, ⟨70, _⟩ => ⟨S2x4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S_, .f32⟩
  | .hbm, ⟨78, _⟩ => ⟨S2x4098x1024, .f32⟩
  | .hbm, ⟨79, _⟩ => ⟨S2x4098x1024, .f32⟩
  | .hbm, ⟨80, _⟩ => ⟨S2x2x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S1x2x4096x1024, .f32⟩
  | .hbm, ⟨85, _⟩ => ⟨S1x2x4096x1024, .f32⟩
  | .hbm, ⟨86, _⟩ => ⟨S1x2x4096x1024, .f32⟩
  | .hbm, ⟨87, _⟩ => ⟨S3x2x4096x1024, .f32⟩
  | .hbm, ⟨88, _⟩ => ⟨S3x2x4096x1024, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel2.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024x2816 : Shape := ⟨3, ![1, 1024, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_3 : BitVec 32 := 1#32
  let v9 : BitVec 1 := Scalar.cmpi .eq arg2 c1_i32_3
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x8192x2816 : Shape := ⟨3, ![2, 8192, 2816]⟩
abbrev S5632x1024 : Shape := ⟨2, ![5632, 1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩
abbrev S1024x5632 : Shape := ⟨2, ![1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S2x8192x2816, .f32⟩
  | .hbm, ⟨3, _⟩ => ⟨S5632x1024, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S8192x1024, .f32⟩
  | .hbm, ⟨11, _⟩ => ⟨S1024x5632, .f32⟩
  | .hbm, ⟨12, _⟩ => ⟨S8192x5632, .f32⟩
  | .hbm, ⟨13, _⟩ => ⟨S8192x1024, .f32⟩
  | .hbm, ⟨14, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel3.lean ====
abbrev S2x8192x2816 : Shape := ⟨3, ![2, 8192, 2816]⟩
abbrev S8192x1024 : Shape := ⟨2, ![8192, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x2816 : Shape := ⟨3, ![2, 8192, 2816]⟩
abbrev S8192x1024 : Shape := ⟨2, ![8192, 1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S2x8192x2816, .f32⟩
  | .hbm, ⟨3, _⟩ => ⟨S8192x1024, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S5632x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S3x8192x1024 : Shape := ⟨3, ![3, 8192, 1024]⟩
abbrev S3072x1024 : Shape := ⟨2, ![3072, 1024]⟩
abbrev S8192x1024 : Shape := ⟨2, ![8192, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x1024, .bf16⟩
  | .hbm, ⟨1, _⟩ => ⟨S3072x1024, .bf16⟩
  | .hbm, ⟨2, _⟩ => ⟨S8192x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_3 : BitVec 32 := 2#32
  let v9 : BitVec 1 := Scalar.cmpi .eq arg2 c2_i32_3
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S3x8192x1024 : Shape := ⟨3, ![3, 8192, 1024]⟩
abbrev S3072x1024 : Shape := ⟨2, ![3072, 1024]⟩
abbrev S1x8192x1024 : Shape := ⟨3, ![1, 8192, 1024]⟩
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S3072x1024, .bf16⟩
  | .hbm, ⟨2, _⟩ => ⟨S3x8192x1024, .f32⟩
  | .hbm, ⟨3, _⟩ => ⟨S3072x1024, .f32⟩
  | .hbm, ⟨4, _⟩ => ⟨S1x8192x1024, .f32⟩
  | .hbm, ⟨5, _⟩ => ⟨S8192x1024, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S8192x3072, .f32⟩
  | .hbm, ⟨11, _⟩ => ⟨S_, .f32⟩
  | .hbm, ⟨12, _⟩ => ⟨S8192x1024, .f32⟩
  | .hbm, ⟨13, _⟩ => ⟨S1024x3072, .f32⟩
  | .hbm, ⟨14, _⟩ => ⟨S8192x3072, .f32⟩
  | .hbm, ⟨15, _⟩ => ⟨S8192x1024, .f32⟩
  | .hbm, ⟨16, _⟩ => ⟨S8192x1024, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S3x8192x1024 : Shape := ⟨3, ![3, 8192, 1024]⟩
abbrev S8192x1024 : Shape := ⟨2, ![8192, 1024]⟩
abbrev S3072x1024 : Shape := ⟨2, ![3072, 1024]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S3072x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S3x8192x1024 : Shape := ⟨3, ![3, 8192, 1024]⟩
abbrev S8192x1024 : Shape := ⟨2, ![8192, 1024]⟩
abbrev S1x8192x1024 : Shape := ⟨3, ![1, 8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S3x8192x1024, .f32⟩
  | .hbm, ⟨3, _⟩ => ⟨S8192x1024, .f32⟩
  | .hbm, ⟨4, _⟩ => ⟨S1x8192x1024, .f32⟩
  | .hbm, ⟨5, _⟩ => ⟨S8192x1024, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S8192x3072, .f32⟩
  | .hbm, ⟨11, _⟩ => ⟨S_, .f32⟩
  | .hbm, ⟨12, _⟩ => ⟨S1024x3072, .f32⟩
  | .hbm, ⟨13, _⟩ => ⟨S8192x3072, .f32⟩
  | .hbm, ⟨14, _⟩ => ⟨S3072x1024, .f32⟩
  | .hbm, ⟨15, _⟩ => ⟨S1024x3072, .f32⟩
  | .hbm, ⟨16, _⟩ => ⟨S3072x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel8.lean ====
abbrev S2x8192x1024 : Shape := ⟨3, ![2, 8192, 1024]⟩
abbrev S2048x1024 : Shape := ⟨2, ![2048, 1024]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x1024, .bf16⟩
  | .hbm, ⟨1, _⟩ => ⟨S2048x1024, .bf16⟩
  | .hbm, ⟨2, _⟩ => ⟨S8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_3 : BitVec 32 := 1#32
  let v9 : BitVec 1 := Scalar.cmpi .eq arg2 c1_i32_3
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x8192x1024 : Shape := ⟨3, ![2, 8192, 1024]⟩
abbrev S2048x1024 : Shape := ⟨2, ![2048, 1024]⟩
abbrev S1x8192x1024 : Shape := ⟨3, ![1, 8192, 1024]⟩
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2048x1024, .bf16⟩
  | .hbm, ⟨2, _⟩ => ⟨S2x8192x1024, .f32⟩
  | .hbm, ⟨3, _⟩ => ⟨S2048x1024, .f32⟩
  | .hbm, ⟨4, _⟩ => ⟨S1x8192x1024, .f32⟩
  | .hbm, ⟨5, _⟩ => ⟨S8192x1024, .f32⟩
  | .hbm, ⟨6, _⟩ => ⟨S1x8192x1024, .f32⟩
  | .hbm, ⟨7, _⟩ => ⟨S8192x1024, .f32⟩
  | .hbm, ⟨8, _⟩ => ⟨S8192x2048, .f32⟩
  | .hbm, ⟨9, _⟩ => ⟨S_, .f32⟩
  | .hbm, ⟨10, _⟩ => ⟨S8192x1024, .f32⟩
  | .hbm, ⟨11, _⟩ => ⟨S1024x2048, .f32⟩
  | .hbm, ⟨12, _⟩ => ⟨S8192x2048, .f32⟩
  | .hbm, ⟨13, _⟩ => ⟨S8192x1024, .f32⟩
  | .hbm, ⟨14, _⟩ => ⟨S8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel9.lean ====
abbrev S2x8192x1024 : Shape := ⟨3, ![2, 8192, 1024]⟩
abbrev S8192x1024 : Shape := ⟨2, ![8192, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S8192x1024, .bf16⟩
  | .hbm, ⟨2, _⟩ => ⟨S2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x8192x1024 : Shape := ⟨3, ![2, 8192, 1024]⟩
abbrev S8192x1024 : Shape := ⟨2, ![8192, 1024]⟩
abbrev S1x8192x1024 : Shape := ⟨3, ![1, 8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S8192x1024, .bf16⟩
  | .hbm, ⟨2, _⟩ => ⟨S2x8192x1024, .f32⟩
  | .hbm, ⟨3, _⟩ => ⟨S8192x1024, .f32⟩
  | .hbm, ⟨4, _⟩ => ⟨S1x8192x1024, .f32⟩
  | .hbm, ⟨5, _⟩ => ⟨S8192x1024, .f32⟩
  | .hbm, ⟨6, _⟩ => ⟨S1x8192x1024, .f32⟩
  | .hbm, ⟨7, _⟩ => ⟨S8192x1024, .f32⟩
  | .hbm, ⟨8, _⟩ => ⟨S8192x2048, .f32⟩
  | .hbm, ⟨9, _⟩ => ⟨S_, .f32⟩
  | .hbm, ⟨10, _⟩ => ⟨S1024x2048, .f32⟩
  | .hbm, ⟨11, _⟩ => ⟨S8192x2048, .f32⟩
  | .hbm, ⟨12, _⟩ => ⟨S2048x1024, .f32⟩
  | .hbm, ⟨13, _⟩ => ⟨S1024x2048, .f32⟩
  | .hbm, ⟨14, _⟩ => ⟨S2048x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S8x128 : Shape := ⟨2, ![8, 128]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x128, .f32⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v_true : BitVec 1 := 1#1
  let v5 : BitVec 1 := Scalar.ori v4 v_true
  let v6 : BitVec 1 := Scalar.andi v3 v5
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8x128 : Shape := ⟨2, ![8, 128]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x128, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S3072x1024 : Shape := ⟨2, ![3072, 1024]⟩
abbrev S8x128 : Shape := ⟨2, ![8, 128]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8x128, .f32⟩
  | .hbm, ⟨3, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S3072x1024 : Shape := ⟨2, ![3072, 1024]⟩
abbrev S8x128 : Shape := ⟨2, ![8, 128]⟩
abbrev S1024x3072 : Shape := ⟨2, ![1024, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8x128, .f32⟩
  | .hbm, ⟨3, _⟩ => ⟨S8192x1024, .f32⟩
  | .hbm, ⟨4, _⟩ => ⟨S3072x1024, .f32⟩
  | .hbm, ⟨5, _⟩ => ⟨S1024x3072, .f32⟩
  | .hbm, ⟨6, _⟩ => ⟨S8192x3072, .f32⟩
  | .hbm, ⟨7, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S5632x1024 : Shape := ⟨2, ![5632, 1024]⟩
abbrev S8192x5632 : Shape := ⟨2, ![8192, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel22.lean ====
abbrev S8192x1024 : Shape := ⟨2, ![8192, 1024]⟩
abbrev S2x1024 : Shape := ⟨2, ![2, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference22Ideal.lean ====
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S_, .f32⟩
  | .hbm, ⟨79, _⟩ => ⟨S2x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S1x1024, .f32⟩
  | .hbm, ⟨107, _⟩ => ⟨S_, .f32⟩
  | .hbm, ⟨108, _⟩ => ⟨S2x1024, .f32⟩
  | .hbm, ⟨109, _⟩ => ⟨S2x1024, .f32⟩
  | .hbm, ⟨110, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel23.lean ====
abbrev S2x4096x5632 : Shape := ⟨3, ![2, 4096, 5632]⟩
abbrev S2x4096x2816 : Shape := ⟨3, ![2, 4096, 2816]⟩
abbrev S3x5632 : Shape := ⟨2, ![3, 5632]⟩
abbrev S1x5632 : Shape := ⟨2, ![1, 5632]⟩
abbrev S2x2x4096x2816 : Shape := ⟨4, ![2, 2, 4096, 2816]⟩
abbrev S3x2816 : Shape := ⟨2, ![3, 2816]⟩
abbrev S1x2816 : Shape := ⟨2, ![1, 2816]⟩
abbrev S1x16x256 : Shape := ⟨3, ![1, 16, 256]⟩
abbrev S1x1024x256 : Shape := ⟨3, ![1, 1024, 256]⟩
abbrev S3x256 : Shape := ⟨2, ![3, 256]⟩
abbrev S1x256 : Shape := ⟨2, ![1, 256]⟩
abbrev S2x1x1024x256 : Shape := ⟨4, ![2, 1, 1024, 256]⟩
abbrev S1024x256 : Shape := ⟨2, ![1024, 256]⟩
abbrev S16x256 : Shape := ⟨2, ![16, 256]⟩
abbrev S1056x256 : Shape := ⟨2, ![1056, 256]⟩
abbrev S1x1x1024x256 : Shape := ⟨4, ![1, 1, 1024, 256]⟩
abbrev S256 : Shape := ⟨1, ![256]⟩

abbrev nBuf : Space → Nat
  | .hbm => 9
  | .vmem => 34
  | .smem => 0
  | _ => 0

abbrev bufTy : (tb : Table) → Fin (tcTables nBuf tb) → BufTy
  | .hbm, ⟨0, _⟩ => ⟨S2x4096x5632, .bf16⟩
  | .hbm, ⟨1, _⟩ => ⟨S2x4096x2816, .bf16⟩
  | .hbm, ⟨2, _⟩ => ⟨S3x5632, .f32⟩
  | .hbm, ⟨3, _⟩ => ⟨S1x5632, .f32⟩
  | .hbm, ⟨4, _⟩ => ⟨S2x2x4096x2816, .bf16⟩
  | .hbm, ⟨5, _⟩ => ⟨S3x2816, .f32⟩
  | .hbm, ⟨6, _⟩ => ⟨S3x2816, .f32⟩
  | .hbm, ⟨7, _⟩ => ⟨S1x2816, .f32⟩
  | .hbm, ⟨8, _⟩ => ⟨S1x2816, .f32⟩
  | .local _ .vmem, ⟨0, _⟩ => ⟨S1x16x256, .bf16⟩
  | .local _ .vmem, ⟨1, _⟩ => ⟨S1x16x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x16x256, .bf16⟩
  | .local _ .vmem, ⟨5, _⟩ => ⟨S1x16x256, .bf16⟩
  | .local _ .vmem, ⟨6, _⟩ => ⟨S1x16x256, .bf16⟩
  | .local _ .vmem, ⟨7, _⟩ => ⟨S1x16x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x16x256, .bf16⟩
  | .local _ .vmem, ⟨11, _⟩ => ⟨S1x16x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x16x256, .bf16⟩
  | .local _ .vmem, ⟨15, _⟩ => ⟨S1x16x256, .bf16⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2x1x1024x256, .bf16⟩
  | .local _ .vmem, ⟨25, _⟩ => ⟨S2x1x1024x256, .bf16⟩
  | .local _ .vmem, ⟨26, _⟩ => ⟨S3x256, .f32⟩
  | .local _ .vmem, ⟨27, _⟩ => ⟨S3x256, .f32⟩
  | .local _ .vmem, ⟨28, _⟩ => ⟨S3x256, .f32⟩
  | .local _ .vmem, ⟨29, _⟩ => ⟨S3x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![11, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![arg1.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![arg1.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c11_i32 : BitVec 32 := 11#32
  let v3 : BitVec 32 := Scalar.addi c11_i32 arg0
  let c0_i32 : BitVec 32 := 0#32
  ![arg1.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![arg1.toNat, v2.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S1x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S2x1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, false]
-- ==== Reference23Ideal.lean ====
abbrev S2x4096x5632 : Shape := ⟨3, ![2, 4096, 5632]⟩
abbrev S2x4096x2816 : Shape := ⟨3, ![2, 4096, 2816]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S3x2816 : Shape := ⟨2, ![3, 2816]⟩
abbrev S1x2816 : Shape := ⟨2, ![1, 2816]⟩
abbrev S1x2x4096x2816 : Shape := ⟨4, ![1, 2, 4096, 2816]⟩
abbrev S2x2x4096x2816 : Shape := ⟨4, ![2, 2, 4096, 2816]⟩

abbrev nBuf : Space → Nat
  | .hbm => 119
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2x4096x2816, .bf16⟩
  | .hbm, ⟨2, _⟩ => ⟨S3x5632, .f32⟩
  | .hbm, ⟨3, _⟩ => ⟨S1x5632, .f32⟩
  | .hbm, ⟨4, _⟩ => ⟨S2x4096x5632, .f32⟩
  | .hbm, ⟨5, _⟩ => ⟨S2x4096x2816, .f32⟩
  | .hbm, ⟨6, _⟩ => ⟨S5632, .f32⟩
  | .hbm, ⟨7, _⟩ => ⟨S_, .f32⟩
  | .hbm, ⟨8, _⟩ => ⟨S2x2x5632, .f32⟩
  | .hbm, ⟨9, _⟩ => ⟨S2x4098x5632, .f32⟩
  | .hbm, ⟨10, _⟩ => ⟨S_, .f32⟩
  | .hbm, ⟨11, _⟩ => ⟨S2x2x5632, .f32⟩
  | .hbm, ⟨12, _⟩ => ⟨S2x4096x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x4096x5632, .f32⟩
  | .hbm, ⟨17, _⟩ => ⟨S2x4096x5632, .f32⟩
  | .hbm, ⟨18, _⟩ => ⟨S2x4096x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S1x1x5632, .f32⟩
  | .hbm, ⟨33, _⟩ => ⟨S2x4096x5632, .f32⟩
  | .hbm, ⟨34, _⟩ => ⟨S2x4096x5632, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S_, .f32⟩
  | .hbm, ⟨40, _⟩ => ⟨S2x4096x2816, .f32⟩
  | .hbm, ⟨41, _⟩ => ⟨S2x4096x2816, .f32⟩
  | .hbm, ⟨42, _⟩ => ⟨S_, .f32⟩
  | .hbm, ⟨43, _⟩ => ⟨S2x4096x2816, .f32⟩
  | .hbm, ⟨44, _⟩ => ⟨S2x4096x2816, .f32⟩
  | .hbm, ⟨45, _⟩ => ⟨S_, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x2816, .f32⟩
  | .hbm, ⟨50, _⟩ => ⟨S2x4096x2816, .f32⟩
  | .hbm, ⟨51, _⟩ => ⟨S2x4096x2816, .f32⟩
  | .hbm, ⟨52, _⟩ => ⟨S2x4096x2816, .f32⟩
  | .hbm, ⟨53, _⟩ => ⟨S2x4096x2816, .f32⟩
  | .hbm, ⟨54, _⟩ => ⟨S2x4096x2816, .f32⟩
  | .hbm, ⟨55, _⟩ => ⟨S2x4096x2816, .f32⟩
  | .hbm, ⟨56, _⟩ => ⟨S2x4096x2816, .f32⟩
  | .hbm, ⟨57, _⟩ => ⟨S2x4096x5632, .f32⟩
  | .hbm, ⟨58, _⟩ => ⟨S_, .f32⟩
  | .hbm, ⟨59, _⟩ => ⟨S5632, .f32⟩
  | .hbm, ⟨60, _⟩ => ⟨S1x1x5632, .f32⟩
  | .hbm, ⟨61, _⟩ => ⟨S_, .f32⟩
  | .hbm, ⟨62, _⟩ => ⟨S5632, .f32⟩
  | .hbm, ⟨63, _⟩ => ⟨S2x4096x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S2x4096x5632, .f32⟩
  | .hbm, ⟨68, _⟩ => ⟨S2x4096x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S2x4098x5632, .f32⟩
  | .hbm, ⟨76, _⟩ => ⟨S2x4096x5632, .f32⟩
  | .hbm, ⟨77, _⟩ => ⟨S_, .f32⟩
  | .hbm, ⟨78, _⟩ => ⟨S5632, .f32⟩
  | .hbm, ⟨79, _⟩ => ⟨S1x1x5632, .f32⟩
  | .hbm, ⟨80, _⟩ => ⟨S2x4096x5632, .f32⟩
  | .hbm, ⟨81, _⟩ => ⟨S2x4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S2x4098x5632, .f32⟩
  | .hbm, ⟨90, _⟩ => ⟨S2x4098x5632, .f32⟩
  | .hbm, ⟨91, _⟩ => ⟨S2x4096x5632, .f32⟩
  | .hbm, ⟨92, _⟩ => ⟨S_, .f32⟩
  | .hbm, ⟨93, _⟩ => ⟨S5632, .f32⟩
  | .hbm, ⟨94, _⟩ => ⟨S1x1x5632, .f32⟩
  | .hbm, ⟨95, _⟩ => ⟨S2x4096x5632, .f32⟩
  | .hbm, ⟨96, _⟩ => ⟨S2x4096x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S_, .f32⟩
  | .hbm, ⟨104, _⟩ => ⟨S2x4098x5632, .f32⟩
  | .hbm, ⟨105, _⟩ => ⟨S2x4098x5632, .f32⟩
  | .hbm, ⟨106, _⟩ => ⟨S2x2x5632, .f32⟩
  | .hbm, ⟨107, _⟩ => ⟨S2x4096x5632, .f32⟩
  | .hbm, ⟨108, _⟩ => ⟨S1x5632, .f32⟩
  | .hbm, ⟨109, _⟩ => ⟨S2x4096x2816, .f32⟩
  | .hbm, ⟨110, _⟩ => ⟨S2x4096x2816, .f32⟩
  | .hbm, ⟨111, _⟩ => ⟨S3x2816, .f32⟩
  | .hbm, ⟨112, _⟩ => ⟨S3x2816, .f32⟩
  | .hbm, ⟨113, _⟩ => ⟨S1x2816, .f32⟩
  | .hbm, ⟨114, _⟩ => ⟨S1x2816, .f32⟩
  | .hbm, ⟨115, _⟩ => ⟨S1x2x4096x2816, .f32⟩
  | .hbm, ⟨116, _⟩ => ⟨S1x2x4096x2816, .f32⟩
  | .hbm, ⟨117, _⟩ => ⟨S2x2x4096x2816, .f32⟩
  | .hbm, ⟨118, _⟩ => ⟨S2x2x4096x2816, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel25.lean ====
abbrev S8192x1024 : Shape := ⟨2, ![8192, 1024]⟩
abbrev S2x1024 : Shape := ⟨2, ![2, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S8192x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel26.lean ====
abbrev S2x4096x3072 : Shape := ⟨3, ![2, 4096, 3072]⟩
abbrev S3x1024 : Shape := ⟨2, ![3, 1024]⟩
abbrev S2x4096x1024 : Shape := ⟨3, ![2, 4096, 1024]⟩
abbrev S1x2048x512 : Shape := ⟨3, ![1, 2048, 512]⟩
abbrev S1x16x512 : Shape := ⟨3, ![1, 16, 512]⟩
abbrev S3x512 : Shape := ⟨2, ![3, 512]⟩
abbrev S2048x512 : Shape := ⟨2, ![2048, 512]⟩
abbrev S16x512 : Shape := ⟨2, ![16, 512]⟩
abbrev S2080x512 : Shape := ⟨2, ![2080, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S2x4096x3072, .bf16⟩
  | .hbm, ⟨1, _⟩ => ⟨S3x1024, .f32⟩
  | .hbm, ⟨2, _⟩ => ⟨S2x4096x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S3x512, .f32⟩
  | .local _ .vmem, ⟨11, _⟩ => ⟨S3x512, .f32⟩
  | .local _ .vmem, ⟨12, _⟩ => ⟨S1x2048x512, .bf16⟩
  | .local _ .vmem, ⟨13, _⟩ => ⟨S1x2048x512, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference26Ideal.lean ====
abbrev S2x4096x3072 : Shape := ⟨3, ![2, 4096, 3072]⟩
abbrev S3x1024 : Shape := ⟨2, ![3, 1024]⟩
abbrev S2x4096x1024 : Shape := ⟨3, ![2, 4096, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S3x1024, .f32⟩
  | .hbm, ⟨2, _⟩ => ⟨S2x4096x3072, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x2x1024, .f32⟩
  | .hbm, ⟨9, _⟩ => ⟨S2x4098x1024, .f32⟩
  | .hbm, ⟨10, _⟩ => ⟨S2x4096x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel27.lean ====
abbrev S2x4096x5632 : Shape := ⟨3, ![2, 4096, 5632]⟩
abbrev S3x5632 : Shape := ⟨2, ![3, 5632]⟩
abbrev S1x5632 : Shape := ⟨2, ![1, 5632]⟩
abbrev S2x4096x2816 : Shape := ⟨3, ![2, 4096, 2816]⟩
abbrev S1x16x256 : Shape := ⟨3, ![1, 16, 256]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩
abbrev S16x256 : Shape := ⟨2, ![16, 256]⟩
abbrev S2080x256 : Shape := ⟨2, ![2080, 256]⟩

abbrev nBuf : Space → Nat
  | .hbm => 4
  | .vmem => 18
  | .smem => 0
  | _ => 0

abbrev bufTy : (tb : Table) → Fin (tcTables nBuf tb) → BufTy
  | .hbm, ⟨0, _⟩ => ⟨S2x4096x5632, .bf16⟩
  | .hbm, ⟨1, _⟩ => ⟨S3x5632, .f32⟩
  | .hbm, ⟨2, _⟩ => ⟨S1x5632, .f32⟩
  | .hbm, ⟨3, _⟩ => ⟨S2x4096x2816, .bf16⟩
  | .local _ .vmem, ⟨0, _⟩ => ⟨S1x16x256, .bf16⟩
  | .local _ .vmem, ⟨1, _⟩ => ⟨S1x16x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x16x256, .bf16⟩
  | .local _ .vmem, ⟨5, _⟩ => ⟨S1x16x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x2048x256, .bf16⟩
  | .local _ .vmem, ⟨17, _⟩ => ⟨S1x2048x256, .bf16⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![11, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![arg1.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![arg1.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![arg1.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference27Ideal.lean ====
abbrev S2x4096x5632 : Shape := ⟨3, ![2, 4096, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S2x4096x2816 : Shape := ⟨3, ![2, 4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S3x5632, .f32⟩
  | .hbm, ⟨2, _⟩ => ⟨S1x5632, .f32⟩
  | .hbm, ⟨3, _⟩ => ⟨S2x4096x5632, .f32⟩
  | .hbm, ⟨4, _⟩ => ⟨S5632, .f32⟩
  | .hbm, ⟨5, _⟩ => ⟨S_, .f32⟩
  | .hbm, ⟨6, _⟩ => ⟨S2x2x5632, .f32⟩
  | .hbm, ⟨7, _⟩ => ⟨S2x4098x5632, .f32⟩
  | .hbm, ⟨8, _⟩ => ⟨S2x4096x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S2x4096x5632, .f32⟩
  | .hbm, ⟨13, _⟩ => ⟨S2x4096x5632, .f32⟩
  | .hbm, ⟨14, _⟩ => ⟨S2x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S2x4096x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S1x1x5632, .f32⟩
  | .hbm, ⟨29, _⟩ => ⟨S2x4096x5632, .f32⟩
  | .hbm, ⟨30, _⟩ => ⟨S2x4096x5632, .f32⟩
  | .hbm, ⟨31, _⟩ => ⟨S2x4096x2816, .f32⟩
  | .hbm, ⟨32, _⟩ => ⟨S2x4096x2816, .f32⟩
  | .hbm, ⟨33, _⟩ => ⟨S2x4096x2816, .f32⟩
  | .hbm, ⟨34, _⟩ => ⟨S2x4096x2816, .f32⟩
  | .hbm, ⟨35, _⟩ => ⟨S_, .f32⟩
  | .hbm, ⟨36, _⟩ => ⟨S2x4096x2816, .f32⟩
  | .hbm, ⟨37, _⟩ => ⟨S2x4096x2816, .f32⟩
  | .hbm, ⟨38, _⟩ => ⟨S_, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S2x4096x2816, .f32⟩
  | .hbm, ⟨43, _⟩ => ⟨S2x4096x2816, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_16 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩
abbrev main_cst_18 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel29.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x128x1024 : Shape := ⟨3, ![4, 128, 1024]⟩
abbrev S3x128x1024 : Shape := ⟨3, ![3, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference33Ideal.lean ====
abbrev S4x128x1024 : Shape := ⟨3, ![4, 128, 1024]⟩
abbrev S3x128x1024 : Shape := ⟨3, ![3, 128, 1024]⟩
abbrev S1 : Shape := ⟨1, ![1]⟩
abbrev S128x1024 : Shape := ⟨2, ![128, 1024]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x128x1024, .f32⟩
  | .hbm, ⟨11, _⟩ => ⟨S_, .f32⟩
  | .hbm, ⟨12, _⟩ => ⟨S_, .f32⟩
  | .hbm, ⟨13, _⟩ => ⟨S4x128x1024, .i1⟩
  | .hbm, ⟨14, _⟩ => ⟨S4x128x1024, .f32⟩
  | .hbm, ⟨15, _⟩ => ⟨S4x128x1024, .f32⟩
  | .hbm, ⟨16, _⟩ => ⟨S_, .f32⟩
  | .hbm, ⟨17, _⟩ => ⟨S128x1024, .f32⟩
  | .hbm, ⟨18, _⟩ => ⟨S3x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel34.lean ====
abbrev S4x352x1024 : Shape := ⟨3, ![4, 352, 1024]⟩
abbrev S3x352x1024 : Shape := ⟨3, ![3, 352, 1024]⟩
abbrev S1 : Shape := ⟨1, ![1]⟩
abbrev S352x1024 : Shape := ⟨2, ![352, 1024]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference34Ideal.lean ====
abbrev S4x352x1024 : Shape := ⟨3, ![4, 352, 1024]⟩
abbrev S3x352x1024 : Shape := ⟨3, ![3, 352, 1024]⟩
abbrev S1 : Shape := ⟨1, ![1]⟩
abbrev S352x1024 : Shape := ⟨2, ![352, 1024]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S1, .i32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x352x1024, .f32⟩
  | .hbm, ⟨11, _⟩ => ⟨S_, .f32⟩
  | .hbm, ⟨12, _⟩ => ⟨S_, .f32⟩
  | .hbm, ⟨13, _⟩ => ⟨S4x352x1024, .i1⟩
  | .hbm, ⟨14, _⟩ => ⟨S4x352x1024, .f32⟩
  | .hbm, ⟨15, _⟩ => ⟨S4x352x1024, .f32⟩
  | .hbm, ⟨16, _⟩ => ⟨S_, .f32⟩
  | .hbm, ⟨17, _⟩ => ⟨S352x1024, .f32⟩
  | .hbm, ⟨18, _⟩ => ⟨S3x352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel35.lean ====
abbrev S8x432x128 : Shape := ⟨3, ![8, 432, 128]⟩
abbrev S432x128 : Shape := ⟨2, ![432, 128]⟩
abbrev S8x72x128 : Shape := ⟨3, ![8, 72, 128]⟩
abbrev S72x128 : Shape := ⟨2, ![72, 128]⟩
abbrev S1x72x128 : Shape := ⟨3, ![1, 72, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x432x128, .f32⟩
  | .hbm, ⟨1, _⟩ => ⟨S432x128, .f32⟩
  | .local _ .vmem, ⟨0, _⟩ => ⟨S8x72x128, .f32⟩
  | .local _ .vmem, ⟨1, _⟩ => ⟨S8x72x128, .f32⟩
  | .local _ .vmem, ⟨2, _⟩ => ⟨S72x128, .f32⟩
  | .local _ .vmem, ⟨3, _⟩ => ⟨S72x128, .f32⟩
  | _, _ => ⟨S8x432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x72x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S72x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S8x432x128 : Shape := ⟨3, ![8, 432, 128]⟩
abbrev S_ : Shape := ⟨0, ![]⟩
abbrev S432x128 : Shape := ⟨2, ![432, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x432x128, .f32⟩
  | .hbm, ⟨1, _⟩ => ⟨S_, .f32⟩
  | .hbm, ⟨2, _⟩ => ⟨S432x128, .f32⟩
  | _, _ => ⟨S8x432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel36.lean ====
abbrev S4x384x1024 : Shape := ⟨3, ![4, 384, 1024]⟩
abbrev S3x384x1024 : Shape := ⟨3, ![3, 384, 1024]⟩
abbrev S1 : Shape := ⟨1, ![1]⟩
abbrev S384x1024 : Shape := ⟨2, ![384, 1024]⟩
abbrev S1x192x1024 : Shape := ⟨3, ![1, 192, 1024]⟩
abbrev S3x192x1024 : Shape := ⟨3, ![3, 192, 1024]⟩
abbrev S192x1024 : Shape := ⟨2, ![192, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x384x1024, .bf16⟩
  | .hbm, ⟨1, _⟩ => ⟨S3x384x1024, .bf16⟩
  | .hbm, ⟨2, _⟩ => ⟨S384x1024, .f32⟩
  | .local _ .vmem, ⟨0, _⟩ => ⟨S1x192x1024, .bf16⟩
  | .local _ .vmem, ⟨1, _⟩ => ⟨S1x192x1024, .bf16⟩
  | .local _ .vmem, ⟨2, _⟩ => ⟨S3x192x1024, .bf16⟩
  | .local _ .vmem, ⟨3, _⟩ => ⟨S3x192x1024, .bf16⟩
  | .local _ .vmem, ⟨4, _⟩ => ⟨S192x1024, .f32⟩
  | .local _ .vmem, ⟨5, _⟩ => ⟨S192x1024, .f32⟩
  | .local _ .smem, ⟨0, _⟩ => ⟨S1, .i32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S4x384x1024 : Shape := ⟨3, ![4, 384, 1024]⟩
abbrev S3x384x1024 : Shape := ⟨3, ![3, 384, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S384x1024 : Shape := ⟨2, ![384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S3x384x1024, .bf16⟩
  | .hbm, ⟨2, _⟩ => ⟨S1, .i32⟩
  | .hbm, ⟨3, _⟩ => ⟨S4, .i32⟩
  | .hbm, ⟨4, _⟩ => ⟨S4, .i32⟩
  | .hbm, ⟨5, _⟩ => ⟨S4, .i1⟩
  | .hbm, ⟨6, _⟩ => ⟨S4x1x1, .i1⟩
  | .hbm, ⟨7, _⟩ => ⟨S4x384x1024, .f32⟩
  | .hbm, ⟨8, _⟩ => ⟨S_, .f32⟩
  | .hbm, ⟨9, _⟩ => ⟨S_, .f32⟩
  | .hbm, ⟨10, _⟩ => ⟨S4x384x1024, .i1⟩
  | .hbm, ⟨11, _⟩ => ⟨S4x384x1024, .f32⟩
  | .hbm, ⟨12, _⟩ => ⟨S4x384x1024, .f32⟩
  | .hbm, ⟨13, _⟩ => ⟨S_, .f32⟩
  | .hbm, ⟨14, _⟩ => ⟨S384x1024, .f32⟩
  | .hbm, ⟨15, _⟩ => ⟨S3x384x1024, .f32⟩
  | .hbm, ⟨16, _⟩ => ⟨S_, .f32⟩
  | .hbm, ⟨17, _⟩ => ⟨S384x1024, .f32⟩
  | .hbm, ⟨18, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel37.lean ====
abbrev S4x256x1024 : Shape := ⟨3, ![4, 256, 1024]⟩
abbrev S3x256x1024 : Shape := ⟨3, ![3, 256, 1024]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S256x1024, .f32⟩
  | .local _ .vmem, ⟨0, _⟩ => ⟨S1x256x1024, .bf16⟩
  | .local _ .vmem, ⟨1, _⟩ => ⟨S3x256x1024, .bf16⟩
  | .local _ .vmem, ⟨2, _⟩ => ⟨S256x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference37Ideal.lean ====
abbrev S4x256x1024 : Shape := ⟨3, ![4, 256, 1024]⟩
abbrev S3x256x1024 : Shape := ⟨3, ![3, 256, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S256x1024 : Shape := ⟨2, ![256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S1, .i32⟩
  | .hbm, ⟨3, _⟩ => ⟨S4, .i32⟩
  | .hbm, ⟨4, _⟩ => ⟨S4, .i32⟩
  | .hbm, ⟨5, _⟩ => ⟨S4, .i1⟩
  | .hbm, ⟨6, _⟩ => ⟨S4x1x1, .i1⟩
  | .hbm, ⟨7, _⟩ => ⟨S4x256x1024, .f32⟩
  | .hbm, ⟨8, _⟩ => ⟨S_, .f32⟩
  | .hbm, ⟨9, _⟩ => ⟨S_, .f32⟩
  | .hbm, ⟨10, _⟩ => ⟨S4x256x1024, .i1⟩
  | .hbm, ⟨11, _⟩ => ⟨S4x256x1024, .f32⟩
  | .hbm, ⟨12, _⟩ => ⟨S4x256x1024, .f32⟩
  | .hbm, ⟨13, _⟩ => ⟨S_, .f32⟩
  | .hbm, ⟨14, _⟩ => ⟨S256x1024, .f32⟩
  | .hbm, ⟨15, _⟩ => ⟨S3x256x1024, .f32⟩
  | .hbm, ⟨16, _⟩ => ⟨S_, .f32⟩
  | .hbm, ⟨17, _⟩ => ⟨S256x1024, .f32⟩
  | .hbm, ⟨18, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel38.lean ====
abbrev S4x704x1024 : Shape := ⟨3, ![4, 704, 1024]⟩
abbrev S3x704x1024 : Shape := ⟨3, ![3, 704, 1024]⟩
abbrev S1 : Shape := ⟨1, ![1]⟩
abbrev S704x1024 : Shape := ⟨2, ![704, 1024]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x704x1024, .bf16⟩
  | .hbm, ⟨1, _⟩ => ⟨S3x704x1024, .bf16⟩
  | .hbm, ⟨2, _⟩ => ⟨S704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .smem, ⟨0, _⟩ => ⟨S1, .i32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S4x704x1024 : Shape := ⟨3, ![4, 704, 1024]⟩
abbrev S3x704x1024 : Shape := ⟨3, ![3, 704, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S704x1024 : Shape := ⟨2, ![704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S3x704x1024, .bf16⟩
  | .hbm, ⟨2, _⟩ => ⟨S1, .i32⟩
  | .hbm, ⟨3, _⟩ => ⟨S4, .i32⟩
  | .hbm, ⟨4, _⟩ => ⟨S4, .i32⟩
  | .hbm, ⟨5, _⟩ => ⟨S4, .i1⟩
  | .hbm, ⟨6, _⟩ => ⟨S4x1x1, .i1⟩
  | .hbm, ⟨7, _⟩ => ⟨S4x704x1024, .f32⟩
  | .hbm, ⟨8, _⟩ => ⟨S_, .f32⟩
  | .hbm, ⟨9, _⟩ => ⟨S_, .f32⟩
  | .hbm, ⟨10, _⟩ => ⟨S4x704x1024, .i1⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S704x1024, .f32⟩
  | .hbm, ⟨15, _⟩ => ⟨S3x704x1024, .f32⟩
  | .hbm, ⟨16, _⟩ => ⟨S_, .f32⟩
  | .hbm, ⟨17, _⟩ => ⟨S704x1024, .f32⟩
  | .hbm, ⟨18, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.Conv.Rows.lean ====
/-
  The short convolution's gradient, one tile at a time. A tile is 1024 rows of one column block, with sixteen rows of
  the tile before it above and sixteen rows of the tile after it below. `pad16 f n` is a sequence with sixteen zeros in
  front and zeros behind: what the extended tiles hold, in one numbering for the whole sequence. The lemmas here read
  the kernel's intermediate values at a row and a column as such sequences.
-/
module

public import proofs.«01_k».proof.Proof.Gen.KernelIdeal.Skeleton
public import Idealize.ShloMosaic.Lib.Pointwise
public import Idealize.ShloMosaic.Lib.Tactic

@[expose] public section

noncomputable section

namespace Cert.KernelIdeal.Grad

open Cert.KernelIdeal Cert.KernelIdeal.Gen Idealize.ShloMosaic Idealize.ShloMosaic.TcCoe Idealize.SL.Sem

/-- The sequence `f` of 4096 entries, moved up by sixteen and zero elsewhere. -/
def pad16 (f : Fin 4096 → EReal) (n : ℕ) : EReal := if h : 16 ≤ n ∧ n < 4112 then f ⟨n - 16, by omega⟩ else 0

theorem pad16_mid (f : Fin 4096 → EReal) (t : Fin 4096) : pad16 f (16 + t.val) = f t := by
  unfold pad16
  rw [dif_pos (by omega)]
  congr 1
  exact Fin.ext (by simp)

theorem pad16_low (f : Fin 4096 → EReal) {n : ℕ} (h : n < 16) : pad16 f n = 0 := dif_neg (by omega)

theorem pad16_high (f : Fin 4096 → EReal) {n : ℕ} (h : 4112 ≤ n) : pad16 f n = 0 := dif_neg (by omega)

theorem pad16_at (f : Fin 4096 → EReal) {n : ℕ} (t : ℕ) (ht : t < 4096) (h : n = 16 + t) : pad16 f n = f ⟨t, ht⟩ := by
  subst h; exact pad16_mid f ⟨t, ht⟩

/-- An extended tile at a row: the piece above, the tile, the piece below. -/
theorem concat_row (top bot : FVec Ideal S16x512 .f32) (mid : FVec Ideal S1024x512 .f32) (g : ℕ → EReal) (q : Fin 512)
    (ht : ∀ r : Fin 16, top (ix2 r q) = g r.val) (hm : ∀ r : Fin 1024, mid (ix2 r q) = g (16 + r.val))
    (hb : ∀ r : Fin 16, bot (ix2 r q) = g (1040 + r.val)) (p : Fin 1056) :
    concatenate S1056x512 0 [⟨S16x512, top⟩, ⟨S1024x512, mid⟩, ⟨S16x512, bot⟩]
      concatenates_S16x512_S1024x512_S16x512_S1056x512_d0 (ix2 p q) = g p.val := by
  pointwise
  split
  · rw [ht]
  · split
    · rw [hm]; congr 1; simp only; omega
    · rw [hb]; congr 1; simp only; omega

/-- A choice between zero and a vector, by a comparison of a coordinate with a small number. -/
theorem sel_apply {s : Shape} (n k : ℕ) (hn : n < 4) (hk : k < 4) (y : FVec Ideal s .f32) (z : FVec Ideal s .f32) (j : s.Idx) :
    (Scalar.select (Scalar.cmpi .eq (BitVec.ofNat 32 n) (BitVec.ofNat 32 k)) y z : FVec Ideal s .f32) j
      = if n = k then y j else z j := by
  interval_cases n <;> interval_cases k <;> rfl

/-- Tile `s` of a family of sequences, one for each column: the tile's 1024 entries; the sixteen entries before it unless
    it is the first tile; the sixteen after it unless it is the last. -/
structure IsMid (s : ℕ) (mid : Vec Ideal S1x1024x512 .bf16) (f : Fin 512 → Fin 4096 → EReal) : Prop where
  mid : ∀ (r : Fin 1024) (q : Fin 512), mid (ix3 0 r q) = pad16 (f q) (1024 * s + (16 + r.val))

/-- The sixteen rows above the tile. -/
structure IsTop (s : ℕ) (top : Vec Ideal S1x16x512 .bf16) (f : Fin 512 → Fin 4096 → EReal) : Prop where
  top : s ≠ 0 → ∀ (r : Fin 16) (q : Fin 512), top (ix3 0 r q) = pad16 (f q) (1024 * s + r.val)

/-- The sixteen rows below the tile. -/
structure IsBot (s : ℕ) (bot : Vec Ideal S1x16x512 .bf16) (f : Fin 512 → Fin 4096 → EReal) : Prop where
  bot : s ≠ 3 → ∀ (r : Fin 16) (q : Fin 512), bot (ix3 0 r q) = pad16 (f q) (1024 * s + (1040 + r.val))

/-- Rows of an extended tile whose upper sixteen rows are zero. -/
def noTop (s : ℕ) (f : Fin 4096 → EReal) (p : ℕ) : EReal := if p < 16 then 0 else pad16 f (1024 * s + p)

theorem noTop_of_le (s : ℕ) (f : Fin 4096 → EReal) {p : ℕ} (h : 16 ≤ p) : noTop s f p = pad16 f (1024 * s + p) :=
  if_neg (by omega)

section
variable (s : ℕ) (hs : s < 4) (f : Fin 512 → Fin 4096 → EReal)
include hs

theorem pay12_row (mid : Vec Ideal S1x1024x512 .bf16) (bot : Vec Ideal S1x16x512 .bf16) (hm : IsMid s mid f) (hb : IsBot s bot f)
    (p : Fin 1056) (q : Fin 512) :
    k0_pay12 (Scalar.cmpi .eq (BitVec.ofNat 32 s) 3#32) mid bot (ix2 p q) = noTop s (f q) p.val := by
  unfold k0_pay12
  refine concat_row _ _ _ (fun n => noTop s (f q) n) q (fun r => ?_) (fun r => ?_) (fun r => ?_) p
  · pointwise
    exact (if_pos r.isLt).symm
  · pointwise
    rw [hm.mid, noTop_of_le _ _ (by omega)]
  · rw [noTop_of_le _ _ (by omega), sel_apply _ _ hs (by omega)]
    pointwise
    split
    · rw [pad16_high _ (by omega)]
    · rename_i h; exact hb.bot h r q

theorem pay5_row (i : grid0.Coords) (hi : (i 2).val = s) (mid : Vec Ideal S1x1024x512 .bf16) (bot : Vec Ideal S1x16x512 .bf16)
    (hm : IsMid s mid f) (hb : IsBot s bot f) (p : Fin 1056) (q : Fin 512) :
    k0_pay5 i mid bot (ix2 p q) = noTop s (f q) p.val := by
  subst hi
  rw [← pay12_row (i 2).val hs f mid bot hm hb p q]
  rfl

theorem pay11_row (mid : Vec Ideal S1x1024x512 .bf16) (top bot : Vec Ideal S1x16x512 .bf16) (hm : IsMid s mid f)
    (ht : IsTop s top f) (hb : IsBot s bot f) (p : Fin 1056) (q : Fin 512) :
    k0_pay11 (Scalar.cmpi .eq (BitVec.ofNat 32 s) 0#32) (Scalar.cmpi .eq (BitVec.ofNat 32 s) 3#32) mid top bot (ix2 p q)
      = pad16 (f q) (1024 * s + p.val) := by
  unfold k0_pay11
  refine concat_row _ _ _ (fun n => pad16 (f q) (1024 * s + n)) q (fun r => ?_) (fun r => ?_) (fun r => ?_) p
  · rw [sel_apply _ _ hs (by omega)]
    pointwise
    split
    · rw [pad16_low _ (by omega)]
    · rename_i h; exact ht.top h r q
  · pointwise
    rw [hm.mid]
  · rw [sel_apply _ _ hs (by omega)]
    pointwise
    split
    · rw [pad16_high _ (by omega)]
    · rename_i h; exact hb.bot h r q

theorem pay10_row (i : grid0.Coords) (hi : (i 2).val = s) (mid : Vec Ideal S1x1024x512 .bf16) (top bot : Vec Ideal S1x16x512 .bf16)
    (hm : IsMid s mid f) (ht : IsTop s top f) (hb : IsBot s bot f) (p : Fin 1056) (q : Fin 512) :
    k0_pay10 (Scalar.cmpi .eq (BitVec.ofNat 32 s) 3#32) (k0_pay6 mid) (k0_pay7 i top) (k0_pay8 bot) (k0_pay9) (ix2 p q)
      = pad16 (f q) (1024 * s + p.val) := by
  subst hi
  rw [← pay11_row (i 2).val hs f mid top bot hm ht hb p q]
  rfl

end

end Cert.KernelIdeal.Grad
end
-- ==== Proof.Conv.Tile.lean ====
/-
  What the short convolution's gradient kernel computes at one tile, read at a row and a column as the sums and products
  of whole sequences: the three gradients of the gate, the values' and the taps' parts.
-/
module

public import proofs.«01_k».proof.Proof.Conv.Rows

@[expose] public section

noncomputable section

namespace Cert.KernelIdeal.Grad

open Cert.KernelIdeal Cert.KernelIdeal.Gen Idealize.ShloMosaic Idealize.ShloMosaic.TcCoe Idealize.SL.Sem

/-- The product of two sequences, at a place counted with the sixteen zeros in front. -/
def mul16 (c h : Fin 4096 → EReal) (n : ℕ) : EReal := pad16 c n * pad16 h n

/-- The causal convolution of the product of two sequences. -/
def conv16 (w0 w1 w2 : EReal) (c h : Fin 4096 → EReal) (n : ℕ) : EReal :=
  w0 * mul16 c h (n - 2) + w1 * mul16 c h (n - 1) + w2 * mul16 c h n

/-- Its transpose, applied to a product of two sequences. -/
def convT16 (w0 w1 w2 : EReal) (d b : Fin 4096 → EReal) (n : ℕ) : EReal :=
  w2 * mul16 d b n + w1 * mul16 d b (n + 1) + w0 * mul16 d b (n + 2)

/-- The gradient of the gate's three inputs at a place: `k = 0` of the outer gate, `k = 1` and `k = 2` of the factors of
    the convolved product. -/
def grad16 (w0 w1 w2 : EReal) (b c h d : Fin 4096 → EReal) (k : Fin 3) (n : ℕ) : EReal :=
  match k with
  | 0 => pad16 d n * conv16 w0 w1 w2 c h n
  | 1 => convT16 w0 w1 w2 d b n * pad16 h n
  | 2 => convT16 w0 w1 w2 d b n * pad16 c n

/-- One place's part of tap `k`'s gradient. -/
def tap16 (b c h d : Fin 4096 → EReal) (k : Fin 3) (n : ℕ) : EReal := mul16 d b n * mul16 c h (n - (2 - k.val))

/-- The blocks of one tile: `s` is the tile, and each family gives one sequence for each column. -/
structure Blocks (i : grid0.Coords) (s : ℕ) (b c h d : Fin 512 → Fin 4096 → EReal)
    (x0 : Vec Ideal S1x1024x512 .bf16) (x1 x2 : Vec Ideal S1x16x512 .bf16) (x3 : Vec Ideal S1x1024x512 .bf16)
    (x4 x5 : Vec Ideal S1x16x512 .bf16) (x6 : Vec Ideal S1x1024x512 .bf16) (x7 : Vec Ideal S1x16x512 .bf16)
    (x8 : Vec Ideal S1x1024x512 .bf16) (x9 : Vec Ideal S1x16x512 .bf16) : Prop where
  lt : s < 4
  coord : (i 2).val = s
  bMid : IsMid s x0 b
  bBot : IsBot s x1 b
  cTop : IsTop s x2 c
  cMid : IsMid s x3 c
  cBot : IsBot s x4 c
  hTop : IsTop s x5 h
  hMid : IsMid s x6 h
  hBot : IsBot s x7 h
  dMid : IsMid s x8 d
  dBot : IsBot s x9 d

section
variable {i : grid0.Coords} {s : ℕ} {b c h d : Fin 512 → Fin 4096 → EReal}
  {x0 : Vec Ideal S1x1024x512 .bf16} {x1 x2 : Vec Ideal S1x16x512 .bf16} {x3 : Vec Ideal S1x1024x512 .bf16}
  {x4 x5 : Vec Ideal S1x16x512 .bf16} {x6 : Vec Ideal S1x1024x512 .bf16} {x7 : Vec Ideal S1x16x512 .bf16}
  {x8 : Vec Ideal S1x1024x512 .bf16} {x9 : Vec Ideal S1x16x512 .bf16}
  (H : Blocks i s b c h d x0 x1 x2 x3 x4 x5 x6 x7 x8 x9)
include H

/-- The extended tile of the convolved product. -/
theorem pay13_row (p : Fin 1056) (q : Fin 512) :
    k0_pay13 (Scalar.cmpi .eq (BitVec.ofNat 32 (i 2).val) 0#32) (Scalar.cmpi .eq (BitVec.ofNat 32 (i 2).val) 3#32)
      (k0_pay6 x3) (k0_pay7 i x2) (k0_pay8 x4) (k0_pay9) x6 x5 x7 (ix2 p q) = mul16 (c q) (h q) (1024 * s + p.val) := by
  obtain rfl := H.coord
  show k0_pay10 _ _ _ _ _ (ix2 p q) * k0_pay11 _ _ _ _ _ (ix2 p q) = _
  rw [pay10_row _ H.lt c i rfl x3 x2 x4 H.cMid H.cTop H.cBot, pay11_row _ H.lt h x6 x5 x7 H.hMid H.hTop H.hBot]
  rfl

/-- The extended tile of the incoming gradient times the outer gate, below its first sixteen rows. -/
theorem pay14_row (p : Fin 1056) (hp : 16 ≤ p.val) (q : Fin 512) :
    k0_pay14 (Scalar.cmpi .eq (BitVec.ofNat 32 (i 2).val) 3#32) (k0_pay5 i x0 x1) x8 x9 (ix2 p q)
      = mul16 (d q) (b q) (1024 * s + p.val) := by
  obtain rfl := H.coord
  show k0_pay12 _ _ _ (ix2 p q) * k0_pay5 _ _ _ (ix2 p q) = _
  rw [pay12_row _ H.lt d x8 x9 H.dMid H.dBot, pay5_row _ H.lt b i rfl x0 x1 H.bMid H.bBot, noTop_of_le _ _ hp, noTop_of_le _ _ hp]
  rfl

theorem pay18_row (w : Vec Ideal S3x512 .f32) (r : Fin 1024) (q : Fin 512) :
    k0_pay18 (k0_pay15 (Scalar.cmpi .eq (BitVec.ofNat 32 (i 2).val) 3#32) w (k0_pay5 i x0 x1) x8 x9)
      (k0_pay16 (Scalar.cmpi .eq (BitVec.ofNat 32 (i 2).val) 3#32) (k0_pay5 i x0 x1) x8 x9) (k0_pay17 w) (ix2 r q)
      = convT16 (w (ix2 0 q)) (w (ix2 1 q)) (w (ix2 2 q)) (d q) (b q) (1024 * s + (16 + r.val)) := by
  unfold k0_pay18 k0_pay15 k0_pay16 k0_pay17
  pointwise
  rw [pay14_row H _ (by simp only; omega), pay14_row H _ (by simp only; omega), pay14_row H _ (by simp only; omega)]
  have e1 : 1024 * s + (16 + r.val + 1056 - 1055) % 1056 = 1024 * s + (16 + r.val) + 1 := by omega
  have e2 : 1024 * s + (16 + r.val + 1056 - 1054) % 1056 = 1024 * s + (16 + r.val) + 2 := by omega
  simp only [convT16, e1, e2]

theorem pay19_row (w : Vec Ideal S3x512 .f32) (r : Fin 1024) (q : Fin 512) :
    k0_pay19 w (k0_pay12 (Scalar.cmpi .eq (BitVec.ofNat 32 (i 2).val) 3#32) x8 x9)
      (k0_pay13 (Scalar.cmpi .eq (BitVec.ofNat 32 (i 2).val) 0#32) (Scalar.cmpi .eq (BitVec.ofNat 32 (i 2).val) 3#32)
        (k0_pay6 x3) (k0_pay7 i x2) (k0_pay8 x4) (k0_pay9) x6 x5 x7) (ix4 0 0 r q)
      = grad16 (w (ix2 0 q)) (w (ix2 1 q)) (w (ix2 2 q)) (b q) (c q) (h q) (d q) 0 (1024 * s + (16 + r.val)) := by
  unfold k0_pay19
  pointwise
  rw [pay13_row H, pay13_row H, pay13_row H]
  obtain rfl := H.coord
  rw [pay12_row _ H.lt d x8 x9 H.dMid H.dBot, noTop_of_le _ _ (by simp only; omega)]
  simp only [grad16, conv16]
  congr 5 <;> omega

theorem pay20_row (w : Vec Ideal S3x512 .f32) (r : Fin 1024) (q : Fin 512) :
    k0_pay20 (k0_pay11 (Scalar.cmpi .eq (BitVec.ofNat 32 (i 2).val) 0#32) (Scalar.cmpi .eq (BitVec.ofNat 32 (i 2).val) 3#32) x6 x5 x7)
      (k0_pay15 (Scalar.cmpi .eq (BitVec.ofNat 32 (i 2).val) 3#32) w (k0_pay5 i x0 x1) x8 x9)
      (k0_pay16 (Scalar.cmpi .eq (BitVec.ofNat 32 (i 2).val) 3#32) (k0_pay5 i x0 x1) x8 x9) (k0_pay17 w) (ix4 0 0 r q)
      = grad16 (w (ix2 0 q)) (w (ix2 1 q)) (w (ix2 2 q)) (b q) (c q) (h q) (d q) 1 (1024 * s + (16 + r.val)) := by
  unfold k0_pay20
  pointwise
  rw [pay18_row H]
  obtain rfl := H.coord
  rw [pay11_row _ H.lt h x6 x5 x7 H.hMid H.hTop H.hBot]
  rfl

theorem pay21_row (w : Vec Ideal S3x512 .f32) (r : Fin 1024) (q : Fin 512) :
    k0_pay21 (k0_pay10 (Scalar.cmpi .eq (BitVec.ofNat 32 (i 2).val) 3#32) (k0_pay6 x3) (k0_pay7 i x2) (k0_pay8 x4) (k0_pay9))
      (k0_pay15 (Scalar.cmpi .eq (BitVec.ofNat 32 (i 2).val) 3#32) w (k0_pay5 i x0 x1) x8 x9)
      (k0_pay16 (Scalar.cmpi .eq (BitVec.ofNat 32 (i 2).val) 3#32) (k0_pay5 i x0 x1) x8 x9) (k0_pay17 w) (ix4 0 0 r q)
      = grad16 (w (ix2 0 q)) (w (ix2 1 q)) (w (ix2 2 q)) (b q) (c q) (h q) (d q) 2 (1024 * s + (16 + r.val)) := by
  unfold k0_pay21
  pointwise
  rw [pay18_row H]
  obtain rfl := H.coord
  rw [pay10_row _ H.lt c i rfl x3 x2 x4 H.cMid H.cTop H.cBot]
  rfl

/-- The rows of the taps' gradient after the tile: what was there, and the tile's sum. -/
theorem pay1_row (v : Vec Ideal S1x512 .f32) (q : Fin 512) :
    k0_pay1 (k0_pay22 (k0_pay14 (Scalar.cmpi .eq (BitVec.ofNat 32 (i 2).val) 3#32) (k0_pay5 i x0 x1) x8 x9)) (k0_pay23 v)
      (k0_pay24 (k0_pay13 (Scalar.cmpi .eq (BitVec.ofNat 32 (i 2).val) 0#32) (Scalar.cmpi .eq (BitVec.ofNat 32 (i 2).val) 3#32)
        (k0_pay6 x3) (k0_pay7 i x2) (k0_pay8 x4) (k0_pay9) x6 x5 x7)) (ix2 0 q)
      = v (ix2 0 q) + ∑ r : Fin 1024, tap16 (b q) (c q) (h q) (d q) 0 (1024 * s + (16 + r.val)) := by
  unfold k0_pay1 k0_pay22 k0_pay23 k0_pay24
  pointwise
  congr 1
  refine Finset.sum_congr rfl fun r _ => ?_
  rw [pay14_row H _ (by simp only; omega), pay13_row H]
  simp only [tap16]
  congr 2; simp only [Fin.val_zero]; omega

theorem pay2_row (v : Vec Ideal S1x512 .f32) (q : Fin 512) :
    k0_pay2 (k0_pay13 (Scalar.cmpi .eq (BitVec.ofNat 32 (i 2).val) 0#32) (Scalar.cmpi .eq (BitVec.ofNat 32 (i 2).val) 3#32)
        (k0_pay6 x3) (k0_pay7 i x2) (k0_pay8 x4) (k0_pay9) x6 x5 x7)
      (k0_pay22 (k0_pay14 (Scalar.cmpi .eq (BitVec.ofNat 32 (i 2).val) 3#32) (k0_pay5 i x0 x1) x8 x9)) v (ix2 0 q)
      = v (ix2 0 q) + ∑ r : Fin 1024, tap16 (b q) (c q) (h q) (d q) 1 (1024 * s + (16 + r.val)) := by
  unfold k0_pay2 k0_pay22
  pointwise
  congr 1
  refine Finset.sum_congr rfl fun r _ => ?_
  rw [pay14_row H _ (by simp only; omega), pay13_row H]
  simp only [tap16]
  congr 2; simp only [Fin.val_one]; omega

theorem pay3_row (v : Vec Ideal S1x512 .f32) (q : Fin 512) :
    k0_pay3 (k0_pay13 (Scalar.cmpi .eq (BitVec.ofNat 32 (i 2).val) 0#32) (Scalar.cmpi .eq (BitVec.ofNat 32 (i 2).val) 3#32)
        (k0_pay6 x3) (k0_pay7 i x2) (k0_pay8 x4) (k0_pay9) x6 x5 x7)
      (k0_pay22 (k0_pay14 (Scalar.cmpi .eq (BitVec.ofNat 32 (i 2).val) 3#32) (k0_pay5 i x0 x1) x8 x9)) v (ix2 0 q)
      = v (ix2 0 q) + ∑ r : Fin 1024, tap16 (b q) (c q) (h q) (d q) 2 (1024 * s + (16 + r.val)) := by
  unfold k0_pay3 k0_pay22
  pointwise
  congr 1
  refine Finset.sum_congr rfl fun r _ => ?_
  rw [pay14_row H _ (by simp only; omega), pay13_row H]
  simp only [tap16]
  congr 2

end

/-- An index off the last written box reads the earlier writes. -/
theorem canon_skip {s : Shape} {e : EltTy} (r : Rect s) (w : r.shape.Idx → Elt Ideal e) (L : List (View.Piece (Elt Ideal) s e)) {y : s.Idx}
    (h : y ∉ r.set) : View.canon (⟨r, w⟩ :: L) y = View.canon L y := View.canon_cons_of_not_mem ⟨r, w⟩ L h

/-- Three rows written one after another: each row reads its own. -/
theorem canon_rows (P0 P1 P2 : FVec Ideal S1x512 .f32) (L : List (View.Piece (Elt Ideal) S3x512 .f32)) (k : Fin 3) (q : Fin 512) :
    View.canon (Val := Elt Ideal) (s := S3x512) (e := .f32) (⟨Rect.unit ![2, 0] ![1, 512] inb_S3x512_S1x512_2_0, P2⟩ ::
      ⟨Rect.unit ![1, 0] ![1, 512] inb_S3x512_S1x512_1_0, P1⟩ ::
      ⟨Rect.unit ![0, 0] ![1, 512] inb_S3x512_S1x512_0_0, P0⟩ :: L) (ix2 k q)
      = (match k with | 0 => P0 | 1 => P1 | 2 => P2 : FVec Ideal S1x512 .f32) (ix2 0 q) := by
  have no (o : ℕ) (inb) (ho : k.val ≠ o) : (ix2 k q : S3x512.Idx) ∉ (Rect.unit (s := S3x512) ![o, 0] ![1, 512] inb).set := by
    rw [Rect.mem_set_unit]
    intro hh
    have h0 : o ≤ k.val ∧ k.val < o + 1 := hh 0
    omega
  have at_ (o : ℕ) (inb) (ho : k.val = o) : (ix2 k q : S3x512.Idx)
      = (Rect.unit (s := S3x512) ![o, 0] ![1, 512] inb).emb (ix2 (n0 := 1) (n1 := 512) 0 q) := by
    funext a
    refine Fin.ext ?_
    match a with
    | ⟨0, _⟩ => show k.val = o + 1 * 0; omega
    | ⟨1, _⟩ => show q.val = 0 + 1 * q.val; omega
  obtain rfl | rfl | rfl : k = 0 ∨ k = 1 ∨ k = 2 := by omega
  · rw [canon_skip _ _ _ (no 2 _ (by decide)), canon_skip _ _ _ (no 1 _ (by decide)),
      at_ 0 inb_S3x512_S1x512_0_0 rfl]
    exact View.canon_cons_emb _ _ _ _
  · rw [canon_skip _ _ _ (no 2 _ (by decide)), at_ 1 inb_S3x512_S1x512_1_0 rfl]
    exact View.canon_cons_emb _ _ _ _
  · rw [at_ 2 inb_S3x512_S1x512_2_0 rfl]
    exact View.canon_cons_emb _ _ _ _

/-- Three planes written one after another: each plane reads its own. -/
theorem canon_planes (P0 P1 P2 : FVec Ideal S1x1x1024x512 .bf16) (k : Fin 3) (r : Fin 1024) (q : Fin 512) :
    View.canon (Val := Elt Ideal) (s := S3x1x1024x512) (e := .bf16)
      [⟨Rect.unit ![2, 0, 0, 0] ![1, 1, 1024, 512] inb_S3x1x1024x512_S1x1x1024x512_2_0_0_0, P2⟩,
      ⟨Rect.unit ![1, 0, 0, 0] ![1, 1, 1024, 512] inb_S3x1x1024x512_S1x1x1024x512_1_0_0_0, P1⟩,
      ⟨Rect.unit ![0, 0, 0, 0] ![1, 1, 1024, 512] inb_S3x1x1024x512_S1x1x1024x512_0_0_0_0, P0⟩] (ix4 k 0 r q)
      = (match k with | 0 => P0 | 1 => P1 | 2 => P2 : FVec Ideal S1x1x1024x512 .bf16) (ix4 0 0 r q) := by
  have no (o : ℕ) (inb) (ho : k.val ≠ o) :
      (ix4 k 0 r q : S3x1x1024x512.Idx) ∉ (Rect.unit (s := S3x1x1024x512) ![o, 0, 0, 0] ![1, 1, 1024, 512] inb).set := by
    rw [Rect.mem_set_unit]
    intro hh
    have h0 : o ≤ k.val ∧ k.val < o + 1 := hh 0
    omega
  have at_ (o : ℕ) (inb) (ho : k.val = o) : (ix4 k 0 r q : S3x1x1024x512.Idx)
      = (Rect.unit (s := S3x1x1024x512) ![o, 0, 0, 0] ![1, 1, 1024, 512] inb).emb (ix4 (n0 := 1) (n1 := 1) (n2 := 1024) (n3 := 512) 0 0 r q) := by
    funext a
    refine Fin.ext ?_
    match a with
    | ⟨0, _⟩ => show k.val = o + 1 * 0; omega
    | ⟨1, _⟩ => rfl
    | ⟨2, _⟩ => show r.val = 0 + 1 * r.val; omega
    | ⟨3, _⟩ => show q.val = 0 + 1 * q.val; omega
  obtain rfl | rfl | rfl : k = 0 ∨ k = 1 ∨ k = 2 := by omega
  · rw [canon_skip _ _ _ (no 2 _ (by decide)), canon_skip _ _ _ (no 1 _ (by decide)),
      at_ 0 inb_S3x1x1024x512_S1x1x1024x512_0_0_0_0 rfl]
    exact View.canon_cons_emb _ _ _ _
  · rw [canon_skip _ _ _ (no 2 _ (by decide)), at_ 1 inb_S3x1x1024x512_S1x1x1024x512_1_0_0_0 rfl]
    exact View.canon_cons_emb _ _ _ _
  · rw [at_ 2 inb_S3x1x1024x512_S1x1x1024x512_2_0_0_0 rfl]
    exact View.canon_cons_emb _ _ _ _

end Cert.KernelIdeal.Grad
end
-- ==== Proof.Conv.Input.lean ====
/-
  The tiles the short convolution's gradient kernel loads, as the columns of the argument arrays. Point `t` of the sixteen
  works on column block `t / 8`, batch element `t / 4 % 2` and tile `t % 4` of the sequence.
-/
module

public import proofs.«01_k».proof.Proof.Conv.Tile
public import proofs.«01_k».proof.Proof.Gen.KernelIdeal.Value

@[expose] public section

noncomputable section

namespace Cert.KernelIdeal.Grad

open Cert.KernelIdeal Cert.KernelIdeal.Gen Idealize.ShloMosaic Idealize.ShloMosaic.TcCoe Idealize.SL.Sem

/-- One column of the packed gate inputs (`o` = 0, 1024, 2048: the outer gate and the two factors), for a batch element. -/
def colA (X : S2x4096x3072.Idx → EReal) (o : ℕ) (ho : o ≤ 2048) (b : Fin 2) (n : Fin 1024) (t : Fin 4096) : EReal :=
  X (ix3 b t ⟨o + n.val, by omega⟩)

/-- One column of the incoming gradient. -/
def colD (X : S2x4096x1024.Idx → EReal) (b : Fin 2) (n : Fin 1024) (t : Fin 4096) : EReal := X (ix3 b t n)

variable (m : (ℓ : Loc nD τ sig) → Buf (Elt Ideal) ℓ) (c : Dev nD)

/-- The three argument arrays of a device. -/
abbrev argX : S2x4096x3072.Idx → EReal := m ((c.tc : Thread nD τ).loc main_arg0)
abbrev argG : S2x4096x1024.Idx → EReal := m ((c.tc : Thread nD τ).loc main_arg1)
abbrev argW : S3x1024.Idx → EReal := m ((c.tc : Thread nD τ).loc main_arg2)

/-- The batch element and the array column of a point's column `q`. -/
def batch (t : Fin cfg0.N) : Fin 2 := ⟨t.val / 4 % 2, by omega⟩

def col (t : Fin cfg0.N) (q : Fin 512) : Fin 1024 :=
  ⟨t.val / 8 * 512 + q.val, by have := t.isLt; have : cfg0.N = 16 := N_0; omega⟩

theorem coord2 : ∀ t : Fin cfg0.N, (grid0.coords t 2).val = t.val % 4 := by decide +kernel

theorem idx0 : ∀ t : Fin cfg0.N, win0_0.index t = ![t.val / 4 % 2, t.val % 4, t.val / 8] := by decide +kernel
theorem idx1 : ∀ t : Fin cfg0.N, win0_1.index t = ![t.val / 4 % 2, min ((t.val % 4 + 1) * 64) 255, t.val / 8] := by decide +kernel
theorem idx2 : ∀ t : Fin cfg0.N, win0_2.index t = ![t.val / 4 % 2, t.val % 4 * 64 - 1, 2 + t.val / 8] := by decide +kernel
theorem idx3 : ∀ t : Fin cfg0.N, win0_3.index t = ![t.val / 4 % 2, t.val % 4, 2 + t.val / 8] := by decide +kernel
theorem idx4 : ∀ t : Fin cfg0.N, win0_4.index t = ![t.val / 4 % 2, min ((t.val % 4 + 1) * 64) 255, 2 + t.val / 8] := by decide +kernel
theorem idx5 : ∀ t : Fin cfg0.N, win0_5.index t = ![t.val / 4 % 2, t.val % 4 * 64 - 1, 4 + t.val / 8] := by decide +kernel
theorem idx6 : ∀ t : Fin cfg0.N, win0_6.index t = ![t.val / 4 % 2, t.val % 4, 4 + t.val / 8] := by decide +kernel
theorem idx7 : ∀ t : Fin cfg0.N, win0_7.index t = ![t.val / 4 % 2, min ((t.val % 4 + 1) * 64) 255, 4 + t.val / 8] := by decide +kernel
theorem idx8 : ∀ t : Fin cfg0.N, win0_8.index t = ![t.val / 4 % 2, t.val % 4, t.val / 8] := by decide +kernel
theorem idx9 : ∀ t : Fin cfg0.N, win0_9.index t = ![t.val / 4 % 2, min ((t.val % 4 + 1) * 64) 255, t.val / 8] := by decide +kernel
theorem idx10 : ∀ t : Fin cfg0.N, win0_10.index t = ![0, t.val / 8] := by decide +kernel
theorem idx11 : ∀ t : Fin cfg0.N, win0_11.index t = ![0, t.val / 4 % 2, t.val % 4, t.val / 8] := by decide +kernel
theorem idx12 : ∀ t : Fin cfg0.N, win0_12.index t = ![0, t.val / 8] := by decide +kernel

theorem mid0 (t : Fin cfg0.N) : IsMid (t.val % 4) (iblk m c 0 t) (fun q => colA (argX m c) 0 (by omega) (batch t) (col t q)) := by
  refine ⟨fun r q => ?_⟩
  rw [pad16_at _ (1024 * (t.val % 4) + r.val) (by omega) (by omega)]
  unfold iblk
  rw [View.read_apply]
  show V m c main_arg0 _ = argX m c _
  unfold V
  congr 1
  funext a
  refine Fin.ext ?_
  have hi := congrFun (idx0 t)
  match a with
  | ⟨0, _⟩ => show win0_0.index t 0 * 1 + 1 * 0 = t.val / 4 % 2; rw [hi 0]; simp
  | ⟨1, _⟩ => show win0_0.index t 1 * 1024 + 1 * r.val = 1024 * (t.val % 4) + r.val; rw [hi 1]; simp; omega
  | ⟨2, _⟩ => show win0_0.index t 2 * 512 + 1 * q.val = 0 + (t.val / 8 * 512 + q.val); rw [hi 2]; simp

theorem bot1 (t : Fin cfg0.N) : IsBot (t.val % 4) (iblk m c 1 t) (fun q => colA (argX m c) 0 (by omega) (batch t) (col t q)) := by
  refine ⟨fun hs r q => ?_⟩
  rw [pad16_at _ (1024 * (t.val % 4) + 1024 + r.val) (by omega) (by omega)]
  unfold iblk
  rw [View.read_apply]
  show V m c main_arg0 _ = argX m c _
  unfold V
  congr 1
  funext a
  refine Fin.ext ?_
  have hi := congrFun (idx1 t)
  match a with
  | ⟨0, _⟩ => show win0_1.index t 0 * 1 + 1 * 0 = t.val / 4 % 2; rw [hi 0]; simp
  | ⟨1, _⟩ => show win0_1.index t 1 * 16 + 1 * r.val = 1024 * (t.val % 4) + 1024 + r.val; rw [hi 1]; simp; omega
  | ⟨2, _⟩ => show win0_1.index t 2 * 512 + 1 * q.val = 0 + (t.val / 8 * 512 + q.val); rw [hi 2]; simp

theorem top2 (t : Fin cfg0.N) : IsTop (t.val % 4) (iblk m c 2 t) (fun q => colA (argX m c) 1024 (by omega) (batch t) (col t q)) := by
  refine ⟨fun hs r q => ?_⟩
  rw [pad16_at _ (1024 * (t.val % 4) - 16 + r.val) (by omega) (by omega)]
  unfold iblk
  rw [View.read_apply]
  show V m c main_arg0 _ = argX m c _
  unfold V
  congr 1
  funext a
  refine Fin.ext ?_
  have hi := congrFun (idx2 t)
  match a with
  | ⟨0, _⟩ => show win0_2.index t 0 * 1 + 1 * 0 = t.val / 4 % 2; rw [hi 0]; simp
  | ⟨1, _⟩ => show win0_2.index t 1 * 16 + 1 * r.val = 1024 * (t.val % 4) - 16 + r.val; rw [hi 1]; simp; omega
  | ⟨2, _⟩ => show win0_2.index t 2 * 512 + 1 * q.val = 1024 + (t.val / 8 * 512 + q.val); rw [hi 2]; simp; omega

theorem mid3 (t : Fin cfg0.N) : IsMid (t.val % 4) (iblk m c 3 t) (fun q => colA (argX m c) 1024 (by omega) (batch t) (col t q)) := by
  refine ⟨fun r q => ?_⟩
  rw [pad16_at _ (1024 * (t.val % 4) + r.val) (by omega) (by omega)]
  unfold iblk
  rw [View.read_apply]
  show V m c main_arg0 _ = argX m c _
  unfold V
  congr 1
  funext a
  refine Fin.ext ?_
  have hi := congrFun (idx3 t)
  match a with
  | ⟨0, _⟩ => show win0_3.index t 0 * 1 + 1 * 0 = t.val / 4 % 2; rw [hi 0]; simp
  | ⟨1, _⟩ => show win0_3.index t 1 * 1024 + 1 * r.val = 1024 * (t.val % 4) + r.val; rw [hi 1]; simp; omega
  | ⟨2, _⟩ => show win0_3.index t 2 * 512 + 1 * q.val = 1024 + (t.val / 8 * 512 + q.val); rw [hi 2]; simp; omega

theorem bot4 (t : Fin cfg0.N) : IsBot (t.val % 4) (iblk m c 4 t) (fun q => colA (argX m c) 1024 (by omega) (batch t) (col t q)) := by
  refine ⟨fun hs r q => ?_⟩
  rw [pad16_at _ (1024 * (t.val % 4) + 1024 + r.val) (by omega) (by omega)]
  unfold iblk
  rw [View.read_apply]
  show V m c main_arg0 _ = argX m c _
  unfold V
  congr 1
  funext a
  refine Fin.ext ?_
  have hi := congrFun (idx4 t)
  match a with
  | ⟨0, _⟩ => show win0_4.index t 0 * 1 + 1 * 0 = t.val / 4 % 2; rw [hi 0]; simp
  | ⟨1, _⟩ => show win0_4.index t 1 * 16 + 1 * r.val = 1024 * (t.val % 4) + 1024 + r.val; rw [hi 1]; simp; omega
  | ⟨2, _⟩ => show win0_4.index t 2 * 512 + 1 * q.val = 1024 + (t.val / 8 * 512 + q.val); rw [hi 2]; simp; omega

theorem top5 (t : Fin cfg0.N) : IsTop (t.val % 4) (iblk m c 5 t) (fun q => colA (argX m c) 2048 (by omega) (batch t) (col t q)) := by
  refine ⟨fun hs r q => ?_⟩
  rw [pad16_at _ (1024 * (t.val % 4) - 16 + r.val) (by omega) (by omega)]
  unfold iblk
  rw [View.read_apply]
  show V m c main_arg0 _ = argX m c _
  unfold V
  congr 1
  funext a
  refine Fin.ext ?_
  have hi := congrFun (idx5 t)
  match a with
  | ⟨0, _⟩ => show win0_5.index t 0 * 1 + 1 * 0 = t.val / 4 % 2; rw [hi 0]; simp
  | ⟨1, _⟩ => show win0_5.index t 1 * 16 + 1 * r.val = 1024 * (t.val % 4) - 16 + r.val; rw [hi 1]; simp; omega
  | ⟨2, _⟩ => show win0_5.index t 2 * 512 + 1 * q.val = 2048 + (t.val / 8 * 512 + q.val); rw [hi 2]; simp; omega

theorem mid6 (t : Fin cfg0.N) : IsMid (t.val % 4) (iblk m c 6 t) (fun q => colA (argX m c) 2048 (by omega) (batch t) (col t q)) := by
  refine ⟨fun r q => ?_⟩
  rw [pad16_at _ (1024 * (t.val % 4) + r.val) (by omega) (by omega)]
  unfold iblk
  rw [View.read_apply]
  show V m c main_arg0 _ = argX m c _
  unfold V
  congr 1
  funext a
  refine Fin.ext ?_
  have hi := congrFun (idx6 t)
  match a with
  | ⟨0, _⟩ => show win0_6.index t 0 * 1 + 1 * 0 = t.val / 4 % 2; rw [hi 0]; simp
  | ⟨1, _⟩ => show win0_6.index t 1 * 1024 + 1 * r.val = 1024 * (t.val % 4) + r.val; rw [hi 1]; simp; omega
  | ⟨2, _⟩ => show win0_6.index t 2 * 512 + 1 * q.val = 2048 + (t.val / 8 * 512 + q.val); rw [hi 2]; simp; omega

theorem bot7 (t : Fin cfg0.N) : IsBot (t.val % 4) (iblk m c 7 t) (fun q => colA (argX m c) 2048 (by omega) (batch t) (col t q)) := by
  refine ⟨fun hs r q => ?_⟩
  rw [pad16_at _ (1024 * (t.val % 4) + 1024 + r.val) (by omega) (by omega)]
  unfold iblk
  rw [View.read_apply]
  show V m c main_arg0 _ = argX m c _
  unfold V
  congr 1
  funext a
  refine Fin.ext ?_
  have hi := congrFun (idx7 t)
  match a with
  | ⟨0, _⟩ => show win0_7.index t 0 * 1 + 1 * 0 = t.val / 4 % 2; rw [hi 0]; simp
  | ⟨1, _⟩ => show win0_7.index t 1 * 16 + 1 * r.val = 1024 * (t.val % 4) + 1024 + r.val; rw [hi 1]; simp; omega
  | ⟨2, _⟩ => show win0_7.index t 2 * 512 + 1 * q.val = 2048 + (t.val / 8 * 512 + q.val); rw [hi 2]; simp; omega

theorem mid8 (t : Fin cfg0.N) : IsMid (t.val % 4) (iblk m c 8 t) (fun q => colD (argG m c) (batch t) (col t q)) := by
  refine ⟨fun r q => ?_⟩
  rw [pad16_at _ (1024 * (t.val % 4) + r.val) (by omega) (by omega)]
  unfold iblk
  rw [View.read_apply]
  show V m c main_arg1 _ = argG m c _
  unfold V
  congr 1
  funext a
  refine Fin.ext ?_
  have hi := congrFun (idx8 t)
  match a with
  | ⟨0, _⟩ => show win0_8.index t 0 * 1 + 1 * 0 = t.val / 4 % 2; rw [hi 0]; simp
  | ⟨1, _⟩ => show win0_8.index t 1 * 1024 + 1 * r.val = 1024 * (t.val % 4) + r.val; rw [hi 1]; simp; omega
  | ⟨2, _⟩ => show win0_8.index t 2 * 512 + 1 * q.val = t.val / 8 * 512 + q.val; rw [hi 2]; simp

theorem bot9 (t : Fin cfg0.N) : IsBot (t.val % 4) (iblk m c 9 t) (fun q => colD (argG m c) (batch t) (col t q)) := by
  refine ⟨fun hs r q => ?_⟩
  rw [pad16_at _ (1024 * (t.val % 4) + 1024 + r.val) (by omega) (by omega)]
  unfold iblk
  rw [View.read_apply]
  show V m c main_arg1 _ = argG m c _
  unfold V
  congr 1
  funext a
  refine Fin.ext ?_
  have hi := congrFun (idx9 t)
  match a with
  | ⟨0, _⟩ => show win0_9.index t 0 * 1 + 1 * 0 = t.val / 4 % 2; rw [hi 0]; simp
  | ⟨1, _⟩ => show win0_9.index t 1 * 16 + 1 * r.val = 1024 * (t.val % 4) + 1024 + r.val; rw [hi 1]; simp; omega
  | ⟨2, _⟩ => show win0_9.index t 2 * 512 + 1 * q.val = t.val / 8 * 512 + q.val; rw [hi 2]; simp

theorem taps (t : Fin cfg0.N) (k : Fin 3) (q : Fin 512) : (iblk m c 10 t : S3x512.Idx → EReal) (ix2 k q) = argW m c (ix2 k (col t q)) := by
  unfold iblk
  rw [View.read_apply]
  show V m c main_arg2 _ = argW m c _
  unfold V
  congr 1
  funext a
  refine Fin.ext ?_
  have hi := congrFun (idx10 t)
  match a with
  | ⟨0, _⟩ => show win0_10.index t 0 * 3 + 1 * k.val = k.val; rw [hi 0]; simp
  | ⟨1, _⟩ => show win0_10.index t 1 * 512 + 1 * q.val = t.val / 8 * 512 + q.val; rw [hi 1]; simp

/-- The blocks of point `t`. -/
theorem blocks (t : Fin cfg0.N) :
    Blocks (grid0.coords t) (t.val % 4) (fun q => colA (argX m c) 0 (by omega) (batch t) (col t q))
      (fun q => colA (argX m c) 1024 (by omega) (batch t) (col t q)) (fun q => colA (argX m c) 2048 (by omega) (batch t) (col t q))
      (fun q => colD (argG m c) (batch t) (col t q)) (iblk m c 0 t) (iblk m c 1 t) (iblk m c 2 t) (iblk m c 3 t) (iblk m c 4 t)
      (iblk m c 5 t) (iblk m c 6 t) (iblk m c 7 t) (iblk m c 8 t) (iblk m c 9 t) where
  lt := by omega
  coord := coord2 t
  bMid := mid0 m c t
  bBot := bot1 m c t
  cTop := top2 m c t
  cMid := mid3 m c t
  cBot := bot4 m c t
  hTop := top5 m c t
  hMid := mid6 m c t
  hBot := bot7 m c t
  dMid := mid8 m c t
  dBot := bot9 m c t

end Cert.KernelIdeal.Grad
end
-- ==== Proof.Product.Entries.lean ====
/-
  Matrix entries at natural coordinates, and a sum over consecutive tiles as one sum.
-/
module

public import Idealize.ShloMosaic.Lib.Pointwise
public import Idealize.ShloMosaic.Lib.Tactic
public import Idealize.ShloMosaic.Lib.Pipeline.ReadBack

@[expose] public section

noncomputable section

namespace Cert.Product

open Idealize.ShloMosaic

/-- The entry of a matrix at row `a` and column `b`; zero outside the matrix. -/
def at2 (M N : ℕ) (X : (⟨2, ![M, N]⟩ : Shape).Idx → EReal) (a b : ℕ) : EReal :=
  if h : a < M ∧ b < N then X (ix2 ⟨a, h.1⟩ ⟨b, h.2⟩) else 0

theorem at2_val (M N : ℕ) (X : (⟨2, ![M, N]⟩ : Shape).Idx → EReal) (i : (⟨2, ![M, N]⟩ : Shape).Idx) (a b : ℕ)
    (ha : (i 0).val = a) (hb : (i 1).val = b) : X i = at2 M N X a b := by
  subst ha hb
  unfold at2
  rw [dif_pos ⟨(i 0).isLt, (i 1).isLt⟩]
  exact congrArg X (eq_ix2 i)

/-- The entry of a stack of matrices. -/
def at3 (P M N : ℕ) (X : (⟨3, ![P, M, N]⟩ : Shape).Idx → EReal) (p a b : ℕ) : EReal :=
  if h : p < P ∧ a < M ∧ b < N then X (ix3 ⟨p, h.1⟩ ⟨a, h.2.1⟩ ⟨b, h.2.2⟩) else 0

theorem at3_val (P M N : ℕ) (X : (⟨3, ![P, M, N]⟩ : Shape).Idx → EReal) (i : (⟨3, ![P, M, N]⟩ : Shape).Idx) (p a b : ℕ)
    (hp : (i 0).val = p) (ha : (i 1).val = a) (hb : (i 2).val = b) : X i = at3 P M N X p a b := by
  subst hp ha hb
  unfold at3
  rw [dif_pos ⟨(i 0).isLt, (i 1).isLt, (i 2).isLt⟩]
  exact congrArg X (eq_ix3 i)

/-- What lies in a set lies in an equal one. -/
theorem mem_of {α β : Type*} [Membership α β] {s u : β} {i : α} (h : s = u) (hi : i ∈ u) : i ∈ s := h ▸ hi

/-- One matrix read out of a stack. -/
theorem ld_slot {e : _} {P M N : ℕ} (X : Vec Ideal ⟨3, ![P, M, N]⟩ e) (p : Fin P)
    (h : ∀ a, (![p.val, 0, 0] : Fin 3 → ℕ) a + (![1, M, N] : Fin 3 → ℕ) a ≤ (⟨3, ![P, M, N]⟩ : Shape).size a) (i : Fin M) (j : Fin N) :
    View.ld X (Rect.unit (s := ⟨3, ![P, M, N]⟩) ![p.val, 0, 0] ![1, M, N] h) (ix3 0 i j) = X (ix3 p i j) := by
  refine congrArg X (funext fun a => Fin.ext ?_)
  match a with
  | ⟨0, _⟩ => rfl
  | ⟨1, _⟩ => show 0 + 1 * i.val = i.val; omega
  | ⟨2, _⟩ => show 0 + 1 * j.val = j.val; omega

/-- A position inside a block of `s` entries, from the number of the block. -/
theorem pos_of {a b : ℕ} (s : ℕ) {r v : ℕ} (h : a = b) (e : b * s + 1 * r = v) : a * s + 1 * r = v := h ▸ e

/-- A position inside a block of `s` entries, read the other way. -/
theorem of_pos {a b : ℕ} (s : ℕ) {r v : ℕ} (h : a = b) (e : v = b * s + 1 * r) : v = a * s + 1 * r := h ▸ e

/-- A position lies in the block of `s` entries that contains it. -/
theorem in_block {a b : ℕ} (s n : ℕ) (h : a = b) (e : b * s ≤ n ∧ n < b * s + s) : a * s ≤ n ∧ n < a * s + s :=
  h ▸ e

/-- `n` tiles of `T` consecutive terms are the first `n * T` terms. -/
theorem sum_tiles (n T : ℕ) (f : ℕ → EReal) :
    ∑ s ∈ Finset.range n, ∑ r : Fin T, f (T * s + r.val) = ∑ k : Fin (n * T), f k.val := by
  rw [← Fin.sum_univ_eq_sum_range (fun s => ∑ r : Fin T, f (T * s + r.val)), ← Finset.sum_product']
  refine Fintype.sum_equiv (finProdFinEquiv (m := n) (n := T)) _ _ fun x => ?_
  congr 1
  show T * x.1.val + x.2.val = x.2.val + T * x.1.val
  omega

/-- A sum that is built one tile at a time: the first of each run of `n` points starts it, and each later point up to
    the `e`-th of its run adds its tile. -/
theorem run_sum (n e N : ℕ) (hn : 0 < n) (o : (u : ℕ) → u < N → EReal) (p : ℕ → ℕ → EReal)
    (first : ∀ u hu, u % n = 0 → o u hu = p (u / n) 0)
    (next : ∀ u hu, (u + 1) % n ≠ 0 → (u + 1) % n ≤ e →
      o (u + 1) hu = o u (Nat.lt_of_succ_lt hu) + p ((u + 1) / n) ((u + 1) % n)) :
    ∀ u hu, u % n ≤ e → o u hu = ∑ v ∈ Finset.range (u % n + 1), p (u / n) v := by
  intro u
  induction u with
  | zero => intro hu _; rw [first 0 hu (Nat.zero_mod n)]; simp
  | succ u ih =>
    intro hu he
    by_cases h : (u + 1) % n = 0
    · rw [first _ hu h, h, zero_add, Finset.sum_range_one]
    · have hd : (u + 1) / n = u / n := by
        rw [Nat.succ_div, if_neg fun hd => h (Nat.mod_eq_zero_of_dvd hd), Nat.add_zero]
      have hm : (u + 1) % n = u % n + 1 := by
        have h1 := Nat.div_add_mod (u + 1) n
        have h2 := Nat.div_add_mod u n
        rw [hd] at h1
        omega
      rw [next u hu h he, ih _ (by omega), hd, hm, ← Finset.sum_range_succ]

theorem zeros2 : (![0, 0] : Fin 2 → ℕ) = fun _ => 0 := funext fun a => by fin_cases a <;> rfl
theorem zeros3 : (![0, 0, 0] : Fin 3 → ℕ) = fun _ => 0 := funext fun a => by fin_cases a <;> rfl

end Cert.Product
end
-- ==== Proof.Conv.Output.lean ====
/-
  What the kernel's two output buffers hold after each of the sixteen points, and so the two result arrays.
-/
module

public import proofs.«01_k».proof.Proof.Conv.Input
public import proofs.«01_k».proof.Proof.Product.Entries
public import Idealize.ShloMosaic.Lib.Pipeline.ReadBack

@[expose] public section

noncomputable section

namespace Cert.KernelIdeal.Grad

open Cert.Product (of_pos in_block mem_of)
open Cert.KernelIdeal Cert.KernelIdeal.Gen Idealize.ShloMosaic Idealize.ShloMosaic.TcCoe Idealize.SL.Sem

variable (m : (ℓ : Loc nD τ sig) → Buf (Elt Ideal) ℓ) (c : Dev nD)

/-- The first result of the kernel: the gradients of the gate's three inputs at batch element `b`, time `t`, column `n`. -/
def gradAt (k : Fin 3) (b : Fin 2) (t : Fin 4096) (n : Fin 1024) : EReal :=
  grad16 (argW m c (ix2 0 n)) (argW m c (ix2 1 n)) (argW m c (ix2 2 n)) (colA (argX m c) 0 (by omega) b n)
    (colA (argX m c) 1024 (by omega) b n) (colA (argX m c) 2048 (by omega) b n) (colD (argG m c) b n) k (16 + t.val)

/-- One product of tap `k`'s gradient. -/
def tapAt (k : Fin 3) (b : Fin 2) (t : ℕ) (n : Fin 1024) : EReal :=
  tap16 (colA (argX m c) 0 (by omega) b n) (colA (argX m c) 1024 (by omega) b n) (colA (argX m c) 2048 (by omega) b n)
    (colD (argG m c) b n) k (16 + t)

theorem z3 : (![0, 0, 0] : Fin 3 → ℕ) = fun _ => 0 := funext fun a => by fin_cases a <;> rfl
theorem z2 : (![0, 0] : Fin 2 → ℕ) = fun _ => 0 := funext fun a => by fin_cases a <;> rfl

theorem planes_A (t : Fin cfg0.N) (h0 : t.val % 8 = 0) (k : Fin 3) (r : Fin 1024) (q : Fin 512) :
    (outsAt0 m c t.val t.isLt).1 (ix4 k 0 r q) = gradAt m c k (batch t) ⟨1024 * (t.val % 4) + r.val, by omega⟩ (col t q) := by
  rw [outsAt0_A m c t h0]
  dsimp only
  unfold out0_A_11
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_12 t).read_unread]
  rw [canon_planes]
  simp only [View.ld_unit_zero (S := S1x1024x512) z3, View.ld_unit_zero (S := S1x16x512) z3, View.ld_unit_zero (S := S3x512) z2]
  obtain rfl | rfl | rfl : k = 0 ∨ k = 1 ∨ k = 2 := by omega
  · refine (pay19_row (blocks m c t) (iblk m c 10 t) r q).trans ?_
    simp only [taps, gradAt]
    congr 1; omega
  · refine (pay20_row (blocks m c t) (iblk m c 10 t) r q).trans ?_
    simp only [taps, gradAt]
    congr 1; omega
  · refine (pay21_row (blocks m c t) (iblk m c 10 t) r q).trans ?_
    simp only [taps, gradAt]
    congr 1; omega

theorem planes_B (t : Fin cfg0.N) (h0 : ¬t.val % 8 = 0) (k : Fin 3) (r : Fin 1024) (q : Fin 512) :
    (outsAt0 m c t.val t.isLt).1 (ix4 k 0 r q) = gradAt m c k (batch t) ⟨1024 * (t.val % 4) + r.val, by omega⟩ (col t q) := by
  rw [outsAt0_B m c t h0]
  dsimp only
  unfold out0_B_11
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_12 t).read_unread]
  rw [canon_planes]
  simp only [View.ld_unit_zero (S := S1x1024x512) z3, View.ld_unit_zero (S := S1x16x512) z3, View.ld_unit_zero (S := S3x512) z2]
  obtain rfl | rfl | rfl : k = 0 ∨ k = 1 ∨ k = 2 := by omega
  · refine (pay19_row (blocks m c t) (iblk m c 10 t) r q).trans ?_
    simp only [taps, gradAt]
    congr 1; omega
  · refine (pay20_row (blocks m c t) (iblk m c 10 t) r q).trans ?_
    simp only [taps, gradAt]
    congr 1; omega
  · refine (pay21_row (blocks m c t) (iblk m c 10 t) r q).trans ?_
    simp only [taps, gradAt]
    congr 1; omega

theorem planes (t : Fin cfg0.N) (k : Fin 3) (r : Fin 1024) (q : Fin 512) :
    (outsAt0 m c t.val t.isLt).1 (ix4 k 0 r q) = gradAt m c k (batch t) ⟨1024 * (t.val % 4) + r.val, by omega⟩ (col t q) :=
  if h0 : t.val % 8 = 0 then planes_A m c t h0 k r q else planes_B m c t h0 k r q

/-- A load of one row of the three. -/
theorem ld_row (o : ℕ) (ho : o < 3) (inb) (X : Vec Ideal S3x512 .f32) (q : Fin 512) :
    View.ld (Val := Elt Ideal) (e' := .f32) X (Rect.unit (s := S3x512) ![o, 0] ![1, 512] inb) (ix2 (n0 := 1) (n1 := 512) 0 q)
      = X (ix2 ⟨o, ho⟩ q) := by
  show X _ = X _
  congr 1
  funext a
  refine Fin.ext ?_
  match a with
  | ⟨0, _⟩ => show o + 1 * 0 = o; omega
  | ⟨1, _⟩ => show 0 + 1 * q.val = q.val; omega

theorem rows_B (t : Fin cfg0.N) (h0 : ¬t.val % 8 = 0) (k : Fin 3) (q : Fin 512) :
    (outsAt0 m c t.val t.isLt).2 (ix2 k q) = (outsAt0 m c (t.val - 1) (Nat.lt_of_le_of_lt (Nat.sub_le _ _) t.isLt)).2 (ix2 k q)
      + ∑ r : Fin 1024, tapAt m c k (batch t) (1024 * (t.val % 4) + r.val) (col t q) := by
  rw [outsAt0_B m c t h0]
  dsimp only
  unfold out0_B_12
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_12 t).read_unread]
  rw [canon_rows]
  simp only [View.ld_unit_zero (S := S1x1024x512) z3, View.ld_unit_zero (S := S1x16x512) z3, View.ld_unit_zero (S := S3x512) z2]
  have e (r : Fin 1024) : 16 + (1024 * (t.val % 4) + r.val) = 1024 * (t.val % 4) + (16 + r.val) := by omega
  simp only [tapAt, e]
  obtain rfl | rfl | rfl : k = 0 ∨ k = 1 ∨ k = 2 := by omega
  · refine (pay1_row (blocks m c t) _ q).trans ?_
    rw [ld_row 0 (by omega) inb_S3x512_S1x512_0_0]
    rfl
  · refine (pay2_row (blocks m c t) _ q).trans ?_
    rw [ld_row 1 (by omega) inb_S3x512_S1x512_1_0]
    rfl
  · refine (pay3_row (blocks m c t) _ q).trans ?_
    rw [ld_row 2 (by omega) inb_S3x512_S1x512_2_0]
    rfl

theorem zero2 : ∀ a : Fin 2, (![0, 0] : Fin 2 → ℕ) a = 0 := by decide

theorem pay4_apply (j : S3x512.Idx) : (k0_pay4 : FVec Ideal S3x512 .f32) j = 0 := by
  unfold k0_pay4
  pointwise

theorem rows_A (t : Fin cfg0.N) (h0 : t.val % 8 = 0) (k : Fin 3) (q : Fin 512) :
    (outsAt0 m c t.val t.isLt).2 (ix2 k q) = 0
      + ∑ r : Fin 1024, tapAt m c k (batch t) (1024 * (t.val % 4) + r.val) (col t q) := by
  rw [outsAt0_A m c t h0]
  dsimp only
  unfold out0_A_12
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_12 t).read_unread]
  rw [canon_rows]
  simp only [View.ld_unit_zero (S := S1x1024x512) z3, View.ld_unit_zero (S := S1x16x512) z3, View.ld_unit_zero (S := S3x512) z2]
  have e (r : Fin 1024) : 16 + (1024 * (t.val % 4) + r.val) = 1024 * (t.val % 4) + (16 + r.val) := by omega
  simp only [tapAt, e]
  obtain rfl | rfl | rfl : k = 0 ∨ k = 1 ∨ k = 2 := by omega
  · refine (pay1_row (blocks m c t) _ q).trans ?_
    rw [View.readCov_fill _ _ _ _ _ zero2, ld_row 0 (by omega) inb_S3x512_S1x512_0_0, pay4_apply]
  · refine (pay2_row (blocks m c t) _ q).trans ?_
    rw [View.readCov_skip _ _ _ _ _ (by decide), View.readCov_fill _ _ _ _ _ zero2, ld_row 1 (by omega) inb_S3x512_S1x512_1_0, pay4_apply]
  · refine (pay3_row (blocks m c t) _ q).trans ?_
    rw [View.readCov_skip _ _ _ _ _ (by decide), View.readCov_skip _ _ _ _ _ (by decide), View.readCov_fill _ _ _ _ _ zero2,
      ld_row 2 (by omega) inb_S3x512_S1x512_2_0, pay4_apply]

/-- The part of tap `k`'s gradient that one tile adds, for the tile numbered `u` of the eight of a column. -/
def part (k : Fin 3) (n : Fin 1024) (u : ℕ) : EReal :=
  ∑ r : Fin 1024, tapAt m c k ⟨u / 4 % 2, by omega⟩ (1024 * (u % 4) + r.val) n

theorem rows_sum (k : Fin 3) (q : Fin 512) : ∀ (u : ℕ) (hu : u < cfg0.N),
    (outsAt0 m c u hu).2 (ix2 k q) = ∑ v ∈ Finset.range (u % 8 + 1), part m c k (col ⟨u, hu⟩ q) v := by
  intro u
  induction u with
  | zero =>
    intro hu
    refine (rows_A m c ⟨0, hu⟩ rfl k q).trans ?_
    rw [zero_add, Finset.sum_range_one]
    rfl
  | succ u ih =>
    intro hu
    have hN : cfg0.N = 16 := N_0
    by_cases h0 : (u + 1) % 8 = 0
    · refine (rows_A m c ⟨u + 1, hu⟩ h0 k q).trans ?_
      rw [h0, zero_add, zero_add, Finset.sum_range_one]
      unfold part
      refine Finset.sum_congr rfl fun r _ => ?_
      have e1 : batch ⟨u + 1, hu⟩ = ⟨0 / 4 % 2, by omega⟩ := Fin.ext (by simp only [batch]; omega)
      have e2 : (u + 1) % 4 = 0 := by omega
      rw [e1]
      simp only [e2]
    · refine (rows_B m c ⟨u + 1, hu⟩ h0 k q).trans ?_
      have e3 : (u + 1) % 8 = u % 8 + 1 := by omega
      rw [e3, Finset.sum_range_succ]
      have e4 : col ⟨u, by omega⟩ q = col ⟨u + 1, hu⟩ q := Fin.ext (by simp only [col]; omega)
      refine congrArg₂ (· + ·) ((ih (by omega)).trans (by rw [e4])) ?_
      unfold part
      refine Finset.sum_congr rfl fun r _ => ?_
      have e1 : batch ⟨u + 1, hu⟩ = ⟨(u % 8 + 1) / 4 % 2, by omega⟩ := Fin.ext (by simp only [batch]; omega)
      have e2 : (u + 1) % 4 = (u % 8 + 1) % 4 := by omega
      rw [e1]
      simp only [e2]

/-- A sum over 4096 places, in four runs of 1024. -/
theorem sum_4096 (f : ℕ → EReal) : ∑ t : Fin 4096, f t.val = ∑ s : Fin 4, ∑ r : Fin 1024, f (1024 * s.val + r.val) := by
  rw [← Finset.sum_product']
  refine (Fintype.sum_equiv (finProdFinEquiv (m := 4) (n := 1024)) _ _ fun x => ?_).symm
  congr 1
  show 1024 * x.1.val + x.2.val = x.2.val + 1024 * x.1.val
  omega

/-- The eight tiles of a column make the whole sum. -/
theorem part_sum (k : Fin 3) (n : Fin 1024) :
    ∑ v ∈ Finset.range 8, part m c k n v = ∑ b : Fin 2, ∑ t : Fin 4096, tapAt m c k b t.val n := by
  simp only [Fin.sum_univ_two, sum_4096 (fun t => tapAt m c k 0 t n), sum_4096 (fun t => tapAt m c k 1 t n), Fin.sum_univ_four]
  rw [Finset.sum_range_succ, Finset.sum_range_succ, Finset.sum_range_succ, Finset.sum_range_succ, Finset.sum_range_succ,
    Finset.sum_range_succ, Finset.sum_range_succ, Finset.sum_range_one]
  simp only [add_assoc]
  rfl

/-- The first result array. -/
def outGrad : S3x2x4096x1024.Idx → EReal := fun i => gradAt m c (i 0) (i 1) (i 2) (i 3)

/-- The second result array. -/
def outTaps : S3x1024.Idx → EReal := fun i => ∑ b : Fin 2, ∑ t : Fin 4096, tapAt m c (i 0) b t.val (i 1)

theorem gradAt_eq (k : Fin 3) (b : Fin 2) (t : Fin 4096) (n : Fin 1024) (e : S3x2x4096x1024.Idx) (h0 : k.val = (e 0).val)
    (h1 : b.val = (e 1).val) (h2 : t.val = (e 2).val) (h3 : n.val = (e 3).val) : gradAt m c k b t n = outGrad m c e := by
  obtain rfl : k = e 0 := Fin.ext h0
  obtain rfl : b = e 1 := Fin.ext h1
  obtain rfl : t = e 2 := Fin.ext h2
  obtain rfl : n = e 3 := Fin.ext h3
  rfl

theorem taps_eq (k : Fin 3) (n : Fin 1024) (e : S3x1024.Idx) (h0 : k.val = (e 0).val) (h1 : n.val = (e 1).val) :
    ∑ b : Fin 2, ∑ t : Fin 4096, tapAt m c k b t.val n = outTaps m c e := by
  obtain rfl : k = e 0 := Fin.ext h0
  obtain rfl : n = e 1 := Fin.ext h1
  rfl

theorem final11 : (dats m 0 c).arrAt 11 cfg0.N = outGrad m c := by
  refine (dats m 0 c).arrAt_eq_of_cover 11 (outGrad m c) (fun t _ => ?_) fun i => ?_
  · rw [Cert.KernelIdeal.Value.flushed11]
    have hi := congrFun (idx11 t)
    funext y
    rw [View.read_apply]
    have hz : ∀ z : S3x1x1024x512.Idx, (outsAt0 m c t.val t.isLt).1 z
        = gradAt m c (z 0) (batch t) ⟨1024 * (t.val % 4) + (z 2).val, by have : (z 2).val < 1024 := (z 2).isLt; omega⟩ (col t (z 3)) := by
      intro z
      have e : z = ix4 (z 0) 0 (z 2) (z 3) := by
        funext a
        match a with
        | ⟨0, _⟩ => rfl
        | ⟨1, _⟩ => exact Fin.ext (by have : (z 1).val < 1 := (z 1).isLt; show (z 1).val = 0; omega)
        | ⟨2, _⟩ => rfl
        | ⟨3, _⟩ => rfl
      exact (congrArg _ e).trans (planes m c t (z 0) (z 2) (z 3))
    refine (hz _).trans ?_
    show _ = outGrad m c _
    refine gradAt_eq m c _ _ _ _ _ ?_ ?_ ?_ ?_
    · exact of_pos 3 (hi 0) (by simp)
    · have : (y 1).val < 1 := (y 1).isLt
      show t.val / 4 % 2 = win0_11.index t 1 * 1 + 1 * (y 1).val
      rw [hi 1]; simp; omega
    · exact of_pos 1024 (hi 2) (by simp; omega)
    · show t.val / 8 * 512 + (y 3).val = win0_11.index t 3 * 512 + 1 * (y 3).val
      rw [hi 3]; simp
  · have hN : cfg0.N = 16 := N_0
    have h0 : (i 0 : ℕ) < 3 := (i 0).isLt
    have h1 : (i 1 : ℕ) < 2 := (i 1).isLt
    have h2 : (i 2 : ℕ) < 4096 := (i 2).isLt
    have h3 : (i 3 : ℕ) < 1024 := (i 3).isLt
    obtain ⟨t, ht⟩ : ∃ t : Fin cfg0.N, t.val = (i 3 : ℕ) / 512 * 8 + (i 1 : ℕ) * 4 + (i 2 : ℕ) / 1024 :=
      ⟨⟨_, by omega⟩, rfl⟩
    refine ⟨t, flush0_11 t, ?_⟩
    have hi := congrFun (idx11 t)
    refine mem_of (View.set_slice_whole main_v0_0 _) (Rect.mem_set_unit.2 fun a => ?_)
    match a with
    | ⟨0, _⟩ => exact in_block 3 (i 0) (hi 0) (by simp; omega)
    | ⟨1, _⟩ => exact in_block 1 (i 1) (hi 1) (by simp; omega)
    | ⟨2, _⟩ => exact in_block 1024 (i 2) (hi 2) (by simp; omega)
    | ⟨3, _⟩ => exact in_block 512 (i 3) (hi 3) (by simp; omega)

theorem final12 : (dats m 0 c).arrAt 12 cfg0.N = outTaps m c := by
  refine (dats m 0 c).arrAt_eq_of_cover 12 (outTaps m c) (fun t hf => ?_) fun i => ?_
  · rw [Cert.KernelIdeal.Value.flushed12]
    have hi := congrFun (idx12 t)
    have h7 : t.val % 8 = 7 := (flush0_12 t).mp hf
    funext y
    rw [View.read_apply]
    have hz : ∀ z : S3x512.Idx, (outsAt0 m c t.val t.isLt).2 z
        = ∑ b : Fin 2, ∑ u : Fin 4096, tapAt m c (z 0) b u.val (col t (z 1)) := by
      intro z
      refine (congrArg _ (eq_ix2 z)).trans ((rows_sum m c (z 0) (z 1) t.val t.isLt).trans ?_)
      rw [h7]
      exact part_sum m c (z 0) (col t (z 1))
    refine (hz _).trans ?_
    show _ = outTaps m c _
    refine taps_eq m c _ _ _ ?_ ?_
    · exact of_pos 3 (hi 0) (by simp)
    · show t.val / 8 * 512 + (y 1).val = win0_12.index t 1 * 512 + 1 * (y 1).val
      rw [hi 1]; simp
  · have hN : cfg0.N = 16 := N_0
    have h0 : (i 0 : ℕ) < 3 := (i 0).isLt
    have h1 : (i 1 : ℕ) < 1024 := (i 1).isLt
    obtain ⟨t, ht⟩ : ∃ t : Fin cfg0.N, t.val = (i 1 : ℕ) / 512 * 8 + 7 :=
      ⟨⟨_, by omega⟩, rfl⟩
    refine ⟨t, (flush0_12 t).mpr (by omega), ?_⟩
    have hi := congrFun (idx12 t)
    refine mem_of (View.set_slice_whole main_v0_1 _) (Rect.mem_set_unit.2 fun a => ?_)
    match a with
    | ⟨0, _⟩ => exact in_block 3 (i 0) (hi 0) (by simp; omega)
    | ⟨1, _⟩ => exact in_block 512 (i 1) (hi 1) (by simp; omega)

end Cert.KernelIdeal.Grad
end
-- ==== Proof.Conv.Reference.lean ====
/-
  The gradient of the gated short convolution, read at an index: what the reference's host program computes, as the same
  sums and products of whole sequences as the kernel's.
-/
module

public import proofs.«01_k».proof.Proof.Conv.Output
public import proofs.«01_k».proof.Proof.Gen.ReferenceIdeal.Read

@[expose] public section

noncomputable section

namespace Cert.ReferenceIdeal.Grad

open Cert.ReferenceIdeal Cert.ReferenceIdeal.Read Idealize.ShloMosaic Idealize.ShloMosaic.TcCoe Idealize.SL.Sem
open Cert.KernelIdeal.Grad (pad16 pad16_mid pad16_low pad16_high pad16_at mul16 conv16 convT16 grad16 tap16 colA colD)

/-- A sum over the first two axes of three. -/
theorem hostReduceAdd_01 {n0 n1 n2 : ℕ} (h : (⟨3, ![n0, n1, n2]⟩ : Shape).ReducesTo [0, 1] (⟨1, ![n2]⟩ : Shape))
    (v : (⟨3, ![n0, n1, n2]⟩ : Shape).Idx → EReal) (init : EReal) (j : Fin n2) :
    Ideal.hostReduceAdd h v init (ix1 j) = init + ∑ b : Fin n0, ∑ t : Fin n1, v (ix3 b t j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

variable (x0 : S2x4096x3072.Idx → EReal) (x1 : S2x4096x1024.Idx → EReal) (x2 : S3x1024.Idx → EReal)

/-- The sequences of one batch element and column. -/
abbrev sb (b : Fin 2) (n : Fin 1024) : Fin 4096 → EReal := colA x0 0 (by omega) b n
abbrev sc (b : Fin 2) (n : Fin 1024) : Fin 4096 → EReal := colA x0 1024 (by omega) b n
abbrev sh (b : Fin 2) (n : Fin 1024) : Fin 4096 → EReal := colA x0 2048 (by omega) b n
abbrev sd (b : Fin 2) (n : Fin 1024) : Fin 4096 → EReal := colD x1 b n

/-- The convolved product with its two rows of zeros in front. -/
theorem v6_row (b : Fin 2) (p : Fin 4098) (n : Fin 1024) :
    val_main_v6 (F := Ideal) x0 (ix3 b p n) = mul16 (sc x0 b n) (sh x0 b n) (14 + p.val) := by
  unfold val_main_v6 val_main_v5 val_main_v4 val_main_v3 val_main_v2 val_main_v0 val_main_cst
  pointwise
  unfold mul16
  split
  · rw [pad16_low _ (by omega), zero_mul]
  · rw [pad16_at _ (p.val - 2) (by omega) (by omega), pad16_at _ (p.val - 2) (by omega) (by omega)]
    rfl

/-- The incoming gradient times the outer gate. -/
theorem v30_row (b : Fin 2) (t : Fin 4096) (n : Fin 1024) :
    val_main_v30 (F := Ideal) x0 x1 (ix3 b t n) = mul16 (sd x1 b n) (sb x0 b n) (16 + t.val) := by
  unfold val_main_v30 val_main_v29 val_main_v1 val_main_v0
  pointwise
  unfold mul16
  rw [pad16_mid, pad16_mid, mul_comm]
  unfold sd sb colA colD
  simp only [Nat.zero_add]

theorem v27_row (b : Fin 2) (t : Fin 4096) (n : Fin 1024) :
    val_main_v27 (F := Ideal) x0 x2 (ix3 b t n)
      = conv16 (x2 (ix2 0 n)) (x2 (ix2 1 n)) (x2 (ix2 2 n)) (sc x0 b n) (sh x0 b n) (16 + t.val) := by
  unfold val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10
    val_main_v9 val_main_v8
  pointwise
  rw [v6_row, v6_row, v6_row]
  have e0 : 16 + t.val - 2 = 14 + t.val := by omega
  have e1 : 16 + t.val - 1 = 14 + (1 + t.val) := by omega
  have e2 : 16 + t.val = 14 + (2 + t.val) := by omega
  unfold conv16
  rw [e0, e1, mul_comm (x2 (ix2 0 n)), mul_comm (x2 (ix2 1 n)), mul_comm (x2 (ix2 2 n))]
  simp only [e2]

theorem v64_row (b : Fin 2) (t : Fin 4096) (n : Fin 1024) :
    val_main_v64 (F := Ideal) x0 x1 x2 (ix3 b t n)
      = convT16 (x2 (ix2 0 n)) (x2 (ix2 1 n)) (x2 (ix2 2 n)) (sd x1 b n) (sb x0 b n) (16 + t.val) := by
  unfold val_main_v64 val_main_v62 val_main_v61 val_main_v51 val_main_v50 val_main_v40 val_main_v56 val_main_v55 val_main_v45
    val_main_v44 val_main_v36 val_main_v35 val_main_v24 val_main_v23 val_main_v22 val_main_v17 val_main_v16 val_main_v15
    val_main_v11 val_main_v10 val_main_v9 val_main_cst_4 val_main_cst_8 val_main_cst_12
  pointwise
  unfold convT16
  rw [v30_row, mul_comm _ (x2 (ix2 2 n))]
  have e1 : (if h : 1 ≤ 2 + t.val ∧ 2 + t.val - 1 < 4096 then
        val_main_v30 (F := Ideal) x0 x1 (ix3 b ⟨2 + t.val - 1, h.2⟩ n) * x2 (ix2 1 n) else 0)
      = x2 (ix2 1 n) * mul16 (sd x1 b n) (sb x0 b n) (16 + t.val + 1) := by
    split
    · rw [v30_row, mul_comm]
      congr 2
      simp only; omega
    · unfold mul16
      rw [pad16_high _ (by omega), zero_mul, mul_zero]
  have e2 : (if h : 2 + t.val < 4096 then val_main_v30 (F := Ideal) x0 x1 (ix3 b ⟨2 + t.val, h⟩ n) * x2 (ix2 0 n) else 0)
      = x2 (ix2 0 n) * mul16 (sd x1 b n) (sb x0 b n) (16 + t.val + 2) := by
    split
    · rw [v30_row, mul_comm]
      congr 2
      simp only; omega
    · unfold mul16
      rw [pad16_high _ (by omega), zero_mul, mul_zero]
  exact congrArg₂ (· + ·) (congrArg₂ (· + ·) rfl e1) e2

theorem v33_row (n : Fin 1024) : val_main_v33 (F := Ideal) x0 x1 (ix1 n)
    = ∑ b : Fin 2, ∑ t : Fin 4096, tap16 (sb x0 b n) (sc x0 b n) (sh x0 b n) (sd x1 b n) 2 (16 + t.val) := by
  unfold val_main_v33 val_main_cst_1
  refine (hostReduceAdd_01 _ _ _ n).trans ?_
  unfold val_main_v32 val_main_v21
  pointwise
  refine Finset.sum_congr rfl fun b _ => Finset.sum_congr rfl fun t _ => ?_
  rw [v6_row, v30_row, mul_comm]
  unfold tap16
  congr 2; show 14 + (2 + t.val) = 16 + t.val - (2 - 2); omega

theorem v42_row (n : Fin 1024) : val_main_v42 (F := Ideal) x0 x1 (ix1 n)
    = ∑ b : Fin 2, ∑ t : Fin 4096, tap16 (sb x0 b n) (sc x0 b n) (sh x0 b n) (sd x1 b n) 1 (16 + t.val) := by
  unfold val_main_v42 val_main_cst_5
  refine (hostReduceAdd_01 _ _ _ n).trans ?_
  unfold val_main_v41 val_main_v14
  pointwise
  refine Finset.sum_congr rfl fun b _ => Finset.sum_congr rfl fun t _ => ?_
  rw [v6_row, v30_row, mul_comm]
  unfold tap16
  congr 2; show 14 + (1 + t.val) = 16 + t.val - (2 - 1); omega

theorem v53_row (n : Fin 1024) : val_main_v53 (F := Ideal) x0 x1 (ix1 n)
    = ∑ b : Fin 2, ∑ t : Fin 4096, tap16 (sb x0 b n) (sc x0 b n) (sh x0 b n) (sd x1 b n) 0 (16 + t.val) := by
  unfold val_main_v53 val_main_cst_9
  refine (hostReduceAdd_01 _ _ _ n).trans ?_
  unfold val_main_v52 val_main_v8
  pointwise
  refine Finset.sum_congr rfl fun b _ => Finset.sum_congr rfl fun t _ => ?_
  rw [v6_row, v30_row, mul_comm]
  unfold tap16
  congr 2; show 14 + t.val = 16 + t.val - (2 - 0); omega

/-- The second sum of each tap's gradient is over two axes of size one. -/
theorem v37_row (n : Fin 1024) : val_main_v37 (F := Ideal) x0 x1 (ix1 n) = val_main_v33 (F := Ideal) x0 x1 (ix1 n) := by
  unfold val_main_v37 val_main_cst_2
  refine (hostReduceAdd_01 _ _ _ n).trans ?_
  unfold val_main_v34
  pointwise
  simp

theorem v46_row (n : Fin 1024) : val_main_v46 (F := Ideal) x0 x1 (ix1 n) = val_main_v42 (F := Ideal) x0 x1 (ix1 n) := by
  unfold val_main_v46 val_main_cst_6
  refine (hostReduceAdd_01 _ _ _ n).trans ?_
  unfold val_main_v43
  pointwise
  simp

theorem v57_row (n : Fin 1024) : val_main_v57 (F := Ideal) x0 x1 (ix1 n) = val_main_v53 (F := Ideal) x0 x1 (ix1 n) := by
  unfold val_main_v57 val_main_cst_10
  refine (hostReduceAdd_01 _ _ _ n).trans ?_
  unfold val_main_v54
  pointwise
  simp

/-- The second result: the taps' gradients. -/
theorem v60_row (k : Fin 3) (n : Fin 1024) :
    val_main_v60 (F := Ideal) x0 x1 (ix2 k n)
      = ∑ b : Fin 2, ∑ t : Fin 4096, tap16 (sb x0 b n) (sc x0 b n) (sh x0 b n) (sd x1 b n) k (16 + t.val) := by
  unfold val_main_v60 val_main_v59 val_main_v49 val_main_v48 val_main_v39 val_main_v38 val_main_v47 val_main_v58
    val_main_cst_3 val_main_cst_7 val_main_cst_11
  pointwise
  rw [v37_row, v46_row, v57_row, v33_row, v42_row, v53_row]
  obtain rfl | rfl | rfl : k = 0 ∨ k = 1 ∨ k = 2 := by omega
  · simp
  · simp
  · simp

/-- The first result: the gradients of the gate's three inputs, one after another. -/
theorem v71_row (k : Fin 3) (b : Fin 2) (t : Fin 4096) (n : Fin 1024) :
    val_main_v71 (F := Ideal) x0 x1 x2 (ix4 k b t n)
      = grad16 (x2 (ix2 0 n)) (x2 (ix2 1 n)) (x2 (ix2 2 n)) (sb x0 b n) (sc x0 b n) (sh x0 b n) (sd x1 b n) k (16 + t.val) := by
  unfold val_main_v71 val_main_v70 val_main_v69 val_main_v68 val_main_v67 val_main_v66 val_main_v65 val_main_v31 val_main_v29
    val_main_v3 val_main_v2 val_main_v0
  pointwise
  rw [v27_row, v64_row]
  obtain rfl | rfl | rfl : k = 0 ∨ k = 1 ∨ k = 2 := by omega
  · refine (dif_pos (by decide)).trans ?_
    simp only [grad16, pad16_mid]
    rfl
  · refine (dif_neg (by decide)).trans ((dif_pos (by decide)).trans ?_)
    simp only [grad16, pad16_mid]
    rfl
  · refine (dif_neg (by decide)).trans ((dif_neg (by decide)).trans ?_)
    simp only [grad16, pad16_mid]
    rw [mul_comm]
    rfl

end Cert.ReferenceIdeal.Grad
-- ==== Proof.Conv.Claim.lean ====
/-
  The short convolution's gradient: the kernel's two result arrays are the reference's.
-/
module

public import proofs.«01_k».proof.Defs
public import proofs.«01_k».proof.Proof.Conv.Reference

@[expose] public section

noncomputable section

namespace Cert.Conv

open Idealize.ShloMosaic Idealize.ShloMosaic.TcCoe Idealize.SL.Sem
open Cert.KernelIdeal.Grad

attribute [local instance] Cert.KernelIdeal.Gen.facts Cert.ReferenceIdeal.Gen.facts

/-- The reference changes no argument, and declares no semaphore. -/
theorem frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- The two programs leave the same result arrays. -/
theorem algebraic : Cert.algebraic_KernelIdeal_ReferenceIdeal := by
  intro m g m' g' _ hargs
  refine ⟨fun c => outGrad m c, fun c => outTaps m c, ?_, ?_⟩
  · exact (θ_run Cert.KernelIdeal.defs _ _).mono (fun r h c => ⟨(h c).1.trans (final11 m c), (h c).2.1.trans (final12 m c), (h c).2.2⟩)
      (Cert.KernelIdeal.Value.run_blocks m g)
  · refine (θ_run Cert.ReferenceIdeal.defs _ _).mono (fun r h c => ⟨(h c).1.trans ?_, (h c).2.1.trans ?_, (h c).2.2⟩)
      (Cert.ReferenceIdeal.Value.run m' g')
    · rw [Cert.ReferenceIdeal.Read.val_main_v71_eq, (hargs c).1, (hargs c).2.1, (hargs c).2.2]
      funext i
      refine (congrArg _ (eq_ix4 i)).trans ?_
      exact Cert.ReferenceIdeal.Grad.v71_row _ _ _ (i 0) (i 1) (i 2) (i 3)
    · refine (Cert.ReferenceIdeal.Read.val_main_v60_eq _ _).trans ?_
      rw [(hargs c).1, (hargs c).2.1]
      funext i
      refine (congrArg _ (eq_ix2 i)).trans ?_
      exact Cert.ReferenceIdeal.Grad.v60_row _ _ (i 0) (i 1)

end Cert.Conv
end
-- ==== Proof.Product.UpDx.lean ====
/-
  The gradient of the up-projection with respect to its input: two steps for each tile of the result.
-/
module

public import proofs.«01_k».proof.Proof.Product.Entries
public import proofs.«01_k».proof.Proof.Gen.Kernel2Ideal.Value

@[expose] public section

noncomputable section

namespace Cert.Kernel2Ideal.Product

open Cert.Kernel2Ideal Cert.Kernel2Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S2x8192x2816.Idx → EReal := m ((c.tc : Thread nD τ).loc main_arg0)
abbrev argB : S5632x1024.Idx → EReal := m ((c.tc : Thread nD τ).loc main_arg1)

/-- The `k`-th product of the entry at row `i` and column `j`. -/
def term (i j k : ℕ) : EReal := at3 2 8192 2816 (argA m c) (k / 2816) i (k % 2816) * at2 5632 1024 (argB m c) k j

/-- The block of each window at a point. -/
theorem idx0 : ∀ t : Fin cfg0.N, win0_0.index t = ![t.val % 2 / 1, t.val / 2, t.val % 2 % 1] := by decide +kernel
theorem idx1 : ∀ t : Fin cfg0.N, win0_1.index t = ![t.val % 2, t.val / 2 % 1] := by decide +kernel
theorem idx2 : ∀ t : Fin cfg0.N, win0_2.index t = ![t.val / 2, t.val / 2 % 1] := by decide +kernel

theorem left (t : Fin cfg0.N) (i : Fin 1024) (k : Fin 2816) :
    iblk m c 0 t (ix3 0 i k) = (fun i k => at3 2 8192 2816 (argA m c) (k / 2816) i (k % 2816)) (1024 * (t.val / 2) + i.val) (2816 * (t.val % 2) + k.val) := by
  have hN : cfg0.N = 16 := N_0
  have ht := t.isLt
  have hi := congrFun (idx0 t)
  unfold iblk
  rw [View.read_apply]
  refine at3_val 2 8192 2816 (argA m c) _ _ _ _ ?_ ?_ ?_
  · exact pos_of 1 (hi 0) (by simp <;> omega)
  · exact pos_of 1024 (hi 1) (by simp <;> omega)
  · exact pos_of 2816 (hi 2) (by simp <;> omega)

theorem right (t : Fin cfg0.N) (k : Fin 2816) (j : Fin 1024) :
    iblk m c 1 t (ix2 k j) = (fun k j => at2 5632 1024 (argB m c) k j) (2816 * (t.val % 2) + k.val) (1024 * (t.val / 2 % 1) + j.val) := by
  have hN : cfg0.N = 16 := N_0
  have ht := t.isLt
  have hi := congrFun (idx1 t)
  unfold iblk
  rw [View.read_apply]
  refine at2_val 5632 1024 (argB m c) _ _ _ ?_ ?_
  · exact pos_of 2816 (hi 0) (by simp <;> omega)
  · exact pos_of 1024 (hi 1) (by simp <;> omega)

/-- The tile of an entry that a point adds. -/
def tile (i j v : ℕ) : EReal := ∑ k : Fin 2816, term m c i j (2816 * v + k.val)

/-- The entry at row `a` and column `b` of the result. -/
def entry (a b : ℕ) : EReal := (∑ k : Fin 5632, term m c a b k.val)

/-- The result array. -/
def out : S8192x1024.Idx → EReal := fun i => entry m c (i 0).val (i 1).val

theorem tiles (a b : ℕ) : ∑ v ∈ Finset.range 2, tile m c a b v = ∑ k : Fin 5632, term m c a b k.val :=
  sum_tiles 2 2816 (term m c a b)

/-- The blocks of the arguments at a point. -/
abbrev blkA (t : Fin cfg0.N) : Vec Ideal S1x1024x2816 .bf16 := iblk m c 0 t
abbrev blkB (t : Fin cfg0.N) : Vec Ideal S2816x1024 .bf16 := iblk m c 1 t

theorem blocks_term (t : Fin cfg0.N) (i : Fin 1024) (j : Fin 1024) :
    ∑ k : Fin 2816, (blkA m c t (ix3 0 i k) : EReal) * blkB m c t (ix2 k j) = tile m c (1024 * (t.val / 2) + i.val) (1024 * (t.val / 2 % 1) + j.val) (t.val % 2) :=
  Finset.sum_congr rfl fun k _ => congrArg₂ (· * ·) (left m c t i k) (right m c t k j)

theorem pay1_entry (X : Vec Ideal S1x1024x2816 .bf16) (Y : Vec Ideal S2816x1024 .bf16) (i : Fin 1024) (j : Fin 1024) :
    k0_pay1 X Y (ix2 i j) = (∑ k : Fin 2816, (X (ix3 0 i k) : EReal) * Y (ix2 k j) : EReal) := by
  unfold k0_pay1
  pointwise

theorem pay2_entry (Z : Vec Ideal S1024x1024 .f32) (X : Vec Ideal S1x1024x2816 .bf16) (Y : Vec Ideal S2816x1024 .bf16) (i : Fin 1024) (j : Fin 1024) :
    k0_pay2 Z X Y (ix2 i j) = (Z (ix2 i j) + ∑ k : Fin 2816, (X (ix3 0 i k) : EReal) * Y (ix2 k j) : EReal) := by
  unfold k0_pay2
  pointwise

theorem pay3_entry (Z : Vec Ideal S1024x1024 .f32) (X : Vec Ideal S1x1024x2816 .bf16) (Y : Vec Ideal S2816x1024 .bf16) (i : Fin 1024) (j : Fin 1024) :
    k0_pay3 Z X Y (ix2 i j) = (Z (ix2 i j) + ∑ k : Fin 2816, (X (ix3 0 i k) : EReal) * Y (ix2 k j) : EReal) := by
  unfold k0_pay3
  pointwise

/-- The first point of a run keeps its tile. -/
theorem first (t : Fin cfg0.N) (h0 : t.val % 2 = 0) (i : Fin 1024) (j : Fin 1024) :
    (outsAt0 m c t.val t.isLt).2 (ix2 i j) = tile m c (1024 * (t.val / 2) + i.val) (1024 * (t.val / 2 % 1) + j.val) 0 := by
  rw [outsAt0_A m c t h0 (by omega)]
  dsimp only
  unfold sout0_A_0
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x1024x2816) zeros3, View.ld_unit_zero (S := S2816x1024) zeros2, View.ld_unit_zero (S := S1024x1024) zeros2]
  refine (pay1_entry (blkA m c t) (blkB m c t) i j).trans ?_
  rw [blocks_term, h0]

/-- The last point of a run writes the whole sum. -/
theorem last (t : Fin cfg0.N) (h : t.val % 2 = 1) (i : Fin 1024) (j : Fin 1024) :
    (outsAt0 m c t.val t.isLt).1 (ix2 i j) = (outsAt0 m c (t.val - 1) (Nat.lt_of_le_of_lt (Nat.sub_le _ _) t.isLt)).2 (ix2 i j)
      + tile m c (1024 * (t.val / 2) + i.val) (1024 * (t.val / 2 % 1) + j.val) 1 := by
  rw [outsAt0_B m c t (by omega) h]
  dsimp only
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x1024x2816) zeros3, View.ld_unit_zero (S := S2816x1024) zeros2, View.ld_unit_zero (S := S1024x1024) zeros2]
  refine (pay3_entry _ (blkA m c t) (blkB m c t) i j).trans ?_
  rw [blocks_term, h]
  congr 1
  exact congrFun ((Memref.isWhole_whole _ : scM0_0.IsWhole).read_unread _) _

theorem held (i : Fin 1024) (j : Fin 1024) (u : ℕ) (hu : u < cfg0.N) (h : u % 2 ≤ 0) :
    (outsAt0 m c u hu).2 (ix2 i j) = ∑ v ∈ Finset.range (u % 2 + 1), tile m c (1024 * (u / 2 / 1) + i.val) (1024 * (u / 2 % 1) + j.val) v :=
  run_sum 2 0 cfg0.N (by omega) (fun u hu => (outsAt0 m c u hu).2 (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h h' => absurd h' (by omega))
    u hu h

/-- What the last point of a run leaves in the result's buffer. -/
theorem point (t : Fin cfg0.N) (h : t.val % 2 = 1) (i : Fin 1024) (j : Fin 1024) :
    (outsAt0 m c t.val t.isLt).1 (ix2 i j) = entry m c (1024 * (t.val / 2) + i.val) (1024 * (t.val / 2 % 1) + j.val) := by
  have e1 : (t.val - 1) % 2 = 0 := by omega
  have e2 : (t.val - 1) / 2 = t.val / 2 := by omega
  rw [last m c t h, held m c i j _ _ (by omega), e1, e2, Nat.div_div_eq_div_mul]
  show _ = ∑ k : Fin 5632, term m c (1024 * (t.val / 2) + i.val) (1024 * (t.val / 2 % 1) + j.val) k.val
  rw [← tiles, Finset.sum_range_succ _ 1]

/-- The result array after the run. -/
theorem final : (dats m 0 c).arrAt 2 cfg0.N = out m c := by
  have hN : cfg0.N = 16 := N_0
  refine (dats m 0 c).arrAt_eq_of_cover 2 (out m c) (fun t hf => ?_) fun i => ?_
  · rw [Cert.Kernel2Ideal.Value.flushed2]
    have hi := congrFun (idx2 t)
    have ht := t.isLt
    funext y
    rw [View.read_apply]
    refine ((congrArg ((outsAt0 m c t.val t.isLt).1) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 * 2 + (i 1 : ℕ) / 1024 * 2 + 1 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel2Ideal.Product
end
-- ==== Proof.Product.UpDxClaim.lean ====
/-
  The gradient of the up-projection with respect to its input: the kernel's result is the reference's.
-/
module

public import proofs.«01_k».proof.Defs
public import proofs.«01_k».proof.Proof.Product.UpDx
public import proofs.«01_k».proof.Proof.Gen.Reference2Ideal.Read

@[expose] public section

noncomputable section

namespace Cert.Product.UpDx

open Idealize.ShloMosaic Idealize.ShloMosaic.TcCoe Idealize.SL.Sem
open Cert.Kernel2Ideal Cert.Kernel2Ideal.Product Cert.Reference2Ideal.Read

attribute [local instance] Cert.Kernel2Ideal.Gen.facts Cert.Reference2Ideal.Gen.facts

/-- What the reference computes, read at an index. -/
theorem plain (m : (ℓ : Loc nD τ sig) → Buf (Elt Ideal) ℓ) (c : Dev nD) (i : Fin 8192) (j : Fin 1024) :
    val_main_v11 (F := Ideal) (argA m c) (argB m c) (ix2 i j) = entry m c i.val j.val := by
  unfold val_main_v11 val_main_v10 val_main_v8 val_main_v6 val_main_v5 val_main_v4 val_main_v3 val_main_v2 val_main_v1 val_main_v0
  pointwise
  unfold entry
  rw [← sum_tiles 2 2816 (term m c i.val j.val)]
  simp only [Finset.sum_range_succ, Finset.sum_range_zero, zero_add]
  exact congrArg₂ (· + ·)
    (Finset.sum_congr rfl fun (k : Fin 2816) _ => congrArg₂ (· * ·) (at3_val 2 8192 2816 (argA m c) _ _ _ _ (by show 0 = (2816 * 0 + k.val) / 2816; omega) rfl (by show k.val = (2816 * 0 + k.val) % 2816; omega)) (at2_val 5632 1024 (argB m c) _ _ _ (by show k.val = 2816 * 0 + k.val; omega) rfl))
    ((Finset.sum_congr rfl fun (k : Fin 2816) _ => congrArg₂ (· * ·) (at3_val 2 8192 2816 (argA m c) _ _ _ _ (by show 1 = (2816 * 1 + k.val) / 2816; omega) rfl (by show k.val = (2816 * 1 + k.val) % 2816; omega)) (at2_val 5632 1024 (argB m c) _ _ _ rfl rfl)))

/-- The reference changes no argument, and declares no semaphore. -/
theorem frame : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- The two programs leave the same result array. -/
theorem algebraic : Cert.algebraic_Kernel2Ideal_Reference2Ideal := by
  intro m g m' g' _ hargs
  refine ⟨fun c => out m c, ?_, ?_⟩
  · exact (θ_run Cert.Kernel2Ideal.defs _ _).mono (fun r h c => ⟨(h c).1.trans (final m c), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    refine (val_main_v11_eq _ _ ).trans ?_
    rw [(hargs c).1, (hargs c).2]
    funext i
    refine (congrArg _ (eq_ix2 i)).trans ?_
    exact plain m c (i 0) (i 1)

end Cert.Product.UpDx
end
-- ==== Proof.Product.UpDw.lean ====
/-
  The gradient of the up-projection with respect to its weights: four steps for each tile of the result.
-/
module

public import proofs.«01_k».proof.Proof.Product.Entries
public import proofs.«01_k».proof.Proof.Gen.Kernel3Ideal.Value

@[expose] public section

noncomputable section

namespace Cert.Kernel3Ideal.Product

open Cert.Kernel3Ideal Cert.Kernel3Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S2x8192x2816.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at3 2 8192 2816 (argA m c) (i / 2816) k (i % 2816) * at2 8192 1024 (argB m c) k j

/-- The block of each window at a point. -/
theorem idx0 : ∀ t : Fin cfg0.N, win0_0.index t = ![t.val / 4 / 2, t.val % 4, t.val / 4 % 2] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1408) (k : Fin 2048) :
    iblk m c 0 t (ix3 0 k i) = (fun i k => at3 2 8192 2816 (argA m c) (i / 2816) k (i % 2816)) (1408 * (t.val / 4) + i.val) (2048 * (t.val % 4) + k.val) := by
  have hN : cfg0.N = 16 := N_0
  have ht := t.isLt
  have hi := congrFun (idx0 t)
  unfold iblk
  rw [View.read_apply]
  refine at3_val 2 8192 2816 (argA m c) _ _ _ _ ?_ ?_ ?_
  · exact pos_of 1 (hi 0) (by simp <;> omega)
  · exact pos_of 2048 (hi 1) (by simp <;> omega)
  · exact pos_of 1408 (hi 2) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 16 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S5632x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S1x2048x1408 .bf16 := iblk m c 0 t
abbrev blkB (t : Fin cfg0.N) : Vec Ideal S2048x1024 .bf16 := iblk m c 1 t

theorem blocks_term (t : Fin cfg0.N) (i : Fin 1408) (j : Fin 1024) :
    ∑ k : Fin 2048, (blkA m c t (ix3 0 k i) : EReal) * blkB m c t (ix2 k j) = tile m c (1408 * (t.val / 4) + i.val) (1024 * (t.val / 4 % 1) + j.val) (t.val % 4) :=
  Finset.sum_congr rfl fun k _ => congrArg₂ (· * ·) (left m c t i k) (right m c t k j)

theorem pay1_entry (X : Vec Ideal S1x2048x1408 .bf16) (Y : Vec Ideal S2048x1024 .bf16) (i : Fin 1408) (j : Fin 1024) :
    k0_pay1 X Y (ix2 i j) = (∑ k : Fin 2048, (X (ix3 0 k i) : EReal) * Y (ix2 k j) : EReal) := by
  unfold k0_pay1
  pointwise

theorem pay2_entry (Z : Vec Ideal S1408x1024 .f32) (X : Vec Ideal S1x2048x1408 .bf16) (Y : Vec Ideal S2048x1024 .bf16) (i : Fin 1408) (j : Fin 1024) :
    k0_pay2 Z X Y (ix2 i j) = (Z (ix2 i j) + ∑ k : Fin 2048, (X (ix3 0 k i) : EReal) * Y (ix2 k j) : EReal) := by
  unfold k0_pay2
  pointwise

/-- The first point of a run stores its tile. -/
theorem first (t : Fin cfg0.N) (h0 : t.val % 4 = 0) (i : Fin 1408) (j : Fin 1024) :
    outsAt0 m c t.val t.isLt (ix2 i j) = tile m c (1408 * (t.val / 4) + i.val) (1024 * (t.val / 4 % 1) + j.val) 0 := by
  have hN : cfg0.N = 16 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x2048x1408) zeros3, View.ld_unit_zero (S := S2048x1024) zeros2, View.ld_unit_zero (S := S1408x1024) zeros2]
  refine (pay1_entry (blkA m c t) (blkB m c t) i j).trans ?_
  rw [blocks_term, h0]

/-- A later point adds its tile. -/
theorem next (t : Fin cfg0.N) (h0 : ¬t.val % 4 = 0) (i : Fin 1408) (j : Fin 1024) :
    outsAt0 m c t.val t.isLt (ix2 i j) = outsAt0 m c (t.val - 1) (Nat.lt_of_le_of_lt (Nat.sub_le _ _) t.isLt) (ix2 i j)
      + tile m c (1408 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x2048x1408) zeros3, View.ld_unit_zero (S := S2048x1024) zeros2, View.ld_unit_zero (S := S1408x1024) zeros2]
  refine (pay2_entry _ (blkA m c t) (blkB m c t) i j).trans ?_
  rw [blocks_term]

theorem held (i : Fin 1408) (j : Fin 1024) (u : ℕ) (hu : u < cfg0.N) :
    outsAt0 m c u hu (ix2 i j) = ∑ v ∈ Finset.range (u % 4 + 1), tile m c (1408 * (u / 4 / 1) + i.val) (1024 * (u / 4 % 1) + j.val) v :=
  run_sum 4 3 cfg0.N (by omega) (fun u hu => outsAt0 m c u hu (ix2 i j))
    (fun w v => tile m c (1408 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1408) (j : Fin 1024) :
    outsAt0 m c t.val t.isLt (ix2 i j) = entry m c (1408 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 16 := N_0
  refine (dats m 0 c).arrAt_eq_of_cover 2 (out m c) (fun t hf => ?_) fun i => ?_
  · rw [Cert.Kernel3Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1408 (hi 0) (by simp <;> omega)
    · exact of_pos 1024 (hi 1) (by simp <;> omega)
  · have h0 : (i 0 : ℕ) < 5632 := (i 0).isLt
    have h1 : (i 1 : ℕ) < 1024 := (i 1).isLt
    obtain ⟨t, ht⟩ : ∃ t : Fin cfg0.N, t.val = (i 0 : ℕ) / 1408 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1408 (i 0) (hi 0) (by simp; omega)
    | ⟨1, _⟩ => exact in_block 1024 (i 1) (hi 1) (by simp; omega)

end Cert.Kernel3Ideal.Product
end
-- ==== Proof.Product.UpDwClaim.lean ====
/-
  The gradient of the up-projection with respect to its weights: the kernel's result is the reference's.
-/
module

public import proofs.«01_k».proof.Defs
public import proofs.«01_k».proof.Proof.Product.UpDw
public import proofs.«01_k».proof.Proof.Gen.Reference3Ideal.Read

@[expose] public section

noncomputable section

namespace Cert.Product.UpDw

open Idealize.ShloMosaic Idealize.ShloMosaic.TcCoe Idealize.SL.Sem
open Cert.Kernel3Ideal Cert.Kernel3Ideal.Product Cert.Reference3Ideal.Read

attribute [local instance] Cert.Kernel3Ideal.Gen.facts Cert.Reference3Ideal.Gen.facts

/-- What the reference computes, read at an index. -/
theorem plain (m : (ℓ : Loc nD τ sig) → Buf (Elt Ideal) ℓ) (c : Dev nD) (i : Fin 5632) (j : Fin 1024) :
    val_main_v11 (F := Ideal) (argA m c) (argB m c) (ix2 i j) = entry m c i.val j.val := by
  unfold val_main_v11 val_main_v10 val_main_v9 val_main_v6 val_main_v5 val_main_v4 val_main_v3 val_main_v2 val_main_v1 val_main_v0
  pointwise
  unfold entry
  refine Finset.sum_congr rfl fun k _ => congrArg₂ (· * ·) ?_ (at2_val 8192 1024 (argB m c) _ _ _ rfl rfl)
  split
  · exact at3_val 2 8192 2816 (argA m c) _ _ _ _ (by show 0 = i.val / 2816; omega) rfl (by show i.val = i.val % 2816; omega)
  · exact at3_val 2 8192 2816 (argA m c) _ _ _ _ (by show 1 = i.val / 2816; omega) rfl (by show i.val - 2816 = i.val % 2816; omega)

/-- The reference changes no argument, and declares no semaphore. -/
theorem frame : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The two programs leave the same result array. -/
theorem algebraic : Cert.algebraic_Kernel3Ideal_Reference3Ideal := by
  intro m g m' g' _ hargs
  refine ⟨fun c => out m c, ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    refine (val_main_v11_eq _ _ ).trans ?_
    rw [(hargs c).1, (hargs c).2]
    funext i
    refine (congrArg _ (eq_ix2 i)).trans ?_
    exact plain m c (i 0) (i 1)

end Cert.Product.UpDw
end
-- ==== Proof.Product.DownDx.lean ====
/-
  The gradient of the down-projection with respect to its input: one step for each tile of the result.
-/
module

public import proofs.«01_k».proof.Proof.Product.Entries
public import proofs.«01_k».proof.Proof.Gen.Kernel4Ideal.Value

@[expose] public section

noncomputable section

namespace Cert.Kernel4Ideal.Product

open Cert.Kernel4Ideal Cert.Kernel4Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S2816x1024.Idx → EReal := m ((c.tc : Thread nD τ).loc main_arg1)

/-- The `k`-th product of the entry at row `i` and column `j`. -/
def term (i j k : ℕ) : EReal := at2 8192 1024 (argA m c) i k * at2 2816 1024 (argB m c) j k

/-- The block of each window at a point. -/
theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

theorem left (t : Fin cfg0.N) (i : Fin 2048) (k : Fin 1024) :
    iblk m c 0 t (ix2 i k) = (fun i k => at2 8192 1024 (argA m c) i k) (2048 * (t.val / 2) + i.val) (1024 * (0) + k.val) := by
  have hN : cfg0.N = 8 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1408) :
    iblk m c 1 t (ix2 j k) = (fun k j => at2 2816 1024 (argB m c) j k) (1024 * (0) + k.val) (1408 * (t.val % 2) + j.val) := by
  have hN : cfg0.N = 8 := N_0
  have ht := t.isLt
  have hi := congrFun (idx1 t)
  unfold iblk
  rw [View.read_apply]
  refine at2_val 2816 1024 (argB m c) _ _ _ ?_ ?_
  · exact pos_of 1408 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x2816.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1408x1024 .bf16 := iblk m c 1 t

theorem blocks_term (t : Fin cfg0.N) (i : Fin 2048) (j : Fin 1408) :
    ∑ k : Fin 1024, (blkA m c t (ix2 i k) : EReal) * blkB m c t (ix2 j k) = tile m c (2048 * (t.val / 2) + i.val) (1408 * (t.val % 2) + j.val) (0) :=
  Finset.sum_congr rfl fun k _ => congrArg₂ (· * ·) (left m c t i k) (right m c t k j)

theorem pay1_entry (X : Vec Ideal S2048x1024 .bf16) (Y : Vec Ideal S1408x1024 .bf16) (i : Fin 2048) (j : Fin 1408) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1408) :
    out0_2 (iblk m c 0 t) (iblk m c 1 t) (ix2 i j) = entry m c (2048 * (t.val / 2) + i.val) (1408 * (t.val % 2) + j.val) := by
  unfold out0_2
  rw [View.canon_unit_zero zeros2]
  simp only [View.ld_unit_zero (S := S2048x1024) zeros2, View.ld_unit_zero (S := S1408x1024) zeros2, View.ld_unit_zero (S := S2048x1408) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 8 := N_0
  refine (dats m 0 c).arrAt_eq_of_cover 2 (out m c) (fun t hf => ?_) fun i => ?_
  · rw [Cert.Kernel4Ideal.Value.flushed2]
    have hi := congrFun (idx2 t)
    have ht := t.isLt
    funext y
    rw [View.read_apply]
    refine ((congrArg (out0_2 (iblk m c 0 t) (iblk m c 1 t)) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1408 (hi 1) (by simp <;> omega)
  · have h0 : (i 0 : ℕ) < 8192 := (i 0).isLt
    have h1 : (i 1 : ℕ) < 2816 := (i 1).isLt
    obtain ⟨t, ht⟩ : ∃ t : Fin cfg0.N, t.val = (i 0 : ℕ) / 2048 * 2 + (i 1 : ℕ) / 1408 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1408 (i 1) (hi 1) (by simp; omega)

end Cert.Kernel4Ideal.Product
end
-- ==== Proof.Product.DownDxClaim.lean ====
/-
  The gradient of the down-projection with respect to its input: the kernel's result is the reference's.
-/
module

public import proofs.«01_k».proof.Defs
public import proofs.«01_k».proof.Proof.Product.DownDx
public import proofs.«01_k».proof.Proof.Gen.Reference4Ideal.Read

@[expose] public section

noncomputable section

namespace Cert.Product.DownDx

open Idealize.ShloMosaic Idealize.ShloMosaic.TcCoe Idealize.SL.Sem
open Cert.Kernel4Ideal Cert.Kernel4Ideal.Product Cert.Reference4Ideal.Read

attribute [local instance] Cert.Kernel4Ideal.Gen.facts Cert.Reference4Ideal.Gen.facts

/-- What the reference computes, read at an index. -/
theorem plain (m : (ℓ : Loc nD τ sig) → Buf (Elt Ideal) ℓ) (c : Dev nD) (i : Fin 8192) (j : Fin 2816) :
    val_main_v5 (F := Ideal) (argA m c) (argB m c) (ix2 i j) = entry m c i.val j.val := by
  unfold val_main_v5 val_main_v4 val_main_v1 val_main_v0
  pointwise
  unfold entry
  exact Finset.sum_congr rfl fun k _ => congrArg₂ (· * ·) (at2_val 8192 1024 (argA m c) _ _ _ rfl rfl) (at2_val 2816 1024 (argB m c) _ _ _ rfl rfl)

/-- The reference changes no argument, and declares no semaphore. -/
theorem frame : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The two programs leave the same result array. -/
theorem algebraic : Cert.algebraic_Kernel4Ideal_Reference4Ideal := by
  intro m g m' g' _ hargs
  refine ⟨fun c => out m c, ?_, ?_⟩
  · exact (θ_run Cert.Kernel4Ideal.defs _ _).mono (fun r h c => ⟨(h c).1.trans (final m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    refine (val_main_v5_eq _ _ ).trans ?_
    rw [(hargs c).1, (hargs c).2]
    funext i
    refine (congrArg _ (eq_ix2 i)).trans ?_
    exact plain m c (i 0) (i 1)

end Cert.Product.DownDx
end
-- ==== Proof.Product.DownDw.lean ====
/-
  The gradient of the down-projection with respect to its weights: four steps for each tile of the result.
-/
module

public import proofs.«01_k».proof.Proof.Product.Entries
public import proofs.«01_k».proof.Proof.Gen.Kernel5Ideal.Value

@[expose] public section

noncomputable section

namespace Cert.Kernel5Ideal.Product

open Cert.Kernel5Ideal Cert.Kernel5Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x2816.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at2 8192 2816 (argA m c) k i * at2 8192 1024 (argB m c) k j

/-- The block of each window at a point. -/
theorem idx0 : ∀ t : Fin cfg0.N, win0_0.index t = ![t.val % 4, t.val / 4] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1408) (k : Fin 2048) :
    iblk m c 0 t (ix2 k i) = (fun i k => at2 8192 2816 (argA m c) k i) (1408 * (t.val / 4) + i.val) (2048 * (t.val % 4) + k.val) := by
  have hN : cfg0.N = 8 := N_0
  have ht := t.isLt
  have hi := congrFun (idx0 t)
  unfold iblk
  rw [View.read_apply]
  refine at2_val 8192 2816 (argA m c) _ _ _ ?_ ?_
  · exact pos_of 2048 (hi 0) (by simp <;> omega)
  · exact pos_of 1408 (hi 1) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 8 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S2816x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S2048x1408 .bf16 := iblk m c 0 t
abbrev blkB (t : Fin cfg0.N) : Vec Ideal S2048x1024 .bf16 := iblk m c 1 t

theorem blocks_term (t : Fin cfg0.N) (i : Fin 1408) (j : Fin 1024) :
    ∑ k : Fin 2048, (blkA m c t (ix2 k i) : EReal) * blkB m c t (ix2 k j) = tile m c (1408 * (t.val / 4) + i.val) (1024 * (t.val / 4 % 1) + j.val) (t.val % 4) :=
  Finset.sum_congr rfl fun k _ => congrArg₂ (· * ·) (left m c t i k) (right m c t k j)

theorem pay1_entry (X : Vec Ideal S2048x1408 .bf16) (Y : Vec Ideal S2048x1024 .bf16) (i : Fin 1408) (j : Fin 1024) :
    k0_pay1 X Y (ix2 i j) = (∑ k : Fin 2048, (X (ix2 k i) : EReal) * Y (ix2 k j) : EReal) := by
  unfold k0_pay1
  pointwise

theorem pay2_entry (Z : Vec Ideal S1408x1024 .f32) (X : Vec Ideal S2048x1408 .bf16) (Y : Vec Ideal S2048x1024 .bf16) (i : Fin 1408) (j : Fin 1024) :
    k0_pay2 Z X Y (ix2 i j) = (Z (ix2 i j) + ∑ k : Fin 2048, (X (ix2 k i) : EReal) * Y (ix2 k j) : EReal) := by
  unfold k0_pay2
  pointwise

/-- The first point of a run stores its tile. -/
theorem first (t : Fin cfg0.N) (h0 : t.val % 4 = 0) (i : Fin 1408) (j : Fin 1024) :
    outsAt0 m c t.val t.isLt (ix2 i j) = tile m c (1408 * (t.val / 4) + i.val) (1024 * (t.val / 4 % 1) + j.val) 0 := by
  have hN : cfg0.N = 8 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1408) zeros2, View.ld_unit_zero (S := S2048x1024) zeros2, View.ld_unit_zero (S := S1408x1024) zeros2]
  refine (pay1_entry (blkA m c t) (blkB m c t) i j).trans ?_
  rw [blocks_term, h0]

/-- A later point adds its tile. -/
theorem next (t : Fin cfg0.N) (h0 : ¬t.val % 4 = 0) (i : Fin 1408) (j : Fin 1024) :
    outsAt0 m c t.val t.isLt (ix2 i j) = outsAt0 m c (t.val - 1) (Nat.lt_of_le_of_lt (Nat.sub_le _ _) t.isLt) (ix2 i j)
      + tile m c (1408 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S2048x1408) zeros2, View.ld_unit_zero (S := S2048x1024) zeros2, View.ld_unit_zero (S := S1408x1024) zeros2]
  refine (pay2_entry _ (blkA m c t) (blkB m c t) i j).trans ?_
  rw [blocks_term]

theorem held (i : Fin 1408) (j : Fin 1024) (u : ℕ) (hu : u < cfg0.N) :
    outsAt0 m c u hu (ix2 i j) = ∑ v ∈ Finset.range (u % 4 + 1), tile m c (1408 * (u / 4 / 1) + i.val) (1024 * (u / 4 % 1) + j.val) v :=
  run_sum 4 3 cfg0.N (by omega) (fun u hu => outsAt0 m c u hu (ix2 i j))
    (fun w v => tile m c (1408 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1408) (j : Fin 1024) :
    outsAt0 m c t.val t.isLt (ix2 i j) = entry m c (1408 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 8 := N_0
  refine (dats m 0 c).arrAt_eq_of_cover 2 (out m c) (fun t hf => ?_) fun i => ?_
  · rw [Cert.Kernel5Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1408 (hi 0) (by simp <;> omega)
    · exact of_pos 1024 (hi 1) (by simp <;> omega)
  · have h0 : (i 0 : ℕ) < 2816 := (i 0).isLt
    have h1 : (i 1 : ℕ) < 1024 := (i 1).isLt
    obtain ⟨t, ht⟩ : ∃ t : Fin cfg0.N, t.val = (i 0 : ℕ) / 1408 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1408 (i 0) (hi 0) (by simp; omega)
    | ⟨1, _⟩ => exact in_block 1024 (i 1) (hi 1) (by simp; omega)

end Cert.Kernel5Ideal.Product
end
-- ==== Proof.Product.DownDwClaim.lean ====
/-
  The gradient of the down-projection with respect to its weights: the kernel's result is the reference's.
-/
module

public import proofs.«01_k».proof.Defs
public import proofs.«01_k».proof.Proof.Product.DownDw
public import proofs.«01_k».proof.Proof.Gen.Reference5Ideal.Read

@[expose] public section

noncomputable section

namespace Cert.Product.DownDw

open Idealize.ShloMosaic Idealize.ShloMosaic.TcCoe Idealize.SL.Sem
open Cert.Kernel5Ideal Cert.Kernel5Ideal.Product Cert.Reference5Ideal.Read

attribute [local instance] Cert.Kernel5Ideal.Gen.facts Cert.Reference5Ideal.Gen.facts

/-- What the reference computes, read at an index. -/
theorem plain (m : (ℓ : Loc nD τ sig) → Buf (Elt Ideal) ℓ) (c : Dev nD) (i : Fin 2816) (j : Fin 1024) :
    val_main_v5 (F := Ideal) (argA m c) (argB m c) (ix2 i j) = entry m c i.val j.val := by
  unfold val_main_v5 val_main_v4 val_main_v1 val_main_v0
  pointwise
  unfold entry
  exact Finset.sum_congr rfl fun k _ => (mul_comm _ _).trans (congrArg₂ (· * ·) (at2_val 8192 2816 (argA m c) _ _ _ rfl rfl) (at2_val 8192 1024 (argB m c) _ _ _ rfl rfl))

/-- The reference changes no argument, and declares no semaphore. -/
theorem frame : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The two programs leave the same result array. -/
theorem algebraic : Cert.algebraic_Kernel5Ideal_Reference5Ideal := by
  intro m g m' g' _ hargs
  refine ⟨fun c => out m c, ?_, ?_⟩
  · exact (θ_run Cert.Kernel5Ideal.defs _ _).mono (fun r h c => ⟨(h c).1.trans (final m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    refine (val_main_v5_eq _ _ ).trans ?_
    rw [(hargs c).1, (hargs c).2]
    funext i
    refine (congrArg _ (eq_ix2 i)).trans ?_
    exact plain m c (i 0) (i 1)

end Cert.Product.DownDw
end
-- ==== Proof.Product.InDx.lean ====
/-
  The gradient of the convolution layer's input projection with respect to its input: three steps for each tile of the result.
-/
module

public import proofs.«01_k».proof.Proof.Product.Entries
public import proofs.«01_k».proof.Proof.Gen.Kernel6Ideal.Value

@[expose] public section

noncomputable section

namespace Cert.Kernel6Ideal.Product

open Cert.Kernel6Ideal Cert.Kernel6Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S3x8192x1024.Idx → EReal := m ((c.tc : Thread nD τ).loc main_arg0)
abbrev argB : S3072x1024.Idx → EReal := m ((c.tc : Thread nD τ).loc main_arg1)

/-- The `k`-th product of the entry at row `i` and column `j`. -/
def term (i j k : ℕ) : EReal := at3 3 8192 1024 (argA m c) (k / 1024) i (k % 1024) * at2 3072 1024 (argB m c) k j

/-- The block of each window at a point. -/
theorem idx0 : ∀ t : Fin cfg0.N, win0_0.index t = ![t.val % 3 / 1, t.val / 3, t.val % 3 % 1] := by decide +kernel
theorem idx1 : ∀ t : Fin cfg0.N, win0_1.index t = ![t.val % 3, t.val / 3 % 1] := by decide +kernel
theorem idx2 : ∀ t : Fin cfg0.N, win0_2.index t = ![t.val / 3, t.val / 3 % 1] := by decide +kernel

theorem left (t : Fin cfg0.N) (i : Fin 2048) (k : Fin 1024) :
    iblk m c 0 t (ix3 0 i k) = (fun i k => at3 3 8192 1024 (argA m c) (k / 1024) i (k % 1024)) (2048 * (t.val / 3) + i.val) (1024 * (t.val % 3) + k.val) := by
  have hN : cfg0.N = 12 := N_0
  have ht := t.isLt
  have hi := congrFun (idx0 t)
  unfold iblk
  rw [View.read_apply]
  refine at3_val 3 8192 1024 (argA m c) _ _ _ _ ?_ ?_ ?_
  · exact pos_of 1 (hi 0) (by simp <;> omega)
  · exact pos_of 2048 (hi 1) (by simp <;> omega)
  · exact pos_of 1024 (hi 2) (by simp <;> omega)

theorem right (t : Fin cfg0.N) (k : Fin 1024) (j : Fin 1024) :
    iblk m c 1 t (ix2 k j) = (fun k j => at2 3072 1024 (argB m c) k j) (1024 * (t.val % 3) + k.val) (1024 * (t.val / 3 % 1) + j.val) := by
  have hN : cfg0.N = 12 := N_0
  have ht := t.isLt
  have hi := congrFun (idx1 t)
  unfold iblk
  rw [View.read_apply]
  refine at2_val 3072 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 3072, term m c a b k.val)

/-- The result array. -/
def out : S8192x1024.Idx → EReal := fun i => entry m c (i 0).val (i 1).val

theorem tiles (a b : ℕ) : ∑ v ∈ Finset.range 3, tile m c a b v = ∑ k : Fin 3072, term m c a b k.val :=
  sum_tiles 3 1024 (term m c a b)

/-- The blocks of the arguments at a point. -/
abbrev blkA (t : Fin cfg0.N) : Vec Ideal S1x2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix3 0 i k) : EReal) * blkB m c t (ix2 k j) = tile m c (2048 * (t.val / 3) + i.val) (1024 * (t.val / 3 % 1) + j.val) (t.val % 3) :=
  Finset.sum_congr rfl fun k _ => congrArg₂ (· * ·) (left m c t i k) (right m c t k j)

theorem pay1_entry (X : Vec Ideal S1x2048x1024 .bf16) (Y : Vec Ideal S1024x1024 .bf16) (i : Fin 2048) (j : Fin 1024) :
    k0_pay1 X Y (ix2 i j) = (∑ k : Fin 1024, (X (ix3 0 i k) : EReal) * Y (ix2 k j) : EReal) := by
  unfold k0_pay1
  pointwise

theorem pay2_entry (Z : Vec Ideal S2048x1024 .f32) (X : Vec Ideal S1x2048x1024 .bf16) (Y : Vec Ideal S1024x1024 .bf16) (i : Fin 2048) (j : Fin 1024) :
    k0_pay2 Z X Y (ix2 i j) = (Z (ix2 i j) + ∑ k : Fin 1024, (X (ix3 0 i k) : EReal) * Y (ix2 k j) : EReal) := by
  unfold k0_pay2
  pointwise

theorem pay3_entry (Z : Vec Ideal S2048x1024 .f32) (X : Vec Ideal S1x2048x1024 .bf16) (Y : Vec Ideal S1024x1024 .bf16) (i : Fin 2048) (j : Fin 1024) :
    k0_pay3 Z X Y (ix2 i j) = (Z (ix2 i j) + ∑ k : Fin 1024, (X (ix3 0 i k) : EReal) * Y (ix2 k j) : EReal) := by
  unfold k0_pay3
  pointwise

/-- The first point of a run keeps its tile. -/
theorem first (t : Fin cfg0.N) (h0 : t.val % 3 = 0) (i : Fin 2048) (j : Fin 1024) :
    (outsAt0 m c t.val t.isLt).2 (ix2 i j) = tile m c (2048 * (t.val / 3) + i.val) (1024 * (t.val / 3 % 1) + j.val) 0 := by
  rw [outsAt0_A m c t h0 (by omega) (by omega)]
  dsimp only
  unfold sout0_A_0
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S1024x1024) zeros2, View.ld_unit_zero (S := S2048x1024) zeros2]
  refine (pay1_entry (blkA m c t) (blkB m c t) i j).trans ?_
  rw [blocks_term, h0]

/-- A point between the first and the last adds its tile. -/
theorem next (t : Fin cfg0.N) (h0 : ¬t.val % 3 = 0) (h1 : t.val % 3 ≤ 1) (i : Fin 2048) (j : Fin 1024) :
    (outsAt0 m c t.val t.isLt).2 (ix2 i j) = (outsAt0 m c (t.val - 1) (Nat.lt_of_le_of_lt (Nat.sub_le _ _) t.isLt)).2 (ix2 i j)
      + tile m c (2048 * (t.val / 3) + i.val) (1024 * (t.val / 3 % 1) + j.val) (t.val % 3) := by
  rw [outsAt0_B m c t h0 (by omega) (by omega)]
  dsimp only
  unfold sout0_B_0
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S1024x1024) zeros2, View.ld_unit_zero (S := S2048x1024) zeros2]
  refine (pay2_entry _ (blkA m c t) (blkB m c t) i j).trans ?_
  rw [blocks_term]
  congr 1
  exact congrFun ((Memref.isWhole_whole _ : scM0_0.IsWhole).read_unread _) _

/-- The last point of a run writes the whole sum. -/
theorem last (t : Fin cfg0.N) (h : t.val % 3 = 2) (i : Fin 2048) (j : Fin 1024) :
    (outsAt0 m c t.val t.isLt).1 (ix2 i j) = (outsAt0 m c (t.val - 1) (Nat.lt_of_le_of_lt (Nat.sub_le _ _) t.isLt)).2 (ix2 i j)
      + tile m c (2048 * (t.val / 3) + i.val) (1024 * (t.val / 3 % 1) + j.val) 2 := by
  rw [outsAt0_C m c t (by omega) (by omega) h]
  dsimp only
  unfold out0_C_2
  rw [View.read_writes_junk_apply_eq_canon]
  unfold kernelRun0_C
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S1024x1024) zeros2, View.ld_unit_zero (S := S2048x1024) zeros2]
  refine (pay3_entry _ (blkA m c t) (blkB m c t) i j).trans ?_
  rw [blocks_term, h]
  congr 1
  exact congrFun ((Memref.isWhole_whole _ : scM0_0.IsWhole).read_unread _) _

theorem held (i : Fin 2048) (j : Fin 1024) (u : ℕ) (hu : u < cfg0.N) (h : u % 3 ≤ 1) :
    (outsAt0 m c u hu).2 (ix2 i j) = ∑ v ∈ Finset.range (u % 3 + 1), tile m c (2048 * (u / 3 / 1) + i.val) (1024 * (u / 3 % 1) + j.val) v :=
  run_sum 3 1 cfg0.N (by omega) (fun u hu => (outsAt0 m c u hu).2 (ix2 i j))
    (fun w v => tile m c (2048 * (w / 1) + i.val) (1024 * (w % 1) + j.val) v)
    (fun u hu h => (first m c ⟨u, hu⟩ h i j).trans (by simp only [Nat.div_div_eq_div_mul, Nat.reduceMul]))
    (fun u hu h h' => (next m c ⟨u + 1, hu⟩ h h' i j).trans (by simp only [Nat.div_div_eq_div_mul, Nat.reduceMul, Nat.add_sub_cancel]))
    u hu h

/-- What the last point of a run leaves in the result's buffer. -/
theorem point (t : Fin cfg0.N) (h : t.val % 3 = 2) (i : Fin 2048) (j : Fin 1024) :
    (outsAt0 m c t.val t.isLt).1 (ix2 i j) = entry m c (2048 * (t.val / 3) + i.val) (1024 * (t.val / 3 % 1) + j.val) := by
  have e1 : (t.val - 1) % 3 = 1 := by omega
  have e2 : (t.val - 1) / 3 = t.val / 3 := by omega
  rw [last m c t h, held m c i j _ _ (by omega), e1, e2, Nat.div_div_eq_div_mul]
  show _ = ∑ k : Fin 3072, term m c (2048 * (t.val / 3) + i.val) (1024 * (t.val / 3 % 1) + j.val) k.val
  rw [← tiles, Finset.sum_range_succ _ 2]

/-- The result array after the run. -/
theorem final : (dats m 0 c).arrAt 2 cfg0.N = out m c := by
  have hN : cfg0.N = 12 := N_0
  refine (dats m 0 c).arrAt_eq_of_cover 2 (out m c) (fun t hf => ?_) fun i => ?_
  · rw [Cert.Kernel6Ideal.Value.flushed2]
    have hi := congrFun (idx2 t)
    have ht := t.isLt
    funext y
    rw [View.read_apply]
    refine ((congrArg ((outsAt0 m c t.val t.isLt).1) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 2048 * 3 + (i 1 : ℕ) / 1024 * 3 + 2 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel6Ideal.Product
end
-- ==== Proof.Product.InDxClaim.lean ====
/-
  The gradient of the convolution layer's input projection with respect to its input: the kernel's result is the reference's.
-/
module

public import proofs.«01_k».proof.Defs
public import proofs.«01_k».proof.Proof.Product.InDx
public import proofs.«01_k».proof.Proof.Gen.Reference6Ideal.Read

@[expose] public section

noncomputable section

namespace Cert.Product.InDx

open Idealize.ShloMosaic Idealize.ShloMosaic.TcCoe Idealize.SL.Sem
open Cert.Kernel6Ideal Cert.Kernel6Ideal.Product Cert.Reference6Ideal.Read

attribute [local instance] Cert.Kernel6Ideal.Gen.facts Cert.Reference6Ideal.Gen.facts

/-- What the reference computes, read at an index. -/
theorem plain (m : (ℓ : Loc nD τ sig) → Buf (Elt Ideal) ℓ) (c : Dev nD) (i : Fin 8192) (j : Fin 1024) :
    val_main_v13 (F := Ideal) (argA m c) (argB m c) (ix2 i j) = entry m c i.val j.val := by
  unfold val_main_v13 val_main_v12 val_main_v10 val_main_v8 val_main_v7 val_main_v6 val_main_v5 val_main_v4 val_main_v3 val_main_v2 val_main_v1 val_main_v0
  pointwise
  unfold entry
  refine Finset.sum_congr rfl fun k _ => congrArg₂ (· * ·) ?_ (at2_val 3072 1024 (argB m c) _ _ _ rfl rfl)
  split
  · exact at3_val 3 8192 1024 (argA m c) _ _ _ _ (by show 0 = k.val / 1024; omega) rfl (by show k.val = k.val % 1024; omega)
  · split
    · exact at3_val 3 8192 1024 (argA m c) _ _ _ _ (by show 1 = k.val / 1024; omega) rfl (by show k.val - 1024 = k.val % 1024; omega)
    · exact at3_val 3 8192 1024 (argA m c) _ _ _ _ (by show 2 = k.val / 1024; omega) rfl (by show k.val - 1024 - 1024 = k.val % 1024; omega)

/-- The reference changes no argument, and declares no semaphore. -/
theorem frame : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The two programs leave the same result array. -/
theorem algebraic : Cert.algebraic_Kernel6Ideal_Reference6Ideal := by
  intro m g m' g' _ hargs
  refine ⟨fun c => out m c, ?_, ?_⟩
  · exact (θ_run Cert.Kernel6Ideal.defs _ _).mono (fun r h c => ⟨(h c).1.trans (final m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    refine (val_main_v13_eq _ _ ).trans ?_
    rw [(hargs c).1, (hargs c).2]
    funext i
    refine (congrArg _ (eq_ix2 i)).trans ?_
    exact plain m c (i 0) (i 1)

end Cert.Product.InDx
end
-- ==== Proof.Product.InDw.lean ====
/-
  The gradient of the convolution layer's input projection with respect to its weights: four steps for each tile of the result.
-/
module

public import proofs.«01_k».proof.Proof.Product.Entries
public import proofs.«01_k».proof.Proof.Gen.Kernel7Ideal.Value

@[expose] public section

noncomputable section

namespace Cert.Kernel7Ideal.Product

open Cert.Kernel7Ideal Cert.Kernel7Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S3x8192x1024.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at3 3 8192 1024 (argA m c) (i / 1024) k (i % 1024) * at2 8192 1024 (argB m c) k j

/-- The block of each window at a point. -/
theorem idx0 : ∀ t : Fin cfg0.N, win0_0.index t = ![t.val / 4 / 1, t.val % 4, t.val / 4 % 1] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1024) (k : Fin 2048) :
    iblk m c 0 t (ix3 0 k i) = (fun i k => at3 3 8192 1024 (argA m c) (i / 1024) k (i % 1024)) (1024 * (t.val / 4) + i.val) (2048 * (t.val % 4) + k.val) := by
  have hN : cfg0.N = 12 := N_0
  have ht := t.isLt
  have hi := congrFun (idx0 t)
  unfold iblk
  rw [View.read_apply]
  refine at3_val 3 8192 1024 (argA m c) _ _ _ _ ?_ ?_ ?_
  · exact pos_of 1 (hi 0) (by simp <;> omega)
  · exact pos_of 2048 (hi 1) (by simp <;> omega)
  · exact pos_of 1024 (hi 2) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 12 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S3072x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S1x2048x1024 .bf16 := iblk m c 0 t
abbrev blkB (t : Fin cfg0.N) : Vec Ideal S2048x1024 .bf16 := iblk m c 1 t

theorem blocks_term (t : Fin cfg0.N) (i : Fin 1024) (j : Fin 1024) :
    ∑ k : Fin 2048, (blkA m c t (ix3 0 k i) : EReal) * blkB m c t (ix2 k j) = tile m c (1024 * (t.val / 4) + i.val) (1024 * (t.val / 4 % 1) + j.val) (t.val % 4) :=
  Finset.sum_congr rfl fun k _ => congrArg₂ (· * ·) (left m c t i k) (right m c t k j)

theorem pay1_entry (X : Vec Ideal S1x2048x1024 .bf16) (Y : Vec Ideal S2048x1024 .bf16) (i : Fin 1024) (j : Fin 1024) :
    k0_pay1 X Y (ix2 i j) = (∑ k : Fin 2048, (X (ix3 0 k i) : EReal) * Y (ix2 k j) : EReal) := by
  unfold k0_pay1
  pointwise

theorem pay2_entry (Z : Vec Ideal S1024x1024 .f32) (X : Vec Ideal S1x2048x1024 .bf16) (Y : Vec Ideal S2048x1024 .bf16) (i : Fin 1024) (j : Fin 1024) :
    k0_pay2 Z X Y (ix2 i j) = (Z (ix2 i j) + ∑ k : Fin 2048, (X (ix3 0 k i) : EReal) * Y (ix2 k j) : EReal) := by
  unfold k0_pay2
  pointwise

/-- The first point of a run stores its tile. -/
theorem first (t : Fin cfg0.N) (h0 : t.val % 4 = 0) (i : Fin 1024) (j : Fin 1024) :
    outsAt0 m c t.val t.isLt (ix2 i j) = tile m c (1024 * (t.val / 4) + i.val) (1024 * (t.val / 4 % 1) + j.val) 0 := by
  have hN : cfg0.N = 12 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S2048x1024) zeros2, View.ld_unit_zero (S := S1024x1024) zeros2]
  refine (pay1_entry (blkA m c t) (blkB m c t) i j).trans ?_
  rw [blocks_term, h0]

/-- A later point adds its tile. -/
theorem next (t : Fin cfg0.N) (h0 : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + tile m c (1024 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S2048x1024) zeros2, View.ld_unit_zero (S := S1024x1024) zeros2]
  refine (pay2_entry _ (blkA m c t) (blkB m c t) i j).trans ?_
  rw [blocks_term]

theorem held (i : Fin 1024) (j : Fin 1024) (u : ℕ) (hu : u < cfg0.N) :
    outsAt0 m c u hu (ix2 i j) = ∑ v ∈ Finset.range (u % 4 + 1), tile m c (1024 * (u / 4 / 1) + i.val) (1024 * (u / 4 % 1) + j.val) v :=
  run_sum 4 3 cfg0.N (by omega) (fun u hu => outsAt0 m c u hu (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1024) (j : Fin 1024) :
    outsAt0 m c t.val t.isLt (ix2 i j) = entry m c (1024 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 12 := N_0
  refine (dats m 0 c).arrAt_eq_of_cover 2 (out m c) (fun t hf => ?_) fun i => ?_
  · rw [Cert.Kernel7Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 3072 := (i 0).isLt
    have h1 : (i 1 : ℕ) < 1024 := (i 1).isLt
    obtain ⟨t, ht⟩ : ∃ t : Fin cfg0.N, t.val = (i 0 : ℕ) / 1024 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel7Ideal.Product
end
-- ==== Proof.Product.InDwClaim.lean ====
/-
  The gradient of the convolution layer's input projection with respect to its weights: the kernel's result is the reference's.
-/
module

public import proofs.«01_k».proof.Defs
public import proofs.«01_k».proof.Proof.Product.InDw
public import proofs.«01_k».proof.Proof.Gen.Reference7Ideal.Read

@[expose] public section

noncomputable section

namespace Cert.Product.InDw

open Idealize.ShloMosaic Idealize.ShloMosaic.TcCoe Idealize.SL.Sem
open Cert.Kernel7Ideal Cert.Kernel7Ideal.Product Cert.Reference7Ideal.Read

attribute [local instance] Cert.Kernel7Ideal.Gen.facts Cert.Reference7Ideal.Gen.facts

/-- What the reference computes, read at an index. -/
theorem plain (m : (ℓ : Loc nD τ sig) → Buf (Elt Ideal) ℓ) (c : Dev nD) (i : Fin 3072) (j : Fin 1024) :
    val_main_v13 (F := Ideal) (argA m c) (argB m c) (ix2 i j) = entry m c i.val j.val := by
  unfold val_main_v13 val_main_v12 val_main_v11 val_main_v8 val_main_v7 val_main_v6 val_main_v5 val_main_v4 val_main_v3 val_main_v2 val_main_v1 val_main_v0
  pointwise
  unfold entry
  refine Finset.sum_congr rfl fun k _ => congrArg₂ (· * ·) ?_ (at2_val 8192 1024 (argB m c) _ _ _ rfl rfl)
  split
  · exact at3_val 3 8192 1024 (argA m c) _ _ _ _ (by show 0 = i.val / 1024; omega) rfl (by show i.val = i.val % 1024; omega)
  · split
    · exact at3_val 3 8192 1024 (argA m c) _ _ _ _ (by show 1 = i.val / 1024; omega) rfl (by show i.val - 1024 = i.val % 1024; omega)
    · exact at3_val 3 8192 1024 (argA m c) _ _ _ _ (by show 2 = i.val / 1024; omega) rfl (by show i.val - 1024 - 1024 = i.val % 1024; omega)

/-- The reference changes no argument, and declares no semaphore. -/
theorem frame : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- The two programs leave the same result array. -/
theorem algebraic : Cert.algebraic_Kernel7Ideal_Reference7Ideal := by
  intro m g m' g' _ hargs
  refine ⟨fun c => out m c, ?_, ?_⟩
  · exact (θ_run Cert.Kernel7Ideal.defs _ _).mono (fun r h c => ⟨(h c).1.trans (final m c), (h c).2⟩)
      (Cert.Kernel7Ideal.Value.run_blocks m g)
  · refine (θ_run Cert.Reference7Ideal.defs _ _).mono (fun r h c => ⟨(h c).1.trans ?_, (h c).2⟩) (Cert.Reference7Ideal.Value.run m' g')
    refine (val_main_v13_eq _ _ ).trans ?_
    rw [(hargs c).1, (hargs c).2]
    funext i
    refine (congrArg _ (eq_ix2 i)).trans ?_
    exact plain m c (i 0) (i 1)

end Cert.Product.InDw
end
-- ==== Proof.Product.KvDx.lean ====
/-
  The gradient of the key and value projection with respect to its input: two steps for each tile of the result.
-/
module

public import proofs.«01_k».proof.Proof.Product.Entries
public import proofs.«01_k».proof.Proof.Gen.Kernel8Ideal.Value

@[expose] public section

noncomputable section

namespace Cert.Kernel8Ideal.Product

open Cert.Kernel8Ideal Cert.Kernel8Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S2x8192x1024.Idx → EReal := m ((c.tc : Thread nD τ).loc main_arg0)
abbrev argB : S2048x1024.Idx → EReal := m ((c.tc : Thread nD τ).loc main_arg1)

/-- The `k`-th product of the entry at row `i` and column `j`. -/
def term (i j k : ℕ) : EReal := at3 2 8192 1024 (argA m c) (k / 1024) i (k % 1024) * at2 2048 1024 (argB m c) k j

/-- The block of each window at a point. -/
theorem idx0 : ∀ t : Fin cfg0.N, win0_0.index t = ![t.val % 2 / 1, t.val / 2, t.val % 2 % 1] := by decide +kernel
theorem idx1 : ∀ t : Fin cfg0.N, win0_1.index t = ![t.val % 2, t.val / 2 % 1] := by decide +kernel
theorem idx2 : ∀ t : Fin cfg0.N, win0_2.index t = ![t.val / 2, t.val / 2 % 1] := by decide +kernel

theorem left (t : Fin cfg0.N) (i : Fin 1024) (k : Fin 1024) :
    iblk m c 0 t (ix3 0 i k) = (fun i k => at3 2 8192 1024 (argA m c) (k / 1024) i (k % 1024)) (1024 * (t.val / 2) + i.val) (1024 * (t.val % 2) + k.val) := by
  have hN : cfg0.N = 16 := N_0
  have ht := t.isLt
  have hi := congrFun (idx0 t)
  unfold iblk
  rw [View.read_apply]
  refine at3_val 2 8192 1024 (argA m c) _ _ _ _ ?_ ?_ ?_
  · exact pos_of 1 (hi 0) (by simp <;> omega)
  · exact pos_of 1024 (hi 1) (by simp <;> omega)
  · exact pos_of 1024 (hi 2) (by simp <;> omega)

theorem right (t : Fin cfg0.N) (k : Fin 1024) (j : Fin 1024) :
    iblk m c 1 t (ix2 k j) = (fun k j => at2 2048 1024 (argB m c) k j) (1024 * (t.val % 2) + k.val) (1024 * (t.val / 2 % 1) + j.val) := by
  have hN : cfg0.N = 16 := N_0
  have ht := t.isLt
  have hi := congrFun (idx1 t)
  unfold iblk
  rw [View.read_apply]
  refine at2_val 2048 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 2048, term m c a b k.val)

/-- The result array. -/
def out : S8192x1024.Idx → EReal := fun i => entry m c (i 0).val (i 1).val

theorem tiles (a b : ℕ) : ∑ v ∈ Finset.range 2, tile m c a b v = ∑ k : Fin 2048, term m c a b k.val :=
  sum_tiles 2 1024 (term m c a b)

/-- The blocks of the arguments at a point. -/
abbrev blkA (t : Fin cfg0.N) : Vec Ideal S1x1024x1024 .bf16 := iblk m c 0 t
abbrev blkB (t : Fin cfg0.N) : Vec Ideal S1024x1024 .bf16 := iblk m c 1 t

theorem blocks_term (t : Fin cfg0.N) (i : Fin 1024) (j : Fin 1024) :
    ∑ k : Fin 1024, (blkA m c t (ix3 0 i k) : EReal) * blkB m c t (ix2 k j) = tile m c (1024 * (t.val / 2) + i.val) (1024 * (t.val / 2 % 1) + j.val) (t.val % 2) :=
  Finset.sum_congr rfl fun k _ => congrArg₂ (· * ·) (left m c t i k) (right m c t k j)

theorem pay1_entry (X : Vec Ideal S1x1024x1024 .bf16) (Y : Vec Ideal S1024x1024 .bf16) (i : Fin 1024) (j : Fin 1024) :
    k0_pay1 X Y (ix2 i j) = (∑ k : Fin 1024, (X (ix3 0 i k) : EReal) * Y (ix2 k j) : EReal) := by
  unfold k0_pay1
  pointwise

theorem pay2_entry (Z : Vec Ideal S1024x1024 .f32) (X : Vec Ideal S1x1024x1024 .bf16) (Y : Vec Ideal S1024x1024 .bf16) (i : Fin 1024) (j : Fin 1024) :
    k0_pay2 Z X Y (ix2 i j) = (Z (ix2 i j) + ∑ k : Fin 1024, (X (ix3 0 i k) : EReal) * Y (ix2 k j) : EReal) := by
  unfold k0_pay2
  pointwise

theorem pay3_entry (Z : Vec Ideal S1024x1024 .f32) (X : Vec Ideal S1x1024x1024 .bf16) (Y : Vec Ideal S1024x1024 .bf16) (i : Fin 1024) (j : Fin 1024) :
    k0_pay3 Z X Y (ix2 i j) = (Z (ix2 i j) + ∑ k : Fin 1024, (X (ix3 0 i k) : EReal) * Y (ix2 k j) : EReal) := by
  unfold k0_pay3
  pointwise

/-- The first point of a run keeps its tile. -/
theorem first (t : Fin cfg0.N) (h0 : t.val % 2 = 0) (i : Fin 1024) (j : Fin 1024) :
    (outsAt0 m c t.val t.isLt).2 (ix2 i j) = tile m c (1024 * (t.val / 2) + i.val) (1024 * (t.val / 2 % 1) + j.val) 0 := by
  rw [outsAt0_A m c t h0 (by omega)]
  dsimp only
  unfold sout0_A_0
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x1024x1024) zeros3, View.ld_unit_zero (S := S1024x1024) zeros2]
  refine (pay1_entry (blkA m c t) (blkB m c t) i j).trans ?_
  rw [blocks_term, h0]

/-- The last point of a run writes the whole sum. -/
theorem last (t : Fin cfg0.N) (h : t.val % 2 = 1) (i : Fin 1024) (j : Fin 1024) :
    (outsAt0 m c t.val t.isLt).1 (ix2 i j) = (outsAt0 m c (t.val - 1) (Nat.lt_of_le_of_lt (Nat.sub_le _ _) t.isLt)).2 (ix2 i j)
      + tile m c (1024 * (t.val / 2) + i.val) (1024 * (t.val / 2 % 1) + j.val) 1 := by
  rw [outsAt0_B m c t (by omega) h]
  dsimp only
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x1024x1024) zeros3, View.ld_unit_zero (S := S1024x1024) zeros2]
  refine (pay3_entry _ (blkA m c t) (blkB m c t) i j).trans ?_
  rw [blocks_term, h]
  congr 1
  exact congrFun ((Memref.isWhole_whole _ : scM0_0.IsWhole).read_unread _) _

theorem held (i : Fin 1024) (j : Fin 1024) (u : ℕ) (hu : u < cfg0.N) (h : u % 2 ≤ 0) :
    (outsAt0 m c u hu).2 (ix2 i j) = ∑ v ∈ Finset.range (u % 2 + 1), tile m c (1024 * (u / 2 / 1) + i.val) (1024 * (u / 2 % 1) + j.val) v :=
  run_sum 2 0 cfg0.N (by omega) (fun u hu => (outsAt0 m c u hu).2 (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h h' => absurd h' (by omega))
    u hu h

/-- What the last point of a run leaves in the result's buffer. -/
theorem point (t : Fin cfg0.N) (h : t.val % 2 = 1) (i : Fin 1024) (j : Fin 1024) :
    (outsAt0 m c t.val t.isLt).1 (ix2 i j) = entry m c (1024 * (t.val / 2) + i.val) (1024 * (t.val / 2 % 1) + j.val) := by
  have e1 : (t.val - 1) % 2 = 0 := by omega
  have e2 : (t.val - 1) / 2 = t.val / 2 := by omega
  rw [last m c t h, held m c i j _ _ (by omega), e1, e2, Nat.div_div_eq_div_mul]
  show _ = ∑ k : Fin 2048, term m c (1024 * (t.val / 2) + i.val) (1024 * (t.val / 2 % 1) + j.val) k.val
  rw [← tiles, Finset.sum_range_succ _ 1]

/-- The result array after the run. -/
theorem final : (dats m 0 c).arrAt 2 cfg0.N = out m c := by
  have hN : cfg0.N = 16 := N_0
  refine (dats m 0 c).arrAt_eq_of_cover 2 (out m c) (fun t hf => ?_) fun i => ?_
  · rw [Cert.Kernel8Ideal.Value.flushed2]
    have hi := congrFun (idx2 t)
    have ht := t.isLt
    funext y
    rw [View.read_apply]
    refine ((congrArg ((outsAt0 m c t.val t.isLt).1) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 * 2 + (i 1 : ℕ) / 1024 * 2 + 1 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel8Ideal.Product
end
-- ==== Proof.Product.KvDxClaim.lean ====
/-
  The gradient of the key and value projection with respect to its input: the kernel's result is the reference's.
-/
module

public import proofs.«01_k».proof.Defs
public import proofs.«01_k».proof.Proof.Product.KvDx
public import proofs.«01_k».proof.Proof.Gen.Reference8Ideal.Read

@[expose] public section

noncomputable section

namespace Cert.Product.KvDx

open Idealize.ShloMosaic Idealize.ShloMosaic.TcCoe Idealize.SL.Sem
open Cert.Kernel8Ideal Cert.Kernel8Ideal.Product Cert.Reference8Ideal.Read

attribute [local instance] Cert.Kernel8Ideal.Gen.facts Cert.Reference8Ideal.Gen.facts

/-- What the reference computes, read at an index. -/
theorem plain (m : (ℓ : Loc nD τ sig) → Buf (Elt Ideal) ℓ) (c : Dev nD) (i : Fin 8192) (j : Fin 1024) :
    val_main_v11 (F := Ideal) (argA m c) (argB m c) (ix2 i j) = entry m c i.val j.val := by
  unfold val_main_v11 val_main_v10 val_main_v8 val_main_v6 val_main_v5 val_main_v4 val_main_v3 val_main_v2 val_main_v1 val_main_v0
  pointwise
  unfold entry
  rw [← sum_tiles 2 1024 (term m c i.val j.val)]
  simp only [Finset.sum_range_succ, Finset.sum_range_zero, zero_add]
  exact congrArg₂ (· + ·)
    (Finset.sum_congr rfl fun (k : Fin 1024) _ => congrArg₂ (· * ·) (at3_val 2 8192 1024 (argA m c) _ _ _ _ (by show 0 = (1024 * 0 + k.val) / 1024; omega) rfl (by show k.val = (1024 * 0 + k.val) % 1024; omega)) (at2_val 2048 1024 (argB m c) _ _ _ (by show k.val = 1024 * 0 + k.val; omega) rfl))
    ((Finset.sum_congr rfl fun (k : Fin 1024) _ => congrArg₂ (· * ·) (at3_val 2 8192 1024 (argA m c) _ _ _ _ (by show 1 = (1024 * 1 + k.val) / 1024; omega) rfl (by show k.val = (1024 * 1 + k.val) % 1024; omega)) (at2_val 2048 1024 (argB m c) _ _ _ rfl rfl)))

/-- The reference changes no argument, and declares no semaphore. -/
theorem frame : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- The two programs leave the same result array. -/
theorem algebraic : Cert.algebraic_Kernel8Ideal_Reference8Ideal := by
  intro m g m' g' _ hargs
  refine ⟨fun c => out m c, ?_, ?_⟩
  · exact (θ_run Cert.Kernel8Ideal.defs _ _).mono (fun r h c => ⟨(h c).1.trans (final m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    refine (val_main_v11_eq _ _ ).trans ?_
    rw [(hargs c).1, (hargs c).2]
    funext i
    refine (congrArg _ (eq_ix2 i)).trans ?_
    exact plain m c (i 0) (i 1)

end Cert.Product.KvDx
end
-- ==== Proof.Product.KvDw.lean ====
/-
  The gradient of the key and value projection with respect to its weights: four steps for each tile of the result.
-/
module

public import proofs.«01_k».proof.Proof.Product.Entries
public import proofs.«01_k».proof.Proof.Gen.Kernel9Ideal.Value

@[expose] public section

noncomputable section

namespace Cert.Kernel9Ideal.Product

open Cert.Kernel9Ideal Cert.Kernel9Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S2x8192x1024.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at3 2 8192 1024 (argA m c) (i / 1024) k (i % 1024) * at2 8192 1024 (argB m c) k j

/-- The block of each window at a point. -/
theorem idx0 : ∀ t : Fin cfg0.N, win0_0.index t = ![t.val / 4 / 1, t.val % 4, t.val / 4 % 1] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1024) (k : Fin 2048) :
    iblk m c 0 t (ix3 0 k i) = (fun i k => at3 2 8192 1024 (argA m c) (i / 1024) k (i % 1024)) (1024 * (t.val / 4) + i.val) (2048 * (t.val % 4) + k.val) := by
  have hN : cfg0.N = 8 := N_0
  have ht := t.isLt
  have hi := congrFun (idx0 t)
  unfold iblk
  rw [View.read_apply]
  refine at3_val 2 8192 1024 (argA m c) _ _ _ _ ?_ ?_ ?_
  · exact pos_of 1 (hi 0) (by simp <;> omega)
  · exact pos_of 2048 (hi 1) (by simp <;> omega)
  · exact pos_of 1024 (hi 2) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 8 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S2048x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S1x2048x1024 .bf16 := iblk m c 0 t
abbrev blkB (t : Fin cfg0.N) : Vec Ideal S2048x1024 .bf16 := iblk m c 1 t

theorem blocks_term (t : Fin cfg0.N) (i : Fin 1024) (j : Fin 1024) :
    ∑ k : Fin 2048, (blkA m c t (ix3 0 k i) : EReal) * blkB m c t (ix2 k j) = tile m c (1024 * (t.val / 4) + i.val) (1024 * (t.val / 4 % 1) + j.val) (t.val % 4) :=
  Finset.sum_congr rfl fun k _ => congrArg₂ (· * ·) (left m c t i k) (right m c t k j)

theorem pay1_entry (X : Vec Ideal S1x2048x1024 .bf16) (Y : Vec Ideal S2048x1024 .bf16) (i : Fin 1024) (j : Fin 1024) :
    k0_pay1 X Y (ix2 i j) = (∑ k : Fin 2048, (X (ix3 0 k i) : EReal) * Y (ix2 k j) : EReal) := by
  unfold k0_pay1
  pointwise

theorem pay2_entry (Z : Vec Ideal S1024x1024 .f32) (X : Vec Ideal S1x2048x1024 .bf16) (Y : Vec Ideal S2048x1024 .bf16) (i : Fin 1024) (j : Fin 1024) :
    k0_pay2 Z X Y (ix2 i j) = (Z (ix2 i j) + ∑ k : Fin 2048, (X (ix3 0 k i) : EReal) * Y (ix2 k j) : EReal) := by
  unfold k0_pay2
  pointwise

/-- The first point of a run stores its tile. -/
theorem first (t : Fin cfg0.N) (h0 : t.val % 4 = 0) (i : Fin 1024) (j : Fin 1024) :
    outsAt0 m c t.val t.isLt (ix2 i j) = tile m c (1024 * (t.val / 4) + i.val) (1024 * (t.val / 4 % 1) + j.val) 0 := by
  have hN : cfg0.N = 8 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S2048x1024) zeros2, View.ld_unit_zero (S := S1024x1024) zeros2]
  refine (pay1_entry (blkA m c t) (blkB m c t) i j).trans ?_
  rw [blocks_term, h0]

/-- A later point adds its tile. -/
theorem next (t : Fin cfg0.N) (h0 : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + tile m c (1024 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S1x2048x1024) zeros3, View.ld_unit_zero (S := S2048x1024) zeros2, View.ld_unit_zero (S := S1024x1024) zeros2]
  refine (pay2_entry _ (blkA m c t) (blkB m c t) i j).trans ?_
  rw [blocks_term]

theorem held (i : Fin 1024) (j : Fin 1024) (u : ℕ) (hu : u < cfg0.N) :
    outsAt0 m c u hu (ix2 i j) = ∑ v ∈ Finset.range (u % 4 + 1), tile m c (1024 * (u / 4 / 1) + i.val) (1024 * (u / 4 % 1) + j.val) v :=
  run_sum 4 3 cfg0.N (by omega) (fun u hu => outsAt0 m c u hu (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1024) (j : Fin 1024) :
    outsAt0 m c t.val t.isLt (ix2 i j) = entry m c (1024 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 8 := N_0
  refine (dats m 0 c).arrAt_eq_of_cover 2 (out m c) (fun t hf => ?_) fun i => ?_
  · rw [Cert.Kernel9Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 2048 := (i 0).isLt
    have h1 : (i 1 : ℕ) < 1024 := (i 1).isLt
    obtain ⟨t, ht⟩ : ∃ t : Fin cfg0.N, t.val = (i 0 : ℕ) / 1024 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel9Ideal.Product
end
-- ==== Proof.Product.KvDwClaim.lean ====
/-
  The gradient of the key and value projection with respect to its weights: the kernel's result is the reference's.
-/
module

public import proofs.«01_k».proof.Defs
public import proofs.«01_k».proof.Proof.Product.KvDw
public import proofs.«01_k».proof.Proof.Gen.Reference9Ideal.Read

@[expose] public section

noncomputable section

namespace Cert.Product.KvDw

open Idealize.ShloMosaic Idealize.ShloMosaic.TcCoe Idealize.SL.Sem
open Cert.Kernel9Ideal Cert.Kernel9Ideal.Product Cert.Reference9Ideal.Read

attribute [local instance] Cert.Kernel9Ideal.Gen.facts Cert.Reference9Ideal.Gen.facts

/-- What the reference computes, read at an index. -/
theorem plain (m : (ℓ : Loc nD τ sig) → Buf (Elt Ideal) ℓ) (c : Dev nD) (i : Fin 2048) (j : Fin 1024) :
    val_main_v11 (F := Ideal) (argA m c) (argB m c) (ix2 i j) = entry m c i.val j.val := by
  unfold val_main_v11 val_main_v10 val_main_v9 val_main_v6 val_main_v5 val_main_v4 val_main_v3 val_main_v2 val_main_v1 val_main_v0
  pointwise
  unfold entry
  refine Finset.sum_congr rfl fun k _ => congrArg₂ (· * ·) ?_ (at2_val 8192 1024 (argB m c) _ _ _ rfl rfl)
  split
  · exact at3_val 2 8192 1024 (argA m c) _ _ _ _ (by show 0 = i.val / 1024; omega) rfl (by show i.val = i.val % 1024; omega)
  · exact at3_val 2 8192 1024 (argA m c) _ _ _ _ (by show 1 = i.val / 1024; omega) rfl (by show i.val - 1024 = i.val % 1024; omega)

/-- The reference changes no argument, and declares no semaphore. -/
theorem frame : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- The two programs leave the same result array. -/
theorem algebraic : Cert.algebraic_Kernel9Ideal_Reference9Ideal := by
  intro m g m' g' _ hargs
  refine ⟨fun c => out m c, ?_, ?_⟩
  · exact (θ_run Cert.Kernel9Ideal.defs _ _).mono (fun r h c => ⟨(h c).1.trans (final m c), (h c).2⟩)
      (Cert.Kernel9Ideal.Value.run_blocks m g)
  · refine (θ_run Cert.Reference9Ideal.defs _ _).mono (fun r h c => ⟨(h c).1.trans ?_, (h c).2⟩) (Cert.Reference9Ideal.Value.run m' g')
    refine (val_main_v11_eq _ _ ).trans ?_
    rw [(hargs c).1, (hargs c).2]
    funext i
    refine (congrArg _ (eq_ix2 i)).trans ?_
    exact plain m c (i 0) (i 1)

end Cert.Product.KvDw
end
-- ==== Proof.Product.QDx.lean ====
/-
  The gradient of the query projection with respect to its input: one step for each tile of the result.
-/
module

public import proofs.«01_k».proof.Proof.Product.Entries
public import proofs.«01_k».proof.Proof.Gen.Kernel10Ideal.Value

@[expose] public section

noncomputable section

namespace Cert.Kernel10Ideal.Product

open Cert.Kernel10Ideal Cert.Kernel10Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S1024x1024.Idx → EReal := m ((c.tc : Thread nD τ).loc main_arg1)

/-- The `k`-th product of the entry at row `i` and column `j`. -/
def term (i j k : ℕ) : EReal := at2 8192 1024 (argA m c) i k * at2 1024 1024 (argB m c) j k

/-- The block of each window at a point. -/
theorem idx0 : ∀ t : Fin cfg0.N, win0_0.index t = ![t.val / 1, 0] := by decide +kernel
theorem idx1 : ∀ t : Fin cfg0.N, win0_1.index t = ![t.val % 1, 0] := by decide +kernel
theorem idx2 : ∀ t : Fin cfg0.N, win0_2.index t = ![t.val / 1, t.val % 1] := by decide +kernel

theorem left (t : Fin cfg0.N) (i : Fin 1024) (k : Fin 1024) :
    iblk m c 0 t (ix2 i k) = (fun i k => at2 8192 1024 (argA m c) i k) (1024 * (t.val / 1) + i.val) (1024 * (0) + k.val) := by
  have hN : cfg0.N = 8 := N_0
  have ht := t.isLt
  have hi := congrFun (idx0 t)
  unfold iblk
  rw [View.read_apply]
  refine at2_val 8192 1024 (argA m c) _ _ _ ?_ ?_
  · exact pos_of 1024 (hi 0) (by simp <;> omega)
  · exact pos_of 1024 (hi 1) (by simp <;> omega)

theorem right (t : Fin cfg0.N) (k : Fin 1024) (j : Fin 1024) :
    iblk m c 1 t (ix2 j k) = (fun k j => at2 1024 1024 (argB m c) j k) (1024 * (0) + k.val) (1024 * (t.val % 1) + j.val) := by
  have hN : cfg0.N = 8 := N_0
  have ht := t.isLt
  have hi := congrFun (idx1 t)
  unfold iblk
  rw [View.read_apply]
  refine at2_val 1024 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x1024.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S1024x1024 .bf16 := iblk m c 0 t
abbrev blkB (t : Fin cfg0.N) : Vec Ideal S1024x1024 .bf16 := iblk m c 1 t

theorem blocks_term (t : Fin cfg0.N) (i : Fin 1024) (j : Fin 1024) :
    ∑ k : Fin 1024, (blkA m c t (ix2 i k) : EReal) * blkB m c t (ix2 j k) = tile m c (1024 * (t.val / 1) + i.val) (1024 * (t.val % 1) + j.val) (0) :=
  Finset.sum_congr rfl fun k _ => congrArg₂ (· * ·) (left m c t i k) (right m c t k j)

theorem pay1_entry (X : Vec Ideal S1024x1024 .bf16) (Y : Vec Ideal S1024x1024 .bf16) (i : Fin 1024) (j : Fin 1024) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 1024) (j : Fin 1024) :
    outsAt0 m c t (ix2 i j) = entry m c (1024 * (t.val / 1) + i.val) (1024 * (t.val % 1) + j.val) := by
  unfold outsAt0 out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S1024x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 8 := N_0
  refine (dats m 0 c).arrAt_eq_of_cover 2 (out m c) (fun t hf => ?_) fun i => ?_
  · rw [Cert.Kernel10Ideal.Value.flushed2]
    have hi := congrFun (idx2 t)
    have ht := t.isLt
    funext y
    rw [View.read_apply]
    refine ((congrArg (outsAt0 m c t) (eq_ix2 y)).trans (point m c t (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 * 1 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel10Ideal.Product
end
-- ==== Proof.Product.QDxClaim.lean ====
/-
  The gradient of the query projection with respect to its input: the kernel's result is the reference's.
-/
module

public import proofs.«01_k».proof.Defs
public import proofs.«01_k».proof.Proof.Product.QDx
public import proofs.«01_k».proof.Proof.Gen.Reference10Ideal.Read

@[expose] public section

noncomputable section

namespace Cert.Product.QDx

open Idealize.ShloMosaic Idealize.ShloMosaic.TcCoe Idealize.SL.Sem
open Cert.Kernel10Ideal Cert.Kernel10Ideal.Product Cert.Reference10Ideal.Read

attribute [local instance] Cert.Kernel10Ideal.Gen.facts Cert.Reference10Ideal.Gen.facts

/-- What the reference computes, read at an index. -/
theorem plain (m : (ℓ : Loc nD τ sig) → Buf (Elt Ideal) ℓ) (c : Dev nD) (i : Fin 8192) (j : Fin 1024) :
    val_main_v5 (F := Ideal) (argA m c) (argB m c) (ix2 i j) = entry m c i.val j.val := by
  unfold val_main_v5 val_main_v4 val_main_v1 val_main_v0
  pointwise
  unfold entry
  exact Finset.sum_congr rfl fun k _ => congrArg₂ (· * ·) (at2_val 8192 1024 (argA m c) _ _ _ rfl rfl) (at2_val 1024 1024 (argB m c) _ _ _ rfl rfl)

/-- The reference changes no argument, and declares no semaphore. -/
theorem frame : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- The two programs leave the same result array. -/
theorem algebraic : Cert.algebraic_Kernel10Ideal_Reference10Ideal := by
  intro m g m' g' _ hargs
  refine ⟨fun c => out m c, ?_, ?_⟩
  · exact (θ_run Cert.Kernel10Ideal.defs _ _).mono (fun r h c => ⟨(h c).1.trans (final m c), (h c).2⟩)
      (Cert.Kernel10Ideal.Value.run_blocks m g)
  · refine (θ_run Cert.Reference10Ideal.defs _ _).mono (fun r h c => ⟨(h c).1.trans ?_, (h c).2⟩) (Cert.Reference10Ideal.Value.run m' g')
    refine (val_main_v5_eq _ _ ).trans ?_
    rw [(hargs c).1, (hargs c).2.1]
    funext i
    refine (congrArg _ (eq_ix2 i)).trans ?_
    exact plain m c (i 0) (i 1)

end Cert.Product.QDx
end
-- ==== Proof.Product.QDw.lean ====
/-
  The gradient of the query projection with respect to its weights: four steps for each tile of the result.
-/
module

public import proofs.«01_k».proof.Proof.Product.Entries
public import proofs.«01_k».proof.Proof.Gen.Kernel11Ideal.Value

@[expose] public section

noncomputable section

namespace Cert.Kernel11Ideal.Product

open Cert.Kernel11Ideal Cert.Kernel11Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at2 8192 1024 (argA m c) k i * at2 8192 1024 (argB m c) k j

/-- The block of each window at a point. -/
theorem idx0 : ∀ t : Fin cfg0.N, win0_0.index t = ![t.val % 4, t.val / 4] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1024) (k : Fin 2048) :
    iblk m c 0 t (ix2 k i) = (fun i k => at2 8192 1024 (argA m c) k i) (1024 * (t.val / 4) + i.val) (2048 * (t.val % 4) + k.val) := by
  have hN : cfg0.N = 4 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 4 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S1024x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S2048x1024 .bf16 := iblk m c 0 t
abbrev blkB (t : Fin cfg0.N) : Vec Ideal S2048x1024 .bf16 := iblk m c 1 t

theorem blocks_term (t : Fin cfg0.N) (i : Fin 1024) (j : Fin 1024) :
    ∑ k : Fin 2048, (blkA m c t (ix2 k i) : EReal) * blkB m c t (ix2 k j) = tile m c (1024 * (t.val / 4) + i.val) (1024 * (t.val / 4 % 1) + j.val) (t.val % 4) :=
  Finset.sum_congr rfl fun k _ => congrArg₂ (· * ·) (left m c t i k) (right m c t k j)

theorem pay1_entry (X : Vec Ideal S2048x1024 .bf16) (Y : Vec Ideal S2048x1024 .bf16) (i : Fin 1024) (j : Fin 1024) :
    k0_pay1 X Y (ix2 i j) = (∑ k : Fin 2048, (X (ix2 k i) : EReal) * Y (ix2 k j) : EReal) := by
  unfold k0_pay1
  pointwise

theorem pay2_entry (Z : Vec Ideal S1024x1024 .f32) (X : Vec Ideal S2048x1024 .bf16) (Y : Vec Ideal S2048x1024 .bf16) (i : Fin 1024) (j : Fin 1024) :
    k0_pay2 Z X Y (ix2 i j) = (Z (ix2 i j) + ∑ k : Fin 2048, (X (ix2 k i) : EReal) * Y (ix2 k j) : EReal) := by
  unfold k0_pay2
  pointwise

/-- The first point of a run stores its tile. -/
theorem first (t : Fin cfg0.N) (h0 : t.val % 4 = 0) (i : Fin 1024) (j : Fin 1024) :
    outsAt0 m c t.val t.isLt (ix2 i j) = tile m c (1024 * (t.val / 4) + i.val) (1024 * (t.val / 4 % 1) + j.val) 0 := by
  have hN : cfg0.N = 4 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S2048x1024) zeros2, View.ld_unit_zero (S := S1024x1024) zeros2]
  refine (pay1_entry (blkA m c t) (blkB m c t) i j).trans ?_
  rw [blocks_term, h0]

/-- A later point adds its tile. -/
theorem next (t : Fin cfg0.N) (h0 : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + tile m c (1024 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S2048x1024) zeros2, View.ld_unit_zero (S := S1024x1024) zeros2]
  refine (pay2_entry _ (blkA m c t) (blkB m c t) i j).trans ?_
  rw [blocks_term]

theorem held (i : Fin 1024) (j : Fin 1024) (u : ℕ) (hu : u < cfg0.N) :
    outsAt0 m c u hu (ix2 i j) = ∑ v ∈ Finset.range (u % 4 + 1), tile m c (1024 * (u / 4 / 1) + i.val) (1024 * (u / 4 % 1) + j.val) v :=
  run_sum 4 3 cfg0.N (by omega) (fun u hu => outsAt0 m c u hu (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1024) (j : Fin 1024) :
    outsAt0 m c t.val t.isLt (ix2 i j) = entry m c (1024 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 4 := N_0
  refine (dats m 0 c).arrAt_eq_of_cover 2 (out m c) (fun t hf => ?_) fun i => ?_
  · rw [Cert.Kernel11Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 1024 := (i 0).isLt
    have h1 : (i 1 : ℕ) < 1024 := (i 1).isLt
    obtain ⟨t, ht⟩ : ∃ t : Fin cfg0.N, t.val = (i 0 : ℕ) / 1024 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel11Ideal.Product
end
-- ==== Proof.Product.QDwClaim.lean ====
/-
  The gradient of the query projection with respect to its weights: the kernel's result is the reference's.
-/
module

public import proofs.«01_k».proof.Defs
public import proofs.«01_k».proof.Proof.Product.QDw
public import proofs.«01_k».proof.Proof.Gen.Reference11Ideal.Read

@[expose] public section

noncomputable section

namespace Cert.Product.QDw

open Idealize.ShloMosaic Idealize.ShloMosaic.TcCoe Idealize.SL.Sem
open Cert.Kernel11Ideal Cert.Kernel11Ideal.Product Cert.Reference11Ideal.Read

attribute [local instance] Cert.Kernel11Ideal.Gen.facts Cert.Reference11Ideal.Gen.facts

/-- What the reference computes, read at an index. -/
theorem plain (m : (ℓ : Loc nD τ sig) → Buf (Elt Ideal) ℓ) (c : Dev nD) (i : Fin 1024) (j : Fin 1024) :
    val_main_v5 (F := Ideal) (argA m c) (argB m c) (ix2 i j) = entry m c i.val j.val := by
  unfold val_main_v5 val_main_v4 val_main_v1 val_main_v0
  pointwise
  unfold entry
  exact Finset.sum_congr rfl fun k _ => (mul_comm _ _).trans (congrArg₂ (· * ·) (at2_val 8192 1024 (argA m c) _ _ _ rfl rfl) (at2_val 8192 1024 (argB m c) _ _ _ rfl rfl))

/-- The reference changes no argument, and declares no semaphore. -/
theorem frame : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- The two programs leave the same result array. -/
theorem algebraic : Cert.algebraic_Kernel11Ideal_Reference11Ideal := by
  intro m g m' g' _ hargs
  refine ⟨fun c => out m c, ?_, ?_⟩
  · exact (θ_run Cert.Kernel11Ideal.defs _ _).mono (fun r h c => ⟨(h c).1.trans (final m c), (h c).2⟩)
      (Cert.Kernel11Ideal.Value.run_blocks m g)
  · refine (θ_run Cert.Reference11Ideal.defs _ _).mono (fun r h c => ⟨(h c).1.trans ?_, (h c).2⟩) (Cert.Reference11Ideal.Value.run m' g')
    refine (val_main_v5_eq _ _ ).trans ?_
    rw [(hargs c).1, (hargs c).2]
    funext i
    refine (congrArg _ (eq_ix2 i)).trans ?_
    exact plain m c (i 0) (i 1)

end Cert.Product.QDw
end
-- ==== Proof.Product.ODx.lean ====
/-
  The gradient of the attention's output projection with respect to its input: one step for each tile of the result.
-/
module

public import proofs.«01_k».proof.Proof.Product.Entries
public import proofs.«01_k».proof.Proof.Gen.Kernel12Ideal.Value

@[expose] public section

noncomputable section

namespace Cert.Kernel12Ideal.Product

open Cert.Kernel12Ideal Cert.Kernel12Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S1024x1024.Idx → EReal := m ((c.tc : Thread nD τ).loc main_arg1)

/-- The `k`-th product of the entry at row `i` and column `j`. -/
def term (i j k : ℕ) : EReal := at2 8192 1024 (argA m c) i k * at2 1024 1024 (argB m c) j k

/-- The block of each window at a point. -/
theorem idx0 : ∀ t : Fin cfg0.N, win0_0.index t = ![t.val / 1, 0] := by decide +kernel
theorem idx1 : ∀ t : Fin cfg0.N, win0_1.index t = ![t.val % 1, 0] := by decide +kernel
theorem idx2 : ∀ t : Fin cfg0.N, win0_2.index t = ![t.val / 1, t.val % 1] := by decide +kernel

theorem left (t : Fin cfg0.N) (i : Fin 2048) (k : Fin 1024) :
    iblk m c 0 t (ix2 i k) = (fun i k => at2 8192 1024 (argA m c) i k) (2048 * (t.val / 1) + i.val) (1024 * (0) + k.val) := by
  have hN : cfg0.N = 4 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1024) :
    iblk m c 1 t (ix2 j k) = (fun k j => at2 1024 1024 (argB m c) j k) (1024 * (0) + k.val) (1024 * (t.val % 1) + j.val) := by
  have hN : cfg0.N = 4 := N_0
  have ht := t.isLt
  have hi := congrFun (idx1 t)
  unfold iblk
  rw [View.read_apply]
  refine at2_val 1024 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x1024.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix2 i k) : EReal) * blkB m c t (ix2 j k) = tile m c (2048 * (t.val / 1) + i.val) (1024 * (t.val % 1) + j.val) (0) :=
  Finset.sum_congr rfl fun k _ => congrArg₂ (· * ·) (left m c t i k) (right m c t k j)

theorem pay1_entry (X : Vec Ideal S2048x1024 .bf16) (Y : Vec Ideal S1024x1024 .bf16) (i : Fin 2048) (j : Fin 1024) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1024) :
    outsAt0 m c t (ix2 i j) = entry m c (2048 * (t.val / 1) + i.val) (1024 * (t.val % 1) + j.val) := by
  unfold outsAt0 out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 4 := N_0
  refine (dats m 0 c).arrAt_eq_of_cover 2 (out m c) (fun t hf => ?_) fun i => ?_
  · rw [Cert.Kernel12Ideal.Value.flushed2]
    have hi := congrFun (idx2 t)
    have ht := t.isLt
    funext y
    rw [View.read_apply]
    refine ((congrArg (outsAt0 m c t) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 2048 * 1 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel12Ideal.Product
end
-- ==== Proof.Product.ODxClaim.lean ====
/-
  The gradient of the attention's output projection with respect to its input: the kernel's result is the reference's.
-/
module

public import proofs.«01_k».proof.Defs
public import proofs.«01_k».proof.Proof.Product.ODx
public import proofs.«01_k».proof.Proof.Gen.Reference12Ideal.Read

@[expose] public section

noncomputable section

namespace Cert.Product.ODx

open Idealize.ShloMosaic Idealize.ShloMosaic.TcCoe Idealize.SL.Sem
open Cert.Kernel12Ideal Cert.Kernel12Ideal.Product Cert.Reference12Ideal.Read

attribute [local instance] Cert.Kernel12Ideal.Gen.facts Cert.Reference12Ideal.Gen.facts

/-- What the reference computes, read at an index. -/
theorem plain (m : (ℓ : Loc nD τ sig) → Buf (Elt Ideal) ℓ) (c : Dev nD) (i : Fin 8192) (j : Fin 1024) :
    val_main_v4 (F := Ideal) (argA m c) (argB m c) (ix2 i j) = entry m c i.val j.val := by
  unfold val_main_v4 val_main_v1 val_main_v0
  pointwise
  unfold entry
  exact Finset.sum_congr rfl fun k _ => congrArg₂ (· * ·) (at2_val 8192 1024 (argA m c) _ _ _ rfl rfl) (at2_val 1024 1024 (argB m c) _ _ _ rfl rfl)

/-- The reference changes no argument, and declares no semaphore. -/
theorem frame : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

/-- The two programs leave the same result array. -/
theorem algebraic : Cert.algebraic_Kernel12Ideal_Reference12Ideal := by
  intro m g m' g' _ hargs
  refine ⟨fun c => out m c, ?_, ?_⟩
  · exact (θ_run Cert.Kernel12Ideal.defs _ _).mono (fun r h c => ⟨(h c).1.trans (final m c), (h c).2⟩)
      (Cert.Kernel12Ideal.Value.run_blocks m g)
  · refine (θ_run Cert.Reference12Ideal.defs _ _).mono (fun r h c => ⟨(h c).1.trans ?_, (h c).2⟩) (Cert.Reference12Ideal.Value.run m' g')
    refine (val_main_v4_eq _ _ ).trans ?_
    rw [(hargs c).1, (hargs c).2.1]
    funext i
    refine (congrArg _ (eq_ix2 i)).trans ?_
    exact plain m c (i 0) (i 1)

end Cert.Product.ODx
end
-- ==== Proof.Product.ODw.lean ====
/-
  The gradient of an output projection with respect to its weights: four steps for each tile of the result.
-/
module

public import proofs.«01_k».proof.Proof.Product.Entries
public import proofs.«01_k».proof.Proof.Gen.Kernel13Ideal.Value

@[expose] public section

noncomputable section

namespace Cert.Kernel13Ideal.Product

open Cert.Kernel13Ideal Cert.Kernel13Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S8192x1024.Idx → EReal := m ((c.tc : Thread nD τ).loc main_arg1)

/-- The `k`-th product of the entry at row `i` and column `j`. -/
def term (i j k : ℕ) : EReal := at2 8192 1024 (argA m c) k i * at2 8192 1024 (argB m c) k j

/-- The block of each window at a point. -/
theorem idx0 : ∀ t : Fin cfg0.N, win0_0.index t = ![t.val % 4, t.val / 4] := by decide +kernel
theorem idx1 : ∀ t : Fin cfg0.N, win0_1.index t = ![t.val % 4, t.val / 4 % 1] := by decide +kernel
theorem idx2 : ∀ t : Fin cfg0.N, win0_2.index t = ![t.val / 4, t.val / 4 % 1] := by decide +kernel

theorem left (t : Fin cfg0.N) (i : Fin 1024) (k : Fin 2048) :
    iblk m c 0 t (ix2 k i) = (fun i k => at2 8192 1024 (argA m c) k i) (1024 * (t.val / 4) + i.val) (2048 * (t.val % 4) + k.val) := by
  have hN : cfg0.N = 4 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 2048) (j : Fin 1024) :
    iblk m c 1 t (ix2 k j) = (fun k j => at2 8192 1024 (argB m c) k j) (2048 * (t.val % 4) + k.val) (1024 * (t.val / 4 % 1) + j.val) := by
  have hN : cfg0.N = 4 := N_0
  have ht := t.isLt
  have hi := congrFun (idx1 t)
  unfold iblk
  rw [View.read_apply]
  refine at2_val 8192 1024 (argB m c) _ _ _ ?_ ?_
  · exact pos_of 2048 (hi 0) (by simp <;> omega)
  · exact pos_of 1024 (hi 1) (by simp <;> omega)

/-- The tile of an entry that a point adds. -/
def tile (i j v : ℕ) : EReal := ∑ k : Fin 2048, term m c i j (2048 * v + k.val)

/-- The entry at row `a` and column `b` of the result. -/
def entry (a b : ℕ) : EReal := (∑ k : Fin 8192, term m c a b k.val)

/-- The result array. -/
def out : S1024x1024.Idx → EReal := fun i => entry m c (i 0).val (i 1).val

theorem tiles (a b : ℕ) : ∑ v ∈ Finset.range 4, tile m c a b v = ∑ k : Fin 8192, term m c a b k.val :=
  sum_tiles 4 2048 (term m c a b)

/-- The blocks of the arguments at a point. -/
abbrev blkA (t : Fin cfg0.N) : Vec Ideal S2048x1024 .bf16 := iblk m c 0 t
abbrev blkB (t : Fin cfg0.N) : Vec Ideal S2048x1024 .bf16 := iblk m c 1 t

theorem blocks_term (t : Fin cfg0.N) (i : Fin 1024) (j : Fin 1024) :
    ∑ k : Fin 2048, (blkA m c t (ix2 k i) : EReal) * blkB m c t (ix2 k j) = tile m c (1024 * (t.val / 4) + i.val) (1024 * (t.val / 4 % 1) + j.val) (t.val % 4) :=
  Finset.sum_congr rfl fun k _ => congrArg₂ (· * ·) (left m c t i k) (right m c t k j)

theorem pay1_entry (X : Vec Ideal S2048x1024 .bf16) (Y : Vec Ideal S2048x1024 .bf16) (i : Fin 1024) (j : Fin 1024) :
    k0_pay1 X Y (ix2 i j) = (∑ k : Fin 2048, (X (ix2 k i) : EReal) * Y (ix2 k j) : EReal) := by
  unfold k0_pay1
  pointwise

theorem pay2_entry (Z : Vec Ideal S1024x1024 .f32) (X : Vec Ideal S2048x1024 .bf16) (Y : Vec Ideal S2048x1024 .bf16) (i : Fin 1024) (j : Fin 1024) :
    k0_pay2 Z X Y (ix2 i j) = (Z (ix2 i j) + ∑ k : Fin 2048, (X (ix2 k i) : EReal) * Y (ix2 k j) : EReal) := by
  unfold k0_pay2
  pointwise

/-- The first point of a run stores its tile. -/
theorem first (t : Fin cfg0.N) (h0 : t.val % 4 = 0) (i : Fin 1024) (j : Fin 1024) :
    outsAt0 m c t.val t.isLt (ix2 i j) = tile m c (1024 * (t.val / 4) + i.val) (1024 * (t.val / 4 % 1) + j.val) 0 := by
  have hN : cfg0.N = 4 := N_0
  have ht := t.isLt
  rw [outsAt0_A m c t h0 (by omega)]
  unfold out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S2048x1024) zeros2, View.ld_unit_zero (S := S1024x1024) zeros2]
  refine (pay1_entry (blkA m c t) (blkB m c t) i j).trans ?_
  rw [blocks_term, h0]

/-- A later point adds its tile. -/
theorem next (t : Fin cfg0.N) (h0 : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + tile m c (1024 * (t.val / 4) + i.val) (1024 * (t.val / 4 % 1) + j.val) (t.val % 4) := by
  rw [outsAt0_B m c t h0 (by omega)]
  unfold out0_B_2
  rw [View.read_writes_junk_apply_eq_canon]
  unfold kernelRun0_B
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S2048x1024) zeros2, View.ld_unit_zero (S := S1024x1024) zeros2]
  refine (pay2_entry _ (blkA m c t) (blkB m c t) i j).trans ?_
  rw [blocks_term]

theorem held (i : Fin 1024) (j : Fin 1024) (u : ℕ) (hu : u < cfg0.N) :
    outsAt0 m c u hu (ix2 i j) = ∑ v ∈ Finset.range (u % 4 + 1), tile m c (1024 * (u / 4 / 1) + i.val) (1024 * (u / 4 % 1) + j.val) v :=
  run_sum 4 3 cfg0.N (by omega) (fun u hu => outsAt0 m c u hu (ix2 i j))
    (fun w v => tile m c (1024 * (w / 1) + i.val) (1024 * (w % 1) + j.val) v)
    (fun u hu h => (first m c ⟨u, hu⟩ h i j).trans (by simp only [Nat.div_div_eq_div_mul, Nat.reduceMul]))
    (fun u hu h _ => (next m c ⟨u + 1, hu⟩ h i j).trans (by simp only [Nat.div_div_eq_div_mul, Nat.reduceMul, Nat.add_sub_cancel]))
    u hu (by omega)

/-- What the last point of a run leaves in the result's buffer. -/
theorem point (t : Fin cfg0.N) (h : t.val % 4 = 3) (i : Fin 1024) (j : Fin 1024) :
    outsAt0 m c t.val t.isLt (ix2 i j) = entry m c (1024 * (t.val / 4) + i.val) (1024 * (t.val / 4 % 1) + j.val) := by
  rw [held, h, tiles, Nat.div_div_eq_div_mul]
  rfl

/-- The result array after the run. -/
theorem final : (dats m 0 c).arrAt 2 cfg0.N = out m c := by
  have hN : cfg0.N = 4 := N_0
  refine (dats m 0 c).arrAt_eq_of_cover 2 (out m c) (fun t hf => ?_) fun i => ?_
  · rw [Cert.Kernel13Ideal.Value.flushed2]
    have hi := congrFun (idx2 t)
    have ht := t.isLt
    funext y
    rw [View.read_apply]
    refine ((congrArg (outsAt0 m c t.val t.isLt) (eq_ix2 y)).trans (point m c t ((flush0_2 t).mp hf) (y 0) (y 1))).trans (Eq.trans (b := out m c (((cfg0.win 2).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 1024 := (i 0).isLt
    have h1 : (i 1 : ℕ) < 1024 := (i 1).isLt
    obtain ⟨t, ht⟩ : ∃ t : Fin cfg0.N, t.val = (i 0 : ℕ) / 1024 * 4 + (i 1 : ℕ) / 1024 * 4 + 3 :=
      ⟨⟨_, by omega⟩, rfl⟩
    refine ⟨t, (flush0_2 t).mpr (by omega), ?_⟩
    have hi := congrFun (idx2 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel13Ideal.Product
end
-- ==== Proof.Product.ODwClaim.lean ====
/-
  The gradient of an output projection with respect to its weights: the kernel's result is the reference's.
-/
module

public import proofs.«01_k».proof.Defs
public import proofs.«01_k».proof.Proof.Product.ODw
public import proofs.«01_k».proof.Proof.Gen.Reference13Ideal.Read

@[expose] public section

noncomputable section

namespace Cert.Product.ODw

open Idealize.ShloMosaic Idealize.ShloMosaic.TcCoe Idealize.SL.Sem
open Cert.Kernel13Ideal Cert.Kernel13Ideal.Product Cert.Reference13Ideal.Read

attribute [local instance] Cert.Kernel13Ideal.Gen.facts Cert.Reference13Ideal.Gen.facts

/-- What the reference computes, read at an index. -/
theorem plain (m : (ℓ : Loc nD τ sig) → Buf (Elt Ideal) ℓ) (c : Dev nD) (i : Fin 1024) (j : Fin 1024) :
    val_main_v5 (F := Ideal) (argA m c) (argB m c) (ix2 i j) = entry m c i.val j.val := by
  unfold val_main_v5 val_main_v4 val_main_v1 val_main_v0
  pointwise
  unfold entry
  exact Finset.sum_congr rfl fun k _ => (mul_comm _ _).trans (congrArg₂ (· * ·) (at2_val 8192 1024 (argA m c) _ _ _ rfl rfl) (at2_val 8192 1024 (argB m c) _ _ _ rfl rfl))

/-- The reference changes no argument, and declares no semaphore. -/
theorem frame : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

/-- The two programs leave the same result array. -/
theorem algebraic : Cert.algebraic_Kernel13Ideal_Reference13Ideal := by
  intro m g m' g' _ hargs
  refine ⟨fun c => out m c, ?_, ?_⟩
  · exact (θ_run Cert.Kernel13Ideal.defs _ _).mono (fun r h c => ⟨(h c).1.trans (final m c), (h c).2⟩)
      (Cert.Kernel13Ideal.Value.run_blocks m g)
  · refine (θ_run Cert.Reference13Ideal.defs _ _).mono (fun r h c => ⟨(h c).1.trans ?_, (h c).2⟩) (Cert.Reference13Ideal.Value.run m' g')
    refine (val_main_v5_eq _ _ ).trans ?_
    rw [(hargs c).1, (hargs c).2.1]
    funext i
    refine (congrArg _ (eq_ix2 i)).trans ?_
    exact plain m c (i 0) (i 1)

end Cert.Product.ODw
end
-- ==== Proof.Product.OutDx.lean ====
/-
  The gradient of the convolution layer's output projection with respect to its input: one step for each tile of the result.
-/
module

public import proofs.«01_k».proof.Proof.Product.Entries
public import proofs.«01_k».proof.Proof.Gen.Kernel14Ideal.Value

@[expose] public section

noncomputable section

namespace Cert.Kernel14Ideal.Product

open Cert.Kernel14Ideal Cert.Kernel14Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S1024x1024.Idx → EReal := m ((c.tc : Thread nD τ).loc main_arg1)

/-- The `k`-th product of the entry at row `i` and column `j`. -/
def term (i j k : ℕ) : EReal := at2 8192 1024 (argA m c) i k * at2 1024 1024 (argB m c) j k

/-- The block of each window at a point. -/
theorem idx0 : ∀ t : Fin cfg0.N, win0_0.index t = ![t.val / 1, 0] := by decide +kernel
theorem idx1 : ∀ t : Fin cfg0.N, win0_1.index t = ![t.val % 1, 0] := by decide +kernel
theorem idx2 : ∀ t : Fin cfg0.N, win0_2.index t = ![t.val / 1, t.val % 1] := by decide +kernel

theorem left (t : Fin cfg0.N) (i : Fin 2048) (k : Fin 1024) :
    iblk m c 0 t (ix2 i k) = (fun i k => at2 8192 1024 (argA m c) i k) (2048 * (t.val / 1) + i.val) (1024 * (0) + k.val) := by
  have hN : cfg0.N = 4 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1024) :
    iblk m c 1 t (ix2 j k) = (fun k j => at2 1024 1024 (argB m c) j k) (1024 * (0) + k.val) (1024 * (t.val % 1) + j.val) := by
  have hN : cfg0.N = 4 := N_0
  have ht := t.isLt
  have hi := congrFun (idx1 t)
  unfold iblk
  rw [View.read_apply]
  refine at2_val 1024 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x1024.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix2 i k) : EReal) * blkB m c t (ix2 j k) = tile m c (2048 * (t.val / 1) + i.val) (1024 * (t.val % 1) + j.val) (0) :=
  Finset.sum_congr rfl fun k _ => congrArg₂ (· * ·) (left m c t i k) (right m c t k j)

theorem pay1_entry (X : Vec Ideal S2048x1024 .bf16) (Y : Vec Ideal S1024x1024 .bf16) (i : Fin 2048) (j : Fin 1024) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1024) :
    outsAt0 m c t (ix2 i j) = entry m c (2048 * (t.val / 1) + i.val) (1024 * (t.val % 1) + j.val) := by
  unfold outsAt0 out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 4 := N_0
  refine (dats m 0 c).arrAt_eq_of_cover 2 (out m c) (fun t hf => ?_) fun i => ?_
  · rw [Cert.Kernel14Ideal.Value.flushed2]
    have hi := congrFun (idx2 t)
    have ht := t.isLt
    funext y
    rw [View.read_apply]
    refine ((congrArg (outsAt0 m c t) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 2048 * 1 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel14Ideal.Product
end
-- ==== Proof.Product.OutDxClaim.lean ====
/-
  The gradient of the convolution layer's output projection with respect to its input: the kernel's result is the reference's.
-/
module

public import proofs.«01_k».proof.Defs
public import proofs.«01_k».proof.Proof.Product.OutDx
public import proofs.«01_k».proof.Proof.Gen.Reference14Ideal.Read

@[expose] public section

noncomputable section

namespace Cert.Product.OutDx

open Idealize.ShloMosaic Idealize.ShloMosaic.TcCoe Idealize.SL.Sem
open Cert.Kernel14Ideal Cert.Kernel14Ideal.Product Cert.Reference14Ideal.Read

attribute [local instance] Cert.Kernel14Ideal.Gen.facts Cert.Reference14Ideal.Gen.facts

/-- What the reference computes, read at an index. -/
theorem plain (m : (ℓ : Loc nD τ sig) → Buf (Elt Ideal) ℓ) (c : Dev nD) (i : Fin 8192) (j : Fin 1024) :
    val_main_v5 (F := Ideal) (argA m c) (argB m c) (ix2 i j) = entry m c i.val j.val := by
  unfold val_main_v5 val_main_v4 val_main_v1 val_main_v0
  pointwise
  unfold entry
  exact Finset.sum_congr rfl fun k _ => congrArg₂ (· * ·) (at2_val 8192 1024 (argA m c) _ _ _ rfl rfl) (at2_val 1024 1024 (argB m c) _ _ _ rfl rfl)

/-- The reference changes no argument, and declares no semaphore. -/
theorem frame : Cert.quiescent_Reference14Ideal := fun m ρ _ =>
  (θ_run Cert.Reference14Ideal.defs _ _).mono
    (fun r h => ⟨fun c => (h c).2, sem_eq_zero_of_no_sems (by decide) r.2⟩) (Cert.Reference14Ideal.Value.run m ρ)

/-- The two programs leave the same result array. -/
theorem algebraic : Cert.algebraic_Kernel14Ideal_Reference14Ideal := by
  intro m g m' g' _ hargs
  refine ⟨fun c => out m c, ?_, ?_⟩
  · exact (θ_run Cert.Kernel14Ideal.defs _ _).mono (fun r h c => ⟨(h c).1.trans (final m c), (h c).2⟩)
      (Cert.Kernel14Ideal.Value.run_blocks m g)
  · refine (θ_run Cert.Reference14Ideal.defs _ _).mono (fun r h c => ⟨(h c).1.trans ?_, (h c).2⟩) (Cert.Reference14Ideal.Value.run m' g')
    refine (val_main_v5_eq _ _ ).trans ?_
    rw [(hargs c).1, (hargs c).2.1]
    funext i
    refine (congrArg _ (eq_ix2 i)).trans ?_
    exact plain m c (i 0) (i 1)

end Cert.Product.OutDx
end
-- ==== Proof.Product.In.lean ====
/-
  The input projection of the convolution layer: one step for each tile of the result.
-/
module

public import proofs.«01_k».proof.Proof.Product.Entries
public import proofs.«01_k».proof.Proof.Gen.Kernel15Ideal.Value

@[expose] public section

noncomputable section

namespace Cert.Kernel15Ideal.Product

open Cert.Kernel15Ideal Cert.Kernel15Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S3072x1024.Idx → EReal := m ((c.tc : Thread nD τ).loc main_arg1)

/-- The `k`-th product of the entry at row `i` and column `j`. -/
def term (i j k : ℕ) : EReal := at2 8192 1024 (argA m c) i k * at2 3072 1024 (argB m c) j k

/-- The block of each window at a point. -/
theorem idx0 : ∀ t : Fin cfg0.N, win0_0.index t = ![t.val / 3, 0] := by decide +kernel
theorem idx1 : ∀ t : Fin cfg0.N, win0_1.index t = ![t.val % 3, 0] := by decide +kernel
theorem idx2 : ∀ t : Fin cfg0.N, win0_2.index t = ![t.val / 3, t.val % 3] := by decide +kernel

theorem left (t : Fin cfg0.N) (i : Fin 2048) (k : Fin 1024) :
    iblk m c 0 t (ix2 i k) = (fun i k => at2 8192 1024 (argA m c) i k) (2048 * (t.val / 3) + i.val) (1024 * (0) + k.val) := by
  have hN : cfg0.N = 12 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1024) :
    iblk m c 1 t (ix2 j k) = (fun k j => at2 3072 1024 (argB m c) j k) (1024 * (0) + k.val) (1024 * (t.val % 3) + j.val) := by
  have hN : cfg0.N = 12 := N_0
  have ht := t.isLt
  have hi := congrFun (idx1 t)
  unfold iblk
  rw [View.read_apply]
  refine at2_val 3072 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x3072.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix2 i k) : EReal) * blkB m c t (ix2 j k) = tile m c (2048 * (t.val / 3) + i.val) (1024 * (t.val % 3) + j.val) (0) :=
  Finset.sum_congr rfl fun k _ => congrArg₂ (· * ·) (left m c t i k) (right m c t k j)

theorem pay1_entry (X : Vec Ideal S2048x1024 .bf16) (Y : Vec Ideal S1024x1024 .bf16) (i : Fin 2048) (j : Fin 1024) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1024) :
    outsAt0 m c t (ix2 i j) = entry m c (2048 * (t.val / 3) + i.val) (1024 * (t.val % 3) + j.val) := by
  unfold outsAt0 out0_A_2
  rw [View.read_writes_junk_apply_eq_canon]
  unfold kernelRun0_A
  dsimp only
  sl_unfold_words
  simp only [View.readAt_eq_ld, (hs0_0 t).read_unread, (hs0_1 t).read_unread, (hs0_2 t).read_unread]
  rw [View.canon_unit_zero zeros2]
  simp only [View.ld_unit_zero (S := S2048x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 12 := N_0
  refine (dats m 0 c).arrAt_eq_of_cover 2 (out m c) (fun t hf => ?_) fun i => ?_
  · rw [Cert.Kernel15Ideal.Value.flushed2]
    have hi := congrFun (idx2 t)
    have ht := t.isLt
    funext y
    rw [View.read_apply]
    refine ((congrArg (outsAt0 m c t) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 3072 := (i 1).isLt
    obtain ⟨t, ht⟩ : ∃ t : Fin cfg0.N, t.val = (i 0 : ℕ) / 2048 * 3 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel15Ideal.Product
end
-- ==== Proof.Product.InClaim.lean ====
/-
  The input projection of the convolution layer: the kernel's result is the reference's.
-/
module

public import proofs.«01_k».proof.Defs
public import proofs.«01_k».proof.Proof.Product.In
public import proofs.«01_k».proof.Proof.Gen.Reference15Ideal.Read

@[expose] public section

noncomputable section

namespace Cert.Product.In

open Idealize.ShloMosaic Idealize.ShloMosaic.TcCoe Idealize.SL.Sem
open Cert.Kernel15Ideal Cert.Kernel15Ideal.Product Cert.Reference15Ideal.Read

attribute [local instance] Cert.Kernel15Ideal.Gen.facts Cert.Reference15Ideal.Gen.facts

/-- What the reference computes, read at an index. -/
theorem plain (m : (ℓ : Loc nD τ sig) → Buf (Elt Ideal) ℓ) (c : Dev nD) (i : Fin 8192) (j : Fin 3072) :
    val_main_v4 (F := Ideal) (argA m c) (argB m c) (ix2 i j) = entry m c i.val j.val := by
  unfold val_main_v4 val_main_v3 val_main_v2 val_main_v1 val_main_v0
  pointwise
  unfold entry
  exact Finset.sum_congr rfl fun k _ => congrArg₂ (· * ·) (at2_val 8192 1024 (argA m c) _ _ _ rfl rfl) (at2_val 3072 1024 (argB m c) _ _ _ rfl rfl)

/-- The reference changes no argument, and declares no semaphore. -/
theorem frame : Cert.quiescent_Reference15Ideal := fun m ρ _ =>
  (θ_run Cert.Reference15Ideal.defs _ _).mono
    (fun r h => ⟨fun c => (h c).2, sem_eq_zero_of_no_sems (by decide) r.2⟩) (Cert.Reference15Ideal.Value.run m ρ)

/-- The two programs leave the same result array. -/
theorem algebraic : Cert.algebraic_Kernel15Ideal_Reference15Ideal := by
  intro m g m' g' _ hargs
  refine ⟨fun c => out m c, ?_, ?_⟩
  · exact (θ_run Cert.Kernel15Ideal.defs _ _).mono (fun r h c => ⟨(h c).1.trans (final m c), (h c).2⟩)
      (Cert.Kernel15Ideal.Value.run_blocks m g)
  · refine (θ_run Cert.Reference15Ideal.defs _ _).mono (fun r h c => ⟨(h c).1.trans ?_, (h c).2⟩) (Cert.Reference15Ideal.Value.run m' g')
    refine (val_main_v4_eq _ _ ).trans ?_
    rw [(hargs c).1, (hargs c).2.1]
    funext i
    refine (congrArg _ (eq_ix2 i)).trans ?_
    exact plain m c (i 0) (i 1)

end Cert.Product.In
end
-- ==== Proof.Product.Out.lean ====
/-
  An output projection with the residual added: one step for each tile of the result.
-/
module

public import proofs.«01_k».proof.Proof.Product.Entries
public import proofs.«01_k».proof.Proof.Gen.Kernel16Ideal.Value

@[expose] public section

noncomputable section

namespace Cert.Kernel16Ideal.Product

open Cert.Kernel16Ideal Cert.Kernel16Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S1024x1024.Idx → EReal := m ((c.tc : Thread nD τ).loc main_arg1)
abbrev argC : S8192x1024.Idx → EReal := m ((c.tc : Thread nD τ).loc main_arg2)

/-- The `k`-th product of the entry at row `i` and column `j`. -/
def term (i j k : ℕ) : EReal := at2 8192 1024 (argA m c) i k * at2 1024 1024 (argB m c) k j

/-- The block of each window at a point. -/
theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel
theorem idx3 : ∀ t : Fin cfg0.N, win0_3.index t = ![t.val / 1, t.val % 1] := by decide +kernel

theorem left (t : Fin cfg0.N) (i : Fin 1024) (k : Fin 1024) :
    iblk m c 0 t (ix2 i k) = (fun i k => at2 8192 1024 (argA m c) i k) (1024 * (t.val / 1) + i.val) (1024 * (0) + k.val) := by
  have hN : cfg0.N = 8 := N_0
  have ht := t.isLt
  have hi := congrFun (idx0 t)
  unfold iblk
  rw [View.read_apply]
  refine at2_val 8192 1024 (argA m c) _ _ _ ?_ ?_
  · exact pos_of 1024 (hi 0) (by simp <;> omega)
  · exact pos_of 1024 (hi 1) (by simp <;> omega)

theorem right (t : Fin cfg0.N) (k : Fin 1024) (j : Fin 1024) :
    iblk m c 1 t (ix2 k j) = (fun k j => at2 1024 1024 (argB m c) k j) (1024 * (0) + k.val) (1024 * (t.val % 1) + j.val) := by
  have hN : cfg0.N = 8 := N_0
  have ht := t.isLt
  have hi := congrFun (idx1 t)
  unfold iblk
  rw [View.read_apply]
  refine at2_val 1024 1024 (argB m c) _ _ _ ?_ ?_
  · exact pos_of 1024 (hi 0) (by simp <;> omega)
  · exact pos_of 1024 (hi 1) (by simp <;> omega)

theorem added (t : Fin cfg0.N) (i : Fin 1024) (j : Fin 1024) :
    iblk m c 2 t (ix2 i j) = at2 8192 1024 (argC m c) (1024 * (t.val / 1) + i.val) (1024 * (t.val % 1) + j.val) := by
  have hN : cfg0.N = 8 := N_0
  have ht := t.isLt
  have hi := congrFun (idx2 t)
  unfold iblk
  rw [View.read_apply]
  refine at2_val 8192 1024 (argC m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val) + at2 8192 1024 (argC m c) a b

/-- The result array. -/
def out : S8192x1024.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S1024x1024 .bf16 := iblk m c 0 t
abbrev blkB (t : Fin cfg0.N) : Vec Ideal S1024x1024 .bf16 := iblk m c 1 t

theorem blocks_term (t : Fin cfg0.N) (i : Fin 1024) (j : Fin 1024) :
    ∑ k : Fin 1024, (blkA m c t (ix2 i k) : EReal) * blkB m c t (ix2 k j) = tile m c (1024 * (t.val / 1) + i.val) (1024 * (t.val % 1) + j.val) (0) :=
  Finset.sum_congr rfl fun k _ => congrArg₂ (· * ·) (left m c t i k) (right m c t k j)

theorem pay1_entry (X : Vec Ideal S1024x1024 .bf16) (Y : Vec Ideal S1024x1024 .bf16) (Z : Vec Ideal S1024x1024 .f32) (i : Fin 1024) (j : Fin 1024) :
    k0_pay1 X Y Z (ix2 i j) = ((∑ k : Fin 1024, (X (ix2 i k) : EReal) * Y (ix2 k j)) + Z (ix2 i j) : EReal) := by
  unfold k0_pay1
  pointwise

/-- What a point leaves in the result's buffer. -/
theorem point (t : Fin cfg0.N) (i : Fin 1024) (j : Fin 1024) :
    out0_3 (iblk m c 0 t) (iblk m c 1 t) (iblk m c 2 t) (ix2 i j) = entry m c (1024 * (t.val / 1) + i.val) (1024 * (t.val % 1) + j.val) := by
  unfold out0_3
  rw [View.canon_unit_zero zeros2]
  simp only [View.ld_unit_zero (S := S1024x1024) zeros2, View.ld_unit_zero (S := S1024x1024) zeros2]
  refine (pay1_entry (blkA m c t) (blkB m c t) (iblk m c 2 t) i j).trans ?_
  unfold entry
  rw [blocks_term, ← tiles, Finset.sum_range_one]; rw [added]

/-- The result array after the run. -/
theorem final : (dats m 0 c).arrAt 3 cfg0.N = out m c := by
  have hN : cfg0.N = 8 := N_0
  refine (dats m 0 c).arrAt_eq_of_cover 3 (out m c) (fun t hf => ?_) fun i => ?_
  · rw [Cert.Kernel16Ideal.Value.flushed3]
    have hi := congrFun (idx3 t)
    have ht := t.isLt
    funext y
    rw [View.read_apply]
    refine ((congrArg (out0_3 (iblk m c 0 t) (iblk m c 1 t) (iblk m c 2 t)) (eq_ix2 y)).trans (point m c t (y 0) (y 1))).trans (Eq.trans (b := out m c (((cfg0.win 3).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 * 1 + (i 1 : ℕ) / 1024 * 1 + 0 :=
      ⟨⟨_, by omega⟩, rfl⟩
    refine ⟨t, flush0_3 t, ?_⟩
    have hi := congrFun (idx3 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel16Ideal.Product
end
-- ==== Proof.Product.OutClaim.lean ====
/-
  An output projection with the residual added: the kernel's result is the reference's.
-/
module

public import proofs.«01_k».proof.Defs
public import proofs.«01_k».proof.Proof.Product.Out
public import proofs.«01_k».proof.Proof.Gen.Reference16Ideal.Read

@[expose] public section

noncomputable section

namespace Cert.Product.Out

open Idealize.ShloMosaic Idealize.ShloMosaic.TcCoe Idealize.SL.Sem
open Cert.Kernel16Ideal Cert.Kernel16Ideal.Product Cert.Reference16Ideal.Read

attribute [local instance] Cert.Kernel16Ideal.Gen.facts Cert.Reference16Ideal.Gen.facts

/-- What the reference computes, read at an index. -/
theorem plain (m : (ℓ : Loc nD τ sig) → Buf (Elt Ideal) ℓ) (c : Dev nD) (i : Fin 8192) (j : Fin 1024) :
    val_main_v3 (F := Ideal) (argA m c) (argB m c) (argC m c) (ix2 i j) = entry m c i.val j.val := by
  unfold val_main_v3 val_main_v2 val_main_v1 val_main_v0
  pointwise
  unfold entry
  exact (add_comm _ _).trans (congrArg₂ (· + ·) (Finset.sum_congr rfl fun k _ => congrArg₂ (· * ·) (at2_val 8192 1024 (argA m c) _ _ _ rfl rfl) (at2_val 1024 1024 (argB m c) _ _ _ rfl rfl)) (at2_val 8192 1024 (argC m c) _ _ _ rfl rfl))

/-- The reference changes no argument, and declares no semaphore. -/
theorem frame : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)

/-- The two programs leave the same result array. -/
theorem algebraic : Cert.algebraic_Kernel16Ideal_Reference16Ideal := by
  intro m g m' g' _ hargs
  refine ⟨fun c => out m c, ?_, ?_⟩
  · exact (θ_run Cert.Kernel16Ideal.defs _ _).mono (fun r h c => ⟨(h c).1.trans (final m c), (h c).2⟩)
      (Cert.Kernel16Ideal.Value.run_blocks m g)
  · refine (θ_run Cert.Reference16Ideal.defs _ _).mono (fun r h c => ⟨(h c).1.trans ?_, (h c).2⟩) (Cert.Reference16Ideal.Value.run m' g')
    refine (val_main_v3_eq _ _ _ ).trans ?_
    rw [(hargs c).1, (hargs c).2.1, (hargs c).2.2]
    funext i
    refine (congrArg _ (eq_ix2 i)).trans ?_
    exact plain m c (i 0) (i 1)

end Cert.Product.Out
end
-- ==== Proof.Product.Up.lean ====
/-
  The up-projection: one step for each tile of the result.
-/
module

public import proofs.«01_k».proof.Proof.Product.Entries
public import proofs.«01_k».proof.Proof.Gen.Kernel17Ideal.Value

@[expose] public section

noncomputable section

namespace Cert.Kernel17Ideal.Product

open Cert.Kernel17Ideal Cert.Kernel17Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S5632x1024.Idx → EReal := m ((c.tc : Thread nD τ).loc main_arg1)

/-- The `k`-th product of the entry at row `i` and column `j`. -/
def term (i j k : ℕ) : EReal := at2 8192 1024 (argA m c) i k * at2 5632 1024 (argB m c) j k

/-- The block of each window at a point. -/
theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

theorem left (t : Fin cfg0.N) (i : Fin 2048) (k : Fin 1024) :
    iblk m c 0 t (ix2 i k) = (fun i k => at2 8192 1024 (argA m c) i k) (2048 * (t.val / 4) + i.val) (1024 * (0) + k.val) := by
  have hN : cfg0.N = 16 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1408) :
    iblk m c 1 t (ix2 j k) = (fun k j => at2 5632 1024 (argB m c) j k) (1024 * (0) + k.val) (1408 * (t.val % 4) + j.val) := by
  have hN : cfg0.N = 16 := N_0
  have ht := t.isLt
  have hi := congrFun (idx1 t)
  unfold iblk
  rw [View.read_apply]
  refine at2_val 5632 1024 (argB m c) _ _ _ ?_ ?_
  · exact pos_of 1408 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x5632.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1408x1024 .bf16 := iblk m c 1 t

theorem blocks_term (t : Fin cfg0.N) (i : Fin 2048) (j : Fin 1408) :
    ∑ k : Fin 1024, (blkA m c t (ix2 i k) : EReal) * blkB m c t (ix2 j k) = tile m c (2048 * (t.val / 4) + i.val) (1408 * (t.val % 4) + j.val) (0) :=
  Finset.sum_congr rfl fun k _ => congrArg₂ (· * ·) (left m c t i k) (right m c t k j)

theorem pay1_entry (X : Vec Ideal S2048x1024 .bf16) (Y : Vec Ideal S1408x1024 .bf16) (i : Fin 2048) (j : Fin 1408) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1408) :
    out0_2 (iblk m c 0 t) (iblk m c 1 t) (ix2 i j) = entry m c (2048 * (t.val / 4) + i.val) (1408 * (t.val % 4) + j.val) := by
  unfold out0_2
  rw [View.canon_unit_zero zeros2]
  simp only [View.ld_unit_zero (S := S2048x1024) zeros2, View.ld_unit_zero (S := S1408x1024) zeros2, View.ld_unit_zero (S := S2048x1408) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 16 := N_0
  refine (dats m 0 c).arrAt_eq_of_cover 2 (out m c) (fun t hf => ?_) fun i => ?_
  · rw [Cert.Kernel17Ideal.Value.flushed2]
    have hi := congrFun (idx2 t)
    have ht := t.isLt
    funext y
    rw [View.read_apply]
    refine ((congrArg (out0_2 (iblk m c 0 t) (iblk m c 1 t)) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1408 (hi 1) (by simp <;> omega)
  · have h0 : (i 0 : ℕ) < 8192 := (i 0).isLt
    have h1 : (i 1 : ℕ) < 5632 := (i 1).isLt
    obtain ⟨t, ht⟩ : ∃ t : Fin cfg0.N, t.val = (i 0 : ℕ) / 2048 * 4 + (i 1 : ℕ) / 1408 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1408 (i 1) (hi 1) (by simp; omega)

end Cert.Kernel17Ideal.Product
end
-- ==== Proof.Product.UpClaim.lean ====
/-
  The up-projection: the kernel's result is the reference's.
-/
module

public import proofs.«01_k».proof.Defs
public import proofs.«01_k».proof.Proof.Product.Up
public import proofs.«01_k».proof.Proof.Gen.Reference17Ideal.Read

@[expose] public section

noncomputable section

namespace Cert.Product.Up

open Idealize.ShloMosaic Idealize.ShloMosaic.TcCoe Idealize.SL.Sem
open Cert.Kernel17Ideal Cert.Kernel17Ideal.Product Cert.Reference17Ideal.Read

attribute [local instance] Cert.Kernel17Ideal.Gen.facts Cert.Reference17Ideal.Gen.facts

/-- What the reference computes, read at an index. -/
theorem plain (m : (ℓ : Loc nD τ sig) → Buf (Elt Ideal) ℓ) (c : Dev nD) (i : Fin 8192) (j : Fin 5632) :
    val_main_v4 (F := Ideal) (argA m c) (argB m c) (ix2 i j) = entry m c i.val j.val := by
  unfold val_main_v4 val_main_v3 val_main_v2 val_main_v1 val_main_v0
  pointwise
  unfold entry
  exact Finset.sum_congr rfl fun k _ => congrArg₂ (· * ·) (at2_val 8192 1024 (argA m c) _ _ _ rfl rfl) (at2_val 5632 1024 (argB m c) _ _ _ rfl rfl)

/-- The reference changes no argument, and declares no semaphore. -/
theorem frame : Cert.quiescent_Reference17Ideal := fun m ρ _ =>
  (θ_run Cert.Reference17Ideal.defs _ _).mono
    (fun r h => ⟨fun c => (h c).2, sem_eq_zero_of_no_sems (by decide) r.2⟩) (Cert.Reference17Ideal.Value.run m ρ)

/-- The two programs leave the same result array. -/
theorem algebraic : Cert.algebraic_Kernel17Ideal_Reference17Ideal := by
  intro m g m' g' _ hargs
  refine ⟨fun c => out m c, ?_, ?_⟩
  · exact (θ_run Cert.Kernel17Ideal.defs _ _).mono (fun r h c => ⟨(h c).1.trans (final m c), (h c).2⟩)
      (Cert.Kernel17Ideal.Value.run_blocks m g)
  · refine (θ_run Cert.Reference17Ideal.defs _ _).mono (fun r h c => ⟨(h c).1.trans ?_, (h c).2⟩) (Cert.Reference17Ideal.Value.run m' g')
    refine (val_main_v4_eq _ _ ).trans ?_
    rw [(hargs c).1, (hargs c).2]
    funext i
    refine (congrArg _ (eq_ix2 i)).trans ?_
    exact plain m c (i 0) (i 1)

end Cert.Product.Up
end
-- ==== Proof.Product.Down.lean ====
/-
  The down-projection with the residual added: one step for each tile of the result.
-/
module

public import proofs.«01_k».proof.Proof.Product.Entries
public import proofs.«01_k».proof.Proof.Gen.Kernel18Ideal.Value

@[expose] public section

noncomputable section

namespace Cert.Kernel18Ideal.Product

open Cert.Kernel18Ideal Cert.Kernel18Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x2816.Idx → EReal := m ((c.tc : Thread nD τ).loc main_arg0)
abbrev argB : S2816x1024.Idx → EReal := m ((c.tc : Thread nD τ).loc main_arg1)
abbrev argC : S8192x1024.Idx → EReal := m ((c.tc : Thread nD τ).loc main_arg2)

/-- The `k`-th product of the entry at row `i` and column `j`. -/
def term (i j k : ℕ) : EReal := at2 8192 2816 (argA m c) i k * at2 2816 1024 (argB m c) k j

/-- The block of each window at a point. -/
theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel
theorem idx3 : ∀ t : Fin cfg0.N, win0_3.index t = ![t.val / 1, t.val % 1] := by decide +kernel

theorem left (t : Fin cfg0.N) (i : Fin 1024) (k : Fin 2816) :
    iblk m c 0 t (ix2 i k) = (fun i k => at2 8192 2816 (argA m c) i k) (1024 * (t.val / 1) + i.val) (2816 * (0) + k.val) := by
  have hN : cfg0.N = 8 := N_0
  have ht := t.isLt
  have hi := congrFun (idx0 t)
  unfold iblk
  rw [View.read_apply]
  refine at2_val 8192 2816 (argA m c) _ _ _ ?_ ?_
  · exact pos_of 1024 (hi 0) (by simp <;> omega)
  · exact pos_of 2816 (hi 1) (by simp <;> omega)

theorem right (t : Fin cfg0.N) (k : Fin 2816) (j : Fin 1024) :
    iblk m c 1 t (ix2 k j) = (fun k j => at2 2816 1024 (argB m c) k j) (2816 * (0) + k.val) (1024 * (t.val % 1) + j.val) := by
  have hN : cfg0.N = 8 := N_0
  have ht := t.isLt
  have hi := congrFun (idx1 t)
  unfold iblk
  rw [View.read_apply]
  refine at2_val 2816 1024 (argB m c) _ _ _ ?_ ?_
  · exact pos_of 2816 (hi 0) (by simp <;> omega)
  · exact pos_of 1024 (hi 1) (by simp <;> omega)

theorem added (t : Fin cfg0.N) (i : Fin 1024) (j : Fin 1024) :
    iblk m c 2 t (ix2 i j) = at2 8192 1024 (argC m c) (1024 * (t.val / 1) + i.val) (1024 * (t.val % 1) + j.val) := by
  have hN : cfg0.N = 8 := N_0
  have ht := t.isLt
  have hi := congrFun (idx2 t)
  unfold iblk
  rw [View.read_apply]
  refine at2_val 8192 1024 (argC m c) _ _ _ ?_ ?_
  · exact pos_of 1024 (hi 0) (by simp <;> omega)
  · exact pos_of 1024 (hi 1) (by simp <;> omega)

/-- The tile of an entry that a point adds. -/
def tile (i j v : ℕ) : EReal := ∑ k : Fin 2816, term m c i j (2816 * v + k.val)

/-- The entry at row `a` and column `b` of the result. -/
def entry (a b : ℕ) : EReal := (∑ k : Fin 2816, term m c a b k.val) + at2 8192 1024 (argC m c) a b

/-- The result array. -/
def out : S8192x1024.Idx → EReal := fun i => entry m c (i 0).val (i 1).val

theorem tiles (a b : ℕ) : ∑ v ∈ Finset.range 1, tile m c a b v = ∑ k : Fin 2816, term m c a b k.val :=
  sum_tiles 1 2816 (term m c a b)

/-- The blocks of the arguments at a point. -/
abbrev blkA (t : Fin cfg0.N) : Vec Ideal S1024x2816 .bf16 := iblk m c 0 t
abbrev blkB (t : Fin cfg0.N) : Vec Ideal S2816x1024 .bf16 := iblk m c 1 t

theorem blocks_term (t : Fin cfg0.N) (i : Fin 1024) (j : Fin 1024) :
    ∑ k : Fin 2816, (blkA m c t (ix2 i k) : EReal) * blkB m c t (ix2 k j) = tile m c (1024 * (t.val / 1) + i.val) (1024 * (t.val % 1) + j.val) (0) :=
  Finset.sum_congr rfl fun k _ => congrArg₂ (· * ·) (left m c t i k) (right m c t k j)

theorem pay1_entry (X : Vec Ideal S1024x2816 .bf16) (Y : Vec Ideal S2816x1024 .bf16) (Z : Vec Ideal S1024x1024 .f32) (i : Fin 1024) (j : Fin 1024) :
    k0_pay1 X Y Z (ix2 i j) = ((∑ k : Fin 2816, (X (ix2 i k) : EReal) * Y (ix2 k j)) + Z (ix2 i j) : EReal) := by
  unfold k0_pay1
  pointwise

/-- What a point leaves in the result's buffer. -/
theorem point (t : Fin cfg0.N) (i : Fin 1024) (j : Fin 1024) :
    out0_3 (iblk m c 0 t) (iblk m c 1 t) (iblk m c 2 t) (ix2 i j) = entry m c (1024 * (t.val / 1) + i.val) (1024 * (t.val % 1) + j.val) := by
  unfold out0_3
  rw [View.canon_unit_zero zeros2]
  simp only [View.ld_unit_zero (S := S1024x2816) zeros2, View.ld_unit_zero (S := S2816x1024) zeros2, View.ld_unit_zero (S := S1024x1024) zeros2]
  refine (pay1_entry (blkA m c t) (blkB m c t) (iblk m c 2 t) i j).trans ?_
  unfold entry
  rw [blocks_term, ← tiles, Finset.sum_range_one]; rw [added]

/-- The result array after the run. -/
theorem final : (dats m 0 c).arrAt 3 cfg0.N = out m c := by
  have hN : cfg0.N = 8 := N_0
  refine (dats m 0 c).arrAt_eq_of_cover 3 (out m c) (fun t hf => ?_) fun i => ?_
  · rw [Cert.Kernel18Ideal.Value.flushed3]
    have hi := congrFun (idx3 t)
    have ht := t.isLt
    funext y
    rw [View.read_apply]
    refine ((congrArg (out0_3 (iblk m c 0 t) (iblk m c 1 t) (iblk m c 2 t)) (eq_ix2 y)).trans (point m c t (y 0) (y 1))).trans (Eq.trans (b := out m c (((cfg0.win 3).blk t).view.emb y)) (congrArg₂ (entry m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 * 1 + (i 1 : ℕ) / 1024 * 1 + 0 :=
      ⟨⟨_, by omega⟩, rfl⟩
    refine ⟨t, flush0_3 t, ?_⟩
    have hi := congrFun (idx3 t)
    refine mem_of (View.set_slice_whole main_v0 _) (Rect.mem_set_unit.2 fun a => ?_)
    match a with
    | ⟨0, _⟩ => exact in_block 1024 (i 0) (hi 0) (by simp; omega)
    | ⟨1, _⟩ => exact in_block 1024 (i 1) (hi 1) (by simp; omega)

end Cert.Kernel18Ideal.Product
end
-- ==== Proof.Product.DownClaim.lean ====
/-
  The down-projection with the residual added: the kernel's result is the reference's.
-/
module

public import proofs.«01_k».proof.Defs
public import proofs.«01_k».proof.Proof.Product.Down
public import proofs.«01_k».proof.Proof.Gen.Reference18Ideal.Read

@[expose] public section

noncomputable section

namespace Cert.Product.Down

open Idealize.ShloMosaic Idealize.ShloMosaic.TcCoe Idealize.SL.Sem
open Cert.Kernel18Ideal Cert.Kernel18Ideal.Product Cert.Reference18Ideal.Read

attribute [local instance] Cert.Kernel18Ideal.Gen.facts Cert.Reference18Ideal.Gen.facts

/-- What the reference computes, read at an index. -/
theorem plain (m : (ℓ : Loc nD τ sig) → Buf (Elt Ideal) ℓ) (c : Dev nD) (i : Fin 8192) (j : Fin 1024) :
    val_main_v3 (F := Ideal) (argA m c) (argB m c) (argC m c) (ix2 i j) = entry m c i.val j.val := by
  unfold val_main_v3 val_main_v2 val_main_v1 val_main_v0
  pointwise
  unfold entry
  exact (add_comm _ _).trans (congrArg₂ (· + ·) (Finset.sum_congr rfl fun k _ => congrArg₂ (· * ·) (at2_val 8192 2816 (argA m c) _ _ _ rfl rfl) (at2_val 2816 1024 (argB m c) _ _ _ rfl rfl)) (at2_val 8192 1024 (argC m c) _ _ _ rfl rfl))

/-- The reference changes no argument, and declares no semaphore. -/
theorem frame : Cert.quiescent_Reference18Ideal := fun m ρ _ =>
  (θ_run Cert.Reference18Ideal.defs _ _).mono
    (fun r h => ⟨fun c => (h c).2, sem_eq_zero_of_no_sems (by decide) r.2⟩) (Cert.Reference18Ideal.Value.run m ρ)

/-- The two programs leave the same result array. -/
theorem algebraic : Cert.algebraic_Kernel18Ideal_Reference18Ideal := by
  intro m g m' g' _ hargs
  refine ⟨fun c => out m c, ?_, ?_⟩
  · exact (θ_run Cert.Kernel18Ideal.defs _ _).mono (fun r h c => ⟨(h c).1.trans (final m c), (h c).2⟩)
      (Cert.Kernel18Ideal.Value.run_blocks m g)
  · refine (θ_run Cert.Reference18Ideal.defs _ _).mono (fun r h c => ⟨(h c).1.trans ?_, (h c).2⟩) (Cert.Reference18Ideal.Value.run m' g')
    refine (val_main_v3_eq _ _ _ ).trans ?_
    rw [(hargs c).1, (hargs c).2.1, (hargs c).2.2]
    funext i
    refine (congrArg _ (eq_ix2 i)).trans ?_
    exact plain m c (i 0) (i 1)

end Cert.Product.Down
end
-- ==== Proof.Product.Kv.lean ====
/-
  The key and value projection: one step for each tile of the result.
-/
module

public import proofs.«01_k».proof.Proof.Product.Entries
public import proofs.«01_k».proof.Proof.Gen.Kernel19Ideal.Value

@[expose] public section

noncomputable section

namespace Cert.Kernel19Ideal.Product

open Cert.Kernel19Ideal Cert.Kernel19Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S2048x1024.Idx → EReal := m ((c.tc : Thread nD τ).loc main_arg1)

/-- The `k`-th product of the entry at row `i` and column `j`. -/
def term (i j k : ℕ) : EReal := at2 8192 1024 (argA m c) i k * at2 2048 1024 (argB m c) j k

/-- The block of each window at a point. -/
theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

theorem left (t : Fin cfg0.N) (i : Fin 2048) (k : Fin 1024) :
    iblk m c 0 t (ix2 i k) = (fun i k => at2 8192 1024 (argA m c) i k) (2048 * (t.val / 2) + i.val) (1024 * (0) + k.val) := by
  have hN : cfg0.N = 8 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1024) :
    iblk m c 1 t (ix2 j k) = (fun k j => at2 2048 1024 (argB m c) j k) (1024 * (0) + k.val) (1024 * (t.val % 2) + j.val) := by
  have hN : cfg0.N = 8 := N_0
  have ht := t.isLt
  have hi := congrFun (idx1 t)
  unfold iblk
  rw [View.read_apply]
  refine at2_val 2048 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x2048.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix2 i k) : EReal) * blkB m c t (ix2 j k) = tile m c (2048 * (t.val / 2) + i.val) (1024 * (t.val % 2) + j.val) (0) :=
  Finset.sum_congr rfl fun k _ => congrArg₂ (· * ·) (left m c t i k) (right m c t k j)

theorem pay1_entry (X : Vec Ideal S2048x1024 .bf16) (Y : Vec Ideal S1024x1024 .bf16) (i : Fin 2048) (j : Fin 1024) :
    k0_pay1 X Y (ix2 i j) = ((∑ k : Fin 1024, (X (ix2 i k) : EReal) * Y (ix2 j k)) : EReal) := by
  unfold k0_pay1
  pointwise

/-- What a point leaves in the result's buffer. -/
theorem point (t : Fin cfg0.N) (i : Fin 2048) (j : Fin 1024) :
    out0_2 (iblk m c 0 t) (iblk m c 1 t) (ix2 i j) = entry m c (2048 * (t.val / 2) + i.val) (1024 * (t.val % 2) + j.val) := by
  unfold out0_2
  rw [View.canon_unit_zero zeros2]
  simp only [View.ld_unit_zero (S := S2048x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 8 := N_0
  refine (dats m 0 c).arrAt_eq_of_cover 2 (out m c) (fun t hf => ?_) fun i => ?_
  · rw [Cert.Kernel19Ideal.Value.flushed2]
    have hi := congrFun (idx2 t)
    have ht := t.isLt
    funext y
    rw [View.read_apply]
    refine ((congrArg (out0_2 (iblk m c 0 t) (iblk m c 1 t)) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 2048 := (i 1).isLt
    obtain ⟨t, ht⟩ : ∃ t : Fin cfg0.N, t.val = (i 0 : ℕ) / 2048 * 2 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel19Ideal.Product
end
-- ==== Proof.Product.KvClaim.lean ====
/-
  The key and value projection: the kernel's result is the reference's.
-/
module

public import proofs.«01_k».proof.Defs
public import proofs.«01_k».proof.Proof.Product.Kv
public import proofs.«01_k».proof.Proof.Gen.Reference19Ideal.Read

@[expose] public section

noncomputable section

namespace Cert.Product.Kv

open Idealize.ShloMosaic Idealize.ShloMosaic.TcCoe Idealize.SL.Sem
open Cert.Kernel19Ideal Cert.Kernel19Ideal.Product Cert.Reference19Ideal.Read

attribute [local instance] Cert.Kernel19Ideal.Gen.facts Cert.Reference19Ideal.Gen.facts

/-- What the reference computes, read at an index. -/
theorem plain (m : (ℓ : Loc nD τ sig) → Buf (Elt Ideal) ℓ) (c : Dev nD) (i : Fin 8192) (j : Fin 2048) :
    val_main_v3 (F := Ideal) (argA m c) (argB m c) (ix2 i j) = entry m c i.val j.val := by
  unfold val_main_v3 val_main_v2 val_main_v1 val_main_v0
  pointwise
  unfold entry
  exact Finset.sum_congr rfl fun k _ => congrArg₂ (· * ·) (at2_val 8192 1024 (argA m c) _ _ _ rfl rfl) (at2_val 2048 1024 (argB m c) _ _ _ rfl rfl)

/-- The reference changes no argument, and declares no semaphore. -/
theorem frame : Cert.quiescent_Reference19Ideal := fun m ρ _ =>
  (θ_run Cert.Reference19Ideal.defs _ _).mono
    (fun r h => ⟨fun c => (h c).2, sem_eq_zero_of_no_sems (by decide) r.2⟩) (Cert.Reference19Ideal.Value.run m ρ)

/-- The two programs leave the same result array. -/
theorem algebraic : Cert.algebraic_Kernel19Ideal_Reference19Ideal := by
  intro m g m' g' _ hargs
  refine ⟨fun c => out m c, ?_, ?_⟩
  · exact (θ_run Cert.Kernel19Ideal.defs _ _).mono (fun r h c => ⟨(h c).1.trans (final m c), (h c).2⟩)
      (Cert.Kernel19Ideal.Value.run_blocks m g)
  · refine (θ_run Cert.Reference19Ideal.defs _ _).mono (fun r h c => ⟨(h c).1.trans ?_, (h c).2⟩) (Cert.Reference19Ideal.Value.run m' g')
    refine (val_main_v3_eq _ _ ).trans ?_
    rw [(hargs c).1, (hargs c).2]
    funext i
    refine (congrArg _ (eq_ix2 i)).trans ?_
    exact plain m c (i 0) (i 1)

end Cert.Product.Kv
end
-- ==== Proof.Product.Q.lean ====
/-
  The query projection: one step for each tile of the result.
-/
module

public import proofs.«01_k».proof.Proof.Product.Entries
public import proofs.«01_k».proof.Proof.Gen.Kernel20Ideal.Value

@[expose] public section

noncomputable section

namespace Cert.Kernel20Ideal.Product

open Cert.Kernel20Ideal Cert.Kernel20Ideal.Gen Cert.Product Idealize.ShloMosaic Idealize.ShloMosaic.TcCoe Idealize.SL.Sem

variable (m : (ℓ : Loc nD τ sig) → Buf (Elt Ideal) ℓ) (c : Dev nD)

/-- The arguments of a device. -/
abbrev argA : S8192x1024.Idx → EReal := m ((c.tc : Thread nD τ).loc main_arg0)
abbrev argB : S1024x1024.Idx → EReal := m ((c.tc : Thread nD τ).loc main_arg1)

/-- The `k`-th product of the entry at row `i` and column `j`. -/
def term (i j k : ℕ) : EReal := at2 8192 1024 (argA m c) i k * at2 1024 1024 (argB m c) k j

/-- The block of each window at a point. -/
theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel

theorem left (t : Fin cfg0.N) (i : Fin 2048) (k : Fin 1024) :
    iblk m c 0 t (ix2 i k) = (fun i k => at2 8192 1024 (argA m c) i k) (2048 * (t.val / 1) + i.val) (1024 * (0) + k.val) := by
  have hN : cfg0.N = 4 := N_0
  have ht := t.isLt
  have hi := congrFun (idx0 t)
  unfold iblk
  rw [View.read_apply]
  refine at2_val 8192 1024 (argA m c) _ _ _ ?_ ?_
  · exact pos_of 2048 (hi 0) (by simp <;> omega)
  · exact pos_of 1024 (hi 1) (by simp <;> omega)

theorem right (t : Fin cfg0.N) (k : Fin 1024) (j : Fin 1024) :
    iblk m c 1 t (ix2 k j) = (fun k j => at2 1024 1024 (argB m c) k j) (1024 * (0) + k.val) (1024 * (t.val % 1) + j.val) := by
  have hN : cfg0.N = 4 := N_0
  have ht := t.isLt
  have hi := congrFun (idx1 t)
  unfold iblk
  rw [View.read_apply]
  refine at2_val 1024 1024 (argB m c) _ _ _ ?_ ?_
  · exact pos_of 1024 (hi 0) (by simp <;> omega)
  · exact pos_of 1024 (hi 1) (by simp <;> omega)

/-- The tile of an entry that a point adds. -/
def tile (i j v : ℕ) : EReal := ∑ k : Fin 1024, term m c i j (1024 * v + k.val)

/-- The entry at row `a` and column `b` of the result. -/
def entry (a b : ℕ) : EReal := (∑ k : Fin 1024, term m c a b k.val)

/-- The result array. -/
def out : S8192x1024.Idx → EReal := fun i => entry m c (i 0).val (i 1).val

theorem tiles (a b : ℕ) : ∑ v ∈ Finset.range 1, tile m c a b v = ∑ k : Fin 1024, term m c a b k.val :=
  sum_tiles 1 1024 (term m c a b)

/-- The blocks of the arguments at a point. -/
abbrev blkA (t : Fin cfg0.N) : Vec Ideal S2048x1024 .bf16 := iblk m c 0 t
abbrev blkB (t : Fin cfg0.N) : Vec Ideal S1024x1024 .bf16 := iblk m c 1 t

theorem blocks_term (t : Fin cfg0.N) (i : Fin 2048) (j : Fin 1024) :
    ∑ k : Fin 1024, (blkA m c t (ix2 i k) : EReal) * blkB m c t (ix2 k j) = tile m c (2048 * (t.val / 1) + i.val) (1024 * (t.val % 1) + j.val) (0) :=
  Finset.sum_congr rfl fun k _ => congrArg₂ (· * ·) (left m c t i k) (right m c t k j)

theorem pay1_entry (X : Vec Ideal S2048x1024 .bf16) (Y : Vec Ideal S1024x1024 .bf16) (i : Fin 2048) (j : Fin 1024) :
    k0_pay1 X Y (ix2 i j) = ((∑ k : Fin 1024, (X (ix2 i k) : EReal) * Y (ix2 k j)) : EReal) := by
  unfold k0_pay1
  pointwise

/-- What a point leaves in the result's buffer. -/
theorem point (t : Fin cfg0.N) (i : Fin 2048) (j : Fin 1024) :
    out0_2 (iblk m c 0 t) (iblk m c 1 t) (ix2 i j) = entry m c (2048 * (t.val / 1) + i.val) (1024 * (t.val % 1) + j.val) := by
  unfold out0_2
  rw [View.canon_unit_zero zeros2]
  simp only [View.ld_unit_zero (S := S2048x1024) zeros2, View.ld_unit_zero (S := S1024x1024) zeros2]
  refine (pay1_entry (blkA m c t) (blkB m c t) i j).trans ?_
  unfold entry
  rw [blocks_term, ← tiles, Finset.sum_range_one]

/-- The result array after the run. -/
theorem final : (dats m 0 c).arrAt 2 cfg0.N = out m c := by
  have hN : cfg0.N = 4 := N_0
  refine (dats m 0 c).arrAt_eq_of_cover 2 (out m c) (fun t hf => ?_) fun i => ?_
  · rw [Cert.Kernel20Ideal.Value.flushed2]
    have hi := congrFun (idx2 t)
    have ht := t.isLt
    funext y
    rw [View.read_apply]
    refine ((congrArg (out0_2 (iblk m c 0 t) (iblk m c 1 t)) (eq_ix2 y)).trans (point m c t (y 0) (y 1))).trans (Eq.trans (b := out m c (((cfg0.win 2).blk t).view.emb y)) (congrArg₂ (entry m c) ?_ ?_) (Eq.symm (cast_eq _ _)))
    · exact of_pos 2048 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 2048 * 1 + (i 1 : ℕ) / 1024 * 1 + 0 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 2048 (i 0) (hi 0) (by simp; omega)
    | ⟨1, _⟩ => exact in_block 1024 (i 1) (hi 1) (by simp; omega)

end Cert.Kernel20Ideal.Product
end
-- ==== Proof.Product.QClaim.lean ====
/-
  The query projection: the kernel's result is the reference's.
-/
module

public import proofs.«01_k».proof.Defs
public import proofs.«01_k».proof.Proof.Product.Q
public import proofs.«01_k».proof.Proof.Gen.Reference20Ideal.Read

@[expose] public section

noncomputable section

namespace Cert.Product.Q

open Idealize.ShloMosaic Idealize.ShloMosaic.TcCoe Idealize.SL.Sem
open Cert.Kernel20Ideal Cert.Kernel20Ideal.Product Cert.Reference20Ideal.Read

attribute [local instance] Cert.Kernel20Ideal.Gen.facts Cert.Reference20Ideal.Gen.facts

/-- What the reference computes, read at an index. -/
theorem plain (m : (ℓ : Loc nD τ sig) → Buf (Elt Ideal) ℓ) (c : Dev nD) (i : Fin 8192) (j : Fin 1024) :
    val_main_v2 (F := Ideal) (argA m c) (argB m c) (ix2 i j) = entry m c i.val j.val := by
  unfold val_main_v2 val_main_v1 val_main_v0
  pointwise
  unfold entry
  exact Finset.sum_congr rfl fun k _ => congrArg₂ (· * ·) (at2_val 8192 1024 (argA m c) _ _ _ rfl rfl) (at2_val 1024 1024 (argB m c) _ _ _ rfl rfl)

/-- The reference changes no argument, and declares no semaphore. -/
theorem frame : Cert.quiescent_Reference20Ideal := fun m ρ _ =>
  (θ_run Cert.Reference20Ideal.defs _ _).mono
    (fun r h => ⟨fun c => (h c).2, sem_eq_zero_of_no_sems (by decide) r.2⟩) (Cert.Reference20Ideal.Value.run m ρ)

/-- The two programs leave the same result array. -/
theorem algebraic : Cert.algebraic_Kernel20Ideal_Reference20Ideal := by
  intro m g m' g' _ hargs
  refine ⟨fun c => out m c, ?_, ?_⟩
  · exact (θ_run Cert.Kernel20Ideal.defs _ _).mono (fun r h c => ⟨(h c).1.trans (final m c), (h c).2⟩)
      (Cert.Kernel20Ideal.Value.run_blocks m g)
  · refine (θ_run Cert.Reference20Ideal.defs _ _).mono (fun r h c => ⟨(h c).1.trans ?_, (h c).2⟩) (Cert.Reference20Ideal.Value.run m' g')
    refine (val_main_v2_eq _ _ ).trans ?_
    rw [(hargs c).1, (hargs c).2]
    funext i
    refine (congrArg _ (eq_ix2 i)).trans ?_
    exact plain m c (i 0) (i 1)

end Cert.Product.Q
end
-- ==== Proof.Norm.Algebra.lean ====
/-
  The gradient of a root mean square normalisation, over the extended reals: the derivative taken through the reciprocal
  root is the closed form that works with the normalised array.
-/
module

public import Idealize.ShloMosaic.PureOps.Ideal
public import proofs.«01_k».proof.Proof.Product.Entries

@[expose] public section

noncomputable section

namespace Cert.Norm

open Idealize.ShloMosaic

/-- A nonnegative real factor passes under a sum of two. -/
theorem real_mul_add (r : ℝ) (hr : 0 ≤ r) (x y : EReal) : (r : EReal) * (x + y) = r * x + r * y :=
  EReal.left_distrib_of_nonneg_of_ne_top (EReal.coe_nonneg.mpr hr) (EReal.coe_ne_top r) x y

/-- A nonnegative real factor passes under a sum. -/
theorem real_mul_sum {ι : Type} (s : Finset ι) (r : ℝ) (hr : 0 ≤ r) (f : ι → EReal) :
    (r : EReal) * ∑ k ∈ s, f k = ∑ k ∈ s, r * f k := by
  classical
  induction s using Finset.induction_on with
  | empty => simp
  | insert a s h ih => rw [Finset.sum_insert h, Finset.sum_insert h, real_mul_add r hr, ih]

/-- A sum of squares is not negative. -/
theorem sum_sq_nonneg {ι : Type} (s : Finset ι) (f : ι → EReal) : 0 ≤ ∑ k ∈ s, f k * f k :=
  Finset.sum_nonneg fun k _ => by
    rcases le_total 0 (f k) with h | h
    · exact mul_nonneg h h
    · rw [← neg_mul_neg]
      exact mul_nonneg (EReal.neg_nonneg.mpr h) (EReal.neg_nonneg.mpr h)

theorem twice (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add]; congr 1; ring

/-- What is positive is infinite or a positive real. -/
theorem pos_cases {z : EReal} (hz : 0 < z) : z = ⊤ ∨ ∃ p : ℝ, 0 < p ∧ z = p := by
  induction z with
  | bot => exact absurd hz (by simp)
  | top => exact Or.inl rfl
  | coe p => exact Or.inr ⟨p, EReal.coe_pos.mp hz, rfl⟩

/-- A row's scale is not negative, and finite. -/
theorem scale_real {z : EReal} (hz : 0 < z) : ∃ r : ℝ, 0 ≤ r ∧ Ideal.rsqrt z = r := by
  rcases pos_cases hz with h | ⟨p, hp, h⟩
  · exact ⟨0, le_refl _, by rw [h]; rfl⟩
  · refine ⟨(Real.sqrt p)⁻¹, by positivity, ?_⟩
    rw [h, Ideal.rsqrt_coe, if_neg (not_lt.mpr hp.le), if_neg hp.ne']

/-- The correction that the derivative of the reciprocal root contributes, twice, is the closed form's. -/
theorem correction (c : ℝ) (hc : 0 < c) (z : EReal) (hz : 0 < z) (x S : EReal) :
    -(Ideal.rsqrt z * (x * Ideal.rsqrt z * Ideal.div (Ideal.rsqrt z * S) c))
      = x * Ideal.div (S * (((-(1 / 2) : ℝ) : EReal) * Ideal.div (Ideal.rsqrt z) z)) c
        + Ideal.div (S * (((-(1 / 2) : ℝ) : EReal) * Ideal.div (Ideal.rsqrt z) z)) c * x := by
  rw [mul_comm (Ideal.div (S * _) _) x, twice]
  simp only [Ideal.div_coe hc.ne']
  rcases pos_cases hz with h | ⟨p, hp, h⟩
  · subst h
    simp [Ideal.div]
  · subst h
    obtain ⟨r, hr, hr2⟩ : ∃ r : ℝ, 0 < r ∧ r * r = 1 / p :=
      ⟨(Real.sqrt p)⁻¹, by positivity, by rw [← mul_inv, Real.mul_self_sqrt hp.le, one_div]⟩
    have hs : Ideal.rsqrt (p : EReal) = ((Real.sqrt p)⁻¹ : ℝ) := by
      rw [Ideal.rsqrt_coe, if_neg (not_lt.mpr hp.le), if_neg hp.ne']
    have hq : (Real.sqrt p)⁻¹ = r := by
      have h1 : (Real.sqrt p)⁻¹ * (Real.sqrt p)⁻¹ = r * r := by
        rw [hr2, ← mul_inv, Real.mul_self_sqrt hp.le, one_div]
      exact (mul_self_inj (by positivity) hr.le).mp h1
    rw [hs, hq, Ideal.div_coe hp.ne']
    have e1 : (r : EReal) * (x * r * (r * S * ((1 / c : ℝ) : EReal))) = ((r * (r * r) * (1 / c) : ℝ) : EReal) * (x * S) := by
      simp only [EReal.coe_mul]
      ac_rfl
    have e2 : ((2 : ℝ) : EReal) * (x * (S * (((-(1 / 2) : ℝ) : EReal) * ((r : EReal) * ((1 / p : ℝ) : EReal))) * ((1 / c : ℝ) : EReal)))
        = ((2 * (-(1 / 2)) * r * (1 / p) * (1 / c) : ℝ) : EReal) * (x * S) := by
      rw [EReal.coe_mul, EReal.coe_mul, EReal.coe_mul, EReal.coe_mul]
      ac_rfl
    rw [e1, e2, ← EReal.neg_mul, ← EReal.coe_neg, ← hr2]
    congr 2
    ring

/-- The gradient with respect to an entry: `d` comes from the residual branch, `a` is the branch's gradient times its gain. -/
theorem gradient {n : ℕ} (c : ℝ) (hc : 0 < c) (z : EReal) (hz : 0 < z) (d : EReal) (a x : Fin n → EReal) (j : Fin n) :
    d + Ideal.rsqrt z * (a j - x j * Ideal.rsqrt z * Ideal.div (∑ k, a k * (x k * Ideal.rsqrt z)) c)
      = d + a j * Ideal.rsqrt z
        + x j * Ideal.div ((∑ k, x k * a k) * (((-(1 / 2) : ℝ) : EReal) * Ideal.div (Ideal.rsqrt z) z)) c
        + Ideal.div ((∑ k, x k * a k) * (((-(1 / 2) : ℝ) : EReal) * Ideal.div (Ideal.rsqrt z) z)) c * x j := by
  have hk := correction c hc z hz (x j) (∑ k, x k * a k)
  have hS : ∑ k, a k * (x k * Ideal.rsqrt z) = Ideal.rsqrt z * ∑ k, x k * a k := by
    obtain ⟨r, hr, h⟩ := scale_real hz
    rw [h, real_mul_sum _ r hr]
    exact Finset.sum_congr rfl fun k _ => by ac_rfl
  have hd : Ideal.rsqrt z * (a j - x j * Ideal.rsqrt z * Ideal.div (Ideal.rsqrt z * ∑ k, x k * a k) c)
      = a j * Ideal.rsqrt z + -(Ideal.rsqrt z * (x j * Ideal.rsqrt z * Ideal.div (Ideal.rsqrt z * ∑ k, x k * a k) c)) := by
    obtain ⟨r, hr, h⟩ := scale_real hz
    rw [h, sub_eq_add_neg, real_mul_add r hr, mul_neg, mul_comm (a j)]
  rw [hS, hd, hk]
  simp only [add_assoc]

/-- The constants of the programs. -/
theorem width_eq : Ideal.ofBits .f32 0x44800000#32 = ((1024 : ℝ) : EReal) := by
  simp [Ideal.ofBits, Ideal.ieee, -EReal.coe_mul]; norm_num
theorem eps_pos : 0 < Ideal.ofBits .f32 0x358637BD#32 := by
  have h : Ideal.ofBits .f32 0x358637BD#32 = ((8796093 / 8796093022208 : ℝ) : EReal) := by
    simp [Ideal.ofBits, Ideal.ieee, -EReal.coe_mul]; norm_num
  rw [h]
  exact EReal.coe_pos.mpr (by norm_num)
theorem minus_half_eq : Ideal.ofBits .f32 0xBF000000#32 = ((-(1 / 2) : ℝ) : EReal) := by
  simp [Ideal.ofBits, Ideal.ieee, -EReal.coe_mul, -EReal.coe_neg]; norm_num

/-- The shifted mean square of a row. -/
def meanSq (f : ℕ → EReal) : EReal :=
  Ideal.div (∑ k : Fin 1024, f k.val * f k.val) (Ideal.ofBits .f32 0x44800000#32) + Ideal.ofBits .f32 0x358637BD#32

/-- One entry of the gradient of a row `f`, of which `a` is the gradient times the gain and `d` the residual's. -/
def rowGrad (f a : ℕ → EReal) (d : EReal) (b : ℕ) : EReal :=
  d + Ideal.rsqrt (meanSq f) * (a b - f b * Ideal.rsqrt (meanSq f)
    * Ideal.div (∑ k : Fin 1024, a k.val * (f k.val * Ideal.rsqrt (meanSq f))) (Ideal.ofBits .f32 0x44800000#32))

theorem meanSq_pos (f : ℕ → EReal) : 0 < meanSq f := by
  unfold meanSq
  rw [width_eq, Ideal.div_coe (by norm_num)]
  refine lt_of_lt_of_le eps_pos ?_
  exact le_add_of_nonneg_left (mul_nonneg (sum_sq_nonneg _ _) (EReal.coe_nonneg.mpr (by norm_num)))

/-- What the derivative of the reciprocal root contributes to an entry of a row, once for each factor of its square. -/
def through (f a : ℕ → EReal) : EReal :=
  Ideal.div ((∑ k : Fin 1024, f k.val * a k.val) * (Ideal.ofBits .f32 0xBF000000#32 * Ideal.div (Ideal.rsqrt (meanSq f)) (meanSq f)))
    (Ideal.ofBits .f32 0x44800000#32)

/-- The closed form is the derivative taken term by term. -/
theorem rowGrad_eq (f a : ℕ → EReal) (d : EReal) (b : Fin 1024) :
    rowGrad f a d b.val = d + a b.val * Ideal.rsqrt (meanSq f) + f b.val * through f a + through f a * f b.val := by
  unfold rowGrad through
  rw [width_eq, minus_half_eq]
  exact gradient 1024 (by norm_num) (meanSq f) (meanSq_pos f) d (fun k => a k.val) (fun k => f k.val) b

end Cert.Norm
end
-- ==== Proof.Norm.Bwd.lean ====
/-
  The gradient of a root mean square normalisation: one step for each block of 1024 rows.
-/
module

public import proofs.«01_k».proof.Proof.Norm.Algebra
public import proofs.«01_k».proof.Proof.Gen.Kernel21Ideal.Value

@[expose] public section

noncomputable section

namespace Cert.Kernel21Ideal.Norm

open Cert.Kernel21Ideal Cert.Kernel21Ideal.Gen Cert.Product Cert.Norm Idealize.ShloMosaic Idealize.ShloMosaic.TcCoe Idealize.SL.Sem

variable (m : (ℓ : Loc nD τ sig) → Buf (Elt Ideal) ℓ) (c : Dev nD)

/-- The arguments of a device. -/
abbrev argX : S8192x1024.Idx → EReal := m ((c.tc : Thread nD τ).loc main_arg0)
abbrev argG : S1x1024.Idx → EReal := m ((c.tc : Thread nD τ).loc main_arg1)
abbrev argY : S8192x1024.Idx → EReal := m ((c.tc : Thread nD τ).loc main_arg2)
abbrev argD : S8192x1024.Idx → EReal := m ((c.tc : Thread nD τ).loc main_arg3)
/-- The block of each window at a point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel

/-- The block of the window at a point. -/
abbrev blk0 (t : Fin cfg0.N) : Vec Ideal S1024x1024 .f32 := iblk m c 0 t

theorem read0 (t : Fin cfg0.N) (i : Fin 1024) (j : Fin 1024) :
    blk0 m c t (ix2 i j) = at2 8192 1024 (argX m c) (1024 * (t.val) + i.val) (j.val) := by
  have hN : cfg0.N = 8 := N_0
  have ht := t.isLt
  have hi := congrFun (idx0 t)
  unfold blk0 iblk
  rw [View.read_apply]
  refine at2_val 8192 1024 (argX m c) _ _ _ ?_ ?_
  · exact pos_of 1024 (hi 0) (by simp <;> omega)
  · exact pos_of 1024 (hi 1) (by simp <;> omega)

/-- The block of the window at a point. -/
abbrev blk1 (t : Fin cfg0.N) : Vec Ideal S1x1024 .f32 := iblk m c 1 t

theorem read1 (t : Fin cfg0.N) (i : Fin 1) (j : Fin 1024) :
    blk1 m c t (ix2 i j) = at2 1 1024 (argG m c) (i.val) (j.val) := by
  have hN : cfg0.N = 8 := N_0
  have ht := t.isLt
  have hi := congrFun (idx1 t)
  unfold blk1 iblk
  rw [View.read_apply]
  refine at2_val 1 1024 (argG m c) _ _ _ ?_ ?_
  · exact pos_of 1 (hi 0) (by simp <;> omega)
  · exact pos_of 1024 (hi 1) (by simp <;> omega)

/-- The block of the window at a point. -/
abbrev blk2 (t : Fin cfg0.N) : Vec Ideal S1024x1024 .bf16 := iblk m c 2 t

theorem read2 (t : Fin cfg0.N) (i : Fin 1024) (j : Fin 1024) :
    blk2 m c t (ix2 i j) = at2 8192 1024 (argY m c) (1024 * (t.val) + i.val) (j.val) := by
  have hN : cfg0.N = 8 := N_0
  have ht := t.isLt
  have hi := congrFun (idx2 t)
  unfold blk2 iblk
  rw [View.read_apply]
  refine at2_val 8192 1024 (argY m c) _ _ _ ?_ ?_
  · exact pos_of 1024 (hi 0) (by simp <;> omega)
  · exact pos_of 1024 (hi 1) (by simp <;> omega)

/-- The block of the window at a point. -/
abbrev blk3 (t : Fin cfg0.N) : Vec Ideal S1024x1024 .f32 := iblk m c 3 t

theorem read3 (t : Fin cfg0.N) (i : Fin 1024) (j : Fin 1024) :
    blk3 m c t (ix2 i j) = at2 8192 1024 (argD m c) (1024 * (t.val) + i.val) (j.val) := by
  have hN : cfg0.N = 8 := N_0
  have ht := t.isLt
  have hi := congrFun (idx3 t)
  unfold blk3 iblk
  rw [View.read_apply]
  refine at2_val 8192 1024 (argD m c) _ _ _ ?_ ?_
  · exact pos_of 1024 (hi 0) (by simp <;> omega)
  · exact pos_of 1024 (hi 1) (by simp <;> omega)

/-- The entries of the arguments: the array, the gain, the gradient of the normalised array, the residual's gradient. -/
abbrev x (a b : ℕ) : EReal := at2 8192 1024 (argX m c) a b
abbrev gain (b : ℕ) : EReal := at2 1 1024 (argG m c) 0 b
abbrev dy (a b : ℕ) : EReal := at2 8192 1024 (argY m c) a b
abbrev dres (a b : ℕ) : EReal := at2 8192 1024 (argD m c) a b

/-- An entry of the gradient of the array. -/
def dx (a b : ℕ) : EReal := rowGrad (x m c a) (fun k => dy m c a k * gain m c k) (dres m c a b) b

/-- A row's part of the gain's gradient, a block's, and the whole. -/
def part (b a : ℕ) : EReal := dy m c a b * (x m c a b * Ideal.rsqrt (meanSq (x m c a)))
def tile (b v : ℕ) : EReal := ∑ r : Fin 1024, part m c b (1024 * v + r.val)
def dg (_a b : ℕ) : EReal := ∑ a : Fin 8192, part m c b a.val

theorem tiles (b : ℕ) : ∑ v ∈ Finset.range 8, tile m c b v = dg m c 0 b := sum_tiles 8 1024 (part m c b)

theorem pay3_entry (X : Vec Ideal S1024x1024 .f32) (i : Fin 1024) (f : ℕ → EReal) (hX : ∀ k : Fin 1024, X (ix2 i k) = f k.val) :
    k0_pay3 X (ix2 i 0) = Ideal.rsqrt (meanSq f) := by
  unfold k0_pay3
  pointwise
  simp only [hX]
  rfl

theorem pay4_entry (X : Vec Ideal S1024x1024 .f32) (i j : Fin 1024) (f : ℕ → EReal) (hX : ∀ k : Fin 1024, X (ix2 i k) = f k.val) :
    k0_pay4 X (ix2 i j) = f j.val * Ideal.rsqrt (meanSq f) := by
  unfold k0_pay4
  pointwise
  rw [pay3_entry X i f hX, hX]

theorem pay1_entry (X D : Vec Ideal S1024x1024 .f32) (Y : Vec Ideal S1024x1024 .bf16) (G : Vec Ideal S1x1024 .f32) (i j : Fin 1024)
    (f y g : ℕ → EReal) (d : EReal) (hX : ∀ k : Fin 1024, X (ix2 i k) = f k.val) (hY : ∀ k : Fin 1024, Y (ix2 i k) = y k.val)
    (hG : ∀ k : Fin 1024, G (ix2 0 k) = g k.val) (hD : D (ix2 i j) = d) :
    k0_pay1 D (k0_pay8 X Y G) (ix2 i j) = rowGrad f (fun k => y k * g k) d j.val := by
  unfold k0_pay1 k0_pay8 k0_pay6
  pointwise
  simp only [pay3_entry X i f hX, pay4_entry X i _ f hX, hY, hG, hD]
  rfl

theorem pay2_entry (X D : Vec Ideal S1024x1024 .f32) (Y : Vec Ideal S1024x1024 .bf16) (G : Vec Ideal S1x1024 .f32) (i j : Fin 1024)
    (f y g : ℕ → EReal) (d : EReal) (hX : ∀ k : Fin 1024, X (ix2 i k) = f k.val) (hY : ∀ k : Fin 1024, Y (ix2 i k) = y k.val)
    (hG : ∀ k : Fin 1024, G (ix2 0 k) = g k.val) (hD : D (ix2 i j) = d) :
    k0_pay2 D (k0_pay8 X Y G) (ix2 i j) = rowGrad f (fun k => y k * g k) d j.val := by
  unfold k0_pay2
  pointwise
  exact pay1_entry X D Y G i j f y g d hX hY hG hD

theorem pay7_entry (X : Vec Ideal S1024x1024 .f32) (Y : Vec Ideal S1024x1024 .bf16) (Z : Vec Ideal S1x1024 .f32) (j : Fin 1024)
    (f y : ℕ → ℕ → EReal) (hX : ∀ i k : Fin 1024, X (ix2 i k) = f i.val k.val) (hY : ∀ i k : Fin 1024, Y (ix2 i k) = y i.val k.val) :
    k0_pay7 X Y Z (ix2 0 j) = (Z (ix2 0 j) : EReal) + ∑ i : Fin 1024, y i.val j.val * (f i.val j.val * Ideal.rsqrt (meanSq (f i.val))) := by
  unfold k0_pay7 k0_pay6
  pointwise
  exact congrArg₂ (· + ·) rfl (Finset.sum_congr rfl fun i _ => congrArg₂ (· * ·) (hY i j) (pay4_entry X i j (f i.val) (hX i)))

theorem pay5_entry (j : Fin 1024) : (k0_pay5 (F := Ideal)) (ix2 0 j) = 0 := by
  unfold k0_pay5
  pointwise

theorem point4_A (t : Fin cfg0.N) (h0 : t.val % 8 = 0) (i j : Fin 1024) :
    (outsAt0 m c t.val t.isLt).1 (ix2 i j) = dx m c (1024 * (t.val) + i.val) j.val := by
  rw [outsAt0_A m c t h0]
  dsimp only
  unfold out0_A_4
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay1_entry (blk0 m c t) (blk3 m c t) (blk2 m c t) (blk1 m c t) i j _ _ _ _ (fun k => read0 m c t i k) (fun k => read2 m c t i k)
    (fun k => read1 m c t 0 k) (read3 m c t i j)

theorem point4_B (t : Fin cfg0.N) (h0 : ¬t.val % 8 = 0) (i j : Fin 1024) :
    (outsAt0 m c t.val t.isLt).1 (ix2 i j) = dx m c (1024 * (t.val) + i.val) j.val := by
  rw [outsAt0_B m c t h0]
  dsimp only
  unfold out0_B_4
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay1_entry (blk0 m c t) (blk3 m c t) (blk2 m c t) (blk1 m c t) i j _ _ _ _ (fun k => read0 m c t i k) (fun k => read2 m c t i k)
    (fun k => read1 m c t 0 k) (read3 m c t i j)

/-- What a point leaves in the buffer of the gradient. -/
theorem point4 (t : Fin cfg0.N) (i j : Fin 1024) :
    (outsAt0 m c t.val t.isLt).1 (ix2 i j) = dx m c (1024 * (t.val) + i.val) j.val := by
  by_cases h0 : t.val % 8 = 0
  · exact point4_A m c t h0 i j
  · exact point4_B m c t h0 i j

theorem point5_A (t : Fin cfg0.N) (h0 : t.val % 8 = 0) (i j : Fin 1024) :
    (outsAt0 m c t.val t.isLt).2.1 (ix2 i j) = dx m c (1024 * (t.val) + i.val) j.val := by
  rw [outsAt0_A m c t h0]
  dsimp only
  unfold out0_A_5
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay2_entry (blk0 m c t) (blk3 m c t) (blk2 m c t) (blk1 m c t) i j _ _ _ _ (fun k => read0 m c t i k) (fun k => read2 m c t i k)
    (fun k => read1 m c t 0 k) (read3 m c t i j)

theorem point5_B (t : Fin cfg0.N) (h0 : ¬t.val % 8 = 0) (i j : Fin 1024) :
    (outsAt0 m c t.val t.isLt).2.1 (ix2 i j) = dx m c (1024 * (t.val) + i.val) j.val := by
  rw [outsAt0_B m c t h0]
  dsimp only
  unfold out0_B_5
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay2_entry (blk0 m c t) (blk3 m c t) (blk2 m c t) (blk1 m c t) i j _ _ _ _ (fun k => read0 m c t i k) (fun k => read2 m c t i k)
    (fun k => read1 m c t 0 k) (read3 m c t i j)

/-- What a point leaves in the buffer of the gradient. -/
theorem point5 (t : Fin cfg0.N) (i j : Fin 1024) :
    (outsAt0 m c t.val t.isLt).2.1 (ix2 i j) = dx m c (1024 * (t.val) + i.val) j.val := by
  by_cases h0 : t.val % 8 = 0
  · exact point5_A m c t h0 i j
  · exact point5_B m c t h0 i j

/-- The first point starts the gain's gradient. -/
theorem first (t : Fin cfg0.N) (h0 : t.val % 8 = 0) (j : Fin 1024) :
    (outsAt0 m c t.val t.isLt).2.2 (ix2 0 j) = tile m c j.val 0 := by
  have hN : cfg0.N = 8 := N_0
  have ht := t.isLt
  rw [outsAt0_A m c t h0]
  dsimp only
  unfold out0_A_6
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_cons_unit_zero (S := S1x1024) zeros2, View.readCov_unit_zero (S := S1x1024) _ zeros2]
  simp only [View.ld_unit_zero (S := S1024x1024) zeros2, View.ld_unit_zero (S := S1x1024) zeros2]
  refine (pay7_entry (blk0 m c t) (blk2 m c t) _ j (fun i => x m c (1024 * t.val + i)) (fun i => dy m c (1024 * t.val + i)) (fun i k => read0 m c t i k) (fun i k => read2 m c t i k)).trans ?_
  refine (congrArg₂ (· + ·) (pay5_entry j) ?_).trans (zero_add _)
  rw [show t.val = 0 by omega]
  rfl

/-- A later point adds its block. -/
theorem next (t : Fin cfg0.N) (h0 : ¬t.val % 8 = 0) (j : Fin 1024) :
    (outsAt0 m c t.val t.isLt).2.2 (ix2 0 j)
      = (outsAt0 m c (t.val - 1) (Nat.lt_of_le_of_lt (Nat.sub_le _ _) t.isLt)).2.2 (ix2 0 j) + tile m c j.val t.val := by
  rw [outsAt0_B m c t h0]
  dsimp only
  unfold out0_B_6
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay7_entry (blk0 m c t) (blk2 m c t) _ j (fun i => x m c (1024 * t.val + i)) (fun i => dy m c (1024 * t.val + i)) (fun i k => read0 m c t i k) (fun i k => read2 m c t i k)

theorem held (j : Fin 1024) (u : ℕ) (hu : u < cfg0.N) :
    (outsAt0 m c u hu).2.2 (ix2 0 j) = ∑ v ∈ Finset.range (u % 8 + 1), tile m c j.val v :=
  run_sum 8 7 cfg0.N (by omega) (fun u hu => (outsAt0 m c u hu).2.2 (ix2 0 j)) (fun _ v => tile m c j.val v)
    (fun u hu h => first m c ⟨u, hu⟩ h j)
    (fun u hu h _ => (next m c ⟨u + 1, hu⟩ h j).trans (by
      have hN : cfg0.N = 8 := N_0
      rw [Nat.mod_eq_of_lt (show u + 1 < 8 by omega)]
      simp only [Nat.add_sub_cancel])) u hu (by omega)

/-- What the last point leaves in the buffer of the gain's gradient. -/
theorem point6 (t : Fin cfg0.N) (h : t.val % 8 = 7) (i : Fin 1) (j : Fin 1024) :
    (outsAt0 m c t.val t.isLt).2.2 (ix2 i j) = dg m c i.val j.val := by
  obtain rfl : i = 0 := Subsingleton.elim _ _
  rw [held, h, tiles]
  rfl

/-- The result array. -/
def out4 : S8192x1024.Idx → EReal := fun i => dx m c (i 0).val (i 1).val

/-- The result array after the run. -/
theorem final4 : (dats m 0 c).arrAt 4 cfg0.N = out4 m c := by
  have hN : cfg0.N = 8 := N_0
  refine (dats m 0 c).arrAt_eq_of_cover 4 (out4 m c) (fun t hf => ?_) fun i => ?_
  · rw [Cert.Kernel21Ideal.Value.flushed4]
    have hi := congrFun (idx4 t)
    have ht := t.isLt
    funext y
    rw [View.read_apply]
    refine ((congrArg ((outsAt0 m c t.val t.isLt).1) (eq_ix2 y)).trans (point4 m c t (y 0) (y 1))).trans (Eq.trans (b := out4 m c (((cfg0.win 4).blk t).view.emb y)) (congrArg₂ (dx m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_4 t, ?_⟩
    have hi := congrFun (idx4 t)
    refine mem_of (View.set_slice_whole main_v0_0 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out5 : S8192x1024.Idx → EReal := fun i => dx m c (i 0).val (i 1).val

/-- The result array after the run. -/
theorem final5 : (dats m 0 c).arrAt 5 cfg0.N = out5 m c := by
  have hN : cfg0.N = 8 := N_0
  refine (dats m 0 c).arrAt_eq_of_cover 5 (out5 m c) (fun t hf => ?_) fun i => ?_
  · rw [Cert.Kernel21Ideal.Value.flushed5]
    have hi := congrFun (idx5 t)
    have ht := t.isLt
    funext y
    rw [View.read_apply]
    refine ((congrArg ((outsAt0 m c t.val t.isLt).2.1) (eq_ix2 y)).trans (point5 m c t (y 0) (y 1))).trans (Eq.trans (b := out5 m c (((cfg0.win 5).blk t).view.emb y)) (congrArg₂ (dx m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_5 t, ?_⟩
    have hi := congrFun (idx5 t)
    refine mem_of (View.set_slice_whole main_v0_1 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out6 : S1x1024.Idx → EReal := fun i => dg m c (i 0).val (i 1).val

/-- The result array after the run. -/
theorem final6 : (dats m 0 c).arrAt 6 cfg0.N = out6 m c := by
  have hN : cfg0.N = 8 := N_0
  refine (dats m 0 c).arrAt_eq_of_cover 6 (out6 m c) (fun t hf => ?_) fun i => ?_
  · rw [Cert.Kernel21Ideal.Value.flushed6]
    have hi := congrFun (idx6 t)
    have ht := t.isLt
    funext y
    rw [View.read_apply]
    refine ((congrArg ((outsAt0 m c t.val t.isLt).2.2) (eq_ix2 y)).trans (point6 m c t ((flush0_6 t).mp hf) (y 0) (y 1))).trans (Eq.trans (b := out6 m c (((cfg0.win 6).blk t).view.emb y)) (congrArg₂ (dg m c) ?_ ?_) (Eq.symm (cast_eq _ _)))
    · exact of_pos 1 (hi 0) (by simp <;> omega)
    · exact of_pos 1024 (hi 1) (by simp <;> omega)
  · have h0 : (i 0 : ℕ) < 1 := (i 0).isLt
    have h1 : (i 1 : ℕ) < 1024 := (i 1).isLt
    obtain ⟨t, ht⟩ : ∃ t : Fin cfg0.N, t.val = 7 :=
      ⟨⟨_, by omega⟩, rfl⟩
    refine ⟨t, (flush0_6 t).mpr (by omega), ?_⟩
    have hi := congrFun (idx6 t)
    refine mem_of (View.set_slice_whole main_v0_2 _) (Rect.mem_set_unit.2 fun a => ?_)
    match a with
    | ⟨0, _⟩ => exact in_block 1 (i 0) (hi 0) (by simp <;> omega)
    | ⟨1, _⟩ => exact in_block 1024 (i 1) (hi 1) (by simp <;> omega)

end Cert.Kernel21Ideal.Norm
end
-- ==== Proof.Norm.BwdClaim.lean ====
/-
  The gradient of a root mean square normalisation: the kernel's three arrays are the reference's.
-/
module

public import proofs.«01_k».proof.Defs
public import proofs.«01_k».proof.Proof.Norm.Bwd
public import proofs.«01_k».proof.Proof.Gen.Reference21Ideal.Read

@[expose] public section

noncomputable section

namespace Cert.Norm.Bwd

open Idealize.ShloMosaic Idealize.ShloMosaic.TcCoe Idealize.SL.Sem
open Cert.Product Cert.Kernel21Ideal Cert.Kernel21Ideal.Norm Cert.Reference21Ideal.Read

attribute [local instance] Cert.Kernel21Ideal.Gen.facts Cert.Reference21Ideal.Gen.facts

/-- The reference's gradient of the array, read at an index. -/
theorem plain_dx (X : S8192x1024.Idx → EReal) (G : S1x1024.Idx → EReal) (Y D : S8192x1024.Idx → EReal) (i : Fin 8192) (j : Fin 1024)
    (f y g : ℕ → EReal) (d : EReal) (hX : ∀ k : Fin 1024, X (ix2 i k) = f k.val) (hY : ∀ k : Fin 1024, Y (ix2 i k) = y k.val)
    (hG : ∀ k : Fin 1024, G (ix2 0 k) = g k.val) (hD : D (ix2 i j) = d) :
    val_main_v38 (F := Ideal) X G Y D (ix2 i j) = rowGrad f (fun k => y k * g k) d j.val := by
  rw [rowGrad_eq]
  unfold val_main_v38 val_main_v37 val_main_v36 val_main_v35 val_main_v34 val_main_v33 val_main_cst_7 val_main_v32 val_main_v31 val_main_cst_6 val_main_v30 val_main_v29 val_main_v28 val_main_v27 val_main_v26 val_main_v25 val_main_cst_5 val_main_v24 val_main_v22 val_main_v21 val_main_v17 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [Fin.sum_univ_one, hX, hY, hG, hD]
  rfl

theorem plain_dxb (X : S8192x1024.Idx → EReal) (G : S1x1024.Idx → EReal) (Y D : S8192x1024.Idx → EReal) (i : Fin 8192) (j : Fin 1024) :
    val_main_v40 (F := Ideal) X G Y D (ix2 i j) = val_main_v38 (F := Ideal) X G Y D (ix2 i j) := by
  unfold val_main_v40
  pointwise

/-- The reference's gradient of the gain, read at an index. -/
theorem plain_dg (X Y : S8192x1024.Idx → EReal) (j : Fin 1024) (f y : ℕ → ℕ → EReal)
    (hX : ∀ (i : Fin 8192) (k : Fin 1024), X (ix2 i k) = f i.val k.val) (hY : ∀ (i : Fin 8192) (k : Fin 1024), Y (ix2 i k) = y i.val k.val) :
    val_main_v39 (F := Ideal) X Y (ix2 0 j) = ∑ i : Fin 8192, y i.val j.val * (f i.val j.val * Ideal.rsqrt (meanSq (f i.val))) := by
  unfold val_main_v39 val_main_v23 val_main_cst_4 val_main_v20 val_main_v19 val_main_cst_3 val_main_v18 val_main_v17 val_main_v13 val_main_v12 val_main_v8 val_main_v7 val_main_v6 val_main_cst_1 val_main_v5 val_main_v4 val_main_cst_0 val_main_v3 val_main_v2 val_main_cst val_main_v1
  pointwise
  simp only [Fin.sum_univ_one, hX, hY]
  exact Finset.sum_congr rfl fun i _ => mul_comm _ _

/-- The reference changes no argument, and declares no semaphore. -/
theorem frame : Cert.quiescent_Reference21Ideal := fun m ρ _ =>
  (θ_run Cert.Reference21Ideal.defs _ _).mono
    (fun r h => ⟨fun c => (h c).2.2.2, sem_eq_zero_of_no_sems (by decide) r.2⟩) (Cert.Reference21Ideal.Value.run m ρ)

/-- The two programs leave the same three arrays. -/
theorem algebraic : Cert.algebraic_Kernel21Ideal_Reference21Ideal := by
  intro m g m' g' _ hargs
  have hd : ∀ c : Dev nD, ∀ i : S8192x1024.Idx,
      val_main_v38 (F := Ideal) (argX m c) (argG m c) (argY m c) (argD m c) i = dx m c (i 0).val (i 1).val := fun c i =>
    (congrArg _ (eq_ix2 i)).trans (plain_dx (argX m c) (argG m c) (argY m c) (argD m c) (i 0) (i 1) (x m c (i 0).val) (dy m c (i 0).val) (gain m c) _
      (fun k => at2_val 8192 1024 (argX m c) _ _ _ rfl rfl) (fun k => at2_val 8192 1024 (argY m c) _ _ _ rfl rfl)
      (fun k => at2_val 1 1024 (argG m c) _ _ _ rfl rfl) (at2_val 8192 1024 (argD m c) _ _ _ rfl rfl))
  refine ⟨fun c => out4 m c, fun c => out5 m c, fun c => out6 m c, ?_, ?_⟩
  · exact (θ_run Cert.Kernel21Ideal.defs _ _).mono
      (fun r h c => ⟨(h c).1.trans (final4 m c), (h c).2.1.trans (final5 m c), (h c).2.2.1.trans (final6 m c), (h c).2.2.2⟩)
      (Cert.Kernel21Ideal.Value.run_blocks m g)
  · refine (θ_run Cert.Reference21Ideal.defs _ _).mono
      (fun r h c => ⟨(h c).1.trans ?_, (h c).2.1.trans ?_, (h c).2.2.1.trans ?_, (h c).2.2.2⟩)
      (Cert.Reference21Ideal.Value.run m' g')
    · refine (val_main_v38_eq _ _).trans ?_
      rw [(hargs c).1, (hargs c).2.1, (hargs c).2.2.1, (hargs c).2.2.2]
      funext i
      exact hd c i
    · refine (val_main_v40_eq _ _).trans ?_
      rw [(hargs c).1, (hargs c).2.1, (hargs c).2.2.1, (hargs c).2.2.2]
      funext i
      exact ((congrArg _ (eq_ix2 i)).trans (plain_dxb _ _ _ _ (i 0) (i 1))).trans ((congrArg _ (eq_ix2 i).symm).trans (hd c i))
    · refine (val_main_v39_eq _ _).trans ?_
      rw [(hargs c).1, (hargs c).2.2.1]
      funext i
      refine (congrArg _ ((eq_ix2 i).trans (congrArg (fun q : Fin 1 => (ix2 q (i 1) : S1x1024.Idx)) (Subsingleton.elim (α := Fin 1) (i 0) 0)))).trans ?_
      exact plain_dg (argX m c) (argY m c) (i 1) (x m c) (dy m c) (fun i k => at2_val 8192 1024 (argX m c) _ _ _ rfl rfl)
        (fun i k => at2_val 8192 1024 (argY m c) _ _ _ rfl rfl)

end Cert.Norm.Bwd
end
-- ==== Proof.Norm.Bwd2.lean ====
/-
  The gradient of one array under two root mean square normalisations: one step for each block of 1024 rows.
-/
module

public import proofs.«01_k».proof.Proof.Norm.Algebra
public import proofs.«01_k».proof.Proof.Gen.Kernel22Ideal.Value

@[expose] public section

noncomputable section

namespace Cert.Kernel22Ideal.Norm

open Cert.Kernel22Ideal Cert.Kernel22Ideal.Gen Cert.Product Cert.Norm Idealize.ShloMosaic Idealize.ShloMosaic.TcCoe Idealize.SL.Sem

variable (m : (ℓ : Loc nD τ sig) → Buf (Elt Ideal) ℓ) (c : Dev nD)

/-- The arguments of a device. -/
abbrev argX : S8192x1024.Idx → EReal := m ((c.tc : Thread nD τ).loc main_arg0)
abbrev argG : S2x1024.Idx → EReal := m ((c.tc : Thread nD τ).loc main_arg1)
abbrev argY : S8192x1024.Idx → EReal := m ((c.tc : Thread nD τ).loc main_arg2)
abbrev argZ : S8192x1024.Idx → EReal := m ((c.tc : Thread nD τ).loc main_arg3)
abbrev argD : S8192x1024.Idx → EReal := m ((c.tc : Thread nD τ).loc main_arg4)
/-- The block of each window at a point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![0, 0] := by decide +kernel

/-- The block of the window at a point. -/
abbrev blk0 (t : Fin cfg0.N) : Vec Ideal S1024x1024 .f32 := iblk m c 0 t

theorem read0 (t : Fin cfg0.N) (i : Fin 1024) (j : Fin 1024) :
    blk0 m c t (ix2 i j) = at2 8192 1024 (argX m c) (1024 * (t.val) + i.val) (j.val) := by
  have hN : cfg0.N = 8 := N_0
  have ht := t.isLt
  have hi := congrFun (idx0 t)
  unfold blk0 iblk
  rw [View.read_apply]
  refine at2_val 8192 1024 (argX m c) _ _ _ ?_ ?_
  · exact pos_of 1024 (hi 0) (by simp <;> omega)
  · exact pos_of 1024 (hi 1) (by simp <;> omega)

/-- The block of the window at a point. -/
abbrev blk1 (t : Fin cfg0.N) : Vec Ideal S2x1024 .f32 := iblk m c 1 t

theorem read1 (t : Fin cfg0.N) (i : Fin 2) (j : Fin 1024) :
    blk1 m c t (ix2 i j) = at2 2 1024 (argG m c) (i.val) (j.val) := by
  have hN : cfg0.N = 8 := N_0
  have ht := t.isLt
  have hi := congrFun (idx1 t)
  unfold blk1 iblk
  rw [View.read_apply]
  refine at2_val 2 1024 (argG m c) _ _ _ ?_ ?_
  · exact pos_of 2 (hi 0) (by simp <;> omega)
  · exact pos_of 1024 (hi 1) (by simp <;> omega)

/-- The block of the window at a point. -/
abbrev blk2 (t : Fin cfg0.N) : Vec Ideal S1024x1024 .bf16 := iblk m c 2 t

theorem read2 (t : Fin cfg0.N) (i : Fin 1024) (j : Fin 1024) :
    blk2 m c t (ix2 i j) = at2 8192 1024 (argY m c) (1024 * (t.val) + i.val) (j.val) := by
  have hN : cfg0.N = 8 := N_0
  have ht := t.isLt
  have hi := congrFun (idx2 t)
  unfold blk2 iblk
  rw [View.read_apply]
  refine at2_val 8192 1024 (argY m c) _ _ _ ?_ ?_
  · exact pos_of 1024 (hi 0) (by simp <;> omega)
  · exact pos_of 1024 (hi 1) (by simp <;> omega)

/-- The block of the window at a point. -/
abbrev blk3 (t : Fin cfg0.N) : Vec Ideal S1024x1024 .bf16 := iblk m c 3 t

theorem read3 (t : Fin cfg0.N) (i : Fin 1024) (j : Fin 1024) :
    blk3 m c t (ix2 i j) = at2 8192 1024 (argZ m c) (1024 * (t.val) + i.val) (j.val) := by
  have hN : cfg0.N = 8 := N_0
  have ht := t.isLt
  have hi := congrFun (idx3 t)
  unfold blk3 iblk
  rw [View.read_apply]
  refine at2_val 8192 1024 (argZ m c) _ _ _ ?_ ?_
  · exact pos_of 1024 (hi 0) (by simp <;> omega)
  · exact pos_of 1024 (hi 1) (by simp <;> omega)

/-- The block of the window at a point. -/
abbrev blk4 (t : Fin cfg0.N) : Vec Ideal S1024x1024 .f32 := iblk m c 4 t

theorem read4 (t : Fin cfg0.N) (i : Fin 1024) (j : Fin 1024) :
    blk4 m c t (ix2 i j) = at2 8192 1024 (argD m c) (1024 * (t.val) + i.val) (j.val) := by
  have hN : cfg0.N = 8 := N_0
  have ht := t.isLt
  have hi := congrFun (idx4 t)
  unfold blk4 iblk
  rw [View.read_apply]
  refine at2_val 8192 1024 (argD m c) _ _ _ ?_ ?_
  · exact pos_of 1024 (hi 0) (by simp <;> omega)
  · exact pos_of 1024 (hi 1) (by simp <;> omega)

/-- The entries of the arguments: the array, the two gains, the gradients of the two normalised arrays, the residual's. -/
abbrev x (a b : ℕ) : EReal := at2 8192 1024 (argX m c) a b
abbrev gain (q b : ℕ) : EReal := at2 2 1024 (argG m c) q b
abbrev dy (a b : ℕ) : EReal := at2 8192 1024 (argY m c) a b
abbrev dz (a b : ℕ) : EReal := at2 8192 1024 (argZ m c) a b
abbrev dres (a b : ℕ) : EReal := at2 8192 1024 (argD m c) a b

/-- An entry of the gradient of the array: the residual's, and what comes through each of the two. -/
def dx (a b : ℕ) : EReal :=
  rowGrad (x m c a) (fun k => dz m c a k * gain m c 1 k)
    (rowGrad (x m c a) (fun k => dy m c a k * gain m c 0 k) (dres m c a b) b) b

/-- A row's part of a gain's gradient, a block's, and the whole. -/
def part (q b a : ℕ) : EReal :=
  (if q = 0 then dy m c a b else dz m c a b) * (x m c a b * Ideal.rsqrt (meanSq (x m c a)))
def tile (q b v : ℕ) : EReal := ∑ r : Fin 1024, part m c q b (1024 * v + r.val)
def dg (q b : ℕ) : EReal := ∑ a : Fin 8192, part m c q b a.val

theorem tiles (q b : ℕ) : ∑ v ∈ Finset.range 8, tile m c q b v = dg m c q b := sum_tiles 8 1024 (part m c q b)

/-- The two rows of the gains. -/
abbrev upper : Rect S2x1024 := Rect.unit (s := S2x1024) ![0, 0] S1x1024.size inb_S2x1024_S1x1024_0_0
abbrev lower : Rect S2x1024 := Rect.unit (s := S2x1024) ![1, 0] S1x1024.size inb_S2x1024_S1x1024_1_0

theorem upper_idx (j : Fin 1024) : upper.idx (ix2 0 j) = ix2 (0 : Fin 2) j := by
  funext a; apply Fin.ext; match a with
  | ⟨0, _⟩ => rfl
  | ⟨1, _⟩ => show 0 + 1 * j.val = j.val; omega
theorem lower_idx (j : Fin 1024) : lower.idx (ix2 0 j) = ix2 (1 : Fin 2) j := by
  funext a; apply Fin.ext; match a with
  | ⟨0, _⟩ => rfl
  | ⟨1, _⟩ => show 0 + 1 * j.val = j.val; omega

theorem ld_upper {e : EltTy} (Y : Vec Ideal S2x1024 e) (j : Fin 1024) : View.ld Y upper (ix2 0 j) = Y (ix2 0 j) := congrArg Y (upper_idx j)
theorem ld_lower {e : EltTy} (Y : Vec Ideal S2x1024 e) (j : Fin 1024) : View.ld Y lower (ix2 0 j) = Y (ix2 1 j) := congrArg Y (lower_idx j)

theorem not_lower (j : Fin 1024) : (ix2 (0 : Fin 2) j : S2x1024.Idx) ∉ lower.set := by
  intro h
  exact absurd (Rect.mem_set_unit.1 h 0).1 (by show ¬(1 ≤ 0); omega)

/-- After the two rows are written, each is what was written. -/
theorem wrote_lower {e : EltTy} (L : List (View.Piece (Elt Ideal) S2x1024 e)) (w : lower.shape.Idx → Elt Ideal e) (j : Fin 1024) :
    View.canon (⟨lower, w⟩ :: L) (ix2 (1 : Fin 2) j) = w (ix2 0 j) :=
  (congrArg _ (lower_idx j).symm).trans (View.canon_cons_emb lower w L (ix2 0 j))
theorem wrote_upper {e : EltTy} (L : List (View.Piece (Elt Ideal) S2x1024 e)) (w : lower.shape.Idx → Elt Ideal e) (w' : upper.shape.Idx → Elt Ideal e)
    (j : Fin 1024) : View.canon (⟨lower, w⟩ :: ⟨upper, w'⟩ :: L) (ix2 (0 : Fin 2) j) = w' (ix2 0 j) := by
  rw [View.canon_cons_of_not_mem (⟨lower, w⟩ : View.Piece (Elt Ideal) S2x1024 e) (⟨upper, w'⟩ :: L) (not_lower j)]
  exact (congrArg (View.canon (⟨upper, w'⟩ :: L)) (upper_idx j).symm).trans (View.canon_cons_emb upper w' L (ix2 0 j))

theorem pay5_entry (X : Vec Ideal S1024x1024 .f32) (i : Fin 1024) (f : ℕ → EReal) (hX : ∀ k : Fin 1024, X (ix2 i k) = f k.val) :
    k0_pay5 X (ix2 i 0) = Ideal.rsqrt (meanSq f) := by
  unfold k0_pay5
  pointwise
  simp only [hX]
  rfl

theorem pay6_entry (X : Vec Ideal S1024x1024 .f32) (i j : Fin 1024) (f : ℕ → EReal) (hX : ∀ k : Fin 1024, X (ix2 i k) = f k.val) :
    k0_pay6 X (ix2 i j) = f j.val * Ideal.rsqrt (meanSq f) := by
  unfold k0_pay6
  pointwise
  rw [pay5_entry X i f hX, hX]

theorem pay3_entry (X D : Vec Ideal S1024x1024 .f32) (Y Z : Vec Ideal S1024x1024 .bf16) (G H : Vec Ideal S1x1024 .f32) (i j : Fin 1024)
    (f y z g h : ℕ → EReal) (d : EReal) (hX : ∀ k : Fin 1024, X (ix2 i k) = f k.val) (hY : ∀ k : Fin 1024, Y (ix2 i k) = y k.val)
    (hZ : ∀ k : Fin 1024, Z (ix2 i k) = z k.val) (hG : ∀ k : Fin 1024, G (ix2 0 k) = g k.val) (hH : ∀ k : Fin 1024, H (ix2 0 k) = h k.val)
    (hD : D (ix2 i j) = d) :
    k0_pay3 (k0_pay5 X) (k0_pay6 X) D (k0_pay10 X Y G) Z H (ix2 i j)
      = rowGrad f (fun k => z k * h k) (rowGrad f (fun k => y k * g k) d j.val) j.val := by
  unfold k0_pay3 k0_pay10 k0_pay1 k0_pay8
  pointwise
  simp only [pay5_entry X i f hX, pay6_entry X i _ f hX, hY, hZ, hG, hH, hD]
  rfl

theorem pay4_entry (X D : Vec Ideal S1024x1024 .f32) (Y Z : Vec Ideal S1024x1024 .bf16) (G H : Vec Ideal S1x1024 .f32) (i j : Fin 1024)
    (f y z g h : ℕ → EReal) (d : EReal) (hX : ∀ k : Fin 1024, X (ix2 i k) = f k.val) (hY : ∀ k : Fin 1024, Y (ix2 i k) = y k.val)
    (hZ : ∀ k : Fin 1024, Z (ix2 i k) = z k.val) (hG : ∀ k : Fin 1024, G (ix2 0 k) = g k.val) (hH : ∀ k : Fin 1024, H (ix2 0 k) = h k.val)
    (hD : D (ix2 i j) = d) :
    k0_pay4 (k0_pay5 X) (k0_pay6 X) D (k0_pay10 X Y G) Z H (ix2 i j)
      = rowGrad f (fun k => z k * h k) (rowGrad f (fun k => y k * g k) d j.val) j.val := by
  unfold k0_pay4
  pointwise
  exact pay3_entry X D Y Z G H i j f y z g h d hX hY hZ hG hH hD

theorem pay9_entry (X : Vec Ideal S1024x1024 .f32) (Y : Vec Ideal S1024x1024 .bf16) (Z : Vec Ideal S1x1024 .f32) (j : Fin 1024)
    (f y : ℕ → ℕ → EReal) (hX : ∀ i k : Fin 1024, X (ix2 i k) = f i.val k.val) (hY : ∀ i k : Fin 1024, Y (ix2 i k) = y i.val k.val) :
    k0_pay9 X Y Z (ix2 0 j) = (Z (ix2 0 j) : EReal) + ∑ i : Fin 1024, y i.val j.val * (f i.val j.val * Ideal.rsqrt (meanSq (f i.val))) := by
  unfold k0_pay9 k0_pay8
  pointwise
  exact congrArg₂ (· + ·) rfl (Finset.sum_congr rfl fun i _ => congrArg₂ (· * ·) (hY i j) (pay6_entry X i j (f i.val) (hX i)))

theorem pay2_entry (X : Vec Ideal S1024x1024 .f32) (Y : Vec Ideal S1024x1024 .bf16) (Z : Vec Ideal S1x1024 .f32) (j : Fin 1024)
    (f y : ℕ → ℕ → EReal) (hX : ∀ i k : Fin 1024, X (ix2 i k) = f i.val k.val) (hY : ∀ i k : Fin 1024, Y (ix2 i k) = y i.val k.val) :
    k0_pay2 (k0_pay6 X) Y Z (ix2 0 j) = (Z (ix2 0 j) : EReal) + ∑ i : Fin 1024, y i.val j.val * (f i.val j.val * Ideal.rsqrt (meanSq (f i.val))) := by
  unfold k0_pay2 k0_pay1
  pointwise
  exact congrArg₂ (· + ·) rfl (Finset.sum_congr rfl fun i _ => congrArg₂ (· * ·) (hY i j) (pay6_entry X i j (f i.val) (hX i)))

theorem pay7_entry (z : S2x1024.Idx) : (k0_pay7 (F := Ideal)) z = 0 := by
  rw [eq_ix2 z]
  unfold k0_pay7
  pointwise

theorem not_upper (j : Fin 1024) : (ix2 (1 : Fin 2) j : S2x1024.Idx) ∉ upper.set := by
  intro h
  exact absurd (Rect.mem_set_unit.1 h 0).2 (by show ¬(1 < 0 + 1); omega)

/-- A row read after the zeros are written. -/
theorem zero_upper (v : View sig .tc .vmem S2x1024 .f32) (inb) (j : Fin 1024) :
    v.readCov (Val := Elt Ideal) [⟨Rect.unit (s := S2x1024) ![0, 0] S2x1024.size inb, k0_pay7 (F := Ideal)⟩] upper.toLoadRect (ix2 0 j) = (0 : EReal) := by
  rw [View.readCov_eq_canon', View.canon_unit_zero (S := S2x1024) zeros2]
  exact pay7_entry _
theorem zero_lower (v : View sig .tc .vmem S2x1024 .f32) (inb) (w : upper.shape.Idx → Elt Ideal .f32) (j : Fin 1024) :
    v.readCov (Val := Elt Ideal) [⟨upper, w⟩, ⟨Rect.unit (s := S2x1024) ![0, 0] S2x1024.size inb, k0_pay7 (F := Ideal)⟩] lower.toLoadRect (ix2 0 j) = (0 : EReal) := by
  rw [View.readCov_eq_canon']
  refine (congrArg _ (lower_idx j)).trans ?_
  rw [View.canon_cons_of_not_mem (⟨upper, w⟩ : View.Piece (Elt Ideal) S2x1024 .f32) _ (not_upper j), View.canon_unit_zero (S := S2x1024) zeros2]
  exact pay7_entry _

theorem point5_A (t : Fin cfg0.N) (h0 : t.val % 8 = 0) (i j : Fin 1024) :
    (outsAt0 m c t.val t.isLt).1 (ix2 i j) = dx m c (1024 * (t.val) + i.val) j.val := by
  rw [outsAt0_A m c t h0]
  dsimp only
  unfold out0_A_5
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zeros2]
  simp only [View.ld_unit_zero (S := S1024x1024) zeros2]
  exact pay3_entry (blk0 m c t) (blk4 m c t) (blk2 m c t) (blk3 m c t) _ _ i j _ _ _ _ _ _ (fun k => read0 m c t i k)
    (fun k => read2 m c t i k) (fun k => read3 m c t i k) (fun k => (ld_upper (blk1 m c t) k).trans (read1 m c t 0 k))
    (fun k => (ld_lower (blk1 m c t) k).trans (read1 m c t 1 k)) (read4 m c t i j)

theorem point5_B (t : Fin cfg0.N) (h0 : ¬t.val % 8 = 0) (i j : Fin 1024) :
    (outsAt0 m c t.val t.isLt).1 (ix2 i j) = dx m c (1024 * (t.val) + i.val) j.val := by
  rw [outsAt0_B m c t h0]
  dsimp only
  unfold out0_B_5
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zeros2]
  simp only [View.ld_unit_zero (S := S1024x1024) zeros2]
  exact pay3_entry (blk0 m c t) (blk4 m c t) (blk2 m c t) (blk3 m c t) _ _ i j _ _ _ _ _ _ (fun k => read0 m c t i k)
    (fun k => read2 m c t i k) (fun k => read3 m c t i k) (fun k => (ld_upper (blk1 m c t) k).trans (read1 m c t 0 k))
    (fun k => (ld_lower (blk1 m c t) k).trans (read1 m c t 1 k)) (read4 m c t i j)

/-- What a point leaves in the buffer of the gradient. -/
theorem point5 (t : Fin cfg0.N) (i j : Fin 1024) :
    (outsAt0 m c t.val t.isLt).1 (ix2 i j) = dx m c (1024 * (t.val) + i.val) j.val := by
  by_cases h0 : t.val % 8 = 0
  · exact point5_A m c t h0 i j
  · exact point5_B m c t h0 i j

theorem point6_A (t : Fin cfg0.N) (h0 : t.val % 8 = 0) (i j : Fin 1024) :
    (outsAt0 m c t.val t.isLt).2.1 (ix2 i j) = dx m c (1024 * (t.val) + i.val) j.val := by
  rw [outsAt0_A m c t h0]
  dsimp only
  unfold out0_A_6
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zeros2]
  simp only [View.ld_unit_zero (S := S1024x1024) zeros2]
  exact pay4_entry (blk0 m c t) (blk4 m c t) (blk2 m c t) (blk3 m c t) _ _ i j _ _ _ _ _ _ (fun k => read0 m c t i k)
    (fun k => read2 m c t i k) (fun k => read3 m c t i k) (fun k => (ld_upper (blk1 m c t) k).trans (read1 m c t 0 k))
    (fun k => (ld_lower (blk1 m c t) k).trans (read1 m c t 1 k)) (read4 m c t i j)

theorem point6_B (t : Fin cfg0.N) (h0 : ¬t.val % 8 = 0) (i j : Fin 1024) :
    (outsAt0 m c t.val t.isLt).2.1 (ix2 i j) = dx m c (1024 * (t.val) + i.val) j.val := by
  rw [outsAt0_B m c t h0]
  dsimp only
  unfold out0_B_6
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zeros2]
  simp only [View.ld_unit_zero (S := S1024x1024) zeros2]
  exact pay4_entry (blk0 m c t) (blk4 m c t) (blk2 m c t) (blk3 m c t) _ _ i j _ _ _ _ _ _ (fun k => read0 m c t i k)
    (fun k => read2 m c t i k) (fun k => read3 m c t i k) (fun k => (ld_upper (blk1 m c t) k).trans (read1 m c t 0 k))
    (fun k => (ld_lower (blk1 m c t) k).trans (read1 m c t 1 k)) (read4 m c t i j)

/-- What a point leaves in the buffer of the gradient. -/
theorem point6 (t : Fin cfg0.N) (i j : Fin 1024) :
    (outsAt0 m c t.val t.isLt).2.1 (ix2 i j) = dx m c (1024 * (t.val) + i.val) j.val := by
  by_cases h0 : t.val % 8 = 0
  · exact point6_A m c t h0 i j
  · exact point6_B m c t h0 i j

/-- The first point starts the row of the gains' gradient. -/
theorem first0 (t : Fin cfg0.N) (h0 : t.val % 8 = 0) (j : Fin 1024) :
    (outsAt0 m c t.val t.isLt).2.2 (ix2 0 j) = tile m c 0 j.val 0 := by
  have hN : cfg0.N = 8 := N_0
  have ht := t.isLt
  rw [outsAt0_A m c t h0]
  dsimp only
  unfold out0_A_7
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S1024x1024) zeros2]
  rw [wrote_upper]
  refine (pay9_entry (blk0 m c t) (blk2 m c t) _ j (fun i => x m c (1024 * t.val + i)) (fun i => dy m c (1024 * t.val + i))
    (fun i k => read0 m c t i k) (fun i k => read2 m c t i k)).trans ?_
  refine (congrArg₂ (· + ·) (zero_upper (ms0_7 t).view _ j) ?_).trans (zero_add _)
  rw [show t.val = 0 by omega]
  rfl

/-- A later point adds its block to the row. -/
theorem next0 (t : Fin cfg0.N) (h0 : ¬t.val % 8 = 0) (j : Fin 1024) :
    (outsAt0 m c t.val t.isLt).2.2 (ix2 0 j)
      = (outsAt0 m c (t.val - 1) (Nat.lt_of_le_of_lt (Nat.sub_le _ _) t.isLt)).2.2 (ix2 0 j) + tile m c 0 j.val t.val := by
  rw [outsAt0_B m c t h0]
  dsimp only
  unfold out0_B_7
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S1024x1024) zeros2]
  rw [wrote_upper]
  refine (pay9_entry (blk0 m c t) (blk2 m c t) _ j (fun i => x m c (1024 * t.val + i)) (fun i => dy m c (1024 * t.val + i))
    (fun i k => read0 m c t i k) (fun i k => read2 m c t i k)).trans ?_
  exact congrArg₂ (· + ·) (ld_upper _ j) rfl

theorem held0 (j : Fin 1024) (u : ℕ) (hu : u < cfg0.N) :
    (outsAt0 m c u hu).2.2 (ix2 0 j) = ∑ v ∈ Finset.range (u % 8 + 1), tile m c 0 j.val v :=
  run_sum 8 7 cfg0.N (by omega) (fun u hu => (outsAt0 m c u hu).2.2 (ix2 0 j)) (fun _ v => tile m c 0 j.val v)
    (fun u hu h => first0 m c ⟨u, hu⟩ h j)
    (fun u hu h _ => (next0 m c ⟨u + 1, hu⟩ h j).trans (by
      have hN : cfg0.N = 8 := N_0
      rw [Nat.mod_eq_of_lt (show u + 1 < 8 by omega)]
      simp only [Nat.add_sub_cancel])) u hu (by omega)

/-- The first point starts the row of the gains' gradient. -/
theorem first1 (t : Fin cfg0.N) (h0 : t.val % 8 = 0) (j : Fin 1024) :
    (outsAt0 m c t.val t.isLt).2.2 (ix2 1 j) = tile m c 1 j.val 0 := by
  have hN : cfg0.N = 8 := N_0
  have ht := t.isLt
  rw [outsAt0_A m c t h0]
  dsimp only
  unfold out0_A_7
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S1024x1024) zeros2]
  rw [wrote_lower]
  refine (pay2_entry (blk0 m c t) (blk3 m c t) _ j (fun i => x m c (1024 * t.val + i)) (fun i => dz m c (1024 * t.val + i))
    (fun i k => read0 m c t i k) (fun i k => read3 m c t i k)).trans ?_
  refine (congrArg₂ (· + ·) (zero_lower (ms0_7 t).view _ _ j) ?_).trans (zero_add _)
  rw [show t.val = 0 by omega]
  rfl

/-- A later point adds its block to the row. -/
theorem next1 (t : Fin cfg0.N) (h0 : ¬t.val % 8 = 0) (j : Fin 1024) :
    (outsAt0 m c t.val t.isLt).2.2 (ix2 1 j)
      = (outsAt0 m c (t.val - 1) (Nat.lt_of_le_of_lt (Nat.sub_le _ _) t.isLt)).2.2 (ix2 1 j) + tile m c 1 j.val t.val := by
  rw [outsAt0_B m c t h0]
  dsimp only
  unfold out0_B_7
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S1024x1024) zeros2]
  rw [wrote_lower]
  refine (pay2_entry (blk0 m c t) (blk3 m c t) _ j (fun i => x m c (1024 * t.val + i)) (fun i => dz m c (1024 * t.val + i))
    (fun i k => read0 m c t i k) (fun i k => read3 m c t i k)).trans ?_
  exact congrArg₂ (· + ·) (ld_lower _ j) rfl

theorem held1 (j : Fin 1024) (u : ℕ) (hu : u < cfg0.N) :
    (outsAt0 m c u hu).2.2 (ix2 1 j) = ∑ v ∈ Finset.range (u % 8 + 1), tile m c 1 j.val v :=
  run_sum 8 7 cfg0.N (by omega) (fun u hu => (outsAt0 m c u hu).2.2 (ix2 1 j)) (fun _ v => tile m c 1 j.val v)
    (fun u hu h => first1 m c ⟨u, hu⟩ h j)
    (fun u hu h _ => (next1 m c ⟨u + 1, hu⟩ h j).trans (by
      have hN : cfg0.N = 8 := N_0
      rw [Nat.mod_eq_of_lt (show u + 1 < 8 by omega)]
      simp only [Nat.add_sub_cancel])) u hu (by omega)

/-- What the last point leaves in the buffer of the gains' gradient. -/
theorem point7 (t : Fin cfg0.N) (h : t.val % 8 = 7) (i : Fin 2) (j : Fin 1024) :
    (outsAt0 m c t.val t.isLt).2.2 (ix2 i j) = dg m c i.val j.val := by
  match i with
  | ⟨0, _⟩ => exact (held0 m c j t.val t.isLt).trans (by rw [h, tiles])
  | ⟨1, _⟩ => exact (held1 m c j t.val t.isLt).trans (by rw [h, tiles])

/-- The result array. -/
def out5 : S8192x1024.Idx → EReal := fun i => dx m c (i 0).val (i 1).val

/-- The result array after the run. -/
theorem final5 : (dats m 0 c).arrAt 5 cfg0.N = out5 m c := by
  have hN : cfg0.N = 8 := N_0
  refine (dats m 0 c).arrAt_eq_of_cover 5 (out5 m c) (fun t hf => ?_) fun i => ?_
  · rw [Cert.Kernel22Ideal.Value.flushed5]
    have hi := congrFun (idx5 t)
    have ht := t.isLt
    funext y
    rw [View.read_apply]
    refine ((congrArg ((outsAt0 m c t.val t.isLt).1) (eq_ix2 y)).trans (point5 m c t (y 0) (y 1))).trans (Eq.trans (b := out5 m c (((cfg0.win 5).blk t).view.emb y)) (congrArg₂ (dx m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_5 t, ?_⟩
    have hi := congrFun (idx5 t)
    refine mem_of (View.set_slice_whole main_v0_0 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out6 : S8192x1024.Idx → EReal := fun i => dx m c (i 0).val (i 1).val

/-- The result array after the run. -/
theorem final6 : (dats m 0 c).arrAt 6 cfg0.N = out6 m c := by
  have hN : cfg0.N = 8 := N_0
  refine (dats m 0 c).arrAt_eq_of_cover 6 (out6 m c) (fun t hf => ?_) fun i => ?_
  · rw [Cert.Kernel22Ideal.Value.flushed6]
    have hi := congrFun (idx6 t)
    have ht := t.isLt
    funext y
    rw [View.read_apply]
    refine ((congrArg ((outsAt0 m c t.val t.isLt).2.1) (eq_ix2 y)).trans (point6 m c t (y 0) (y 1))).trans (Eq.trans (b := out6 m c (((cfg0.win 6).blk t).view.emb y)) (congrArg₂ (dx m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_6 t, ?_⟩
    have hi := congrFun (idx6 t)
    refine mem_of (View.set_slice_whole main_v0_1 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out7 : S2x1024.Idx → EReal := fun i => dg m c (i 0).val (i 1).val

/-- The result array after the run. -/
theorem final7 : (dats m 0 c).arrAt 7 cfg0.N = out7 m c := by
  have hN : cfg0.N = 8 := N_0
  refine (dats m 0 c).arrAt_eq_of_cover 7 (out7 m c) (fun t hf => ?_) fun i => ?_
  · rw [Cert.Kernel22Ideal.Value.flushed7]
    have hi := congrFun (idx7 t)
    have ht := t.isLt
    funext y
    rw [View.read_apply]
    refine ((congrArg ((outsAt0 m c t.val t.isLt).2.2) (eq_ix2 y)).trans (point7 m c t ((flush0_7 t).mp hf) (y 0) (y 1))).trans (Eq.trans (b := out7 m c (((cfg0.win 7).blk t).view.emb y)) (congrArg₂ (dg m c) ?_ ?_) (Eq.symm (cast_eq _ _)))
    · exact of_pos 2 (hi 0) (by simp <;> omega)
    · exact of_pos 1024 (hi 1) (by simp <;> omega)
  · have h0 : (i 0 : ℕ) < 2 := (i 0).isLt
    have h1 : (i 1 : ℕ) < 1024 := (i 1).isLt
    obtain ⟨t, ht⟩ : ∃ t : Fin cfg0.N, t.val = 7 :=
      ⟨⟨_, by omega⟩, rfl⟩
    refine ⟨t, (flush0_7 t).mpr (by omega), ?_⟩
    have hi := congrFun (idx7 t)
    refine mem_of (View.set_slice_whole main_v0_2 _) (Rect.mem_set_unit.2 fun a => ?_)
    match a with
    | ⟨0, _⟩ => exact in_block 2 (i 0) (hi 0) (by simp <;> omega)
    | ⟨1, _⟩ => exact in_block 1024 (i 1) (hi 1) (by simp <;> omega)

end Cert.Kernel22Ideal.Norm
end
-- ==== Proof.Norm.Bwd2Claim.lean ====
/-
  The gradient of one array under two root mean square normalisations: the kernel's three arrays are the reference's.
-/
module

public import proofs.«01_k».proof.Defs
public import proofs.«01_k».proof.Proof.Norm.Bwd2
public import proofs.«01_k».proof.Proof.Gen.Reference22Ideal.Read
public import Idealize.ShloMosaic.Lib.KernelVsHost

@[expose] public section

noncomputable section

namespace Cert.Norm.Bwd2

open Idealize.ShloMosaic Idealize.ShloMosaic.TcCoe Idealize.SL.Sem
open Cert.Product Cert.Kernel22Ideal Cert.Kernel22Ideal.Norm Cert.Reference22Ideal.Read

attribute [local instance] Cert.Kernel22Ideal.Gen.facts Cert.Reference22Ideal.Gen.facts

/-- What comes through the second normalisation is added to the residual's gradient first, and the order does not matter. -/
theorem rowGrad_swap (f a b : ℕ → EReal) (d : EReal) (j : ℕ) :
    rowGrad f a (rowGrad f b d j) j = rowGrad f b (rowGrad f a d j) j := by
  unfold rowGrad
  exact add_right_comm _ _ _

variable (X : S8192x1024.Idx → EReal) (G : S2x1024.Idx → EReal) (Y Z D : S8192x1024.Idx → EReal)

/-- The residual's gradient and what comes through the second normalisation. -/
theorem plain_mid (i : Fin 8192) (j : Fin 1024) (f z h : ℕ → EReal) (d : EReal) (hX : ∀ k : Fin 1024, X (ix2 i k) = f k.val)
    (hZ : ∀ k : Fin 1024, Z (ix2 i k) = z k.val) (hH : ∀ k : Fin 1024, G (ix2 1 k) = h k.val) (hD : D (ix2 i j) = d) :
    val_main_v58 (F := Ideal) X G Z D (ix2 i j) = rowGrad f (fun k => z k * h k) d j.val := by
  rw [rowGrad_eq]
  unfold val_main_v58 val_main_v57 val_main_v56 val_main_v55 val_main_v54 val_main_v53 val_main_cst_11 val_main_v52 val_main_v51 val_main_cst_10 val_main_v50 val_main_v49 val_main_v48 val_main_v47 val_main_v46 val_main_v45 val_main_cst_9 val_main_v44 val_main_v42 val_main_v41 val_main_v37 val_main_v33 val_main_v30 val_main_v29 val_main_cst_6 val_main_v28 val_main_v27 val_main_v26 val_main_v25 val_main_cst_5 val_main_v24 val_main_v23 val_main_cst_4 val_main_v22 val_main_v21 val_main_cst_3 val_main_v20 val_main_v19 val_main_v18
  pointwise
  simp only [Fin.sum_univ_one, hX, hZ, hD]
  simp only [hH]
  rfl

/-- The reference's gradient of the array, read at an index. -/
theorem plain_dx (i : Fin 8192) (j : Fin 1024) (f y g : ℕ → EReal) (d : EReal) (hX : ∀ k : Fin 1024, X (ix2 i k) = f k.val)
    (hY : ∀ k : Fin 1024, Y (ix2 i k) = y k.val) (hG : ∀ k : Fin 1024, G (ix2 0 k) = g k.val)
    (hM : val_main_v58 (F := Ideal) X G Z D (ix2 i j) = d) :
    val_main_v81 (F := Ideal) X G Y Z D (ix2 i j) = rowGrad f (fun k => y k * g k) d j.val := by
  rw [rowGrad_eq]
  unfold val_main_v81 val_main_v80 val_main_v79 val_main_v78 val_main_v77 val_main_v76 val_main_cst_17 val_main_v75 val_main_v74 val_main_cst_16 val_main_v73 val_main_v72 val_main_v71 val_main_v70 val_main_v69 val_main_v68 val_main_cst_15 val_main_v67 val_main_v65 val_main_v64 val_main_v36 val_main_v15 val_main_v12 val_main_v11 val_main_cst_2 val_main_v10 val_main_v9 val_main_v8 val_main_v7 val_main_cst_1 val_main_v6 val_main_v5 val_main_cst_0 val_main_v4 val_main_v3 val_main_cst val_main_v2 val_main_v1 val_main_v0
  pointwise
  simp only [Fin.sum_univ_one, hX, hY, hM]
  simp only [hG]
  rfl

theorem plain_dxb (i : Fin 8192) (j : Fin 1024) :
    val_main_v85 (F := Ideal) X G Y Z D (ix2 i j) = val_main_v81 (F := Ideal) X G Y Z D (ix2 i j) := by
  unfold val_main_v85
  pointwise

/-- A row of the reference's gradient of the gains, read at an index. -/
theorem plain_upper (j : Fin 1024) (f y : ℕ → ℕ → EReal)
    (hX : ∀ (i : Fin 8192) (k : Fin 1024), X (ix2 i k) = f i.val k.val) (hY : ∀ (i : Fin 8192) (k : Fin 1024), Y (ix2 i k) = y i.val k.val) :
    val_main_v82 (F := Ideal) X Y (ix2 0 j) = ∑ i : Fin 8192, y i.val j.val * (f i.val j.val * Ideal.rsqrt (meanSq (f i.val))) := by
  unfold val_main_v82 val_main_v66 val_main_cst_14 val_main_v63 val_main_v62 val_main_cst_13 val_main_v61 val_main_v36 val_main_v14 val_main_v13 val_main_v9 val_main_v8 val_main_v7 val_main_cst_1 val_main_v6 val_main_v5 val_main_cst_0 val_main_v4 val_main_v3 val_main_cst val_main_v2
  pointwise
  simp only [Fin.sum_univ_one, hX, hY]
  exact Finset.sum_congr rfl fun i _ => mul_comm _ _
theorem plain_lower (j : Fin 1024) (f y : ℕ → ℕ → EReal)
    (hX : ∀ (i : Fin 8192) (k : Fin 1024), X (ix2 i k) = f i.val k.val) (hY : ∀ (i : Fin 8192) (k : Fin 1024), Z (ix2 i k) = y i.val k.val) :
    val_main_v59 (F := Ideal) X Z (ix2 0 j) = ∑ i : Fin 8192, y i.val j.val * (f i.val j.val * Ideal.rsqrt (meanSq (f i.val))) := by
  unfold val_main_v59 val_main_v43 val_main_cst_8 val_main_v40 val_main_v39 val_main_cst_7 val_main_v38 val_main_v37 val_main_v32 val_main_v31 val_main_v27 val_main_v26 val_main_v25 val_main_cst_5 val_main_v24 val_main_v23 val_main_cst_4 val_main_v22 val_main_v21 val_main_cst_3 val_main_v20
  pointwise
  simp only [Fin.sum_univ_one, hX, hY]
  exact Finset.sum_congr rfl fun i _ => mul_comm _ _

/-- Each row is placed among zeros, and the two are added. -/
theorem plain_rows (j : Fin 1024) : val_main_v84 (F := Ideal) X Y Z (ix2 0 j) = val_main_v82 (F := Ideal) X Y (ix2 0 j)
    ∧ val_main_v84 (F := Ideal) X Y Z (ix2 1 j) = val_main_v59 (F := Ideal) X Z (ix2 0 j) := by
  have z0 : (Ideal.ofBits .f32 0x00000000#32) = 0 := by simp [Ideal.ofBits, Ideal.ieee]
  have a0 : val_main_v60 (F := Ideal) X Z (ix2 0 j) = 0 := by
    unfold val_main_v60
    rw [pad_apply_of_not_inside _ _ _ _ _ _ _ _ (0 : Fin 2) (by intro h; exact absurd h.1 (by show ¬(1 ≤ 0); omega))]
    exact z0
  have a1 : val_main_v60 (F := Ideal) X Z (ix2 1 j) = val_main_v59 (F := Ideal) X Z (ix2 0 j) := by
    unfold val_main_v60
    exact pad_apply_of_inside _ _ _ _ _ _ _ _ _ (fun a => match a with
      | ⟨0, _⟩ => by show 1 = 1 + 0 * (0 + 1); omega
      | ⟨1, _⟩ => by show j.val = 0 + j.val * (0 + 1); omega)
  have b1 : val_main_v83 (F := Ideal) X Y (ix2 1 j) = 0 := by
    unfold val_main_v83
    rw [pad_apply_of_not_inside _ _ _ _ _ _ _ _ (0 : Fin 2) (by intro h; exact absurd h.2.2 (by show ¬((1 - 0) / (0 + 1) < 1); omega))]
    exact z0
  have b0 : val_main_v83 (F := Ideal) X Y (ix2 0 j) = val_main_v82 (F := Ideal) X Y (ix2 0 j) := by
    unfold val_main_v83
    exact pad_apply_of_inside _ _ _ _ _ _ _ _ _ (fun a => match a with
      | ⟨0, _⟩ => by show 0 = 0 + 0 * (0 + 1); omega
      | ⟨1, _⟩ => by show j.val = 0 + j.val * (0 + 1); omega)
  refine ⟨?_, ?_⟩
  · show val_main_v60 (F := Ideal) X Z (ix2 0 j) + val_main_v83 (F := Ideal) X Y (ix2 0 j) = _
    rw [a0, b0]
    exact zero_add _
  · show val_main_v60 (F := Ideal) X Z (ix2 1 j) + val_main_v83 (F := Ideal) X Y (ix2 1 j) = _
    rw [a1, b1]
    exact add_zero _

/-- The reference changes no argument, and declares no semaphore. -/
theorem frame : Cert.quiescent_Reference22Ideal := fun m ρ _ =>
  (θ_run Cert.Reference22Ideal.defs _ _).mono
    (fun r h => ⟨fun c => (h c).2.2.2, sem_eq_zero_of_no_sems (by decide) r.2⟩) (Cert.Reference22Ideal.Value.run m ρ)

/-- The two programs leave the same three arrays. -/
theorem algebraic : Cert.algebraic_Kernel22Ideal_Reference22Ideal := by
  intro m g m' g' _ hargs
  have hd : ∀ c : Dev nD, ∀ i : S8192x1024.Idx,
      val_main_v81 (F := Ideal) (argX m c) (argG m c) (argY m c) (argZ m c) (argD m c) i = dx m c (i 0).val (i 1).val := fun c i =>
    ((congrArg _ (eq_ix2 i)).trans (plain_dx (argX m c) (argG m c) (argY m c) (argZ m c) (argD m c) (i 0) (i 1) (x m c (i 0).val)
      (dy m c (i 0).val) (gain m c 0) _ (fun k => at2_val 8192 1024 (argX m c) _ _ _ rfl rfl)
      (fun k => at2_val 8192 1024 (argY m c) _ _ _ rfl rfl) (fun k => at2_val 2 1024 (argG m c) _ _ _ rfl rfl)
      (plain_mid (argX m c) (argG m c) (argZ m c) (argD m c) (i 0) (i 1) (x m c (i 0).val) (dz m c (i 0).val) (gain m c 1) _
        (fun k => at2_val 8192 1024 (argX m c) _ _ _ rfl rfl) (fun k => at2_val 8192 1024 (argZ m c) _ _ _ rfl rfl)
        (fun k => at2_val 2 1024 (argG m c) _ _ _ rfl rfl) (at2_val 8192 1024 (argD m c) _ _ _ rfl rfl)))).trans (rowGrad_swap _ _ _ _ _)
  refine ⟨fun c => out5 m c, fun c => out6 m c, fun c => out7 m c, ?_, ?_⟩
  · exact (θ_run Cert.Kernel22Ideal.defs _ _).mono
      (fun r h c => ⟨(h c).1.trans (final5 m c), (h c).2.1.trans (final6 m c), (h c).2.2.1.trans (final7 m c), (h c).2.2.2⟩)
      (Cert.Kernel22Ideal.Value.run_blocks m g)
  · refine (θ_run Cert.Reference22Ideal.defs _ _).mono
      (fun r h c => ⟨(h c).1.trans ?_, (h c).2.1.trans ?_, (h c).2.2.1.trans ?_, (h c).2.2.2⟩)
      (Cert.Reference22Ideal.Value.run m' g')
    · refine (val_main_v81_eq _ _).trans ?_
      rw [(hargs c).1, (hargs c).2.1, (hargs c).2.2.1, (hargs c).2.2.2.1, (hargs c).2.2.2.2]
      funext i
      exact hd c i
    · refine (val_main_v85_eq _ _).trans ?_
      rw [(hargs c).1, (hargs c).2.1, (hargs c).2.2.1, (hargs c).2.2.2.1, (hargs c).2.2.2.2]
      funext i
      exact ((congrArg _ (eq_ix2 i)).trans (plain_dxb _ _ _ _ _ (i 0) (i 1))).trans ((congrArg _ (eq_ix2 i).symm).trans (hd c i))
    · refine (val_main_v84_eq _ _ _).trans ?_
      rw [(hargs c).1, (hargs c).2.2.1, (hargs c).2.2.2.1]
      have hr : ∀ (q : Fin 2) (j : Fin 1024), val_main_v84 (F := Ideal) (argX m c) (argY m c) (argZ m c) (ix2 q j) = dg m c q.val j.val := fun q j =>
        match q with
        | ⟨0, _⟩ => (plain_rows (argX m c) (argY m c) (argZ m c) j).1.trans (plain_upper (argX m c) (argY m c) j (x m c) (dy m c)
            (fun i k => at2_val 8192 1024 (argX m c) _ _ _ rfl rfl) (fun i k => at2_val 8192 1024 (argY m c) _ _ _ rfl rfl))
        | ⟨1, _⟩ => (plain_rows (argX m c) (argY m c) (argZ m c) j).2.trans (plain_lower (argX m c) (argZ m c) j (x m c) (dz m c)
            (fun i k => at2_val 8192 1024 (argX m c) _ _ _ rfl rfl) (fun i k => at2_val 8192 1024 (argZ m c) _ _ _ rfl rfl))
      funext i
      exact (congrArg _ (eq_ix2 i)).trans (hr (i 0) (i 1))

end Cert.Norm.Bwd2
end
-- ==== Proof.Conv.ActBwd.lean ====
/-
  The gated activation's gradient, one tile at a time. A channel carries two sequences, each convolved with three taps and
  a bias: the first goes through the activation, the second multiplies it. The lemmas here read the kernel's values at a
  row and a column as those sequences, in the numbering that has sixteen zeros in front of every sequence.
-/
module

public import proofs.«01_k».proof.Proof.Conv.Tile
public import proofs.«01_k».proof.Proof.Gen.Kernel23Ideal.Skeleton
public import Idealize.ShloMosaic.Lib.Pointwise
public import Idealize.ShloMosaic.Lib.Tactic

@[expose] public section

noncomputable section

namespace Cert.ActBwd

open Cert.Kernel23Ideal Cert.Kernel23Ideal.Gen Idealize.ShloMosaic Idealize.ShloMosaic.TcCoe Idealize.SL.Sem
open Cert.KernelIdeal.Grad (pad16 pad16_mid pad16_low pad16_high pad16_at sel_apply canon_skip)

/-- One over one plus the exponential of the negated number. -/
def sg (x : EReal) : EReal := Ideal.div 1 (1 + Ideal.exp (0 - x))

/-- What one channel of one batch element holds: the two sequences, their taps and biases, and the incoming gradient. -/
structure Chan where
  seq : Fin 2 → Fin 4096 → EReal
  w : Fin 2 → Fin 3 → EReal
  v : Fin 2 → EReal
  d : Fin 4096 → EReal

namespace Chan

variable (C : Chan)

/-- The causal convolution of a sequence with its taps, and its bias. -/
def pre (k : Fin 2) (n : ℕ) : EReal :=
  C.w k 0 * pad16 (C.seq k) (n - 2) + C.w k 1 * pad16 (C.seq k) (n - 1) + C.w k 2 * pad16 (C.seq k) n + C.v k

/-- The gradients of the two convolutions. -/
def grad (k : Fin 2) (n : ℕ) : EReal :=
  match k with
  | 0 => pad16 C.d n * C.pre 1 n * (sg (C.pre 0 n) * (1 + C.pre 0 n * (1 - sg (C.pre 0 n))))
  | 1 => pad16 C.d n * (C.pre 0 n * sg (C.pre 0 n))

/-- The gradients of the two sequences: the transposed convolution. -/
def plane (k : Fin 2) (n : ℕ) : EReal := C.w k 2 * C.grad k n + C.w k 1 * C.grad k (n + 1) + C.w k 0 * C.grad k (n + 2)

/-- One place's part of the gradient of tap `j`. -/
def tap (k : Fin 2) (j : Fin 3) (n : ℕ) : EReal := C.grad k n * pad16 (C.seq k) (n - (2 - j.val))

end Chan

/-- From row `lo` on, the extended tile `s` reads the sequences `F`, one for each column. -/
def Rows (s lo : ℕ) (T : FVec Ideal S1056x256 .f32) (F : Fin 256 → ℕ → EReal) : Prop :=
  ∀ (p : Fin 1056) (q : Fin 256), lo ≤ p.val → T (ix2 p q) = F q (1024 * s + p.val)

theorem concat_row (top bot : FVec Ideal S16x256 .f32) (mid : FVec Ideal S1024x256 .f32) (g : ℕ → EReal) (q : Fin 256)
    (ht : ∀ r : Fin 16, top (ix2 r q) = g r.val) (hm : ∀ r : Fin 1024, mid (ix2 r q) = g (16 + r.val))
    (hb : ∀ r : Fin 16, bot (ix2 r q) = g (1040 + r.val)) (p : Fin 1056) :
    concatenate S1056x256 0 [⟨S16x256, top⟩, ⟨S1024x256, mid⟩, ⟨S16x256, bot⟩]
      concatenates_S16x256_S1024x256_S16x256_S1056x256_d0 (ix2 p q) = g p.val := by
  pointwise
  split
  · rw [ht]
  · split
    · rw [hm]; congr 1; simp only; omega
    · rw [hb]; congr 1; simp only; omega

section
variable (s : ℕ) (f : Fin 256 → Fin 4096 → EReal)

/-- A block of 1024 rows of the sequences. -/
def Mid (x : Vec Ideal S1x1024x256 .bf16) : Prop :=
  ∀ (r : Fin 1024) (q : Fin 256), x (ix3 0 r q) = pad16 (f q) (1024 * s + (16 + r.val))

/-- The sixteen rows above it. -/
def Top (x : Vec Ideal S1x16x256 .bf16) : Prop :=
  s ≠ 0 → ∀ (r : Fin 16) (q : Fin 256), x (ix3 0 r q) = pad16 (f q) (1024 * s + r.val)

/-- The sixteen rows below it. -/
def Bot (x : Vec Ideal S1x16x256 .bf16) : Prop :=
  s ≠ 3 → ∀ (r : Fin 16) (q : Fin 256), x (ix3 0 r q) = pad16 (f q) (1024 * s + (1040 + r.val))

variable {s f} (hs : s < 4)
include hs

theorem pay10_rows (mid : Vec Ideal S1x1024x256 .bf16) (top bot : Vec Ideal S1x16x256 .bf16) (hm : Mid s f mid) (ht : Top s f top)
    (hb : Bot s f bot) :
    Rows s 0 (k0_pay10 (Scalar.cmpi .eq (BitVec.ofNat 32 s) 0#32) (Scalar.cmpi .eq (BitVec.ofNat 32 s) 3#32) (k0_pay8 mid) (k0_pay9 top)
      (Scalar.ofBits .f32 0x00000000#32) bot) (fun q => pad16 (f q)) := by
  intro p q _
  unfold k0_pay10 k0_pay8 k0_pay9
  refine concat_row _ _ _ (fun n => pad16 (f q) (1024 * s + n)) q (fun r => ?_) (fun r => ?_) (fun r => ?_) p
  · rw [sel_apply _ _ hs (by omega)]
    pointwise
    split
    · rw [pad16_low _ (by omega)]
    · rename_i h; exact ht h r q
  · pointwise
    rw [hm]
  · rw [sel_apply _ _ hs (by omega)]
    pointwise
    split
    · rw [pad16_high _ (by omega)]
    · rename_i h; exact hb h r q

theorem pay7_rows (i : grid0.Coords) (hi : (i 2).val = s) (mid : Vec Ideal S1x1024x256 .bf16) (top bot : Vec Ideal S1x16x256 .bf16)
    (hm : Mid s f mid) (ht : Top s f top) (hb : Bot s f bot) : Rows s 0 (k0_pay7 i mid top bot) (fun q => pad16 (f q)) := by
  subst hi
  exact pay10_rows hs mid top bot hm ht hb

theorem pay11_rows (mid : Vec Ideal S1x1024x256 .bf16) (bot : Vec Ideal S1x16x256 .bf16) (hm : Mid s f mid) (hb : Bot s f bot) :
    Rows s 16 (k0_pay11 (Scalar.cmpi .eq (BitVec.ofNat 32 s) 3#32) mid bot) (fun q => pad16 (f q)) := by
  intro p q hp
  unfold k0_pay11
  refine (concat_row _ _ _ (fun n => if n < 16 then 0 else pad16 (f q) (1024 * s + n)) q (fun r => ?_) (fun r => ?_) (fun r => ?_) p).trans
    (if_neg (by omega))
  · pointwise
  · pointwise
    rw [hm]
  · rw [if_neg (by omega), sel_apply _ _ hs (by omega)]
    pointwise
    split
    · rw [pad16_high _ (by omega)]
    · rename_i h; exact hb h r q

end

/-- The blocks one point works on, read as channels. -/
structure Tiles (s : ℕ) (C : Fin 256 → Chan) (v22 v36 v46 : FVec Ideal S1056x256 .f32) (v7 v8 : Vec Ideal S3x256 .f32)
    (v60 v76 : Vec Ideal S1x256 .f32) : Prop where
  first : Rows s 0 v22 (fun q => pad16 ((C q).seq 0))
  second : Rows s 0 v36 (fun q => pad16 ((C q).seq 1))
  inc : Rows s 16 v46 (fun q => pad16 (C q).d)
  taps0 : ∀ (j : Fin 3) (q : Fin 256), v7 (ix2 j q) = (C q).w 0 j
  taps1 : ∀ (j : Fin 3) (q : Fin 256), v8 (ix2 j q) = (C q).w 1 j
  bias0 : ∀ q : Fin 256, v60 (ix2 0 q) = (C q).v 0
  bias1 : ∀ q : Fin 256, v76 (ix2 0 q) = (C q).v 1

section
variable {s : ℕ} {C : Fin 256 → Chan} {v22 v36 v46 : FVec Ideal S1056x256 .f32} {v7 v8 : Vec Ideal S3x256 .f32}
  {v60 v76 : Vec Ideal S1x256 .f32} (H : Tiles s C v22 v36 v46 v7 v8 v60 v76)
include H

theorem pay12_rows : Rows s 2 (k0_pay12 v7 v22 v60) (fun q => (C q).pre 0) := by
  intro p q hp
  unfold k0_pay12
  pointwise
  rw [H.first _ _ (Nat.zero_le _), H.first _ _ (Nat.zero_le _), H.first _ _ (Nat.zero_le _), H.taps0, H.taps0, H.taps0, H.bias0]
  have e1 : 1024 * s + (p.val + 1056 - 1) % 1056 = 1024 * s + p.val - 1 := by omega
  have e2 : 1024 * s + (p.val + 1056 - 2) % 1056 = 1024 * s + p.val - 2 := by omega
  simp only [Chan.pre, e1, e2]

theorem pay16_rows (v66 v70 : FVec Ideal S1056x256 .f32)
    (h66 : Rows s 2 v66 (fun q n => (C q).w 1 0 * pad16 ((C q).seq 1) (n - 2)))
    (h70 : Rows s 2 v70 (fun q n => (C q).w 1 1 * pad16 ((C q).seq 1) (n - 1))) :
    Rows s 16 (k0_pay16 v8 v36 v46 (k0_pay12 v7 v22 v60) v66 v70 v76) (fun q => (C q).grad 0) := by
  intro p q hp
  unfold k0_pay16 k0_pay15
  pointwise
  rw [pay12_rows H _ _ (by omega), H.inc _ _ hp, h66 _ _ (by omega), h70 _ _ (by omega), H.second _ _ (Nat.zero_le _), H.taps1, H.bias1]
  rfl

theorem pay17_rows : Rows s 16 (k0_pay17 v46 (k0_pay12 v7 v22 v60)) (fun q => (C q).grad 1) := by
  intro p q hp
  unfold k0_pay17 k0_pay15
  pointwise
  rw [pay12_rows H _ _ (by omega), H.inc _ _ hp]
  rfl

theorem pay18_row (v66 v70 : FVec Ideal S1056x256 .f32)
    (h66 : Rows s 2 v66 (fun q n => (C q).w 1 0 * pad16 ((C q).seq 1) (n - 2)))
    (h70 : Rows s 2 v70 (fun q n => (C q).w 1 1 * pad16 ((C q).seq 1) (n - 1))) (r : Fin 1024) (q : Fin 256) :
    k0_pay18 v7 v8 v36 v46 (k0_pay12 v7 v22 v60) v66 v70 v76 (ix4 0 0 r q) = (C q).plane 0 (1024 * s + (16 + r.val)) := by
  have h := pay16_rows H v66 v70 h66 h70
  unfold k0_pay18
  generalize k0_pay16 v8 v36 v46 (k0_pay12 v7 v22 v60) v66 v70 v76 = A at h ⊢
  pointwise
  rw [h _ _ (by simp only; omega), h _ _ (by simp only; omega), h _ _ (by simp only; omega), H.taps0, H.taps0, H.taps0]
  have e1 : 1024 * s + (16 + r.val + 1056 - 1055) % 1056 = 1024 * s + (16 + r.val) + 1 := by omega
  have e2 : 1024 * s + (16 + r.val + 1056 - 1054) % 1056 = 1024 * s + (16 + r.val) + 2 := by omega
  simp only [Chan.plane, e1, e2]

theorem pay20_row (r : Fin 1024) (q : Fin 256) :
    k0_pay20 v8 (k0_pay17 v46 (k0_pay12 v7 v22 v60)) (k0_pay19 v8 v46 (k0_pay12 v7 v22 v60)) (ix4 0 0 r q)
      = (C q).plane 1 (1024 * s + (16 + r.val)) := by
  have h := pay17_rows H
  unfold k0_pay20 k0_pay19
  generalize k0_pay17 v46 (k0_pay12 v7 v22 v60) = A at h ⊢
  pointwise
  rw [h _ _ (by simp only; omega), h _ _ (by simp only; omega), h _ _ (by simp only; omega), H.taps1, H.taps1, H.taps1]
  have e1 : 1024 * s + (16 + r.val + 1056 - 1055) % 1056 = 1024 * s + (16 + r.val) + 1 := by omega
  have e2 : 1024 * s + (16 + r.val + 1056 - 1054) % 1056 = 1024 * s + (16 + r.val) + 2 := by omega
  simp only [Chan.plane, e1, e2]

end

section
variable {s : ℕ} {C : Fin 256 → Chan} {k : Fin 2} {T A : FVec Ideal S1056x256 .f32} (hT : Rows s 0 T (fun q => pad16 ((C q).seq k)))
  (hA : Rows s 16 A (fun q => (C q).grad k))
include hA

theorem pay1_row (x : FVec Ideal S1x256 .f32) (q : Fin 256) :
    k0_pay1 A x (ix2 0 q) = x (ix2 0 q) + ∑ r : Fin 1024, (C q).grad k (1024 * s + (16 + r.val)) := by
  unfold k0_pay1
  pointwise
  congr 1
  refine Finset.sum_congr rfl fun r _ => ?_
  rw [hA _ _ (by simp only; omega)]

theorem pay2_row (x : Vec Ideal S1x256 .f32) (q : Fin 256) :
    k0_pay2 A x (ix2 0 q) = x (ix2 0 q) + ∑ r : Fin 1024, (C q).grad k (1024 * s + (16 + r.val)) := by
  unfold k0_pay2
  pointwise
  congr 1
  refine Finset.sum_congr rfl fun r _ => ?_
  rw [hA _ _ (by simp only; omega)]

include hT

theorem pay22_row (x : Vec Ideal S1x256 .f32) (q : Fin 256) :
    k0_pay22 T A x (ix2 0 q) = x (ix2 0 q) + ∑ r : Fin 1024, (C q).tap k 0 (1024 * s + (16 + r.val)) := by
  unfold k0_pay22 k0_pay21
  pointwise
  congr 1
  refine Finset.sum_congr rfl fun r _ => ?_
  rw [hA _ _ (by simp only; omega), hT _ _ (Nat.zero_le _)]
  unfold Chan.tap
  congr 2
  simp only [Fin.val_zero]; omega

theorem pay23_row (x : Vec Ideal S1x256 .f32) (q : Fin 256) :
    k0_pay23 T A x (ix2 0 q) = x (ix2 0 q) + ∑ r : Fin 1024, (C q).tap k 1 (1024 * s + (16 + r.val)) := by
  unfold k0_pay23 k0_pay21
  pointwise
  congr 1
  refine Finset.sum_congr rfl fun r _ => ?_
  rw [hA _ _ (by simp only; omega), hT _ _ (Nat.zero_le _)]
  unfold Chan.tap
  congr 2
  simp only [Fin.val_one]; omega

theorem pay26_row (x : Vec Ideal S1x256 .f32) (q : Fin 256) :
    k0_pay26 (k0_pay21 A) (k0_pay24 x) (k0_pay25 T) (ix2 0 q) = x (ix2 0 q) + ∑ r : Fin 1024, (C q).tap k 2 (1024 * s + (16 + r.val)) := by
  unfold k0_pay26 k0_pay21 k0_pay24 k0_pay25
  pointwise
  congr 1
  refine Finset.sum_congr rfl fun r _ => ?_
  rw [hA _ _ (by simp only; omega), hT _ _ (Nat.zero_le _)]
  rfl

theorem pay28_row (x : Vec Ideal S1x256 .f32) (q : Fin 256) :
    k0_pay28 T A x (ix2 0 q) = x (ix2 0 q) + ∑ r : Fin 1024, (C q).tap k 0 (1024 * s + (16 + r.val)) := pay22_row hT hA x q

theorem pay29_row (x : Vec Ideal S1x256 .f32) (q : Fin 256) :
    k0_pay29 T A x (ix2 0 q) = x (ix2 0 q) + ∑ r : Fin 1024, (C q).tap k 1 (1024 * s + (16 + r.val)) := pay23_row hT hA x q

theorem pay30_row (x : Vec Ideal S1x256 .f32) (q : Fin 256) :
    k0_pay30 T A x (ix2 0 q) = x (ix2 0 q) + ∑ r : Fin 1024, (C q).tap k 2 (1024 * s + (16 + r.val)) := pay26_row hT hA x q

end

/-- Three rows written one after another: each row reads its own. -/
theorem canon_rows (P0 P1 P2 : FVec Ideal S1x256 .f32) (L : List (View.Piece (Elt Ideal) S3x256 .f32)) (k : Fin 3) (q : Fin 256) :
    View.canon (Val := Elt Ideal) (s := S3x256) (e := .f32) (⟨Rect.unit ![2, 0] ![1, 256] inb_S3x256_S1x256_2_0, P2⟩ ::
      ⟨Rect.unit ![1, 0] ![1, 256] inb_S3x256_S1x256_1_0, P1⟩ ::
      ⟨Rect.unit ![0, 0] ![1, 256] inb_S3x256_S1x256_0_0, P0⟩ :: L) (ix2 k q)
      = (match k with | 0 => P0 | 1 => P1 | 2 => P2 : FVec Ideal S1x256 .f32) (ix2 0 q) := by
  have no (o : ℕ) (inb) (ho : k.val ≠ o) : (ix2 k q : S3x256.Idx) ∉ (Rect.unit (s := S3x256) ![o, 0] ![1, 256] inb).set := by
    rw [Rect.mem_set_unit]
    intro hh
    have h0 : o ≤ k.val ∧ k.val < o + 1 := hh 0
    omega
  have at_ (o : ℕ) (inb) (ho : k.val = o) : (ix2 k q : S3x256.Idx)
      = (Rect.unit (s := S3x256) ![o, 0] ![1, 256] inb).emb (ix2 (n0 := 1) (n1 := 256) 0 q) := by
    funext a
    refine Fin.ext ?_
    match a with
    | ⟨0, _⟩ => show k.val = o + 1 * 0; omega
    | ⟨1, _⟩ => show q.val = 0 + 1 * q.val; omega
  obtain rfl | rfl | rfl : k = 0 ∨ k = 1 ∨ k = 2 := by omega
  · rw [canon_skip _ _ _ (no 2 _ (by decide)), canon_skip _ _ _ (no 1 _ (by decide)), at_ 0 inb_S3x256_S1x256_0_0 rfl]
    exact View.canon_cons_emb _ _ _ _
  · rw [canon_skip _ _ _ (no 2 _ (by decide)), at_ 1 inb_S3x256_S1x256_1_0 rfl]
    exact View.canon_cons_emb _ _ _ _
  · rw [at_ 2 inb_S3x256_S1x256_2_0 rfl]
    exact View.canon_cons_emb _ _ _ _

/-- Two planes written one after another: each plane reads its own. -/
theorem canon_planes (P0 P1 : FVec Ideal S1x1x1024x256 .bf16) (k : Fin 2) (r : Fin 1024) (q : Fin 256) :
    View.canon (Val := Elt Ideal) (s := S2x1x1024x256) (e := .bf16)
      [⟨Rect.unit ![1, 0, 0, 0] ![1, 1, 1024, 256] inb_S2x1x1024x256_S1x1x1024x256_1_0_0_0, P1⟩,
      ⟨Rect.unit ![0, 0, 0, 0] ![1, 1, 1024, 256] inb_S2x1x1024x256_S1x1x1024x256_0_0_0_0, P0⟩] (ix4 k 0 r q)
      = (match k with | 0 => P0 | 1 => P1 : FVec Ideal S1x1x1024x256 .bf16) (ix4 0 0 r q) := by
  have no (o : ℕ) (inb) (ho : k.val ≠ o) :
      (ix4 k 0 r q : S2x1x1024x256.Idx) ∉ (Rect.unit (s := S2x1x1024x256) ![o, 0, 0, 0] ![1, 1, 1024, 256] inb).set := by
    rw [Rect.mem_set_unit]
    intro hh
    have h0 : o ≤ k.val ∧ k.val < o + 1 := hh 0
    omega
  have at_ (o : ℕ) (inb) (ho : k.val = o) : (ix4 k 0 r q : S2x1x1024x256.Idx)
      = (Rect.unit (s := S2x1x1024x256) ![o, 0, 0, 0] ![1, 1, 1024, 256] inb).emb (ix4 (n0 := 1) (n1 := 1) (n2 := 1024) (n3 := 256) 0 0 r q) := by
    funext a
    refine Fin.ext ?_
    match a with
    | ⟨0, _⟩ => show k.val = o + 1 * 0; omega
    | ⟨1, _⟩ => rfl
    | ⟨2, _⟩ => show r.val = 0 + 1 * r.val; omega
    | ⟨3, _⟩ => show q.val = 0 + 1 * q.val; omega
  obtain rfl | rfl : k = 0 ∨ k = 1 := by omega
  · rw [canon_skip _ _ _ (no 1 _ (by decide)), at_ 0 inb_S2x1x1024x256_S1x1x1024x256_0_0_0_0 rfl]
    exact View.canon_cons_emb _ _ _ _
  · rw [at_ 1 inb_S2x1x1024x256_S1x1x1024x256_1_0_0_0 rfl]
    exact View.canon_cons_emb _ _ _ _

end Cert.ActBwd
end
-- ==== Proof.Conv.Shift.lean ====
/-
  A causal convolution with three taps along a sequence, and how a tile of 2048 entries with sixteen entries in front
  computes it.
-/
module

public import proofs.«01_k».proof.Proof.Product.Entries
public import Idealize.ShloMosaic.Lib.Pointwise

@[expose] public section

noncomputable section

namespace Cert.Gate

open Idealize.ShloMosaic

/-- A sequence with sixteen zeros put in front. -/
def ext (f : ℕ → EReal) (n : ℕ) : EReal := if n < 16 then 0 else f (n - 16)

/-- The sequence `k` places earlier, zero before its start. -/
def back (f : ℕ → EReal) (k n : ℕ) : EReal := if n < k then 0 else f (n - k)

/-- The causal convolution with three taps. -/
def conv3 (w0 w1 w2 : EReal) (f : ℕ → EReal) (n : ℕ) : EReal := w0 * back f 2 n + w1 * back f 1 n + w2 * f n

theorem ext_low (f : ℕ → EReal) {n : ℕ} (h : n < 16) : ext f n = 0 := if_pos h

theorem ext_at (f : ℕ → EReal) {n : ℕ} (k : ℕ) (h : n = 16 + k) : ext f n = f k := by
  subst h
  unfold ext
  rw [if_neg (by omega)]
  congr 1
  omega

theorem ext_mul (f g : ℕ → EReal) (n : ℕ) : ext f n * ext g n = ext (fun k => f k * g k) n := by
  unfold ext
  split
  · exact zero_mul _
  · rfl

theorem ext_back (f : ℕ → EReal) {n m : ℕ} (k : ℕ) (hk : k ≤ 16) (h : m + k = 16 + n) : ext f m = back f k n := by
  unfold ext back
  by_cases hn : n < k
  · rw [if_pos hn, if_pos (by omega)]
  · rw [if_neg hn, if_neg (by omega)]
    congr 1
    omega

/-- A choice between zero and a vector, by whether a small number is zero. -/
theorem sel_zero {s : Shape} (n : ℕ) (hn : n < 2) (y z : FVec Ideal s .f32) (j : s.Idx) :
    (Scalar.select (Scalar.cmpi .eq (BitVec.ofNat 32 n) 0#32) y z : FVec Ideal s .f32) j = if n = 0 then y j else z j := by
  interval_cases n <;> rfl

/-- The reference's convolution: the products in the other order, over the sequence with two zeros in front. -/
theorem conv3_eq (w0 w1 w2 : EReal) (f : ℕ → EReal) (n : ℕ) :
    back f 2 n * w0 + back f 1 n * w1 + f n * w2 = conv3 w0 w1 w2 f n := by
  unfold conv3
  rw [mul_comm w0, mul_comm w1, mul_comm w2]

/-- The activation of `y`, `y / (1 + exp (-y))` as a product, times `z`. -/
def gate (y z : EReal) : EReal := y * Ideal.div 1 (1 + Ideal.exp (0 - y)) * z

/-- The same with the negation written as one. -/
theorem gate_eq (y z : EReal) : gate y z = y * Ideal.div 1 (1 + Ideal.exp (-y)) * z := by
  unfold gate
  rw [zero_sub]

end Cert.Gate
end
-- ==== Proof.Conv.ActBwdOut.lean ====
/-
  The gated activation's gradient: the blocks of a point, and what the kernel's five output buffers hold after it.
-/
module

public import proofs.«01_k».proof.Proof.Conv.ActBwd
public import proofs.«01_k».proof.Proof.Conv.Output
public import proofs.«01_k».proof.Proof.Conv.Shift
public import proofs.«01_k».proof.Proof.Gen.Kernel23Ideal.Frame
public import proofs.«01_k».proof.Proof.Gen.Kernel23Ideal.Value
public import Idealize.ShloMosaic.Lib.Pipeline.ReadBack

@[expose] public section

noncomputable section

namespace Cert.ActBwd

open Cert.Kernel23Ideal Cert.Kernel23Ideal.Gen Cert.Product Idealize.ShloMosaic Idealize.ShloMosaic.TcCoe Idealize.SL.Sem
open Cert.KernelIdeal.Grad (pad16 pad16_mid pad16_low pad16_high pad16_at z2 z3 zero2)

variable (m : (ℓ : Loc nD τ sig) → Buf (Elt Ideal) ℓ) (c : Dev nD)

/-- The four argument arrays of a device. -/
abbrev argX : S2x4096x5632.Idx → EReal := m ((c.tc : Thread nD τ).loc main_arg0)
abbrev argD : S2x4096x2816.Idx → EReal := m ((c.tc : Thread nD τ).loc main_arg1)
abbrev argW : S3x5632.Idx → EReal := m ((c.tc : Thread nD τ).loc main_arg2)
abbrev argB : S1x5632.Idx → EReal := m ((c.tc : Thread nD τ).loc main_arg3)

/-- Channel `n` of batch element `b` of four arrays. -/
def chanOf (X : S2x4096x5632.Idx → EReal) (D : S2x4096x2816.Idx → EReal) (W : S3x5632.Idx → EReal) (B : S1x5632.Idx → EReal) (b n : ℕ) : Chan where
  seq k a := at3 2 4096 5632 X b a.val (2816 * k.val + n)
  w k j := at2 3 5632 W j.val (2816 * k.val + n)
  v k := at2 1 5632 B 0 (2816 * k.val + n)
  d a := at3 2 4096 2816 D b a.val n

abbrev chan (b n : ℕ) : Chan := chanOf (argX m c) (argD m c) (argW m c) (argB m c) b n

/-- The channel of a point's column. -/
abbrev chanAt (t : Fin cfg0.N) (q : Fin 256) : Chan := chan m c (t.val / 4 % 2) (t.val / 8 * 256 + q.val)

theorem coord2 : ∀ t : Fin cfg0.N, (grid0.coords t 2).val = t.val % 4 := by decide +kernel

theorem idx0 : ∀ t : Fin cfg0.N, win0_0.index t = ![t.val / 4 % 2, t.val % 4 * 64 - 1, t.val / 8] := by decide +kernel
theorem idx1 : ∀ t : Fin cfg0.N, win0_1.index t = ![t.val / 4 % 2, t.val % 4, t.val / 8] := by decide +kernel
theorem idx2 : ∀ t : Fin cfg0.N, win0_2.index t = ![t.val / 4 % 2, min ((t.val % 4 + 1) * 64) 255, t.val / 8] := by decide +kernel
theorem idx3 : ∀ t : Fin cfg0.N, win0_3.index t = ![t.val / 4 % 2, t.val % 4 * 64 - 1, 11 + t.val / 8] := by decide +kernel
theorem idx4 : ∀ t : Fin cfg0.N, win0_4.index t = ![t.val / 4 % 2, t.val % 4, 11 + t.val / 8] := by decide +kernel
theorem idx5 : ∀ t : Fin cfg0.N, win0_5.index t = ![t.val / 4 % 2, min ((t.val % 4 + 1) * 64) 255, 11 + t.val / 8] := by decide +kernel
theorem idx6 : ∀ t : Fin cfg0.N, win0_6.index t = ![t.val / 4 % 2, t.val % 4, t.val / 8] := by decide +kernel
theorem idx7 : ∀ t : Fin cfg0.N, win0_7.index t = ![t.val / 4 % 2, min ((t.val % 4 + 1) * 64) 255, t.val / 8] := by decide +kernel
theorem idx8 : ∀ t : Fin cfg0.N, win0_8.index t = ![0, t.val / 8] := by decide +kernel
theorem idx9 : ∀ t : Fin cfg0.N, win0_9.index t = ![0, 11 + t.val / 8] := by decide +kernel
theorem idx10 : ∀ t : Fin cfg0.N, win0_10.index t = ![0, t.val / 8] := by decide +kernel
theorem idx11 : ∀ t : Fin cfg0.N, win0_11.index t = ![0, 11 + t.val / 8] := by decide +kernel
theorem idx12 : ∀ t : Fin cfg0.N, win0_12.index t = ![0, t.val / 4 % 2, t.val % 4, t.val / 8] := by decide +kernel
theorem idx13 : ∀ t : Fin cfg0.N, win0_13.index t = ![0, t.val / 8] := by decide +kernel
theorem idx14 : ∀ t : Fin cfg0.N, win0_14.index t = ![0, t.val / 8] := by decide +kernel
theorem idx15 : ∀ t : Fin cfg0.N, win0_15.index t = ![0, t.val / 8] := by decide +kernel
theorem idx16 : ∀ t : Fin cfg0.N, win0_16.index t = ![0, t.val / 8] := by decide +kernel

theorem read0 (t : Fin cfg0.N) : Top (t.val % 4) (fun q => (chanAt m c t q).seq 0) (iblk m c 0 t) := by
  intro hs r q
  rw [pad16_at _ (1024 * (t.val % 4) - 16 + r.val) (by omega) (by omega)]
  unfold iblk
  rw [View.read_apply]
  have hi := congrFun (idx0 t)
  refine at3_val 2 4096 5632 (argX m c) _ _ _ _ ?_ ?_ ?_
  · exact pos_of 1 (hi 0) (by simp)
  · exact pos_of 16 (hi 1) (by simp; omega)
  · exact pos_of 256 (hi 2) (by simp)

theorem read1 (t : Fin cfg0.N) : Mid (t.val % 4) (fun q => (chanAt m c t q).seq 0) (iblk m c 1 t) := by
  intro r q
  rw [pad16_at _ (1024 * (t.val % 4) + r.val) (by omega) (by omega)]
  unfold iblk
  rw [View.read_apply]
  have hi := congrFun (idx1 t)
  refine at3_val 2 4096 5632 (argX m c) _ _ _ _ ?_ ?_ ?_
  · exact pos_of 1 (hi 0) (by simp)
  · exact pos_of 1024 (hi 1) (by simp; omega)
  · exact pos_of 256 (hi 2) (by simp)

theorem read2 (t : Fin cfg0.N) : Bot (t.val % 4) (fun q => (chanAt m c t q).seq 0) (iblk m c 2 t) := by
  intro hs r q
  rw [pad16_at _ (1024 * (t.val % 4) + 1024 + r.val) (by omega) (by omega)]
  unfold iblk
  rw [View.read_apply]
  have hi := congrFun (idx2 t)
  refine at3_val 2 4096 5632 (argX m c) _ _ _ _ ?_ ?_ ?_
  · exact pos_of 1 (hi 0) (by simp)
  · exact pos_of 16 (hi 1) (by simp; omega)
  · exact pos_of 256 (hi 2) (by simp)

theorem read3 (t : Fin cfg0.N) : Top (t.val % 4) (fun q => (chanAt m c t q).seq 1) (iblk m c 3 t) := by
  intro hs r q
  rw [pad16_at _ (1024 * (t.val % 4) - 16 + r.val) (by omega) (by omega)]
  unfold iblk
  rw [View.read_apply]
  have hi := congrFun (idx3 t)
  refine at3_val 2 4096 5632 (argX m c) _ _ _ _ ?_ ?_ ?_
  · exact pos_of 1 (hi 0) (by simp)
  · exact pos_of 16 (hi 1) (by simp; omega)
  · exact pos_of 256 (hi 2) (by simp; omega)

theorem read4 (t : Fin cfg0.N) : Mid (t.val % 4) (fun q => (chanAt m c t q).seq 1) (iblk m c 4 t) := by
  intro r q
  rw [pad16_at _ (1024 * (t.val % 4) + r.val) (by omega) (by omega)]
  unfold iblk
  rw [View.read_apply]
  have hi := congrFun (idx4 t)
  refine at3_val 2 4096 5632 (argX m c) _ _ _ _ ?_ ?_ ?_
  · exact pos_of 1 (hi 0) (by simp)
  · exact pos_of 1024 (hi 1) (by simp; omega)
  · exact pos_of 256 (hi 2) (by simp; omega)

theorem read5 (t : Fin cfg0.N) : Bot (t.val % 4) (fun q => (chanAt m c t q).seq 1) (iblk m c 5 t) := by
  intro hs r q
  rw [pad16_at _ (1024 * (t.val % 4) + 1024 + r.val) (by omega) (by omega)]
  unfold iblk
  rw [View.read_apply]
  have hi := congrFun (idx5 t)
  refine at3_val 2 4096 5632 (argX m c) _ _ _ _ ?_ ?_ ?_
  · exact pos_of 1 (hi 0) (by simp)
  · exact pos_of 16 (hi 1) (by simp; omega)
  · exact pos_of 256 (hi 2) (by simp; omega)

theorem read6 (t : Fin cfg0.N) : Mid (t.val % 4) (fun q => (chanAt m c t q).d) (iblk m c 6 t) := by
  intro r q
  rw [pad16_at _ (1024 * (t.val % 4) + r.val) (by omega) (by omega)]
  unfold iblk
  rw [View.read_apply]
  have hi := congrFun (idx6 t)
  refine at3_val 2 4096 2816 (argD m c) _ _ _ _ ?_ ?_ ?_
  · exact pos_of 1 (hi 0) (by simp)
  · exact pos_of 1024 (hi 1) (by simp; omega)
  · exact pos_of 256 (hi 2) (by simp)

theorem read7 (t : Fin cfg0.N) : Bot (t.val % 4) (fun q => (chanAt m c t q).d) (iblk m c 7 t) := by
  intro hs r q
  rw [pad16_at _ (1024 * (t.val % 4) + 1024 + r.val) (by omega) (by omega)]
  unfold iblk
  rw [View.read_apply]
  have hi := congrFun (idx7 t)
  refine at3_val 2 4096 2816 (argD m c) _ _ _ _ ?_ ?_ ?_
  · exact pos_of 1 (hi 0) (by simp)
  · exact pos_of 16 (hi 1) (by simp; omega)
  · exact pos_of 256 (hi 2) (by simp)

theorem read8 (t : Fin cfg0.N) (j : Fin 3) (q : Fin 256) : (iblk m c 8 t : S3x256.Idx → EReal) (ix2 j q) = (chanAt m c t q).w 0 j := by
  unfold iblk
  rw [View.read_apply]
  have hi := congrFun (idx8 t)
  refine at2_val 3 5632 (argW m c) _ _ _ ?_ ?_
  · exact pos_of 3 (hi 0) (by simp)
  · exact pos_of 256 (hi 1) (by simp)

theorem read9 (t : Fin cfg0.N) (j : Fin 3) (q : Fin 256) : (iblk m c 9 t : S3x256.Idx → EReal) (ix2 j q) = (chanAt m c t q).w 1 j := by
  unfold iblk
  rw [View.read_apply]
  have hi := congrFun (idx9 t)
  refine at2_val 3 5632 (argW m c) _ _ _ ?_ ?_
  · exact pos_of 3 (hi 0) (by simp)
  · exact pos_of 256 (hi 1) (by simp; omega)

theorem read10 (t : Fin cfg0.N) (q : Fin 256) : (iblk m c 10 t : S1x256.Idx → EReal) (ix2 0 q) = (chanAt m c t q).v 0 := by
  unfold iblk
  rw [View.read_apply]
  have hi := congrFun (idx10 t)
  refine at2_val 1 5632 (argB m c) _ _ _ ?_ ?_
  · exact pos_of 1 (hi 0) (by simp)
  · exact pos_of 256 (hi 1) (by simp)

theorem read11 (t : Fin cfg0.N) (q : Fin 256) : (iblk m c 11 t : S1x256.Idx → EReal) (ix2 0 q) = (chanAt m c t q).v 1 := by
  unfold iblk
  rw [View.read_apply]
  have hi := congrFun (idx11 t)
  refine at2_val 1 5632 (argB m c) _ _ _ ?_ ?_
  · exact pos_of 1 (hi 0) (by simp)
  · exact pos_of 256 (hi 1) (by simp; omega)

/-- The three extended tiles of a point. -/
abbrev ext0 (t : Fin cfg0.N) : FVec Ideal S1056x256 .f32 := k0_pay7 (grid0.coords t) (iblk m c 1 t) (iblk m c 0 t) (iblk m c 2 t)
abbrev ext1 (t : Fin cfg0.N) : FVec Ideal S1056x256 .f32 :=
  k0_pay10 (Scalar.cmpi .eq (BitVec.ofNat 32 (grid0.coords t 2).val) 0#32) (Scalar.cmpi .eq (BitVec.ofNat 32 (grid0.coords t 2).val) 3#32)
    (k0_pay8 (iblk m c 4 t)) (k0_pay9 (iblk m c 3 t)) (Scalar.ofBits .f32 0x00000000#32) (iblk m c 5 t)
abbrev extD (t : Fin cfg0.N) : FVec Ideal S1056x256 .f32 :=
  k0_pay11 (Scalar.cmpi .eq (BitVec.ofNat 32 (grid0.coords t 2).val) 3#32) (iblk m c 6 t) (iblk m c 7 t)
abbrev part66 (t : Fin cfg0.N) : FVec Ideal S1056x256 .f32 :=
  k0_pay13 (Scalar.cmpi .eq (BitVec.ofNat 32 (grid0.coords t 2).val) 0#32) (Scalar.cmpi .eq (BitVec.ofNat 32 (grid0.coords t 2).val) 3#32)
    (iblk m c 9 t) (k0_pay8 (iblk m c 4 t)) (k0_pay9 (iblk m c 3 t)) (Scalar.ofBits .f32 0x00000000#32) (iblk m c 5 t)
abbrev part70 (t : Fin cfg0.N) : FVec Ideal S1056x256 .f32 :=
  k0_pay14 (Scalar.cmpi .eq (BitVec.ofNat 32 (grid0.coords t 2).val) 0#32) (Scalar.cmpi .eq (BitVec.ofNat 32 (grid0.coords t 2).val) 3#32)
    (iblk m c 9 t) (k0_pay8 (iblk m c 4 t)) (k0_pay9 (iblk m c 3 t)) (Scalar.ofBits .f32 0x00000000#32) (iblk m c 5 t)

theorem lt4 (t : Fin cfg0.N) : t.val % 4 < 4 := by omega

theorem tiles (t : Fin cfg0.N) : Tiles (t.val % 4) (chanAt m c t) (ext0 m c t) (ext1 m c t) (extD m c t) (iblk m c 8 t) (iblk m c 9 t)
    (iblk m c 10 t) (iblk m c 11 t) where
  first := pay7_rows (lt4 t) (grid0.coords t) (coord2 t) _ _ _ (read1 m c t) (read0 m c t) (read2 m c t)
  second := by
    unfold ext1
    rw [coord2 t]
    exact pay10_rows (lt4 t) _ _ _ (read4 m c t) (read3 m c t) (read5 m c t)
  inc := by
    unfold extD
    rw [coord2 t]
    exact pay11_rows (lt4 t) _ _ (read6 m c t) (read7 m c t)
  taps0 := read8 m c t
  taps1 := read9 m c t
  bias0 := read10 m c t
  bias1 := read11 m c t

theorem rows66 (t : Fin cfg0.N) : Rows (t.val % 4) 2 (part66 m c t)
    (fun q n => (chanAt m c t q).w 1 0 * pad16 ((chanAt m c t q).seq 1) (n - 2)) := by
  intro p q hp
  have h := (tiles m c t).second
  unfold part66 k0_pay13
  change Rows _ _ (k0_pay10 (F := Ideal) _ _ _ _ _ _) _ at h
  generalize k0_pay10 (F := Ideal) _ _ _ _ _ _ = A at h ⊢
  pointwise
  rw [h _ _ (Nat.zero_le _), read9]
  congr 2
  simp only; omega

theorem rows70 (t : Fin cfg0.N) : Rows (t.val % 4) 2 (part70 m c t)
    (fun q n => (chanAt m c t q).w 1 1 * pad16 ((chanAt m c t q).seq 1) (n - 1)) := by
  intro p q hp
  have h := (tiles m c t).second
  unfold part70 k0_pay14
  change Rows _ _ (k0_pay10 (F := Ideal) _ _ _ _ _ _) _ at h
  generalize k0_pay10 (F := Ideal) _ _ _ _ _ _ = A at h ⊢
  pointwise
  rw [h _ _ (Nat.zero_le _), read9]
  congr 2
  simp only; omega

theorem grad0_rows (t : Fin cfg0.N) : Rows (t.val % 4) 16 (k0_pay16 (iblk m c 9 t) (ext1 m c t) (extD m c t)
    (k0_pay12 (iblk m c 8 t) (ext0 m c t) (iblk m c 10 t)) (part66 m c t) (part70 m c t) (iblk m c 11 t)) (fun q => (chanAt m c t q).grad 0) :=
  pay16_rows (tiles m c t) _ _ (rows66 m c t) (rows70 m c t)
theorem grad1_rows (t : Fin cfg0.N) : Rows (t.val % 4) 16 (k0_pay17 (extD m c t)
    (k0_pay12 (iblk m c 8 t) (ext0 m c t) (iblk m c 10 t))) (fun q => (chanAt m c t q).grad 1) :=
  pay17_rows (tiles m c t)

theorem planes_A (t : Fin cfg0.N) (h0 : t.val % 8 = 0) (k : Fin 2) (r : Fin 1024) (q : Fin 256) :
    (outsAt0 m c t.val t.isLt).1 (ix4 k 0 r q) = (chanAt m c t q).plane k (1024 * (t.val % 4) + (16 + r.val)) := by
  rw [outsAt0_A m c t h0]
  dsimp only
  unfold out0_A_12
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_planes]
  simp only [View.ld_unit_zero (S := S1x1024x256) z3, View.ld_unit_zero (S := S1x16x256) z3, View.ld_unit_zero (S := S3x256) z2,
    View.ld_unit_zero (S := S1x256) z2]
  obtain rfl | rfl : k = 0 ∨ k = 1 := by omega
  · exact pay18_row (tiles m c t) _ _ (rows66 m c t) (rows70 m c t) r q
  · exact pay20_row (tiles m c t) r q

theorem planes_B (t : Fin cfg0.N) (h0 : ¬t.val % 8 = 0) (k : Fin 2) (r : Fin 1024) (q : Fin 256) :
    (outsAt0 m c t.val t.isLt).1 (ix4 k 0 r q) = (chanAt m c t q).plane k (1024 * (t.val % 4) + (16 + r.val)) := by
  rw [outsAt0_B m c t h0]
  dsimp only
  unfold out0_B_12
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_planes]
  simp only [View.ld_unit_zero (S := S1x1024x256) z3, View.ld_unit_zero (S := S1x16x256) z3, View.ld_unit_zero (S := S3x256) z2,
    View.ld_unit_zero (S := S1x256) z2]
  obtain rfl | rfl : k = 0 ∨ k = 1 := by omega
  · exact pay18_row (tiles m c t) _ _ (rows66 m c t) (rows70 m c t) r q
  · exact pay20_row (tiles m c t) r q

theorem planes (t : Fin cfg0.N) (k : Fin 2) (r : Fin 1024) (q : Fin 256) :
    (outsAt0 m c t.val t.isLt).1 (ix4 k 0 r q) = (chanAt m c t q).plane k (1024 * (t.val % 4) + (16 + r.val)) :=
  if h0 : t.val % 8 = 0 then planes_A m c t h0 k r q else planes_B m c t h0 k r q

/-- The last row written is the one read. -/
theorem canon_last (P : FVec Ideal S1x256 .f32) (L : List (View.Piece (Elt Ideal) S1x256 .f32)) (q : Fin 256) :
    View.canon (Val := Elt Ideal) (s := S1x256) (e := .f32) (⟨Rect.unit ![0, 0] ![1, 256] inb_S1x256_S1x256_0_0, P⟩ :: L) (ix2 0 q)
      = P (ix2 0 q) := by
  have at_ : (ix2 0 q : S1x256.Idx) = (Rect.unit (s := S1x256) ![0, 0] ![1, 256] inb_S1x256_S1x256_0_0).emb (ix2 (n0 := 1) (n1 := 256) 0 q) := by
    funext a
    refine Fin.ext ?_
    match a with
    | ⟨0, _⟩ => rfl
    | ⟨1, _⟩ => show q.val = 0 + 1 * q.val; omega
  refine (congrArg _ at_).trans ?_
  exact View.canon_cons_emb _ _ _ _

/-- A load of one row of the three. -/
theorem ld_row (o : ℕ) (ho : o < 3) (inb) (X : Vec Ideal S3x256 .f32) (q : Fin 256) :
    View.ld (Val := Elt Ideal) (e' := .f32) X (Rect.unit (s := S3x256) ![o, 0] ![1, 256] inb) (ix2 (n0 := 1) (n1 := 256) 0 q)
      = X (ix2 ⟨o, ho⟩ q) := by
  show X _ = X _
  congr 1
  funext a
  refine Fin.ext ?_
  match a with
  | ⟨0, _⟩ => show o + 1 * 0 = o; omega
  | ⟨1, _⟩ => show 0 + 1 * q.val = q.val; omega

theorem pay3_apply (j : S3x256.Idx) : (k0_pay3 : FVec Ideal S3x256 .f32) j = 0 := by
  unfold k0_pay3
  pointwise

theorem pay4_apply (j : S3x256.Idx) : (k0_pay4 : FVec Ideal S3x256 .f32) j = 0 := by
  unfold k0_pay4
  pointwise

theorem pay5_apply (j : S1x256.Idx) : (k0_pay5 : FVec Ideal S1x256 .f32) j = 0 := by
  unfold k0_pay5
  pointwise

theorem pay6_apply (j : S1x256.Idx) : (k0_pay6 : FVec Ideal S1x256 .f32) j = 0 := by
  unfold k0_pay6
  pointwise

theorem taps0_B (t : Fin cfg0.N) (h0 : ¬t.val % 8 = 0) (j : Fin 3) (q : Fin 256) :
    (outsAt0 m c t.val t.isLt).2.1 (ix2 j q) = (outsAt0 m c (t.val - 1) (Nat.lt_of_le_of_lt (Nat.sub_le _ _) t.isLt)).2.1 (ix2 j q)
      + ∑ r : Fin 1024, (chanAt m c t q).tap 0 j (1024 * (t.val % 4) + (16 + r.val)) := by
  rw [outsAt0_B m c t h0]
  dsimp only
  unfold out0_B_13
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_rows]
  simp only [View.ld_unit_zero (S := S1x1024x256) z3, View.ld_unit_zero (S := S1x16x256) z3, View.ld_unit_zero (S := S3x256) z2,
    View.ld_unit_zero (S := S1x256) z2]
  obtain rfl | rfl | rfl : j = 0 ∨ j = 1 ∨ j = 2 := by omega
  · refine (pay22_row (tiles m c t).first (grad0_rows m c t) _ q).trans ?_
    rw [ld_row 0 (by omega) inb_S3x256_S1x256_0_0]
    rfl
  · refine (pay23_row (tiles m c t).first (grad0_rows m c t) _ q).trans ?_
    rw [ld_row 1 (by omega) inb_S3x256_S1x256_1_0]
    rfl
  · refine (pay26_row (tiles m c t).first (grad0_rows m c t) _ q).trans ?_
    rw [ld_row 2 (by omega) inb_S3x256_S1x256_2_0]
    rfl

theorem taps0_A (t : Fin cfg0.N) (h0 : t.val % 8 = 0) (j : Fin 3) (q : Fin 256) :
    (outsAt0 m c t.val t.isLt).2.1 (ix2 j q) = 0 + ∑ r : Fin 1024, (chanAt m c t q).tap 0 j (1024 * (t.val % 4) + (16 + r.val)) := by
  rw [outsAt0_A m c t h0]
  dsimp only
  unfold out0_A_13
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_rows]
  simp only [View.ld_unit_zero (S := S1x1024x256) z3, View.ld_unit_zero (S := S1x16x256) z3, View.ld_unit_zero (S := S3x256) z2,
    View.ld_unit_zero (S := S1x256) z2]
  obtain rfl | rfl | rfl : j = 0 ∨ j = 1 ∨ j = 2 := by omega
  · refine (pay22_row (tiles m c t).first (grad0_rows m c t) _ q).trans ?_
    rw [View.readCov_fill _ _ _ _ _ zero2, ld_row 0 (by omega) inb_S3x256_S1x256_0_0, pay3_apply]
  · refine (pay23_row (tiles m c t).first (grad0_rows m c t) _ q).trans ?_
    rw [View.readCov_skip _ _ _ _ _ (by decide), View.readCov_fill _ _ _ _ _ zero2, ld_row 1 (by omega) inb_S3x256_S1x256_1_0, pay3_apply]
  · refine (pay26_row (tiles m c t).first (grad0_rows m c t) _ q).trans ?_
    rw [View.readCov_skip _ _ _ _ _ (by decide), View.readCov_skip _ _ _ _ _ (by decide), View.readCov_fill _ _ _ _ _ zero2, ld_row 2 (by omega) inb_S3x256_S1x256_2_0, pay3_apply]

theorem taps1_B (t : Fin cfg0.N) (h0 : ¬t.val % 8 = 0) (j : Fin 3) (q : Fin 256) :
    (outsAt0 m c t.val t.isLt).2.2.1 (ix2 j q) = (outsAt0 m c (t.val - 1) (Nat.lt_of_le_of_lt (Nat.sub_le _ _) t.isLt)).2.2.1 (ix2 j q)
      + ∑ r : Fin 1024, (chanAt m c t q).tap 1 j (1024 * (t.val % 4) + (16 + r.val)) := by
  rw [outsAt0_B m c t h0]
  dsimp only
  unfold out0_B_14
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_rows]
  simp only [View.ld_unit_zero (S := S1x1024x256) z3, View.ld_unit_zero (S := S1x16x256) z3, View.ld_unit_zero (S := S3x256) z2,
    View.ld_unit_zero (S := S1x256) z2]
  obtain rfl | rfl | rfl : j = 0 ∨ j = 1 ∨ j = 2 := by omega
  · refine (pay28_row (tiles m c t).second (grad1_rows m c t) _ q).trans ?_
    rw [ld_row 0 (by omega) inb_S3x256_S1x256_0_0]
    rfl
  · refine (pay29_row (tiles m c t).second (grad1_rows m c t) _ q).trans ?_
    rw [ld_row 1 (by omega) inb_S3x256_S1x256_1_0]
    rfl
  · refine (pay30_row (tiles m c t).second (grad1_rows m c t) _ q).trans ?_
    rw [ld_row 2 (by omega) inb_S3x256_S1x256_2_0]
    rfl

theorem taps1_A (t : Fin cfg0.N) (h0 : t.val % 8 = 0) (j : Fin 3) (q : Fin 256) :
    (outsAt0 m c t.val t.isLt).2.2.1 (ix2 j q) = 0 + ∑ r : Fin 1024, (chanAt m c t q).tap 1 j (1024 * (t.val % 4) + (16 + r.val)) := by
  rw [outsAt0_A m c t h0]
  dsimp only
  unfold out0_A_14
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_rows]
  simp only [View.ld_unit_zero (S := S1x1024x256) z3, View.ld_unit_zero (S := S1x16x256) z3, View.ld_unit_zero (S := S3x256) z2,
    View.ld_unit_zero (S := S1x256) z2]
  obtain rfl | rfl | rfl : j = 0 ∨ j = 1 ∨ j = 2 := by omega
  · refine (pay28_row (tiles m c t).second (grad1_rows m c t) _ q).trans ?_
    rw [View.readCov_fill _ _ _ _ _ zero2, ld_row 0 (by omega) inb_S3x256_S1x256_0_0, pay4_apply]
  · refine (pay29_row (tiles m c t).second (grad1_rows m c t) _ q).trans ?_
    rw [View.readCov_skip _ _ _ _ _ (by decide), View.readCov_fill _ _ _ _ _ zero2, ld_row 1 (by omega) inb_S3x256_S1x256_1_0, pay4_apply]
  · refine (pay30_row (tiles m c t).second (grad1_rows m c t) _ q).trans ?_
    rw [View.readCov_skip _ _ _ _ _ (by decide), View.readCov_skip _ _ _ _ _ (by decide), View.readCov_fill _ _ _ _ _ zero2, ld_row 2 (by omega) inb_S3x256_S1x256_2_0, pay4_apply]

theorem bias0_B (t : Fin cfg0.N) (h0 : ¬t.val % 8 = 0) (q : Fin 256) :
    (outsAt0 m c t.val t.isLt).2.2.2.1 (ix2 0 q) = (outsAt0 m c (t.val - 1) (Nat.lt_of_le_of_lt (Nat.sub_le _ _) t.isLt)).2.2.2.1 (ix2 0 q)
      + ∑ r : Fin 1024, (chanAt m c t q).grad 0 (1024 * (t.val % 4) + (16 + r.val)) := by
  rw [outsAt0_B m c t h0]
  dsimp only
  unfold out0_B_15
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_last]
  simp only [View.ld_unit_zero (S := S1x1024x256) z3, View.ld_unit_zero (S := S1x16x256) z3, View.ld_unit_zero (S := S3x256) z2,
    View.ld_unit_zero (S := S1x256) z2]
  refine (pay1_row (grad0_rows m c t) (k0_pay31 _) q).trans ?_
  unfold k0_pay31
  pointwise

theorem bias0_A (t : Fin cfg0.N) (h0 : t.val % 8 = 0) (q : Fin 256) :
    (outsAt0 m c t.val t.isLt).2.2.2.1 (ix2 0 q) = 0 + ∑ r : Fin 1024, (chanAt m c t q).grad 0 (1024 * (t.val % 4) + (16 + r.val)) := by
  rw [outsAt0_A m c t h0]
  dsimp only
  unfold out0_A_15
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_last]
  simp only [View.ld_unit_zero (S := S1x1024x256) z3, View.ld_unit_zero (S := S1x16x256) z3, View.ld_unit_zero (S := S3x256) z2,
    View.ld_unit_zero (S := S1x256) z2]
  refine (pay1_row (grad0_rows m c t) (k0_pay31 _) q).trans ?_
  unfold k0_pay31
  pointwise
  rw [View.readCov_fill _ _ _ _ _ zero2]
  simp only [View.ld_unit_zero (S := S1x256) z2, pay5_apply]
  exact zero_add _

theorem bias1_B (t : Fin cfg0.N) (h0 : ¬t.val % 8 = 0) (q : Fin 256) :
    (outsAt0 m c t.val t.isLt).2.2.2.2 (ix2 0 q) = (outsAt0 m c (t.val - 1) (Nat.lt_of_le_of_lt (Nat.sub_le _ _) t.isLt)).2.2.2.2 (ix2 0 q)
      + ∑ r : Fin 1024, (chanAt m c t q).grad 1 (1024 * (t.val % 4) + (16 + r.val)) := by
  rw [outsAt0_B m c t h0]
  dsimp only
  unfold out0_B_16
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_last]
  simp only [View.ld_unit_zero (S := S1x1024x256) z3, View.ld_unit_zero (S := S1x16x256) z3, View.ld_unit_zero (S := S3x256) z2,
    View.ld_unit_zero (S := S1x256) z2]
  refine (pay2_row (grad1_rows m c t) _ q).trans ?_
  rfl

theorem bias1_A (t : Fin cfg0.N) (h0 : t.val % 8 = 0) (q : Fin 256) :
    (outsAt0 m c t.val t.isLt).2.2.2.2 (ix2 0 q) = 0 + ∑ r : Fin 1024, (chanAt m c t q).grad 1 (1024 * (t.val % 4) + (16 + r.val)) := by
  rw [outsAt0_A m c t h0]
  dsimp only
  unfold out0_A_16
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
    (hs0_13 t).read_unread, (hs0_14 t).read_unread, (hs0_15 t).read_unread, (hs0_16 t).read_unread]
  rw [canon_last]
  simp only [View.ld_unit_zero (S := S1x1024x256) z3, View.ld_unit_zero (S := S1x16x256) z3, View.ld_unit_zero (S := S3x256) z2,
    View.ld_unit_zero (S := S1x256) z2]
  refine (pay2_row (grad1_rows m c t) _ q).trans ?_
  rw [View.readCov_fill _ _ _ _ _ zero2]
  simp only [View.ld_unit_zero (S := S1x256) z2, pay6_apply]

end Cert.ActBwd
end
-- ==== Proof.Conv.ActBwdSum.lean ====
/-
  The gated activation's gradient: the kernel's five result arrays. The accumulators are summed over the eight points of a
  column block.
-/
module

public import proofs.«01_k».proof.Proof.Conv.ActBwdOut

@[expose] public section

noncomputable section

namespace Cert.ActBwd

open Cert.Kernel23Ideal Cert.Kernel23Ideal.Gen Cert.Product Idealize.ShloMosaic Idealize.ShloMosaic.TcCoe Idealize.SL.Sem

/-- A value restarted at every eighth point and increased at every point is the sum of the increases since. -/
theorem acc_sum (f : (u : ℕ) → u < cfg0.N → EReal) (P : ℕ → EReal) (hA : ∀ u hu, u % 8 = 0 → f u hu = 0 + P u)
    (hB : ∀ u (hu : u + 1 < cfg0.N), ¬(u + 1) % 8 = 0 → f (u + 1) hu = f u (by omega) + P (u + 1)) :
    ∀ u hu, f u hu = ∑ v ∈ Finset.range (u % 8 + 1), P (u / 8 * 8 + v) := by
  intro u
  induction u with
  | zero =>
    intro hu
    rw [hA 0 hu rfl, zero_add, Finset.sum_range_one]
  | succ u ih =>
    intro hu
    by_cases h0 : (u + 1) % 8 = 0
    · rw [hA _ hu h0, h0, zero_add, zero_add, Finset.sum_range_one]
      congr 1; omega
    · have e3 : (u + 1) % 8 = u % 8 + 1 := by omega
      have e4 : (u + 1) / 8 = u / 8 := by omega
      rw [hB u hu h0, ih (by omega), e3, e4, Finset.sum_range_succ _ (u % 8 + 1)]
      congr 2; omega

/-- Eight tiles make the whole sum over the batch and the sequence. -/
theorem tile_sum (F : ℕ → ℕ → ℕ → EReal) (K q : ℕ) :
    ∑ v ∈ Finset.range 8, ∑ r : Fin 1024, F ((K * 8 + v) / 4 % 2) ((K * 8 + v) / 8 * 256 + q) (1024 * ((K * 8 + v) % 4) + (16 + r.val))
      = ∑ b : Fin 2, ∑ t : Fin 4096, F b.val (K * 256 + q) (16 + t.val) := by
  have e : ∀ v ∈ Finset.range 8, (∑ r : Fin 1024, F ((K * 8 + v) / 4 % 2) ((K * 8 + v) / 8 * 256 + q) (1024 * ((K * 8 + v) % 4) + (16 + r.val)))
      = ∑ r : Fin 1024, F (v / 4) (K * 256 + q) (16 + (1024 * (v % 4) + r.val)) := by
    intro v hv
    have hv := Finset.mem_range.mp hv
    have e1 : (K * 8 + v) / 4 % 2 = v / 4 := by omega
    have e2 : (K * 8 + v) / 8 = K := by omega
    have e3 : (K * 8 + v) % 4 = v % 4 := by omega
    refine Finset.sum_congr rfl fun r _ => ?_
    rw [e1, e2, e3]
    congr 1; omega
  have g : ∀ G : ℕ → EReal, ∑ v ∈ Finset.range 8, G v = (∑ s : Fin 4, G s.val) + ∑ s : Fin 4, G (4 + s.val) := by
    intro G
    rw [← Finset.sum_range (fun s => G s), ← Finset.sum_range (fun s => G (4 + s))]
    exact Finset.sum_range_add G 4 4
  refine (Finset.sum_congr rfl e).trans ((g _).trans ?_)
  rw [Fin.sum_univ_two]
  refine congrArg₂ (· + ·) ?_ ?_
  · refine Eq.trans ?_ (Cert.KernelIdeal.Grad.sum_4096 (fun t => F 0 (K * 256 + q) (16 + t))).symm
    refine Finset.sum_congr rfl fun s _ => Finset.sum_congr rfl fun r _ => ?_
    have e1 : s.val / 4 = 0 := by omega
    have e2 : s.val % 4 = s.val := by omega
    rw [e1, e2]
  · refine Eq.trans ?_ (Cert.KernelIdeal.Grad.sum_4096 (fun t => F 1 (K * 256 + q) (16 + t))).symm
    refine Finset.sum_congr rfl fun s _ => Finset.sum_congr rfl fun r _ => ?_
    have e1 : (4 + s.val) / 4 = 1 := by omega
    have e2 : (4 + s.val) % 4 = s.val := by omega
    rw [e1, e2]

variable (m : (ℓ : Loc nD τ sig) → Buf (Elt Ideal) ℓ) (c : Dev nD)

/-- The gradients of the two sequences, of their taps and of their biases, from the channels. -/
def planesOf (C : ℕ → ℕ → Chan) : S2x2x4096x2816.Idx → EReal := fun i => (C (i 1).val (i 3).val).plane (i 0) (16 + (i 2).val)
def tapsOf (C : ℕ → ℕ → Chan) (k : Fin 2) : S3x2816.Idx → EReal :=
  fun i => ∑ b : Fin 2, ∑ t : Fin 4096, (C b.val (i 1).val).tap k (i 0) (16 + t.val)
def biasOf (C : ℕ → ℕ → Chan) (k : Fin 2) : S1x2816.Idx → EReal :=
  fun i => ∑ b : Fin 2, ∑ t : Fin 4096, (C b.val (i 1).val).grad k (16 + t.val)

theorem plane_eq (C : ℕ → ℕ → Chan) (k : Fin 2) (b t n : ℕ) (e : S2x2x4096x2816.Idx) (h0 : k.val = (e 0).val) (h1 : b = (e 1).val)
    (h2 : t = 16 + (e 2).val) (h3 : n = (e 3).val) : (C b n).plane k t = planesOf C e := by
  obtain rfl : k = e 0 := Fin.ext h0
  subst h1 h2 h3
  rfl

theorem tap_eq (C : ℕ → ℕ → Chan) (k : Fin 2) (j : Fin 3) (n : ℕ) (e : S3x2816.Idx) (h0 : j.val = (e 0).val) (h1 : n = (e 1).val) :
    ∑ b : Fin 2, ∑ t : Fin 4096, (C b.val n).tap k j (16 + t.val) = tapsOf C k e := by
  obtain rfl : j = e 0 := Fin.ext h0
  subst h1
  rfl

theorem bias_eq (C : ℕ → ℕ → Chan) (k : Fin 2) (n : ℕ) (e : S1x2816.Idx) (h1 : n = (e 1).val) :
    ∑ b : Fin 2, ∑ t : Fin 4096, (C b.val n).grad k (16 + t.val) = biasOf C k e := by
  subst h1
  rfl

theorem final12 : (dats m 0 c).arrAt 12 cfg0.N = planesOf (chan m c) := by
  refine (dats m 0 c).arrAt_eq_of_cover 12 (planesOf (chan m c)) (fun t _ => ?_) fun i => ?_
  · rw [Cert.Kernel23Ideal.Value.flushed12]
    have hi := congrFun (idx12 t)
    funext y
    rw [View.read_apply]
    have hz : ∀ z : S2x1x1024x256.Idx, (outsAt0 m c t.val t.isLt).1 z
        = (chanAt m c t (z 3)).plane (z 0) (1024 * (t.val % 4) + (16 + (z 2).val)) := by
      intro z
      have e : z = ix4 (z 0) 0 (z 2) (z 3) := by
        funext a
        match a with
        | ⟨0, _⟩ => rfl
        | ⟨1, _⟩ => exact Fin.ext (by have : (z 1).val < 1 := (z 1).isLt; show (z 1).val = 0; omega)
        | ⟨2, _⟩ => rfl
        | ⟨3, _⟩ => rfl
      exact (congrArg _ e).trans (planes m c t (z 0) (z 2) (z 3))
    refine (hz _).trans ?_
    show _ = planesOf (chan m c) _
    refine plane_eq (chan m c) _ _ _ _ _ ?_ ?_ ?_ ?_
    · exact of_pos 2 (hi 0) (by simp)
    · have : (y 1).val < 1 := (y 1).isLt
      show t.val / 4 % 2 = win0_12.index t 1 * 1 + 1 * (y 1).val
      rw [hi 1]; simp; omega
    · show 1024 * (t.val % 4) + (16 + (y 2).val) = 16 + (win0_12.index t 2 * 1024 + 1 * (y 2).val)
      rw [hi 2]; simp; omega
    · exact of_pos 256 (hi 3) (by simp)
  · have hN : cfg0.N = 88 := N_0
    have h0 : (i 0 : ℕ) < 2 := (i 0).isLt
    have h1 : (i 1 : ℕ) < 2 := (i 1).isLt
    have h2 : (i 2 : ℕ) < 4096 := (i 2).isLt
    have h3 : (i 3 : ℕ) < 2816 := (i 3).isLt
    obtain ⟨t, ht⟩ : ∃ t : Fin cfg0.N, t.val = (i 3 : ℕ) / 256 * 8 + (i 1 : ℕ) * 4 + (i 2 : ℕ) / 1024 :=
      ⟨⟨_, by omega⟩, rfl⟩
    refine ⟨t, flush0_12 t, ?_⟩
    have hi := congrFun (idx12 t)
    refine mem_of (View.set_slice_whole main_v0_0 _) (Rect.mem_set_unit.2 fun a => ?_)
    match a with
    | ⟨0, _⟩ => exact in_block 2 (i 0) (hi 0) (by simp; omega)
    | ⟨1, _⟩ => exact in_block 1 (i 1) (hi 1) (by simp; omega)
    | ⟨2, _⟩ => exact in_block 1024 (i 2) (hi 2) (by simp; omega)
    | ⟨3, _⟩ => exact in_block 256 (i 3) (hi 3) (by simp; omega)

/-- After the last point of a column block the accumulator holds the whole sum. -/
theorem taps0_sum (t : Fin cfg0.N) (h7 : t.val % 8 = 7) (j : Fin 3) (q : Fin 256) :
    (outsAt0 m c t.val t.isLt).2.1 (ix2 j q)
      = ∑ b : Fin 2, ∑ s : Fin 4096, (chan m c b.val (t.val / 8 * 256 + q.val)).tap 0 j (16 + s.val) := by
  refine (acc_sum (fun u hu => (outsAt0 m c u hu).2.1 (ix2 j q))
    (fun u => ∑ r : Fin 1024, (chan m c (u / 4 % 2) (u / 8 * 256 + q.val)).tap 0 j (1024 * (u % 4) + (16 + r.val)))
    (fun u hu h0 => taps0_A m c ⟨u, hu⟩ h0 j q) (fun u hu h0 => taps0_B m c ⟨u + 1, hu⟩ h0 j q) t.val t.isLt).trans ?_
  rw [h7]
  exact tile_sum (fun b n s => (chan m c b n).tap 0 j s) (t.val / 8) q.val

theorem final13 : (dats m 0 c).arrAt 13 cfg0.N = tapsOf (chan m c) 0 := by
  refine (dats m 0 c).arrAt_eq_of_cover 13 (tapsOf (chan m c) 0) (fun t hf => ?_) fun i => ?_
  · rw [Cert.Kernel23Ideal.Value.flushed13]
    have hi := congrFun (idx13 t)
    have h7 : t.val % 8 = 7 := (flush0_13 t).mp hf
    funext y
    rw [View.read_apply]
    have hz : ∀ z : S3x256.Idx, (outsAt0 m c t.val t.isLt).2.1 z
        = ∑ b : Fin 2, ∑ s : Fin 4096, (chan m c b.val (t.val / 8 * 256 + (z 1).val)).tap 0 (z 0) (16 + s.val) := by
      intro z
      exact (congrArg _ (eq_ix2 z)).trans (taps0_sum m c t h7 (z 0) (z 1))
    refine (hz _).trans ?_
    show _ = tapsOf (chan m c) 0 _
    refine tap_eq (chan m c) _ _ _ _ ?_ ?_
    · exact of_pos 3 (hi 0) (by simp)
    · exact of_pos 256 (hi 1) (by simp)
  · have hN : cfg0.N = 88 := N_0
    have h0 : (i 0 : ℕ) < 3 := (i 0).isLt
    have h1 : (i 1 : ℕ) < 2816 := (i 1).isLt
    obtain ⟨t, ht⟩ : ∃ t : Fin cfg0.N, t.val = (i 1 : ℕ) / 256 * 8 + 7 := ⟨⟨(i 1 : ℕ) / 256 * 8 + 7, by omega⟩, rfl⟩
    refine ⟨t, (flush0_13 t).mpr (by omega), ?_⟩
    have hi := congrFun (idx13 t)
    refine mem_of (View.set_slice_whole main_v0_1 _) (Rect.mem_set_unit.2 fun a => ?_)
    match a with
    | ⟨0, _⟩ => exact in_block 3 (i 0) (hi 0) (by simp; omega)
    | ⟨1, _⟩ => exact in_block 256 (i 1) (hi 1) (by simp; omega)

/-- After the last point of a column block the accumulator holds the whole sum. -/
theorem taps1_sum (t : Fin cfg0.N) (h7 : t.val % 8 = 7) (j : Fin 3) (q : Fin 256) :
    (outsAt0 m c t.val t.isLt).2.2.1 (ix2 j q)
      = ∑ b : Fin 2, ∑ s : Fin 4096, (chan m c b.val (t.val / 8 * 256 + q.val)).tap 1 j (16 + s.val) := by
  refine (acc_sum (fun u hu => (outsAt0 m c u hu).2.2.1 (ix2 j q))
    (fun u => ∑ r : Fin 1024, (chan m c (u / 4 % 2) (u / 8 * 256 + q.val)).tap 1 j (1024 * (u % 4) + (16 + r.val)))
    (fun u hu h0 => taps1_A m c ⟨u, hu⟩ h0 j q) (fun u hu h0 => taps1_B m c ⟨u + 1, hu⟩ h0 j q) t.val t.isLt).trans ?_
  rw [h7]
  exact tile_sum (fun b n s => (chan m c b n).tap 1 j s) (t.val / 8) q.val

theorem final14 : (dats m 0 c).arrAt 14 cfg0.N = tapsOf (chan m c) 1 := by
  refine (dats m 0 c).arrAt_eq_of_cover 14 (tapsOf (chan m c) 1) (fun t hf => ?_) fun i => ?_
  · rw [Cert.Kernel23Ideal.Value.flushed14]
    have hi := congrFun (idx14 t)
    have h7 : t.val % 8 = 7 := (flush0_14 t).mp hf
    funext y
    rw [View.read_apply]
    have hz : ∀ z : S3x256.Idx, (outsAt0 m c t.val t.isLt).2.2.1 z
        = ∑ b : Fin 2, ∑ s : Fin 4096, (chan m c b.val (t.val / 8 * 256 + (z 1).val)).tap 1 (z 0) (16 + s.val) := by
      intro z
      exact (congrArg _ (eq_ix2 z)).trans (taps1_sum m c t h7 (z 0) (z 1))
    refine (hz _).trans ?_
    show _ = tapsOf (chan m c) 1 _
    refine tap_eq (chan m c) _ _ _ _ ?_ ?_
    · exact of_pos 3 (hi 0) (by simp)
    · exact of_pos 256 (hi 1) (by simp)
  · have hN : cfg0.N = 88 := N_0
    have h0 : (i 0 : ℕ) < 3 := (i 0).isLt
    have h1 : (i 1 : ℕ) < 2816 := (i 1).isLt
    obtain ⟨t, ht⟩ : ∃ t : Fin cfg0.N, t.val = (i 1 : ℕ) / 256 * 8 + 7 := ⟨⟨(i 1 : ℕ) / 256 * 8 + 7, by omega⟩, rfl⟩
    refine ⟨t, (flush0_14 t).mpr (by omega), ?_⟩
    have hi := congrFun (idx14 t)
    refine mem_of (View.set_slice_whole main_v0_2 _) (Rect.mem_set_unit.2 fun a => ?_)
    match a with
    | ⟨0, _⟩ => exact in_block 3 (i 0) (hi 0) (by simp; omega)
    | ⟨1, _⟩ => exact in_block 256 (i 1) (hi 1) (by simp; omega)

/-- After the last point of a column block the accumulator holds the whole sum. -/
theorem bias0_sum (t : Fin cfg0.N) (h7 : t.val % 8 = 7) (q : Fin 256) :
    (outsAt0 m c t.val t.isLt).2.2.2.1 (ix2 0 q)
      = ∑ b : Fin 2, ∑ s : Fin 4096, (chan m c b.val (t.val / 8 * 256 + q.val)).grad 0 (16 + s.val) := by
  refine (acc_sum (fun u hu => (outsAt0 m c u hu).2.2.2.1 (ix2 0 q))
    (fun u => ∑ r : Fin 1024, (chan m c (u / 4 % 2) (u / 8 * 256 + q.val)).grad 0 (1024 * (u % 4) + (16 + r.val)))
    (fun u hu h0 => bias0_A m c ⟨u, hu⟩ h0 q) (fun u hu h0 => bias0_B m c ⟨u + 1, hu⟩ h0 q) t.val t.isLt).trans ?_
  rw [h7]
  exact tile_sum (fun b n s => (chan m c b n).grad 0 s) (t.val / 8) q.val

theorem final15 : (dats m 0 c).arrAt 15 cfg0.N = biasOf (chan m c) 0 := by
  refine (dats m 0 c).arrAt_eq_of_cover 15 (biasOf (chan m c) 0) (fun t hf => ?_) fun i => ?_
  · rw [Cert.Kernel23Ideal.Value.flushed15]
    have hi := congrFun (idx15 t)
    have h7 : t.val % 8 = 7 := (flush0_15 t).mp hf
    funext y
    rw [View.read_apply]
    have hz : ∀ z : S1x256.Idx, (outsAt0 m c t.val t.isLt).2.2.2.1 z
        = ∑ b : Fin 2, ∑ s : Fin 4096, (chan m c b.val (t.val / 8 * 256 + (z 1).val)).grad 0 (16 + s.val) := by
      intro z
      have e : z = ix2 0 (z 1) := by
        funext a
        match a with
        | ⟨0, _⟩ => exact Fin.ext (by have : (z 0).val < 1 := (z 0).isLt; show (z 0).val = 0; omega)
        | ⟨1, _⟩ => rfl
      exact (congrArg _ e).trans (bias0_sum m c t h7 (z 1))
    refine (hz _).trans ?_
    show _ = biasOf (chan m c) 0 _
    refine bias_eq (chan m c) _ _ _ ?_
    show t.val / 8 * 256 + (y 1).val = win0_15.index t 1 * 256 + 1 * (y 1).val
    rw [hi 1]; simp
  · have hN : cfg0.N = 88 := N_0
    have h0 : (i 0 : ℕ) < 1 := (i 0).isLt
    have h1 : (i 1 : ℕ) < 2816 := (i 1).isLt
    obtain ⟨t, ht⟩ : ∃ t : Fin cfg0.N, t.val = (i 1 : ℕ) / 256 * 8 + 7 := ⟨⟨(i 1 : ℕ) / 256 * 8 + 7, by omega⟩, rfl⟩
    refine ⟨t, (flush0_15 t).mpr (by omega), ?_⟩
    have hi := congrFun (idx15 t)
    refine mem_of (View.set_slice_whole main_v0_3 _) (Rect.mem_set_unit.2 fun a => ?_)
    match a with
    | ⟨0, _⟩ => exact in_block 1 (i 0) (hi 0) (by simp; omega)
    | ⟨1, _⟩ => exact in_block 256 (i 1) (hi 1) (by simp; omega)

/-- After the last point of a column block the accumulator holds the whole sum. -/
theorem bias1_sum (t : Fin cfg0.N) (h7 : t.val % 8 = 7) (q : Fin 256) :
    (outsAt0 m c t.val t.isLt).2.2.2.2 (ix2 0 q)
      = ∑ b : Fin 2, ∑ s : Fin 4096, (chan m c b.val (t.val / 8 * 256 + q.val)).grad 1 (16 + s.val) := by
  refine (acc_sum (fun u hu => (outsAt0 m c u hu).2.2.2.2 (ix2 0 q))
    (fun u => ∑ r : Fin 1024, (chan m c (u / 4 % 2) (u / 8 * 256 + q.val)).grad 1 (1024 * (u % 4) + (16 + r.val)))
    (fun u hu h0 => bias1_A m c ⟨u, hu⟩ h0 q) (fun u hu h0 => bias1_B m c ⟨u + 1, hu⟩ h0 q) t.val t.isLt).trans ?_
  rw [h7]
  exact tile_sum (fun b n s => (chan m c b n).grad 1 s) (t.val / 8) q.val

theorem final16 : (dats m 0 c).arrAt 16 cfg0.N = biasOf (chan m c) 1 := by
  refine (dats m 0 c).arrAt_eq_of_cover 16 (biasOf (chan m c) 1) (fun t hf => ?_) fun i => ?_
  · rw [Cert.Kernel23Ideal.Value.flushed16]
    have hi := congrFun (idx16 t)
    have h7 : t.val % 8 = 7 := (flush0_16 t).mp hf
    funext y
    rw [View.read_apply]
    have hz : ∀ z : S1x256.Idx, (outsAt0 m c t.val t.isLt).2.2.2.2 z
        = ∑ b : Fin 2, ∑ s : Fin 4096, (chan m c b.val (t.val / 8 * 256 + (z 1).val)).grad 1 (16 + s.val) := by
      intro z
      have e : z = ix2 0 (z 1) := by
        funext a
        match a with
        | ⟨0, _⟩ => exact Fin.ext (by have : (z 0).val < 1 := (z 0).isLt; show (z 0).val = 0; omega)
        | ⟨1, _⟩ => rfl
      exact (congrArg _ e).trans (bias1_sum m c t h7 (z 1))
    refine (hz _).trans ?_
    show _ = biasOf (chan m c) 1 _
    refine bias_eq (chan m c) _ _ _ ?_
    show t.val / 8 * 256 + (y 1).val = win0_16.index t 1 * 256 + 1 * (y 1).val
    rw [hi 1]; simp
  · have hN : cfg0.N = 88 := N_0
    have h0 : (i 0 : ℕ) < 1 := (i 0).isLt
    have h1 : (i 1 : ℕ) < 2816 := (i 1).isLt
    obtain ⟨t, ht⟩ : ∃ t : Fin cfg0.N, t.val = (i 1 : ℕ) / 256 * 8 + 7 := ⟨⟨(i 1 : ℕ) / 256 * 8 + 7, by omega⟩, rfl⟩
    refine ⟨t, (flush0_16 t).mpr (by omega), ?_⟩
    have hi := congrFun (idx16 t)
    refine mem_of (View.set_slice_whole main_v0_4 _) (Rect.mem_set_unit.2 fun a => ?_)
    match a with
    | ⟨0, _⟩ => exact in_block 1 (i 0) (hi 0) (by simp; omega)
    | ⟨1, _⟩ => exact in_block 256 (i 1) (hi 1) (by simp; omega)

end Cert.ActBwd
end
-- ==== Proof.Conv.ActBwdFinite.lean ====
/-
  Finite channels: where every value of a channel is a real number, the gradient of the first sequence is the sum of the
  two products the chain rule names.
-/
module

public import proofs.«01_k».proof.Defs
public import proofs.«01_k».proof.Proof.Conv.ActBwdOut
public import proofs.«01_k».proof.Proof.Gen.Pre_finite23

@[expose] public section

noncomputable section

namespace Cert.ActBwd

open Cert.Product Idealize.ShloMosaic Idealize.ShloMosaic.TcCoe Idealize.SL.Sem
open Cert.KernelIdeal.Grad (pad16 pad16_mid pad16_low pad16_high pad16_at)

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.pad16 {f : Fin 4096 → EReal} (h : ∀ a, IsReal (f a)) (n : ℕ) : IsReal (pad16 f n) := by
  unfold Cert.KernelIdeal.Grad.pad16
  split
  · exact h _
  · exact ⟨0, rfl⟩

/-- The logistic function of a real number is one. -/
theorem IsReal.sg {x : EReal} : IsReal x → IsReal (sg x) := by
  rintro ⟨a, rfl⟩
  have e : (1 : EReal) + Ideal.exp (0 - (a : EReal)) = ((1 + Real.exp (-a) : ℝ) : EReal) := by
    rw [zero_sub, ← EReal.coe_neg, EReal.coe_add]
    rfl
  have p : (1 + Real.exp (-a) : ℝ) ≠ 0 := by positivity
  refine ⟨(1 + Real.exp (-a))⁻¹, ?_⟩
  unfold Cert.ActBwd.sg
  rw [e]
  unfold Ideal.div
  rw [if_neg (by exact_mod_cast p), one_mul, EReal.coe_inv]

/-- A channel of real numbers. -/
structure Chan.Finite (C : Chan) : Prop where
  seq : ∀ k a, IsReal (C.seq k a)
  w : ∀ k j, IsReal (C.w k j)
  v : ∀ k, IsReal (C.v k)
  d : ∀ a, IsReal (C.d a)

theorem Chan.Finite.pre {C : Chan} (H : C.Finite) (k : Fin 2) (n : ℕ) : IsReal (C.pre k n) :=
  ((((H.w k 0).mul (IsReal.pad16 (H.seq k) _)).add ((H.w k 1).mul (IsReal.pad16 (H.seq k) _))).add
    ((H.w k 2).mul (IsReal.pad16 (H.seq k) _))).add (H.v k)

/-- The gradient of the first sequence in the chain rule's two products. -/
theorem Chan.Finite.grad0 {C : Chan} (H : C.Finite) (n : ℕ) :
    pad16 C.d n * C.pre 1 n * sg (C.pre 0 n) + C.pre 0 n * (pad16 C.d n * C.pre 1 n) * (sg (C.pre 0 n) * (1 - sg (C.pre 0 n)))
      = C.grad 0 n := by
  obtain ⟨d, hd⟩ := IsReal.pad16 H.d n
  obtain ⟨p, hp⟩ := H.pre 0 n
  obtain ⟨q, hq⟩ := H.pre 1 n
  obtain ⟨s, hs⟩ := IsReal.sg ⟨p, rfl⟩
  unfold Chan.grad
  dsimp only
  rw [hd, hp, hq, hs, ← EReal.coe_one]
  simp only [← EReal.coe_mul, ← EReal.coe_add, ← EReal.coe_sub]
  congr 1
  ring

/-- An entry the precondition's comparison passes is a real number. -/
theorem isReal_of (x : EReal) (h : BitVec.ofBool (decide (max x (-x) < Ideal.ofBits .f32 0x7F800000#32)) = 1#1) : IsReal x := by
  have of_one : ∀ b : Bool, BitVec.ofBool b = 1#1 → b = true := by decide
  have e : Ideal.ofBits .f32 0x7F800000#32 = ⊤ := by simp [Ideal.ofBits, Ideal.ieee]
  rw [e] at h
  have h := of_one _ h
  have h := of_decide_eq_true h
  induction x with
  | bot => simp at h
  | top => simp at h
  | coe r => exact ⟨r, rfl⟩

attribute [local instance] Cert.Pre_finite23.Gen.facts

open Cert.Pre_finite23 in
/-- Where the precondition holds, every entry of the four arrays is a real number. -/
theorem entries (X : S2x4096x5632.Idx → EReal) (D : S2x4096x2816.Idx → EReal) (W : S3x5632.Idx → EReal) (B : S1x5632.Idx → EReal)
    (h : Cert.Pre_finite23.fn (F := Ideal) X D W B = fun _ => 1#1) (b : Fin 2) (a : Fin 4096) (n : Fin 5632) :
    IsReal (X (ix3 b a n)) ∧ IsReal (W (ix2 0 n)) ∧ IsReal (W (ix2 1 n)) ∧ IsReal (W (ix2 2 n)) ∧ IsReal (B (ix2 0 n))
      ∧ ∀ hn : n.val < 2816, IsReal (D (ix3 b a ⟨n.val, hn⟩)) := by
  have and_one : ∀ a b : BitVec 1, IntOp.andi a b = 1#1 → a = 1#1 ∧ b = 1#1 := by decide
  have h := congrFun h (ix3 b a n)
  revert h
  unfold Cert.Pre_finite23.fn Cert.Pre_finite23.fn_part1
  dsimp only
  pointwise
  intro h
  obtain ⟨h, hB⟩ := and_one _ _ h
  obtain ⟨h, h2⟩ := and_one _ _ h
  obtain ⟨h, h1⟩ := and_one _ _ h
  obtain ⟨h, h0⟩ := and_one _ _ h
  obtain ⟨hX, hD⟩ := and_one _ _ h
  refine ⟨isReal_of _ hX, isReal_of _ h0, isReal_of _ h1, isReal_of _ h2, isReal_of _ hB, fun hn => ?_⟩
  rw [dif_pos hn] at hD
  exact isReal_of _ hD

open Cert.Pre_finite23 in
/-- Where the precondition holds, every channel is finite. -/
theorem finite_chan (X : S2x4096x5632.Idx → EReal) (D : S2x4096x2816.Idx → EReal) (W : S3x5632.Idx → EReal) (B : S1x5632.Idx → EReal)
    (h : Cert.Pre_finite23.fn (F := Ideal) X D W B = fun _ => 1#1) (b : Fin 2) (n : Fin 2816) : (chanOf X D W B b.val n.val).Finite := by
  have hk : ∀ k : Fin 2, 2816 * k.val + n.val < 5632 := fun k => by omega
  constructor
  · intro k a
    have e := at3_val 2 4096 5632 X (ix3 b a ⟨_, hk k⟩) b.val a.val (2816 * k.val + n.val) rfl rfl rfl
    show IsReal (at3 2 4096 5632 X b.val a.val (2816 * k.val + n.val))
    rw [← e]
    exact (entries X D W B h b a ⟨_, hk k⟩).1
  · intro k j
    have e := at2_val 3 5632 W (ix2 j ⟨_, hk k⟩) j.val (2816 * k.val + n.val) rfl rfl
    show IsReal (at2 3 5632 W j.val (2816 * k.val + n.val))
    rw [← e]
    have g := entries X D W B h b 0 ⟨_, hk k⟩
    obtain rfl | rfl | rfl : j = 0 ∨ j = 1 ∨ j = 2 := by omega
    · exact g.2.1
    · exact g.2.2.1
    · exact g.2.2.2.1
  · intro k
    have e := at2_val 1 5632 B (ix2 0 ⟨_, hk k⟩) 0 (2816 * k.val + n.val) rfl rfl
    show IsReal (at2 1 5632 B 0 (2816 * k.val + n.val))
    rw [← e]
    exact (entries X D W B h b 0 ⟨_, hk k⟩).2.2.2.2.1
  · intro a
    have e := at3_val 2 4096 2816 D (ix3 b a n) b.val a.val n.val rfl rfl rfl
    show IsReal (at3 2 4096 2816 D b.val a.val n.val)
    rw [← e]
    exact (entries X D W B h b a ⟨n.val, by omega⟩).2.2.2.2.2 n.isLt

end Cert.ActBwd
end
-- ==== Proof.Conv.ActBwdRef.lean ====
/-
  The gated activation's gradient, read at an index: what the reference's host program computes, channel by channel.
-/
module

public import proofs.«01_k».proof.Proof.Conv.ActBwdFinite
public import proofs.«01_k».proof.Proof.Conv.Reference
public import proofs.«01_k».proof.Proof.Gen.Reference23Ideal.Read

@[expose] public section

noncomputable section

namespace Cert.ActBwd

open Cert.Product Cert.Reference23Ideal Cert.Reference23Ideal.Read Idealize.ShloMosaic Idealize.ShloMosaic.TcCoe Idealize.SL.Sem
open Cert.KernelIdeal.Grad (pad16 pad16_mid pad16_low pad16_high pad16_at)
open Cert.ReferenceIdeal.Grad (hostReduceAdd_01)

attribute [local instance] Cert.Reference23Ideal.Gen.facts

variable (X : S2x4096x5632.Idx → EReal) (D : S2x4096x2816.Idx → EReal) (W : S3x5632.Idx → EReal) (B : S1x5632.Idx → EReal)

/-- The column of sequence `k` in channel `n`. -/
def col (k : Fin 2) (n : Fin 2816) : Fin 5632 := ⟨2816 * k.val + n.val, by omega⟩

theorem seq_at (b : Fin 2) (a : Fin 4096) (k : Fin 2) (n : Fin 2816) :
    X (ix3 b a (col k n)) = (chanOf X D W B b.val n.val).seq k a := at3_val 2 4096 5632 X _ _ _ _ rfl rfl rfl

theorem tap_at (b : Fin 2) (j : Fin 3) (k : Fin 2) (n : Fin 2816) :
    W (ix2 j (col k n)) = (chanOf X D W B b.val n.val).w k j := at2_val 3 5632 W _ _ _ rfl rfl

theorem bias_at (b : Fin 2) (k : Fin 2) (n : Fin 2816) :
    B (ix2 0 (col k n)) = (chanOf X D W B b.val n.val).v k := at2_val 1 5632 B _ _ _ rfl rfl

theorem inc_at (b : Fin 2) (a : Fin 4096) (n : Fin 2816) :
    D (ix3 b a n) = (chanOf X D W B b.val n.val).d a := at3_val 2 4096 2816 D _ _ _ _ rfl rfl rfl

/-- The sequences with their two rows of zeros in front. -/
theorem v4_row (b : Fin 2) (p : Fin 4098) (k : Fin 2) (n : Fin 2816) :
    val_main_v4 (F := Ideal) X (ix3 b p (col k n)) = pad16 ((chanOf X D W B b.val n.val).seq k) (14 + p.val) := by
  unfold val_main_v4 val_main_v3 val_main_v0 val_main_cst
  pointwise
  split
  · rw [pad16_low _ (by omega)]
  · rw [pad16_at _ (p.val - 2) (by omega) (by omega)]
    exact seq_at X D W B b ⟨p.val - 2, by omega⟩ k n

/-- The two convolutions with their biases. -/
theorem v28_row (b : Fin 2) (t : Fin 4096) (k : Fin 2) (n : Fin 2816) :
    val_main_v28 (F := Ideal) X W B (ix3 b t (col k n)) = (chanOf X D W B b.val n.val).pre k (16 + t.val) := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v9 val_main_v8 val_main_v7 val_main_v6 val_main_v2
  pointwise
  rw [v4_row X D W B, v4_row X D W B, v4_row X D W B, tap_at X D W B b, tap_at X D W B b, tap_at X D W B b, bias_at X D W B b]
  have e0 : 16 + t.val - 2 = 14 + t.val := by omega
  have e1 : 16 + t.val - 1 = 14 + (1 + t.val) := by omega
  have e2 : 16 + t.val = 14 + (2 + t.val) := by omega
  unfold Chan.pre
  rw [e0, e1, mul_comm _ ((chanOf X D W B b.val n.val).w k 0), mul_comm _ ((chanOf X D W B b.val n.val).w k 1),
    mul_comm _ ((chanOf X D W B b.val n.val).w k 2)]
  simp only [e2]

/-- The logistic function of the first convolution. -/
theorem v31_row (b : Fin 2) (t : Fin 4096) (n : Fin 2816) :
    val_main_v31_2 (F := Ideal) X W B (ix3 b t n) = sg ((chanOf X D W B b.val n.val).pre 0 (16 + t.val)) := by
  have e : (⟨n.val, by omega⟩ : Fin 5632) = col 0 n := Fin.ext (by simp [col])
  unfold val_main_v31_2 val_main_call0_v4 val_main_call0_cst_0 val_main_call0_v3 val_main_call0_v2 val_main_call0_cst
    val_main_call0_v1 val_main_call0_v0 val_main_v29
  pointwise
  rw [← v28_row X D W B b t 0 n]
  unfold sg
  rw [zero_sub]
  simp only [Nat.zero_add, e]

theorem v29_row (b : Fin 2) (t : Fin 4096) (n : Fin 2816) :
    val_main_v29 (F := Ideal) X W B (ix3 b t n) = (chanOf X D W B b.val n.val).pre 0 (16 + t.val) := by
  have e : (⟨n.val, by omega⟩ : Fin 5632) = col 0 n := Fin.ext (by simp [col])
  unfold val_main_v29
  pointwise
  rw [← v28_row X D W B b t 0 n]
  simp only [Nat.zero_add, e]

theorem v30_row (b : Fin 2) (t : Fin 4096) (n : Fin 2816) :
    val_main_v30 (F := Ideal) X W B (ix3 b t n) = (chanOf X D W B b.val n.val).pre 1 (16 + t.val) := by
  unfold val_main_v30
  pointwise
  exact v28_row X D W B b t 1 n

/-- The gradients of the two convolutions. -/
theorem v36_row (b : Fin 2) (t : Fin 4096) (k : Fin 2) (n : Fin 2816) (H : (chanOf X D W B b.val n.val).Finite) :
    val_main_v36 (F := Ideal) X D W B (ix3 b t (col k n)) = (chanOf X D W B b.val n.val).grad k (16 + t.val) := by
  obtain rfl | rfl : k = 0 ∨ k = 1 := by omega
  · have e : (⟨(col 0 n).val, by simp [col]⟩ : Fin 2816) = n := Fin.ext (by simp [col])
    rw [← H.grad0, ← v31_row X D W B, ← v29_row X D W B, ← v30_row X D W B, pad16_mid, ← inc_at X D W B]
    unfold val_main_v36 val_main_v35 val_main_call1_v2 val_main_call1_v1 val_main_call1_v0 val_main_v34 val_main_v31_1
      val_main_call0_v7 val_main_call0_v6 val_main_call0_cst_1 val_main_v1
    pointwise
    refine (dif_pos (by simp [col])).trans ?_
    simp only [e]
  · have e : (⟨(col 1 n).val - 2816, by simp [col]⟩ : Fin 2816) = n := Fin.ext (by simp [col])
    unfold Chan.grad
    dsimp only
    rw [← v31_row X D W B, ← v29_row X D W B, pad16_mid, ← inc_at X D W B]
    unfold val_main_v36 val_main_v33 val_main_v31_0 val_main_v1
    pointwise
    refine (dif_neg (by simp [col])).trans ?_
    simp only [e]
    exact mul_comm _ _

variable (H : ∀ (b : Fin 2) (n : Fin 2816), (chanOf X D W B b.val n.val).Finite)
include H

/-- The gradient of the sequences, still in one array. -/
theorem v72_row (b : Fin 2) (t : Fin 4096) (k : Fin 2) (n : Fin 2816) :
    val_main_v72 (F := Ideal) X D W B (ix3 b t (col k n)) = (chanOf X D W B b.val n.val).plane k (16 + t.val) := by
  unfold val_main_v72 val_main_v70 val_main_v69 val_main_v64 val_main_v63 val_main_v59 val_main_v58 val_main_v53 val_main_v52
    val_main_v48 val_main_v44 val_main_v43 val_main_v22 val_main_v21 val_main_v20 val_main_v15 val_main_v14
    val_main_v13 val_main_v9 val_main_v8 val_main_v7 val_main_cst_6 val_main_cst_10 val_main_cst_14
  pointwise
  unfold Chan.plane
  rw [v36_row X D W B b _ k n (H b n), tap_at X D W B b, mul_comm _ ((chanOf X D W B b.val n.val).w k 2)]
  have hz : ∀ q, 4112 ≤ q → (chanOf X D W B b.val n.val).grad k q = 0 := by
    intro q hq
    obtain rfl | rfl : k = 0 ∨ k = 1 := by omega
    · unfold Chan.grad
      dsimp only
      rw [pad16_high _ hq, zero_mul, zero_mul]
    · unfold Chan.grad
      dsimp only
      rw [pad16_high _ hq, zero_mul]
  refine congrArg₂ (· + ·) (congrArg₂ (· + ·) rfl ?_) ?_
  · split
    · rw [v36_row X D W B b _ k n (H b n), tap_at X D W B b, mul_comm]
      congr 2
      simp only; omega
    · rw [hz _ (by omega), mul_zero]
  · split
    · rw [v36_row X D W B b _ k n (H b n), tap_at X D W B b, mul_comm]
      congr 2
      simp only; omega
    · rw [hz _ (by omega), mul_zero]

/-- The gradients of the two sequences, one after the other. -/
theorem v83_row (k : Fin 2) (b : Fin 2) (t : Fin 4096) (n : Fin 2816) :
    val_main_v83 (F := Ideal) X D W B (ix4 k b t n) = (chanOf X D W B b.val n.val).plane k (16 + t.val) := by
  rw [← v72_row X D W B H b t k n]
  have e : (⟨n.val, by omega⟩ : Fin 5632) = col 0 n := Fin.ext (by simp [col])
  unfold val_main_v83 val_main_v82 val_main_v81 val_main_v80 val_main_v75 val_main_v74
  pointwise
  obtain rfl | rfl : k = 0 ∨ k = 1 := by omega
  · refine (dif_pos (by decide)).trans ?_
    simp only [Nat.zero_add, e]
  · refine (dif_neg (by decide)).trans ?_
    rfl

theorem v41_row (k : Fin 2) (n : Fin 2816) : val_main_v41 (F := Ideal) X D W B (ix1 (col k n))
    = ∑ b : Fin 2, ∑ t : Fin 4096, (chanOf X D W B b.val n.val).tap k 2 (16 + t.val) := by
  unfold val_main_v41 val_main_cst_3
  refine (hostReduceAdd_01 _ _ _ (col k n)).trans ?_
  unfold val_main_v40 val_main_v19
  pointwise
  refine Finset.sum_congr rfl fun b _ => Finset.sum_congr rfl fun t _ => ?_
  rw [v4_row X D W B, v36_row X D W B b t k n (H b n), mul_comm]
  unfold Chan.tap
  congr 2; show 14 + (2 + t.val) = 16 + t.val - (2 - 2); omega

theorem v50_row (k : Fin 2) (n : Fin 2816) : val_main_v50 (F := Ideal) X D W B (ix1 (col k n))
    = ∑ b : Fin 2, ∑ t : Fin 4096, (chanOf X D W B b.val n.val).tap k 1 (16 + t.val) := by
  unfold val_main_v50 val_main_cst_7
  refine (hostReduceAdd_01 _ _ _ (col k n)).trans ?_
  unfold val_main_v49 val_main_v12
  pointwise
  refine Finset.sum_congr rfl fun b _ => Finset.sum_congr rfl fun t _ => ?_
  rw [v4_row X D W B, v36_row X D W B b t k n (H b n), mul_comm]
  unfold Chan.tap
  congr 2; show 14 + (1 + t.val) = 16 + t.val - (2 - 1); omega

theorem v61_row (k : Fin 2) (n : Fin 2816) : val_main_v61 (F := Ideal) X D W B (ix1 (col k n))
    = ∑ b : Fin 2, ∑ t : Fin 4096, (chanOf X D W B b.val n.val).tap k 0 (16 + t.val) := by
  unfold val_main_v61 val_main_cst_11
  refine (hostReduceAdd_01 _ _ _ (col k n)).trans ?_
  unfold val_main_v60 val_main_v6
  pointwise
  refine Finset.sum_congr rfl fun b _ => Finset.sum_congr rfl fun t _ => ?_
  rw [v4_row X D W B, v36_row X D W B b t k n (H b n), mul_comm]
  unfold Chan.tap
  congr 2; show 14 + (t.val) = 16 + t.val - (2 - 0); omega

theorem v37_row (k : Fin 2) (n : Fin 2816) : val_main_v37 (F := Ideal) X D W B (ix1 (col k n))
    = ∑ b : Fin 2, ∑ t : Fin 4096, (chanOf X D W B b.val n.val).grad k (16 + t.val) := by
  unfold val_main_v37 val_main_cst_1
  refine (hostReduceAdd_01 _ _ _ (col k n)).trans ?_
  pointwise
  refine Finset.sum_congr rfl fun b _ => Finset.sum_congr rfl fun t _ => ?_
  exact v36_row X D W B b t k n (H b n)

omit H

/-- Each second sum is over two axes of size one. -/
theorem v39_row (n : Fin 5632) : val_main_v39 (F := Ideal) X D W B (ix1 n) = val_main_v37 (F := Ideal) X D W B (ix1 n) := by
  unfold val_main_v39 val_main_cst_2
  refine (hostReduceAdd_01 _ _ _ n).trans ?_
  unfold val_main_v38
  pointwise
  simp

theorem v45_row (n : Fin 5632) : val_main_v45 (F := Ideal) X D W B (ix1 n) = val_main_v41 (F := Ideal) X D W B (ix1 n) := by
  unfold val_main_v45 val_main_cst_4
  refine (hostReduceAdd_01 _ _ _ n).trans ?_
  unfold val_main_v42
  pointwise
  simp

theorem v54_row (n : Fin 5632) : val_main_v54 (F := Ideal) X D W B (ix1 n) = val_main_v50 (F := Ideal) X D W B (ix1 n) := by
  unfold val_main_v54 val_main_cst_8
  refine (hostReduceAdd_01 _ _ _ n).trans ?_
  unfold val_main_v51
  pointwise
  simp

theorem v65_row (n : Fin 5632) : val_main_v65 (F := Ideal) X D W B (ix1 n) = val_main_v61 (F := Ideal) X D W B (ix1 n) := by
  unfold val_main_v65 val_main_cst_12
  refine (hostReduceAdd_01 _ _ _ n).trans ?_
  unfold val_main_v62
  pointwise
  simp

include H

/-- The gradients of the taps, still in one array. -/
theorem v68_row (j : Fin 3) (k : Fin 2) (n : Fin 2816) :
    val_main_v68 (F := Ideal) X D W B (ix2 j (col k n))
      = ∑ b : Fin 2, ∑ t : Fin 4096, (chanOf X D W B b.val n.val).tap k j (16 + t.val) := by
  unfold val_main_v68 val_main_v67 val_main_v66 val_main_v57 val_main_v56 val_main_v55 val_main_v47 val_main_v46
    val_main_cst_5 val_main_cst_9 val_main_cst_13
  pointwise
  rw [v45_row, v54_row, v65_row, v41_row X D W B H, v50_row X D W B H, v61_row X D W B H]
  obtain rfl | rfl | rfl : j = 0 ∨ j = 1 ∨ j = 2 := by omega
  · simp
  · simp
  · simp

theorem v76_row (j : Fin 3) (n : Fin 2816) : val_main_v76 (F := Ideal) X D W B (ix2 j n)
    = ∑ b : Fin 2, ∑ t : Fin 4096, (chanOf X D W B b.val n.val).tap 0 j (16 + t.val) := by
  rw [← v68_row X D W B H j 0 n]
  have e : (⟨n.val, by omega⟩ : Fin 5632) = col 0 n := Fin.ext (by simp [col])
  unfold val_main_v76
  pointwise
  simp only [Nat.zero_add, e]

theorem v77_row (j : Fin 3) (n : Fin 2816) : val_main_v77 (F := Ideal) X D W B (ix2 j n)
    = ∑ b : Fin 2, ∑ t : Fin 4096, (chanOf X D W B b.val n.val).tap 1 j (16 + t.val) := by
  rw [← v68_row X D W B H j 1 n]
  unfold val_main_v77
  pointwise
  rfl

theorem v78_row (n : Fin 2816) : val_main_v78 (F := Ideal) X D W B (ix2 0 n)
    = ∑ b : Fin 2, ∑ t : Fin 4096, (chanOf X D W B b.val n.val).grad 0 (16 + t.val) := by
  rw [← v37_row X D W B H 0 n, ← v39_row]
  have e : (⟨n.val, by omega⟩ : Fin 5632) = col 0 n := Fin.ext (by simp [col])
  unfold val_main_v78 val_main_v73
  pointwise
  simp only [Nat.zero_add, e]

theorem v79_row (n : Fin 2816) : val_main_v79 (F := Ideal) X D W B (ix2 0 n)
    = ∑ b : Fin 2, ∑ t : Fin 4096, (chanOf X D W B b.val n.val).grad 1 (16 + t.val) := by
  rw [← v37_row X D W B H 1 n, ← v39_row]
  unfold val_main_v79 val_main_v73
  pointwise
  rfl

end Cert.ActBwd
end
-- ==== Proof.Conv.ActBwdClaim.lean ====
/-
  The gated activation's gradient: the kernel's five result arrays are the reference's where the arguments are finite.
-/
module

public import proofs.«01_k».proof.Defs
public import proofs.«01_k».proof.Proof.Conv.ActBwdSum
public import proofs.«01_k».proof.Proof.Conv.ActBwdRef

@[expose] public section

noncomputable section

namespace Cert.ActBwd

open Idealize.ShloMosaic Idealize.ShloMosaic.TcCoe Idealize.SL.Sem
open Cert.Product Cert.Kernel23Ideal Cert.Reference23Ideal.Read

attribute [local instance] Cert.Kernel23Ideal.Gen.facts Cert.Reference23Ideal.Gen.facts Cert.Pre_finite23.Gen.facts

/-- The reference changes no argument, and declares no semaphore. -/
theorem frame : Cert.quiescent_Reference23Ideal := fun m ρ _ =>
  (θ_run Cert.Reference23Ideal.defs _ _).mono
    (fun r h => ⟨fun c => (h c).2.2.2.2.2, sem_eq_zero_of_no_sems (by decide) r.2⟩) (Cert.Reference23Ideal.Value.run m ρ)

theorem one_row (i : S1x2816.Idx) : i = ix2 0 (i 1) := by
  funext a
  match a with
  | ⟨0, _⟩ => exact Fin.ext (by have : (i 0).val < 1 := (i 0).isLt; show (i 0).val = 0; omega)
  | ⟨1, _⟩ => rfl

/-- The two programs leave the same result arrays. -/
theorem algebraic : Cert.algebraic_Kernel23Ideal_Reference23Ideal := by
  intro m g m' g' hp hargs
  have H : ∀ c : Dev nD, ∀ (b : Fin 2) (n : Fin 2816), (chanOf (argX m c) (argD m c) (argW m c) (argB m c) b.val n.val).Finite :=
    fun c => finite_chan (argX m c) (argD m c) (argW m c) (argB m c) (hp c)
  refine ⟨fun c => planesOf (chan m c), fun c => tapsOf (chan m c) 0, fun c => tapsOf (chan m c) 1, fun c => biasOf (chan m c) 0,
    fun c => biasOf (chan m c) 1, ?_, ?_⟩
  · exact (θ_run Cert.Kernel23Ideal.defs _ _).mono
      (fun r h c => ⟨(h c).1.trans (final12 m c), (h c).2.1.trans (final13 m c), (h c).2.2.1.trans (final14 m c),
        (h c).2.2.2.1.trans (final15 m c), (h c).2.2.2.2.1.trans (final16 m c), (h c).2.2.2.2.2⟩)
      (Cert.Kernel23Ideal.Value.run_blocks m g)
  · refine (θ_run Cert.Reference23Ideal.defs _ _).mono
      (fun r h c => ⟨(h c).1.trans ?_, (h c).2.1.trans ?_, (h c).2.2.1.trans ?_, (h c).2.2.2.1.trans ?_, (h c).2.2.2.2.1.trans ?_,
        (h c).2.2.2.2.2⟩) (Cert.Reference23Ideal.Value.run m' g')
    all_goals
      have e0 : StableHlo.launchContents m' c (Proc.devRef .tc Cert.Reference23Ideal.main_arg0) = argX m c := (hargs c).1
      have e1 : StableHlo.launchContents m' c (Proc.devRef .tc Cert.Reference23Ideal.main_arg1) = argD m c := (hargs c).2.1
      have e2 : StableHlo.launchContents m' c (Proc.devRef .tc Cert.Reference23Ideal.main_arg2) = argW m c := (hargs c).2.2.1
      have e3 : StableHlo.launchContents m' c (Proc.devRef .tc Cert.Reference23Ideal.main_arg3) = argB m c := (hargs c).2.2.2
    · refine (val_main_v83_eq _).trans ?_
      rw [e0, e1, e2, e3]
      funext i
      refine (congrArg _ (eq_ix4 i)).trans ?_
      exact v83_row (argX m c) (argD m c) (argW m c) (argB m c) (H c) (i 0) (i 1) (i 2) (i 3)
    · refine (val_main_v76_eq _).trans ?_
      rw [e0, e1, e2, e3]
      funext i
      refine (congrArg _ (eq_ix2 i)).trans ?_
      exact v76_row (argX m c) (argD m c) (argW m c) (argB m c) (H c) (i 0) (i 1)
    · refine (val_main_v77_eq _).trans ?_
      rw [e0, e1, e2, e3]
      funext i
      refine (congrArg _ (eq_ix2 i)).trans ?_
      exact v77_row (argX m c) (argD m c) (argW m c) (argB m c) (H c) (i 0) (i 1)
    · refine (val_main_v78_eq _).trans ?_
      rw [e0, e1, e2, e3]
      funext i
      refine (congrArg _ (one_row i)).trans ?_
      exact v78_row (argX m c) (argD m c) (argW m c) (argB m c) (H c) (i 1)
    · refine (val_main_v79_eq _).trans ?_
      rw [e0, e1, e2, e3]
      funext i
      refine (congrArg _ (one_row i)).trans ?_
      exact v79_row (argX m c) (argD m c) (argW m c) (argB m c) (H c) (i 1)

end Cert.ActBwd
end
-- ==== Proof.Norm.Fwd.lean ====
/-
  The root mean square normalisation of the rows: one step for each block of 1024 rows.
-/
module

public import proofs.«01_k».proof.Defs
public import proofs.«01_k».proof.Proof.Norm.Algebra
public import proofs.«01_k».proof.Proof.Gen.Kernel24Ideal.Value
public import proofs.«01_k».proof.Proof.Gen.Reference24Ideal.Read

@[expose] public section

noncomputable section

namespace Cert.Kernel24Ideal.Norm

open Cert.Kernel24Ideal Cert.Kernel24Ideal.Gen Cert.Product Cert.Norm Idealize.ShloMosaic Idealize.ShloMosaic.TcCoe Idealize.SL.Sem

variable (m : (ℓ : Loc nD τ sig) → Buf (Elt Ideal) ℓ) (c : Dev nD)

/-- The arguments of a device. -/
abbrev argX : S8192x1024.Idx → EReal := m ((c.tc : Thread nD τ).loc main_arg0)
abbrev argG : S1x1024.Idx → EReal := m ((c.tc : Thread nD τ).loc main_arg1)
/-- The block of each window at a point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The block of the window at a point. -/
abbrev blk0 (t : Fin cfg0.N) : Vec Ideal S1024x1024 .f32 := iblk m c 0 t

theorem read0 (t : Fin cfg0.N) (i : Fin 1024) (j : Fin 1024) :
    blk0 m c t (ix2 i j) = at2 8192 1024 (argX m c) (1024 * (t.val) + i.val) (j.val) := by
  have hN : cfg0.N = 8 := N_0
  have ht := t.isLt
  have hi := congrFun (idx0 t)
  unfold blk0 iblk
  rw [View.read_apply]
  refine at2_val 8192 1024 (argX m c) _ _ _ ?_ ?_
  · exact pos_of 1024 (hi 0) (by simp <;> omega)
  · exact pos_of 1024 (hi 1) (by simp <;> omega)

/-- The block of the window at a point. -/
abbrev blk1 (t : Fin cfg0.N) : Vec Ideal S1x1024 .f32 := iblk m c 1 t

theorem read1 (t : Fin cfg0.N) (i : Fin 1) (j : Fin 1024) :
    blk1 m c t (ix2 i j) = at2 1 1024 (argG m c) (i.val) (j.val) := by
  have hN : cfg0.N = 8 := N_0
  have ht := t.isLt
  have hi := congrFun (idx1 t)
  unfold blk1 iblk
  rw [View.read_apply]
  refine at2_val 1 1024 (argG m c) _ _ _ ?_ ?_
  · exact pos_of 1 (hi 0) (by simp <;> omega)
  · exact pos_of 1024 (hi 1) (by simp <;> omega)

/-- An entry of the normalised array. -/
def norm (a b : ℕ) : EReal := at2 8192 1024 (argX m c) a b * Ideal.rsqrt (meanSq (at2 8192 1024 (argX m c) a)) * at2 1 1024 (argG m c) 0 b

theorem pay_entry (X : Vec Ideal S1024x1024 .f32) (G : Vec Ideal S1x1024 .f32) (i j : Fin 1024) (f g : ℕ → EReal)
    (hX : ∀ k : Fin 1024, X (ix2 i k) = f k.val) (hG : ∀ k : Fin 1024, G (ix2 0 k) = g k.val) :
    k0_pay1 X G (ix2 i j) = f j.val * Ideal.rsqrt (meanSq f) * g j.val := by
  unfold k0_pay1
  pointwise
  simp only [hX, hG]
  rfl

/-- What a point leaves in the buffer. -/
theorem point2 (t : Fin cfg0.N) (i j : Fin 1024) :
    out0_2 (blk0 m c t) (blk1 m c t) (ix2 i j) = norm m c (1024 * (t.val) + i.val) j.val := by
  unfold out0_2
  rw [View.canon_unit_zero zeros2]
  simp only [View.ld_unit_zero (S := S1024x1024) zeros2, View.ld_unit_zero (S := S1x1024) zeros2]
  exact pay_entry (blk0 m c t) (blk1 m c t) i j _ _ (fun k => read0 m c t i k) (fun k => read1 m c t 0 k)

/-- The result array. -/
def out2 : S8192x1024.Idx → EReal := fun i => norm m c (i 0).val (i 1).val

/-- The result array after the run. -/
theorem final2 : (dats m 0 c).arrAt 2 cfg0.N = out2 m c := by
  have hN : cfg0.N = 8 := N_0
  refine (dats m 0 c).arrAt_eq_of_cover 2 (out2 m c) (fun t hf => ?_) fun i => ?_
  · rw [Cert.Kernel24Ideal.Value.flushed2]
    have hi := congrFun (idx2 t)
    have ht := t.isLt
    funext y
    rw [View.read_apply]
    refine ((congrArg (out0_2 (blk0 m c t) (blk1 m c t)) (eq_ix2 y)).trans (point2 m c t (y 0) (y 1))).trans (Eq.trans (b := out2 m c (((cfg0.win 2).blk t).view.emb y)) (congrArg₂ (norm m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_2 t, ?_⟩
    have hi := congrFun (idx2 t)
    refine mem_of (View.set_slice_whole main_v0 _) (Rect.mem_set_unit.2 fun a => ?_)
    match a with
    | ⟨0, _⟩ => exact in_block 1024 (i 0) (hi 0) (by simp <;> omega)
    | ⟨1, _⟩ => exact in_block 1024 (i 1) (hi 1) (by simp <;> omega)

end Cert.Kernel24Ideal.Norm

namespace Cert.Norm.Fwd

open Idealize.ShloMosaic Idealize.ShloMosaic.TcCoe Idealize.SL.Sem
open Cert.Product Cert.Kernel24Ideal Cert.Kernel24Ideal.Norm Cert.Reference24Ideal.Read Cert.Norm

attribute [local instance] Cert.Kernel24Ideal.Gen.facts Cert.Reference24Ideal.Gen.facts

/-- The reference changes no argument, and declares no semaphore. -/
theorem frame : Cert.quiescent_Reference24Ideal := fun m ρ _ =>
  (θ_run Cert.Reference24Ideal.defs _ _).mono
    (fun r h => ⟨fun c => (h c).2, sem_eq_zero_of_no_sems (by decide) r.2⟩) (Cert.Reference24Ideal.Value.run m ρ)

/-- The reference, read at an index. -/
theorem plain (X : S8192x1024.Idx → EReal) (G : S1x1024.Idx → EReal) (i : Fin 8192) (j : Fin 1024) (f g : ℕ → EReal)
    (hX : ∀ k : Fin 1024, X (ix2 i k) = f k.val) (hG : ∀ k : Fin 1024, G (ix2 0 k) = g k.val) :
    val_main_v14 (F := Ideal) X G (ix2 i j) = f j.val * Ideal.rsqrt (meanSq f) * g j.val := by
  unfold val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  simp only [hX, hG]
  rfl

/-- The two programs leave the same array. -/
theorem algebraic : Cert.algebraic_Kernel24Ideal_Reference24Ideal := by
  intro m g m' g' _ hargs
  refine ⟨fun c => out2 m c, ?_, ?_⟩
  · exact (θ_run Cert.Kernel24Ideal.defs _ _).mono
      (fun r h c => ⟨(h c).1.trans (final2 m c), (h c).2⟩)
      (Cert.Kernel24Ideal.Value.run_blocks m g)
  · refine (θ_run Cert.Reference24Ideal.defs _ _).mono
      (fun r h c => ⟨(h c).1.trans ?_, (h c).2⟩)
      (Cert.Reference24Ideal.Value.run m' g')
    · refine (val_main_v14_eq _ _).trans ?_
      rw [(hargs c).1, (hargs c).2]
      funext i
      exact (congrArg _ (eq_ix2 i)).trans (plain (argX m c) (argG m c) (i 0) (i 1) _ _
        (fun k => at2_val 8192 1024 (argX m c) _ _ _ rfl rfl) (fun k => at2_val 1 1024 (argG m c) _ _ _ rfl rfl))

end Cert.Norm.Fwd
end
-- ==== Proof.Norm.Fwd2.lean ====
/-
  The root mean square normalisation of the rows with two gains: one step for each block of 1024 rows.
-/
module

public import proofs.«01_k».proof.Defs
public import proofs.«01_k».proof.Proof.Norm.Algebra
public import proofs.«01_k».proof.Proof.Gen.Kernel25Ideal.Value
public import proofs.«01_k».proof.Proof.Gen.Reference25Ideal.Read

@[expose] public section

noncomputable section

namespace Cert.Kernel25Ideal.Norm

open Cert.Kernel25Ideal Cert.Kernel25Ideal.Gen Cert.Product Cert.Norm Idealize.ShloMosaic Idealize.ShloMosaic.TcCoe Idealize.SL.Sem

variable (m : (ℓ : Loc nD τ sig) → Buf (Elt Ideal) ℓ) (c : Dev nD)

/-- The arguments of a device. -/
abbrev argX : S8192x1024.Idx → EReal := m ((c.tc : Thread nD τ).loc main_arg0)
abbrev argG : S2x1024.Idx → EReal := m ((c.tc : Thread nD τ).loc main_arg1)
/-- The block of each window at a point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

/-- The block of the window at a point. -/
abbrev blk0 (t : Fin cfg0.N) : Vec Ideal S1024x1024 .f32 := iblk m c 0 t

theorem read0 (t : Fin cfg0.N) (i : Fin 1024) (j : Fin 1024) :
    blk0 m c t (ix2 i j) = at2 8192 1024 (argX m c) (1024 * (t.val) + i.val) (j.val) := by
  have hN : cfg0.N = 8 := N_0
  have ht := t.isLt
  have hi := congrFun (idx0 t)
  unfold blk0 iblk
  rw [View.read_apply]
  refine at2_val 8192 1024 (argX m c) _ _ _ ?_ ?_
  · exact pos_of 1024 (hi 0) (by simp <;> omega)
  · exact pos_of 1024 (hi 1) (by simp <;> omega)

/-- The block of the window at a point. -/
abbrev blk1 (t : Fin cfg0.N) : Vec Ideal S2x1024 .f32 := iblk m c 1 t

theorem read1 (t : Fin cfg0.N) (i : Fin 2) (j : Fin 1024) :
    blk1 m c t (ix2 i j) = at2 2 1024 (argG m c) (i.val) (j.val) := by
  have hN : cfg0.N = 8 := N_0
  have ht := t.isLt
  have hi := congrFun (idx1 t)
  unfold blk1 iblk
  rw [View.read_apply]
  refine at2_val 2 1024 (argG m c) _ _ _ ?_ ?_
  · exact pos_of 2 (hi 0) (by simp <;> omega)
  · exact pos_of 1024 (hi 1) (by simp <;> omega)

/-- An entry of the array normalised with a gain. -/
def y (s a b : ℕ) : EReal := at2 8192 1024 (argX m c) a b * Ideal.rsqrt (meanSq (at2 8192 1024 (argX m c) a)) * at2 2 1024 (argG m c) s b
abbrev y2 (a b : ℕ) : EReal := y m c 0 a b
abbrev y3 (a b : ℕ) : EReal := y m c 1 a b

theorem gain0 (t : Fin cfg0.N) (k : Fin 1024) : View.ld (blk1 m c t) r0_1 (ix2 0 k) = at2 2 1024 (argG m c) 0 k.val :=
  (congrArg (blk1 m c t) (show r0_1.idx (ix2 0 k) = ix2 0 k from by
    funext a
    refine Fin.ext ?_
    match a with
    | ⟨0, _⟩ => rfl
    | ⟨1, _⟩ => show 0 + 1 * k.val = k.val; omega)).trans (read1 m c t 0 k)

theorem gain1 (t : Fin cfg0.N) (k : Fin 1024) : View.ld (blk1 m c t) r0_2 (ix2 0 k) = at2 2 1024 (argG m c) 1 k.val :=
  (congrArg (blk1 m c t) (show r0_2.idx (ix2 0 k) = ix2 1 k from by
    funext a
    refine Fin.ext ?_
    match a with
    | ⟨0, _⟩ => rfl
    | ⟨1, _⟩ => show 0 + 1 * k.val = k.val; omega)).trans (read1 m c t 1 k)

theorem pay2_entry (X : Vec Ideal S1024x1024 .f32) (G : Vec Ideal S1x1024 .f32) (i j : Fin 1024) (f g : ℕ → EReal)
    (hX : ∀ k : Fin 1024, X (ix2 i k) = f k.val) (hG : ∀ k : Fin 1024, G (ix2 0 k) = g k.val) :
    k0_pay2 X G (ix2 i j) = f j.val * Ideal.rsqrt (meanSq f) * g j.val := by
  unfold k0_pay2 k0_pay1
  pointwise
  simp only [hX, hG]
  rfl

/-- What a point leaves in the buffer. -/
theorem point2 (t : Fin cfg0.N) (i j : Fin 1024) :
    out0_2 (blk0 m c t) (blk1 m c t) (ix2 i j) = y2 m c (1024 * (t.val) + i.val) j.val := by
  unfold out0_2
  rw [View.canon_unit_zero zeros2]
  simp only [View.ld_unit_zero (S := S1024x1024) zeros2]
  exact pay2_entry (blk0 m c t) _ i j _ _ (fun k => read0 m c t i k) (fun k => gain0 m c t k)

theorem pay3_entry (X : Vec Ideal S1024x1024 .f32) (G : Vec Ideal S1x1024 .f32) (i j : Fin 1024) (f g : ℕ → EReal)
    (hX : ∀ k : Fin 1024, X (ix2 i k) = f k.val) (hG : ∀ k : Fin 1024, G (ix2 0 k) = g k.val) :
    k0_pay3 X G (ix2 i j) = f j.val * Ideal.rsqrt (meanSq f) * g j.val := by
  unfold k0_pay3 k0_pay1
  pointwise
  simp only [hX, hG]
  rfl

/-- What a point leaves in the buffer. -/
theorem point3 (t : Fin cfg0.N) (i j : Fin 1024) :
    out0_3 (blk0 m c t) (blk1 m c t) (ix2 i j) = y3 m c (1024 * (t.val) + i.val) j.val := by
  unfold out0_3
  rw [View.canon_unit_zero zeros2]
  simp only [View.ld_unit_zero (S := S1024x1024) zeros2]
  exact pay3_entry (blk0 m c t) _ i j _ _ (fun k => read0 m c t i k) (fun k => gain1 m c t k)

/-- The result array. -/
def out2 : S8192x1024.Idx → EReal := fun i => y2 m c (i 0).val (i 1).val

/-- The result array after the run. -/
theorem final2 : (dats m 0 c).arrAt 2 cfg0.N = out2 m c := by
  have hN : cfg0.N = 8 := N_0
  refine (dats m 0 c).arrAt_eq_of_cover 2 (out2 m c) (fun t hf => ?_) fun i => ?_
  · rw [Cert.Kernel25Ideal.Value.flushed2]
    have hi := congrFun (idx2 t)
    have ht := t.isLt
    funext y
    rw [View.read_apply]
    refine ((congrArg (out0_2 (blk0 m c t) (blk1 m c t)) (eq_ix2 y)).trans (point2 m c t (y 0) (y 1))).trans (Eq.trans (b := out2 m c (((cfg0.win 2).blk t).view.emb y)) (congrArg₂ (y2 m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_2 t, ?_⟩
    have hi := congrFun (idx2 t)
    refine mem_of (View.set_slice_whole main_v0_0 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out3 : S8192x1024.Idx → EReal := fun i => y3 m c (i 0).val (i 1).val

/-- The result array after the run. -/
theorem final3 : (dats m 0 c).arrAt 3 cfg0.N = out3 m c := by
  have hN : cfg0.N = 8 := N_0
  refine (dats m 0 c).arrAt_eq_of_cover 3 (out3 m c) (fun t hf => ?_) fun i => ?_
  · rw [Cert.Kernel25Ideal.Value.flushed3]
    have hi := congrFun (idx3 t)
    have ht := t.isLt
    funext y
    rw [View.read_apply]
    refine ((congrArg (out0_3 (blk0 m c t) (blk1 m c t)) (eq_ix2 y)).trans (point3 m c t (y 0) (y 1))).trans (Eq.trans (b := out3 m c (((cfg0.win 3).blk t).view.emb y)) (congrArg₂ (y3 m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_3 t, ?_⟩
    have hi := congrFun (idx3 t)
    refine mem_of (View.set_slice_whole main_v0_1 _) (Rect.mem_set_unit.2 fun a => ?_)
    match a with
    | ⟨0, _⟩ => exact in_block 1024 (i 0) (hi 0) (by simp <;> omega)
    | ⟨1, _⟩ => exact in_block 1024 (i 1) (hi 1) (by simp <;> omega)

end Cert.Kernel25Ideal.Norm

namespace Cert.Norm.Fwd2

open Idealize.ShloMosaic Idealize.ShloMosaic.TcCoe Idealize.SL.Sem
open Cert.Product Cert.Kernel25Ideal Cert.Kernel25Ideal.Norm Cert.Reference25Ideal.Read Cert.Norm

attribute [local instance] Cert.Kernel25Ideal.Gen.facts Cert.Reference25Ideal.Gen.facts

/-- The reference changes no argument, and declares no semaphore. -/
theorem frame : Cert.quiescent_Reference25Ideal := fun m ρ _ =>
  (θ_run Cert.Reference25Ideal.defs _ _).mono
    (fun r h => ⟨fun c => (h c).2.2, sem_eq_zero_of_no_sems (by decide) r.2⟩) (Cert.Reference25Ideal.Value.run m ρ)

/-- The reference with one of the gains, read at an index. -/
theorem plain0 (X : S8192x1024.Idx → EReal) (G : S2x1024.Idx → EReal) (i : Fin 8192) (j : Fin 1024) (f g : ℕ → EReal)
    (hX : ∀ k : Fin 1024, X (ix2 i k) = f k.val) (hG : ∀ k : Fin 1024, G (ix2 0 k) = g k.val) :
    val_main_v15 (F := Ideal) X G (ix2 i j) = f j.val * Ideal.rsqrt (meanSq f) * g j.val := by
  unfold val_main_v15 val_main_v14 val_main_v13 val_main_v12 val_main_v11 val_main_v10 val_main_v9 val_main_v8 val_main_v7 val_main_cst_1 val_main_v6 val_main_v5 val_main_cst_0 val_main_v4 val_main_v3 val_main_cst val_main_v2 val_main_v1 val_main_v0
  pointwise
  simp only [hX, hG]
  rfl

/-- The reference with one of the gains, read at an index. -/
theorem plain1 (X : S8192x1024.Idx → EReal) (G : S2x1024.Idx → EReal) (i : Fin 8192) (j : Fin 1024) (f g : ℕ → EReal)
    (hX : ∀ k : Fin 1024, X (ix2 i k) = f k.val) (hG : ∀ k : Fin 1024, G (ix2 1 k) = g k.val) :
    val_main_v31 (F := Ideal) X G (ix2 i j) = f j.val * Ideal.rsqrt (meanSq f) * g j.val := by
  unfold val_main_v31 val_main_v30 val_main_v29 val_main_v28 val_main_v27 val_main_v26 val_main_v25 val_main_v24 val_main_v23 val_main_cst_4 val_main_v22 val_main_v21 val_main_cst_3 val_main_v20 val_main_v19 val_main_cst_2 val_main_v18 val_main_v17 val_main_v16
  pointwise
  simp only [hX, hG]
  rfl

/-- The two programs leave the same two arrays. -/
theorem algebraic : Cert.algebraic_Kernel25Ideal_Reference25Ideal := by
  intro m g m' g' _ hargs
  refine ⟨fun c => out2 m c, fun c => out3 m c, ?_, ?_⟩
  · exact (θ_run Cert.Kernel25Ideal.defs _ _).mono
      (fun r h c => ⟨(h c).1.trans (final2 m c), (h c).2.1.trans (final3 m c), (h c).2.2⟩)
      (Cert.Kernel25Ideal.Value.run_blocks m g)
  · refine (θ_run Cert.Reference25Ideal.defs _ _).mono
      (fun r h c => ⟨(h c).1.trans ?_, (h c).2.1.trans ?_, (h c).2.2⟩)
      (Cert.Reference25Ideal.Value.run m' g')
    · refine (val_main_v15_eq _ _).trans ?_
      rw [(hargs c).1, (hargs c).2]
      funext i
      exact (congrArg _ (eq_ix2 i)).trans (plain0 (argX m c) (argG m c) (i 0) (i 1) _ _
        (fun k => at2_val 8192 1024 (argX m c) _ _ _ rfl rfl) (fun k => at2_val 2 1024 (argG m c) _ _ _ rfl rfl))
    · refine (val_main_v31_eq _ _).trans ?_
      rw [(hargs c).1, (hargs c).2]
      funext i
      exact (congrArg _ (eq_ix2 i)).trans (plain1 (argX m c) (argG m c) (i 0) (i 1) _ _
        (fun k => at2_val 8192 1024 (argX m c) _ _ _ rfl rfl) (fun k => at2_val 2 1024 (argG m c) _ _ _ rfl rfl))

end Cert.Norm.Fwd2
end
-- ==== Proof.Conv.GateFwd.lean ====
/-
  The gated short convolution's forward kernel: its array, entry by entry.
-/
module

public import proofs.«01_k».proof.Defs
public import proofs.«01_k».proof.Proof.Conv.Shift
public import proofs.«01_k».proof.Proof.Gen.Kernel26Ideal.Frame
public import proofs.«01_k».proof.Proof.Gen.Kernel26Ideal.Value
public import Idealize.ShloMosaic.Lib.Pointwise
public import Idealize.ShloMosaic.Lib.Tactic

@[expose] public section

noncomputable section

namespace Cert.Kernel26Ideal.Fwd

open Cert.Kernel26Ideal Cert.Kernel26Ideal.Gen Cert.Product Cert.Gate Idealize.ShloMosaic Idealize.ShloMosaic.TcCoe Idealize.SL.Sem

variable (m : (ℓ : Loc nD τ sig) → Buf (Elt Ideal) ℓ) (c : Dev nD)

/-- The two argument arrays of a device. -/
abbrev argX : S2x4096x3072.Idx → EReal := m ((c.tc : Thread nD τ).loc main_arg0)
abbrev argW : S3x1024.Idx → EReal := m ((c.tc : Thread nD τ).loc main_arg1)

/-- Entry `a` of channel `n` of batch element `b`, and a tap. -/
def chan (b n a : ℕ) : EReal := at3 2 4096 3072 (argX m c) b a n
def tap (k n : ℕ) : EReal := at2 3 1024 (argW m c) k n

/-- What the kernel computes: the outer gate times the convolution of the product of the other two. -/
def val (b a n : ℕ) : EReal :=
  chan m c b n a * conv3 (tap m c 0 n) (tap m c 1 n) (tap m c 2 n) (fun k => chan m c b (1024 + n) k * chan m c b (2048 + n) k) a

def out : S2x4096x1024.Idx → EReal := fun i => val m c (i 0).val (i 1).val (i 2).val

theorem coord2 : ∀ t : Fin cfg0.N, (grid0.coords t 2).val = t.val % 2 := by decide +kernel

theorem idx0 : ∀ t : Fin cfg0.N, win0_0.index t = ![t.val / 2 % 2, t.val % 2, t.val / 4] := by decide +kernel
theorem idx1 : ∀ t : Fin cfg0.N, win0_1.index t = ![t.val / 2 % 2, t.val % 2 * 128 - 1, 2 + t.val / 4] := by decide +kernel
theorem idx2 : ∀ t : Fin cfg0.N, win0_2.index t = ![t.val / 2 % 2, t.val % 2, 2 + t.val / 4] := by decide +kernel
theorem idx3 : ∀ t : Fin cfg0.N, win0_3.index t = ![t.val / 2 % 2, t.val % 2 * 128 - 1, 4 + t.val / 4] := by decide +kernel
theorem idx4 : ∀ t : Fin cfg0.N, win0_4.index t = ![t.val / 2 % 2, t.val % 2, 4 + t.val / 4] := by decide +kernel
theorem idx5 : ∀ t : Fin cfg0.N, win0_5.index t = ![0, t.val / 4] := by decide +kernel
theorem idx6 : ∀ t : Fin cfg0.N, win0_6.index t = ![t.val / 2 % 2, t.val % 2, t.val / 4] := by decide +kernel

theorem read0 (t : Fin cfg0.N) (r : Fin 2048) (q : Fin 512) :
    (iblk m c 0 t : S1x2048x512.Idx → EReal) (ix3 0 r q) = at3 2 4096 3072 (argX m c) (t.val / 2 % 2) (2048 * (t.val % 2) + r.val) (0 + (t.val / 4 * 512 + q.val)) := by
  unfold iblk
  rw [View.read_apply]
  have hi := congrFun (idx0 t)
  refine at3_val 2 4096 3072 _ _ _ _ _ ?_ ?_ ?_
  · exact pos_of 1 (hi 0) (by simp)
  · exact pos_of 2048 (hi 1) (by simp; omega)
  · exact pos_of 512 (hi 2) (by simp)

theorem read1 (t : Fin cfg0.N) (hs : t.val % 2 ≠ 0) (r : Fin 16) (q : Fin 512) :
    (iblk m c 1 t : S1x16x512.Idx → EReal) (ix3 0 r q) = at3 2 4096 3072 (argX m c) (t.val / 2 % 2) (2048 * (t.val % 2) + r.val - 16) (1024 + (t.val / 4 * 512 + q.val)) := by
  unfold iblk
  rw [View.read_apply]
  have hi := congrFun (idx1 t)
  refine at3_val 2 4096 3072 _ _ _ _ _ ?_ ?_ ?_
  · exact pos_of 1 (hi 0) (by simp)
  · exact pos_of 16 (hi 1) (by simp; omega)
  · exact pos_of 512 (hi 2) (by simp; omega)

theorem read2 (t : Fin cfg0.N) (r : Fin 2048) (q : Fin 512) :
    (iblk m c 2 t : S1x2048x512.Idx → EReal) (ix3 0 r q) = at3 2 4096 3072 (argX m c) (t.val / 2 % 2) (2048 * (t.val % 2) + r.val) (1024 + (t.val / 4 * 512 + q.val)) := by
  unfold iblk
  rw [View.read_apply]
  have hi := congrFun (idx2 t)
  refine at3_val 2 4096 3072 _ _ _ _ _ ?_ ?_ ?_
  · exact pos_of 1 (hi 0) (by simp)
  · exact pos_of 2048 (hi 1) (by simp; omega)
  · exact pos_of 512 (hi 2) (by simp; omega)

theorem read3 (t : Fin cfg0.N) (hs : t.val % 2 ≠ 0) (r : Fin 16) (q : Fin 512) :
    (iblk m c 3 t : S1x16x512.Idx → EReal) (ix3 0 r q) = at3 2 4096 3072 (argX m c) (t.val / 2 % 2) (2048 * (t.val % 2) + r.val - 16) (2048 + (t.val / 4 * 512 + q.val)) := by
  unfold iblk
  rw [View.read_apply]
  have hi := congrFun (idx3 t)
  refine at3_val 2 4096 3072 _ _ _ _ _ ?_ ?_ ?_
  · exact pos_of 1 (hi 0) (by simp)
  · exact pos_of 16 (hi 1) (by simp; omega)
  · exact pos_of 512 (hi 2) (by simp; omega)

theorem read4 (t : Fin cfg0.N) (r : Fin 2048) (q : Fin 512) :
    (iblk m c 4 t : S1x2048x512.Idx → EReal) (ix3 0 r q) = at3 2 4096 3072 (argX m c) (t.val / 2 % 2) (2048 * (t.val % 2) + r.val) (2048 + (t.val / 4 * 512 + q.val)) := by
  unfold iblk
  rw [View.read_apply]
  have hi := congrFun (idx4 t)
  refine at3_val 2 4096 3072 _ _ _ _ _ ?_ ?_ ?_
  · exact pos_of 1 (hi 0) (by simp)
  · exact pos_of 2048 (hi 1) (by simp; omega)
  · exact pos_of 512 (hi 2) (by simp; omega)

theorem read5 (t : Fin cfg0.N) (k : Fin 3) (q : Fin 512) :
    (iblk m c 5 t : S3x512.Idx → EReal) (ix2 k q) = at2 3 1024 (argW m c) k.val (0 + (t.val / 4 * 512 + q.val)) := by
  unfold iblk
  rw [View.read_apply]
  have hi := congrFun (idx5 t)
  refine at2_val 3 1024 _ _ _ _ ?_ ?_
  · exact pos_of 3 (hi 0) (by simp)
  · exact pos_of 512 (hi 1) (by simp)

/-- The tile with sixteen rows in front and sixteen behind, read above the last sixteen. -/
theorem concat_row (top bot : FVec Ideal S16x512 .f32) (mid : FVec Ideal S2048x512 .f32) (g : ℕ → EReal) (q : Fin 512)
    (ht : ∀ r : Fin 16, top (ix2 r q) = g r.val) (hm : ∀ r : Fin 2048, mid (ix2 r q) = g (16 + r.val)) (p : Fin 2080) (hp : p.val < 2064) :
    concatenate S2080x512 0 [⟨S16x512, top⟩, ⟨S2048x512, mid⟩, ⟨S16x512, bot⟩]
      concatenates_S16x512_S2048x512_S16x512_S2080x512_d0 (ix2 p q) = g p.val := by
  pointwise
  split
  · rw [ht]
  · split
    · rw [hm]; congr 1; simp only; omega
    · exfalso; omega

/-- The convolution at a row of a tile. -/
theorem pay2_row (i : grid0.Coords) (s : ℕ) (hs : (i 2).val = s) (h2 : s < 2) (x2 x4 : Vec Ideal S1x2048x512 .bf16)
    (x1 x3 : Vec Ideal S1x16x512 .bf16) (w : Vec Ideal S3x512 .f32) (f g : ℕ → EReal) (q : Fin 512)
    (h1 : s ≠ 0 → ∀ r : Fin 16, x1 (ix3 0 r q) = f (2048 * s + r.val - 16)) (hf : ∀ r : Fin 2048, x2 (ix3 0 r q) = f (2048 * s + r.val))
    (h3 : s ≠ 0 → ∀ r : Fin 16, x3 (ix3 0 r q) = g (2048 * s + r.val - 16)) (hg : ∀ r : Fin 2048, x4 (ix3 0 r q) = g (2048 * s + r.val))
    (r : Fin 2048) :
    k0_pay2 i x2 x1 x4 x3 w (ix2 ⟨16 + r.val, by omega⟩ q)
      = conv3 (w (ix2 0 q)) (w (ix2 1 q)) (w (ix2 2 q)) (fun k => f k * g k) (2048 * s + r.val) := by
  subst hs
  unfold k0_pay2
  dsimp only
  have hrow : ∀ (x : Vec Ideal S1x2048x512 .bf16) (t : Vec Ideal S1x16x512 .bf16) (f : ℕ → EReal)
      (_ : (i 2).val ≠ 0 → ∀ r : Fin 16, t (ix3 0 r q) = f (2048 * (i 2).val + r.val - 16))
      (_ : ∀ r : Fin 2048, x (ix3 0 r q) = f (2048 * (i 2).val + r.val)) (p : Fin 2080) (_ : p.val < 2064),
      (concatenate S2080x512 0 [⟨S16x512, Scalar.select (Scalar.cmpi .eq (BitVec.ofNat 32 (i 2).val) 0#32)
          (broadcast S16x512 (Scalar.ofBits (F := Ideal) .f32 0x00000000#32)) (extf .f32 (shapeCast S16x512 t shapeCasts_S1x16x512_S16x512) bitsLt_bf16_f32)⟩,
          ⟨S2048x512, extf .f32 (shapeCast S2048x512 x shapeCasts_S1x2048x512_S2048x512) bitsLt_bf16_f32⟩,
          ⟨S16x512, broadcast S16x512 (Scalar.ofBits (F := Ideal) .f32 0x00000000#32)⟩]
        concatenates_S16x512_S2048x512_S16x512_S2080x512_d0 : FVec Ideal S2080x512 .f32) (ix2 p q) = ext f (2048 * (i 2).val + p.val) := by
    intro x t f ht hx p hp
    refine concat_row _ _ _ (fun n => ext f (2048 * (i 2).val + n)) q (fun r => ?_) (fun r => ?_) p hp
    · rw [sel_zero _ h2]
      split
      · rename_i h
        rw [ext_low _ (by omega)]
        pointwise
      · rename_i h
        rw [ext_at _ (2048 * (i 2).val + r.val - 16) (by omega)]
        pointwise
        exact ht h r
    · pointwise
      rw [hx, ext_at _ (2048 * (i 2).val + r.val) (by omega)]
  generalize hA : concatenate S2080x512 0 [⟨S16x512, _⟩, ⟨S2048x512, _⟩, ⟨S16x512, _⟩] concatenates_S16x512_S2048x512_S16x512_S2080x512_d0 = A
  generalize hB : concatenate S2080x512 0 [⟨S16x512, _⟩, ⟨S2048x512, _⟩, ⟨S16x512, _⟩] concatenates_S16x512_S2048x512_S16x512_S2080x512_d0 = B
  have rA : ∀ (p : Fin 2080) (_ : p.val < 2064), A (ix2 p q) = ext f (2048 * (i 2).val + p.val) := fun p hp => hA ▸ hrow x2 x1 f h1 hf p hp
  have rB : ∀ (p : Fin 2080) (_ : p.val < 2064), B (ix2 p q) = ext g (2048 * (i 2).val + p.val) := fun p hp => hB ▸ hrow x4 x3 g h3 hg p hp
  pointwise
  rw [rA _ (by simp only; omega), rA _ (by simp only; omega), rA _ (by simp only; omega), rB _ (by simp only; omega), rB _ (by simp only; omega),
    rB _ (by simp only; omega)]
  rw [ext_mul, ext_mul, ext_mul, ext_back _ (n := 2048 * (i 2).val + r.val) 2 (by omega) (by simp only; omega),
    ext_back _ (n := 2048 * (i 2).val + r.val) 1 (by omega) (by simp only; omega), ext_at _ (2048 * (i 2).val + r.val) (by simp only; omega)]
  rfl

/-- What a point leaves in its output block. -/
abbrev after (t : Fin cfg0.N) : S1x2048x512.Idx → EReal :=
  out0_6 (grid0.coords t) (iblk m c 0 t) (iblk m c 1 t) (iblk m c 2 t) (iblk m c 3 t) (iblk m c 4 t) (iblk m c 5 t)

theorem block (t : Fin cfg0.N) (r : Fin 2048) (q : Fin 512) :
    after m c t (ix3 0 r q) = val m c (t.val / 2 % 2) (2048 * (t.val % 2) + r.val) (t.val / 4 * 512 + q.val) := by
  show out0_6 _ _ _ _ _ _ _ _ = _
  unfold out0_6
  rw [View.canon_unit_zero zeros3]
  simp only [View.ld_unit_zero (S := S1x2048x512) zeros3, View.ld_unit_zero (S := S1x16x512) zeros3, View.ld_unit_zero (S := S3x512) zeros2]
  have h := pay2_row (grid0.coords t) (t.val % 2) (coord2 t) (by omega) (iblk m c 2 t) (iblk m c 4 t) (iblk m c 1 t) (iblk m c 3 t) (iblk m c 5 t)
    (chan m c (t.val / 2 % 2) (1024 + (t.val / 4 * 512 + q.val))) (chan m c (t.val / 2 % 2) (2048 + (t.val / 4 * 512 + q.val))) q
    (fun hs r => read1 m c t hs r q) (fun r => read2 m c t r q) (fun hs r => read3 m c t hs r q) (fun r => read4 m c t r q) r
  generalize hp : k0_pay2 (F := Ideal) (grid0.coords t) _ _ _ _ _ = p at h ⊢
  unfold k0_pay1
  pointwise
  refine congrArg₂ (· * ·) ((read0 m c t r q).trans ?_) (h.trans ?_)
  · show chan m c _ _ _ = chan m c _ _ _
    rw [Nat.zero_add]
  · rw [read5, read5, read5]
    simp only [Nat.zero_add]
    rfl

/-- The kernel's array after the run. -/
theorem final6 : (dats m 0 c).arrAt 6 cfg0.N = out m c := by
  refine (dats m 0 c).arrAt_eq_of_cover 6 (out m c) (fun t _ => ?_) fun i => ?_
  · rw [Cert.Kernel26Ideal.Value.flushed6]
    have hi := congrFun (idx6 t)
    funext y
    rw [View.read_apply]
    have hz : ∀ z : S1x2048x512.Idx, after m c t z
        = val m c (t.val / 2 % 2) (2048 * (t.val % 2) + (z 1).val) (t.val / 4 * 512 + (z 2).val) := by
      intro z
      have e : z = ix3 0 (z 1) (z 2) := by
        funext a
        match a with
        | ⟨0, _⟩ => exact Fin.ext (by have : (z 0).val < 1 := (z 0).isLt; show (z 0).val = 0; omega)
        | ⟨1, _⟩ => rfl
        | ⟨2, _⟩ => rfl
      exact (congrArg _ e).trans (block m c t (z 1) (z 2))
    refine (hz _).trans ?_
    show _ = val m c (win0_6.index t 0 * 1 + 1 * (y 0).val) (win0_6.index t 1 * 2048 + 1 * (y 1).val) (win0_6.index t 2 * 512 + 1 * (y 2).val)
    have h0 : (y 0).val < 1 := (y 0).isLt
    rw [hi 0, hi 1, hi 2]
    congr 1
    · simp; omega
    · show 2048 * (t.val % 2) + (y 1).val = t.val % 2 * 2048 + 1 * (y 1).val; omega
    · show t.val / 4 * 512 + (y 2).val = t.val / 4 * 512 + 1 * (y 2).val; omega
  · have hN : cfg0.N = 8 := N_0
    have h0 : (i 0 : ℕ) < 2 := (i 0).isLt
    have h1 : (i 1 : ℕ) < 4096 := (i 1).isLt
    have h2 : (i 2 : ℕ) < 1024 := (i 2).isLt
    obtain ⟨t, ht⟩ : ∃ t : Fin cfg0.N, t.val = (i 2 : ℕ) / 512 * 4 + (i 0 : ℕ) * 2 + (i 1 : ℕ) / 2048 :=
      ⟨⟨_, by omega⟩, rfl⟩
    refine ⟨t, flush0_6 t, ?_⟩
    have hi := congrFun (idx6 t)
    refine mem_of (View.set_slice_whole main_v0 _) (Rect.mem_set_unit.2 fun a => ?_)
    match a with
    | ⟨0, _⟩ => exact in_block 1 (i 0) (hi 0) (by simp; omega)
    | ⟨1, _⟩ => exact in_block 2048 (i 1) (hi 1) (by simp; omega)
    | ⟨2, _⟩ => exact in_block 512 (i 2) (hi 2) (by simp; omega)

end Cert.Kernel26Ideal.Fwd
end
-- ==== Proof.Conv.GateFwdClaim.lean ====
/-
  The gated short convolution's forward kernel leaves the reference's array.
-/
module

public import proofs.«01_k».proof.Defs
public import proofs.«01_k».proof.Proof.Conv.GateFwd
public import proofs.«01_k».proof.Proof.Gen.Reference26Ideal.Read

@[expose] public section

noncomputable section

namespace Cert.GateFwd

open Idealize.ShloMosaic Idealize.ShloMosaic.TcCoe Idealize.SL.Sem
open Cert.Product Cert.Gate Cert.Kernel26Ideal Cert.Kernel26Ideal.Fwd Cert.Reference26Ideal.Read

attribute [local instance] Cert.Kernel26Ideal.Gen.facts Cert.Reference26Ideal.Gen.facts

variable (X : S2x4096x3072.Idx → EReal) (U : S3x1024.Idx → EReal)

/-- The convolved product with its two rows of zeros in front. -/
theorem v6_row (b : Fin 2) (p : Fin 4098) (n : Fin 1024) (f : ℕ → EReal)
    (hf : ∀ a : Fin 4096, X (ix3 b a ⟨1024 + n.val, by omega⟩) * X (ix3 b a ⟨2048 + n.val, by omega⟩) = f a.val) :
    val_main_v6 (F := Ideal) X (ix3 b p n) = back f 2 p.val := by
  unfold val_main_v6 val_main_v5 val_main_v4 val_main_v3 val_main_v2 val_main_v0 val_main_cst
  pointwise
  unfold back
  split
  · rfl
  · exact hf ⟨p.val - 2, by omega⟩

/-- The reference's array, read at an index. -/
theorem plain (b : Fin 2) (a : Fin 4096) (n : Fin 1024) (f : ℕ → EReal) (x w0 w1 w2 : EReal)
    (hf : ∀ a : Fin 4096, X (ix3 b a ⟨1024 + n.val, by omega⟩) * X (ix3 b a ⟨2048 + n.val, by omega⟩) = f a.val)
    (hx : X (ix3 b a ⟨n.val, by omega⟩) = x) (h0 : U (ix2 0 n) = w0) (h1 : U (ix2 1 n) = w1) (h2 : U (ix2 2 n) = w2) :
    val_main_v28 (F := Ideal) X U (ix3 b a n) = x * conv3 w0 w1 w2 f a.val := by
  rw [← conv3_eq]
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v1 val_main_v0
  pointwise
  rw [v6_row X _ _ _ f hf, v6_row X _ _ _ f hf, v6_row X _ _ _ f hf]
  have e : ∀ k l : ℕ, k + l = 2 → back f 2 (k + a.val) = back f l a.val := by
    intro k l h
    unfold back
    split
    · rw [if_pos (by omega)]
    · rw [if_neg (by omega)]
      congr 1
      omega
  have e0 : back f 2 a.val = back f 2 a.val := rfl
  have e2 : back f 2 (2 + a.val) = f a.val := by
    unfold back
    rw [if_neg (by omega)]
    congr 1
    omega
  simp only [Nat.zero_add, e 1 1 rfl, e2, h0, h1, h2, hx]

/-- The reference changes no argument, and declares no semaphore. -/
theorem frame : Cert.quiescent_Reference26Ideal := fun m ρ _ =>
  (θ_run Cert.Reference26Ideal.defs _ _).mono
    (fun r h => ⟨fun c => (h c).2, sem_eq_zero_of_no_sems (by decide) r.2⟩) (Cert.Reference26Ideal.Value.run m ρ)

/-- The two programs leave the same array. -/
theorem algebraic : Cert.algebraic_Kernel26Ideal_Reference26Ideal := by
  intro m g m' g' _ hargs
  refine ⟨fun c => out m c, ?_, ?_⟩
  · exact (θ_run Cert.Kernel26Ideal.defs _ _).mono
      (fun r h c => ⟨(h c).1.trans (final6 m c), (h c).2⟩) (Cert.Kernel26Ideal.Value.run_blocks m g)
  · refine (θ_run Cert.Reference26Ideal.defs _ _).mono (fun r h c => ⟨(h c).1.trans ?_, (h c).2⟩) (Cert.Reference26Ideal.Value.run m' g')
    refine (val_main_v28_eq _ _).trans ?_
    rw [(hargs c).1, (hargs c).2]
    funext i
    have e : i = ix3 (i 0) (i 1) (i 2) := by
      funext a
      match a with
      | ⟨0, _⟩ => rfl
      | ⟨1, _⟩ => rfl
      | ⟨2, _⟩ => rfl
    exact (congrArg _ e).trans (plain (argX m c) (argW m c) (i 0) (i 1) (i 2) _ _ _ _ _
      (fun a => congrArg₂ (· * ·) (at3_val 2 4096 3072 (argX m c) _ _ _ _ rfl rfl rfl) (at3_val 2 4096 3072 (argX m c) _ _ _ _ rfl rfl rfl))
      (at3_val 2 4096 3072 (argX m c) _ _ _ _ rfl rfl rfl)
      (at2_val 3 1024 (argW m c) _ _ _ rfl rfl) (at2_val 3 1024 (argW m c) _ _ _ rfl rfl) (at2_val 3 1024 (argW m c) _ _ _ rfl rfl))

end Cert.GateFwd
end
-- ==== Proof.Conv.ActFwd.lean ====
/-
  The gated activation's forward kernel: its array, entry by entry.
-/
module

public import proofs.«01_k».proof.Defs
public import proofs.«01_k».proof.Proof.Conv.Shift
public import proofs.«01_k».proof.Proof.Gen.Kernel27Ideal.Frame
public import proofs.«01_k».proof.Proof.Gen.Kernel27Ideal.Value
public import Idealize.ShloMosaic.Lib.Pointwise
public import Idealize.ShloMosaic.Lib.Tactic

@[expose] public section

noncomputable section

namespace Cert.Kernel27Ideal.Fwd

open Cert.Kernel27Ideal Cert.Kernel27Ideal.Gen Cert.Product Cert.Gate Idealize.ShloMosaic Idealize.ShloMosaic.TcCoe Idealize.SL.Sem

variable (m : (ℓ : Loc nD τ sig) → Buf (Elt Ideal) ℓ) (c : Dev nD)

/-- The three argument arrays of a device. -/
abbrev argX : S2x4096x5632.Idx → EReal := m ((c.tc : Thread nD τ).loc main_arg0)
abbrev argW : S3x5632.Idx → EReal := m ((c.tc : Thread nD τ).loc main_arg1)
abbrev argB : S1x5632.Idx → EReal := m ((c.tc : Thread nD τ).loc main_arg2)

/-- Entry `a` of channel `n` of batch element `b`, a tap, and the bias. -/
def chan (b n a : ℕ) : EReal := at3 2 4096 5632 (argX m c) b a n
def tap (k n : ℕ) : EReal := at2 3 5632 (argW m c) k n
def bias (n : ℕ) : EReal := at2 1 5632 (argB m c) 0 n

/-- The convolution of a channel with its bias. -/
def pre (b a n : ℕ) : EReal := conv3 (tap m c 0 n) (tap m c 1 n) (tap m c 2 n) (chan m c b n) a + bias m c n

/-- What the kernel computes: the first half's activation times the second half. -/
def val (b a n : ℕ) : EReal := gate (pre m c b a n) (pre m c b a (2816 + n))

def out : S2x4096x2816.Idx → EReal := fun i => val m c (i 0).val (i 1).val (i 2).val

theorem coord2 : ∀ t : Fin cfg0.N, (grid0.coords t 2).val = t.val % 2 := by decide +kernel

theorem idx0 : ∀ t : Fin cfg0.N, win0_0.index t = ![t.val / 2 % 2, t.val % 2 * 128 - 1, t.val / 4] := by decide +kernel
theorem idx1 : ∀ t : Fin cfg0.N, win0_1.index t = ![t.val / 2 % 2, t.val % 2, t.val / 4] := by decide +kernel
theorem idx2 : ∀ t : Fin cfg0.N, win0_2.index t = ![t.val / 2 % 2, t.val % 2 * 128 - 1, 11 + t.val / 4] := by decide +kernel
theorem idx3 : ∀ t : Fin cfg0.N, win0_3.index t = ![t.val / 2 % 2, t.val % 2, 11 + t.val / 4] := by decide +kernel
theorem idx4 : ∀ t : Fin cfg0.N, win0_4.index t = ![0, t.val / 4] := by decide +kernel
theorem idx5 : ∀ t : Fin cfg0.N, win0_5.index t = ![0, 11 + t.val / 4] := by decide +kernel
theorem idx6 : ∀ t : Fin cfg0.N, win0_6.index t = ![0, t.val / 4] := by decide +kernel
theorem idx7 : ∀ t : Fin cfg0.N, win0_7.index t = ![0, 11 + t.val / 4] := by decide +kernel
theorem idx8 : ∀ t : Fin cfg0.N, win0_8.index t = ![t.val / 2 % 2, t.val % 2, t.val / 4] := by decide +kernel

theorem read0 (t : Fin cfg0.N) (hs : t.val % 2 ≠ 0) (r : Fin 16) (q : Fin 256) :
    (iblk m c 0 t : S1x16x256.Idx → EReal) (ix3 0 r q) = at3 2 4096 5632 (argX m c) (t.val / 2 % 2) (2048 * (t.val % 2) + r.val - 16) (0 + (t.val / 4 * 256 + q.val)) := by
  unfold iblk
  rw [View.read_apply]
  have hi := congrFun (idx0 t)
  refine at3_val 2 4096 5632 _ _ _ _ _ ?_ ?_ ?_
  · exact pos_of 1 (hi 0) (by simp)
  · exact pos_of 16 (hi 1) (by simp; omega)
  · exact pos_of 256 (hi 2) (by simp)

theorem read1 (t : Fin cfg0.N) (r : Fin 2048) (q : Fin 256) :
    (iblk m c 1 t : S1x2048x256.Idx → EReal) (ix3 0 r q) = at3 2 4096 5632 (argX m c) (t.val / 2 % 2) (2048 * (t.val % 2) + r.val) (0 + (t.val / 4 * 256 + q.val)) := by
  unfold iblk
  rw [View.read_apply]
  have hi := congrFun (idx1 t)
  refine at3_val 2 4096 5632 _ _ _ _ _ ?_ ?_ ?_
  · exact pos_of 1 (hi 0) (by simp)
  · exact pos_of 2048 (hi 1) (by simp; omega)
  · exact pos_of 256 (hi 2) (by simp)

theorem read2 (t : Fin cfg0.N) (hs : t.val % 2 ≠ 0) (r : Fin 16) (q : Fin 256) :
    (iblk m c 2 t : S1x16x256.Idx → EReal) (ix3 0 r q) = at3 2 4096 5632 (argX m c) (t.val / 2 % 2) (2048 * (t.val % 2) + r.val - 16) (2816 + (t.val / 4 * 256 + q.val)) := by
  unfold iblk
  rw [View.read_apply]
  have hi := congrFun (idx2 t)
  refine at3_val 2 4096 5632 _ _ _ _ _ ?_ ?_ ?_
  · exact pos_of 1 (hi 0) (by simp)
  · exact pos_of 16 (hi 1) (by simp; omega)
  · exact pos_of 256 (hi 2) (by simp; omega)

theorem read3 (t : Fin cfg0.N) (r : Fin 2048) (q : Fin 256) :
    (iblk m c 3 t : S1x2048x256.Idx → EReal) (ix3 0 r q) = at3 2 4096 5632 (argX m c) (t.val / 2 % 2) (2048 * (t.val % 2) + r.val) (2816 + (t.val / 4 * 256 + q.val)) := by
  unfold iblk
  rw [View.read_apply]
  have hi := congrFun (idx3 t)
  refine at3_val 2 4096 5632 _ _ _ _ _ ?_ ?_ ?_
  · exact pos_of 1 (hi 0) (by simp)
  · exact pos_of 2048 (hi 1) (by simp; omega)
  · exact pos_of 256 (hi 2) (by simp; omega)

theorem read4 (t : Fin cfg0.N) (k : Fin 3) (q : Fin 256) :
    (iblk m c 4 t : S3x256.Idx → EReal) (ix2 k q) = at2 3 5632 (argW m c) k.val (0 + (t.val / 4 * 256 + q.val)) := by
  unfold iblk
  rw [View.read_apply]
  have hi := congrFun (idx4 t)
  refine at2_val 3 5632 _ _ _ _ ?_ ?_
  · exact pos_of 3 (hi 0) (by simp)
  · exact pos_of 256 (hi 1) (by simp)

theorem read5 (t : Fin cfg0.N) (k : Fin 3) (q : Fin 256) :
    (iblk m c 5 t : S3x256.Idx → EReal) (ix2 k q) = at2 3 5632 (argW m c) k.val (2816 + (t.val / 4 * 256 + q.val)) := by
  unfold iblk
  rw [View.read_apply]
  have hi := congrFun (idx5 t)
  refine at2_val 3 5632 _ _ _ _ ?_ ?_
  · exact pos_of 3 (hi 0) (by simp)
  · exact pos_of 256 (hi 1) (by simp; omega)

theorem read6 (t : Fin cfg0.N) (q : Fin 256) :
    (iblk m c 6 t : S1x256.Idx → EReal) (ix2 0 q) = at2 1 5632 (argB m c) 0 (0 + (t.val / 4 * 256 + q.val)) := by
  unfold iblk
  rw [View.read_apply]
  have hi := congrFun (idx6 t)
  refine at2_val 1 5632 _ _ _ _ ?_ ?_
  · exact pos_of 1 (hi 0) (by simp)
  · exact pos_of 256 (hi 1) (by simp)

theorem read7 (t : Fin cfg0.N) (q : Fin 256) :
    (iblk m c 7 t : S1x256.Idx → EReal) (ix2 0 q) = at2 1 5632 (argB m c) 0 (2816 + (t.val / 4 * 256 + q.val)) := by
  unfold iblk
  rw [View.read_apply]
  have hi := congrFun (idx7 t)
  refine at2_val 1 5632 _ _ _ _ ?_ ?_
  · exact pos_of 1 (hi 0) (by simp)
  · exact pos_of 256 (hi 1) (by simp; omega)

/-- The tile with sixteen rows in front and sixteen behind, read above the last sixteen. -/
theorem concat_row (top bot : FVec Ideal S16x256 .f32) (mid : FVec Ideal S2048x256 .f32) (g : ℕ → EReal) (q : Fin 256)
    (ht : ∀ r : Fin 16, top (ix2 r q) = g r.val) (hm : ∀ r : Fin 2048, mid (ix2 r q) = g (16 + r.val)) (p : Fin 2080) (hp : p.val < 2064) :
    concatenate S2080x256 0 [⟨S16x256, top⟩, ⟨S2048x256, mid⟩, ⟨S16x256, bot⟩]
      concatenates_S16x256_S2048x256_S16x256_S2080x256_d0 (ix2 p q) = g p.val := by
  pointwise
  split
  · rw [ht]
  · split
    · rw [hm]; congr 1; simp only; omega
    · exfalso; omega

/-- The tile with the rows before it, read as the sequence. -/
theorem tile_row (s : ℕ) (hs : s < 2) (x : Vec Ideal S1x2048x256 .bf16) (t : Vec Ideal S1x16x256 .bf16) (f : ℕ → EReal) (q : Fin 256)
    (ht : s ≠ 0 → ∀ r : Fin 16, t (ix3 0 r q) = f (2048 * s + r.val - 16)) (hx : ∀ r : Fin 2048, x (ix3 0 r q) = f (2048 * s + r.val))
    (p : Fin 2080) (hp : p.val < 2064) :
    (concatenate S2080x256 0 [⟨S16x256, Scalar.select (Scalar.cmpi .eq (BitVec.ofNat 32 s) 0#32)
        (broadcast S16x256 (Scalar.ofBits (F := Ideal) .f32 0x00000000#32)) (extf .f32 (shapeCast S16x256 t shapeCasts_S1x16x256_S16x256) bitsLt_bf16_f32)⟩,
        ⟨S2048x256, extf .f32 (shapeCast S2048x256 x shapeCasts_S1x2048x256_S2048x256) bitsLt_bf16_f32⟩,
        ⟨S16x256, broadcast S16x256 (Scalar.ofBits (F := Ideal) .f32 0x00000000#32)⟩]
      concatenates_S16x256_S2048x256_S16x256_S2080x256_d0 : FVec Ideal S2080x256 .f32) (ix2 p q) = ext f (2048 * s + p.val) := by
  refine concat_row _ _ _ (fun n => ext f (2048 * s + n)) q (fun r => ?_) (fun r => ?_) p hp
  · rw [sel_zero _ hs]
    split
    · rename_i h
      rw [ext_low _ (by omega)]
      pointwise
    · rename_i h
      rw [ext_at _ (2048 * s + r.val - 16) (by omega)]
      pointwise
      exact ht h r
  · pointwise
    rw [hx, ext_at _ (2048 * s + r.val) (by omega)]

section
variable (i : grid0.Coords) (s : ℕ) (hs : (i 2).val = s) (h2 : s < 2) (x : Vec Ideal S1x2048x256 .bf16) (t : Vec Ideal S1x16x256 .bf16)
  (w : Vec Ideal S3x256 .f32) (v : Vec Ideal S1x256 .f32) (f : ℕ → EReal) (q : Fin 256)
  (ht : s ≠ 0 → ∀ r : Fin 16, t (ix3 0 r q) = f (2048 * s + r.val - 16)) (hx : ∀ r : Fin 2048, x (ix3 0 r q) = f (2048 * s + r.val))
  (r : Fin 2048)
include hs h2 ht hx

/-- The first half's convolution with its bias, at a row of a tile. -/
theorem pay2_row : k0_pay2 i x t w v (ix2 r q)
      = conv3 (w (ix2 0 q)) (w (ix2 1 q)) (w (ix2 2 q)) f (2048 * s + r.val) + v (ix2 0 q) := by
  subst hs
  unfold k0_pay2
  dsimp only
  generalize hA : concatenate S2080x256 0 [⟨S16x256, _⟩, ⟨S2048x256, _⟩, ⟨S16x256, _⟩] concatenates_S16x256_S2048x256_S16x256_S2080x256_d0 = A
  have rA : ∀ (p : Fin 2080) (_ : p.val < 2064), A (ix2 p q) = ext f (2048 * (i 2).val + p.val) := fun p hp => hA ▸ tile_row _ h2 x t f q ht hx p hp
  pointwise
  rw [rA _ (by simp only; omega), rA _ (by simp only; omega), rA _ (by simp only; omega)]
  rw [ext_back _ (n := 2048 * (i 2).val + r.val) 2 (by omega) (by simp only; omega),
    ext_back _ (n := 2048 * (i 2).val + r.val) 1 (by omega) (by simp only; omega), ext_at _ (2048 * (i 2).val + r.val) (by simp only; omega)]
  rfl

/-- The second half's, with the first half's activation. -/
theorem pay1_row (z : FVec Ideal S2048x256 .f32) :
    k0_pay1 (Scalar.cmpi .eq (BitVec.ofNat 32 (i 2).val) 0#32) z (k0_pay3 x) (k0_pay4 (F := Ideal)) (k0_pay5 t) w v (ix3 0 r q)
      = gate (z (ix2 r q)) (conv3 (w (ix2 0 q)) (w (ix2 1 q)) (w (ix2 2 q)) f (2048 * s + r.val) + v (ix2 0 q)) := by
  subst hs
  unfold k0_pay1 k0_pay3 k0_pay4 k0_pay5
  dsimp only
  generalize hA : concatenate S2080x256 0 [⟨S16x256, _⟩, ⟨S2048x256, _⟩, ⟨S16x256, _⟩] concatenates_S16x256_S2048x256_S16x256_S2080x256_d0 = A
  have rA : ∀ (p : Fin 2080) (_ : p.val < 2064), A (ix2 p q) = ext f (2048 * (i 2).val + p.val) := fun p hp => hA ▸ tile_row _ h2 x t f q ht hx p hp
  pointwise
  rw [rA _ (by simp only; omega), rA _ (by simp only; omega), rA _ (by simp only; omega)]
  rw [ext_back _ (n := 2048 * (i 2).val + r.val) 2 (by omega) (by simp only; omega),
    ext_back _ (n := 2048 * (i 2).val + r.val) 1 (by omega) (by simp only; omega), ext_at _ (2048 * (i 2).val + r.val) (by simp only; omega)]
  rfl

end

/-- What a point leaves in its output block. -/
abbrev after (t : Fin cfg0.N) : S1x2048x256.Idx → EReal :=
  out0_8 (grid0.coords t) (iblk m c 0 t) (iblk m c 1 t) (iblk m c 2 t) (iblk m c 3 t) (iblk m c 4 t) (iblk m c 5 t) (iblk m c 6 t) (iblk m c 7 t)

theorem block (t : Fin cfg0.N) (r : Fin 2048) (q : Fin 256) :
    after m c t (ix3 0 r q) = val m c (t.val / 2 % 2) (2048 * (t.val % 2) + r.val) (t.val / 4 * 256 + q.val) := by
  show out0_8 _ _ _ _ _ _ _ _ _ _ = _
  unfold out0_8
  rw [View.canon_unit_zero zeros3]
  simp only [View.ld_unit_zero (S := S1x2048x256) zeros3, View.ld_unit_zero (S := S1x16x256) zeros3, View.ld_unit_zero (S := S3x256) zeros2,
    View.ld_unit_zero (S := S1x256) zeros2]
  refine (pay1_row (grid0.coords t) (t.val % 2) (coord2 t) (by omega) (iblk m c 3 t) (iblk m c 2 t) (iblk m c 5 t) (iblk m c 7 t)
    (chan m c (t.val / 2 % 2) (2816 + (t.val / 4 * 256 + q.val))) q (fun hs r => read2 m c t hs r q) (fun r => read3 m c t r q) r _).trans ?_
  refine congrArg₂ gate ((pay2_row (grid0.coords t) (t.val % 2) (coord2 t) (by omega) (iblk m c 1 t) (iblk m c 0 t) (iblk m c 4 t) (iblk m c 6 t)
    (chan m c (t.val / 2 % 2) (0 + (t.val / 4 * 256 + q.val))) q (fun hs r => read0 m c t hs r q) (fun r => read1 m c t r q) r).trans ?_) ?_
  · rw [read4, read4, read4, read6]
    simp only [Nat.zero_add]
    rfl
  · rw [read5, read5, read5, read7]
    rfl

/-- The kernel's array after the run. -/
theorem final8 : (dats m 0 c).arrAt 8 cfg0.N = out m c := by
  refine (dats m 0 c).arrAt_eq_of_cover 8 (out m c) (fun t _ => ?_) fun i => ?_
  · rw [Cert.Kernel27Ideal.Value.flushed8]
    have hi := congrFun (idx8 t)
    funext y
    rw [View.read_apply]
    have hz : ∀ z : S1x2048x256.Idx, after m c t z
        = val m c (t.val / 2 % 2) (2048 * (t.val % 2) + (z 1).val) (t.val / 4 * 256 + (z 2).val) := by
      intro z
      have e : z = ix3 0 (z 1) (z 2) := by
        funext a
        match a with
        | ⟨0, _⟩ => exact Fin.ext (by have : (z 0).val < 1 := (z 0).isLt; show (z 0).val = 0; omega)
        | ⟨1, _⟩ => rfl
        | ⟨2, _⟩ => rfl
      exact (congrArg _ e).trans (block m c t (z 1) (z 2))
    refine (hz _).trans ?_
    show _ = val m c (win0_8.index t 0 * 1 + 1 * (y 0).val) (win0_8.index t 1 * 2048 + 1 * (y 1).val) (win0_8.index t 2 * 256 + 1 * (y 2).val)
    have h0 : (y 0).val < 1 := (y 0).isLt
    rw [hi 0, hi 1, hi 2]
    congr 1
    · simp; omega
    · show 2048 * (t.val % 2) + (y 1).val = t.val % 2 * 2048 + 1 * (y 1).val; omega
    · show t.val / 4 * 256 + (y 2).val = t.val / 4 * 256 + 1 * (y 2).val; omega
  · have hN : cfg0.N = 44 := N_0
    have h0 : (i 0 : ℕ) < 2 := (i 0).isLt
    have h1 : (i 1 : ℕ) < 4096 := (i 1).isLt
    have h2 : (i 2 : ℕ) < 2816 := (i 2).isLt
    obtain ⟨t, ht⟩ : ∃ t : Fin cfg0.N, t.val = (i 2 : ℕ) / 256 * 4 + (i 0 : ℕ) * 2 + (i 1 : ℕ) / 2048 :=
      ⟨⟨_, by omega⟩, rfl⟩
    refine ⟨t, flush0_8 t, ?_⟩
    have hi := congrFun (idx8 t)
    refine mem_of (View.set_slice_whole main_v0 _) (Rect.mem_set_unit.2 fun a => ?_)
    match a with
    | ⟨0, _⟩ => exact in_block 1 (i 0) (hi 0) (by simp; omega)
    | ⟨1, _⟩ => exact in_block 2048 (i 1) (hi 1) (by simp; omega)
    | ⟨2, _⟩ => exact in_block 256 (i 2) (hi 2) (by simp; omega)

end Cert.Kernel27Ideal.Fwd
end
-- ==== Proof.Conv.ActFwdClaim.lean ====
/-
  The gated activation's forward kernel leaves the reference's array.
-/
module

public import proofs.«01_k».proof.Defs
public import proofs.«01_k».proof.Proof.Conv.ActFwd
public import proofs.«01_k».proof.Proof.Gen.Reference27Ideal.Read

@[expose] public section

noncomputable section

namespace Cert.ActFwd

open Idealize.ShloMosaic Idealize.ShloMosaic.TcCoe Idealize.SL.Sem
open Cert.Product Cert.Gate Cert.Kernel27Ideal Cert.Kernel27Ideal.Fwd Cert.Reference27Ideal.Read

attribute [local instance] Cert.Kernel27Ideal.Gen.facts Cert.Reference27Ideal.Gen.facts

variable (X : S2x4096x5632.Idx → EReal) (U : S3x5632.Idx → EReal) (V : S1x5632.Idx → EReal)

/-- The array with its two rows of zeros in front. -/
theorem v3_row (b : Fin 2) (p : Fin 4098) (n : Fin 5632) (f : ℕ → EReal) (hf : ∀ a : Fin 4096, X (ix3 b a n) = f a.val) :
    val_main_v3 (F := Ideal) X (ix3 b p n) = back f 2 p.val := by
  unfold val_main_v3 val_main_v2 val_main_v0 val_main_cst
  pointwise
  unfold back
  split
  · rfl
  · exact hf ⟨p.val - 2, by omega⟩

/-- The convolution with its bias, read at an index. -/
theorem plain_pre (b : Fin 2) (a : Fin 4096) (n : Fin 5632) (f : ℕ → EReal) (w0 w1 w2 v : EReal)
    (hf : ∀ a : Fin 4096, X (ix3 b a n) = f a.val) (h0 : U (ix2 0 n) = w0) (h1 : U (ix2 1 n) = w1) (h2 : U (ix2 2 n) = w2) (hv : V (ix2 0 n) = v) :
    val_main_v26 (F := Ideal) X U V (ix3 b a n) = conv3 w0 w1 w2 f a.val + v := by
  rw [← conv3_eq]
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v1
  pointwise
  rw [v3_row X _ _ _ f hf, v3_row X _ _ _ f hf, v3_row X _ _ _ f hf]
  have e1 : back f 2 (1 + a.val) = back f 1 a.val := by
    unfold back
    split
    · rw [if_pos (by omega)]
    · rw [if_neg (by omega)]
      congr 1
      omega
  have e2 : back f 2 (2 + a.val) = f a.val := by
    unfold back
    rw [if_neg (by omega)]
    congr 1
    omega
  simp only [Nat.zero_add, e1, e2, h0, h1, h2, hv]

/-- The reference's array, read at an index. -/
theorem plain (b : Fin 2) (a : Fin 4096) (n : Fin 2816) (y z : EReal)
    (hy : val_main_v26 (F := Ideal) X U V (ix3 b a ⟨n.val, by omega⟩) = y)
    (hz : val_main_v26 (F := Ideal) X U V (ix3 b a ⟨2816 + n.val, by omega⟩) = z) :
    val_main_v31 (F := Ideal) X U V (ix3 b a n) = gate y z := by
  unfold val_main_v31 val_main_v30 val_main_v29 val_main_call0_v5 val_main_call0_v4 val_main_call0_cst_0 val_main_call0_v3 val_main_call0_v2
    val_main_call0_cst val_main_call0_v1 val_main_call0_v0 val_main_v28 val_main_v27
  pointwise
  simp only [Nat.zero_add, hy, hz]
  rw [gate_eq]

/-- The reference changes no argument, and declares no semaphore. -/
theorem frame : Cert.quiescent_Reference27Ideal := fun m ρ _ =>
  (θ_run Cert.Reference27Ideal.defs _ _).mono
    (fun r h => ⟨fun c => (h c).2, sem_eq_zero_of_no_sems (by decide) r.2⟩) (Cert.Reference27Ideal.Value.run m ρ)

/-- The two programs leave the same array. -/
theorem algebraic : Cert.algebraic_Kernel27Ideal_Reference27Ideal := by
  intro m g m' g' _ hargs
  have hp : ∀ c : Dev nD, ∀ (b : Fin 2) (a : Fin 4096) (n : Fin 5632),
      val_main_v26 (F := Ideal) (argX m c) (argW m c) (argB m c) (ix3 b a n) = pre m c b.val a.val n.val := fun c b a n =>
    plain_pre (argX m c) (argW m c) (argB m c) b a n (chan m c b.val n.val) _ _ _ _
      (fun a => at3_val 2 4096 5632 (argX m c) _ _ _ _ rfl rfl rfl)
      (at2_val 3 5632 (argW m c) _ _ _ rfl rfl) (at2_val 3 5632 (argW m c) _ _ _ rfl rfl) (at2_val 3 5632 (argW m c) _ _ _ rfl rfl)
      (at2_val 1 5632 (argB m c) _ _ _ rfl rfl)
  refine ⟨fun c => out m c, ?_, ?_⟩
  · exact (θ_run Cert.Kernel27Ideal.defs _ _).mono
      (fun r h c => ⟨(h c).1.trans (final8 m c), (h c).2⟩) (Cert.Kernel27Ideal.Value.run_blocks m g)
  · refine (θ_run Cert.Reference27Ideal.defs _ _).mono (fun r h c => ⟨(h c).1.trans ?_, (h c).2⟩) (Cert.Reference27Ideal.Value.run m' g')
    refine (val_main_v31_eq _ _).trans ?_
    rw [(hargs c).1, (hargs c).2.1, (hargs c).2.2]
    funext i
    have e : i = ix3 (i 0) (i 1) (i 2) := by
      funext a
      match a with
      | ⟨0, _⟩ => rfl
      | ⟨1, _⟩ => rfl
      | ⟨2, _⟩ => rfl
    exact (congrArg _ e).trans (plain (argX m c) (argW m c) (argB m c) (i 0) (i 1) (i 2) _ _ (hp c _ _ _) (hp c _ _ _))

end Cert.ActFwd
end
-- ==== Proof.Norm.Head.lean ====
/-
  The loss head: the gradient of half the mean squared error of the normalised rows, and the squared errors summed over
  the rows. One step for each block of 1024 rows.
-/
module

public import proofs.«01_k».proof.Defs
public import proofs.«01_k».proof.Proof.Norm.Algebra
public import proofs.«01_k».proof.Proof.Gen.Kernel28Ideal.Value
public import proofs.«01_k».proof.Proof.Gen.Reference28Ideal.Read

@[expose] public section

noncomputable section

namespace Cert.Kernel28Ideal.Head

open Cert.Kernel28Ideal Cert.Kernel28Ideal.Gen Cert.Product Cert.Norm Idealize.ShloMosaic Idealize.ShloMosaic.TcCoe Idealize.SL.Sem

variable (m : (ℓ : Loc nD τ sig) → Buf (Elt Ideal) ℓ) (c : Dev nD)

/-- The arguments of a device. -/
abbrev argX : S8192x1024.Idx → EReal := m ((c.tc : Thread nD τ).loc main_arg0)
abbrev argG : S1x1024.Idx → EReal := m ((c.tc : Thread nD τ).loc main_arg1)
abbrev argY : S8192x1024.Idx → EReal := m ((c.tc : Thread nD τ).loc main_arg2)
/-- The block of each window at a point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel

/-- The block of the window at a point. -/
abbrev blk0 (t : Fin cfg0.N) : Vec Ideal S1024x1024 .f32 := iblk m c 0 t

theorem read0 (t : Fin cfg0.N) (i : Fin 1024) (j : Fin 1024) :
    blk0 m c t (ix2 i j) = at2 8192 1024 (argX m c) (1024 * (t.val) + i.val) (j.val) := by
  have hN : cfg0.N = 8 := N_0
  have ht := t.isLt
  have hi := congrFun (idx0 t)
  unfold blk0 iblk
  rw [View.read_apply]
  refine at2_val 8192 1024 (argX m c) _ _ _ ?_ ?_
  · exact pos_of 1024 (hi 0) (by simp <;> omega)
  · exact pos_of 1024 (hi 1) (by simp <;> omega)

/-- The block of the window at a point. -/
abbrev blk1 (t : Fin cfg0.N) : Vec Ideal S1x1024 .f32 := iblk m c 1 t

theorem read1 (t : Fin cfg0.N) (i : Fin 1) (j : Fin 1024) :
    blk1 m c t (ix2 i j) = at2 1 1024 (argG m c) (i.val) (j.val) := by
  have hN : cfg0.N = 8 := N_0
  have ht := t.isLt
  have hi := congrFun (idx1 t)
  unfold blk1 iblk
  rw [View.read_apply]
  refine at2_val 1 1024 (argG m c) _ _ _ ?_ ?_
  · exact pos_of 1 (hi 0) (by simp <;> omega)
  · exact pos_of 1024 (hi 1) (by simp <;> omega)

/-- The block of the window at a point. -/
abbrev blk2 (t : Fin cfg0.N) : Vec Ideal S1024x1024 .f32 := iblk m c 2 t

theorem read2 (t : Fin cfg0.N) (i : Fin 1024) (j : Fin 1024) :
    blk2 m c t (ix2 i j) = at2 8192 1024 (argY m c) (1024 * (t.val) + i.val) (j.val) := by
  have hN : cfg0.N = 8 := N_0
  have ht := t.isLt
  have hi := congrFun (idx2 t)
  unfold blk2 iblk
  rw [View.read_apply]
  refine at2_val 8192 1024 (argY m c) _ _ _ ?_ ?_
  · exact pos_of 1024 (hi 0) (by simp <;> omega)
  · exact pos_of 1024 (hi 1) (by simp <;> omega)

/-- The entries of the arguments: the array, the gain, the target. -/
abbrev x (a b : ℕ) : EReal := at2 8192 1024 (argX m c) a b
abbrev gain (b : ℕ) : EReal := at2 1 1024 (argG m c) 0 b
abbrev aim (a b : ℕ) : EReal := at2 8192 1024 (argY m c) a b

/-- The error of a row at an entry, and the gradient of the normalised row. -/
def err (f g y : ℕ → EReal) (b : ℕ) : EReal := f b * Ideal.rsqrt (meanSq f) * g b - y b
def dy (f g y : ℕ → EReal) (b : ℕ) : EReal := err f g y b * Ideal.ofBits .f32 0x3A800000#32

/-- Half of the mean's derivative of a square is the reciprocal of the width times the error. -/
theorem half_twice (e : EReal) :
    Ideal.div (Ideal.ofBits .f32 0x3F000000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Ideal.div_coe (by norm_num), ← mul_assoc, ← EReal.coe_mul, ← EReal.coe_mul, mul_comm]
  norm_num

/-- An entry of the gradient of the array. -/
def dh (a b : ℕ) : EReal :=
  rowGrad (x m c a) (fun k => dy (x m c a) (gain m c) (aim m c a) k * gain m c k) 0 b

/-- A row's part of the gain's gradient and of the squared errors; a block's; the whole. -/
def partG (b a : ℕ) : EReal := dy (x m c a) (gain m c) (aim m c a) b * (x m c a b * Ideal.rsqrt (meanSq (x m c a)))
def partQ (b a : ℕ) : EReal := err (x m c a) (gain m c) (aim m c a) b * err (x m c a) (gain m c) (aim m c a) b
def tileG (b v : ℕ) : EReal := ∑ r : Fin 1024, partG m c b (1024 * v + r.val)
def tileQ (b v : ℕ) : EReal := ∑ r : Fin 1024, partQ m c b (1024 * v + r.val)
def dg (_a b : ℕ) : EReal := ∑ a : Fin 8192, partG m c b a.val
def sq (_a b : ℕ) : EReal := ∑ a : Fin 8192, partQ m c b a.val

theorem tilesG (b : ℕ) : ∑ v ∈ Finset.range 8, tileG m c b v = dg m c 0 b := sum_tiles 8 1024 (partG m c b)
theorem tilesQ (b : ℕ) : ∑ v ∈ Finset.range 8, tileQ m c b v = sq m c 0 b := sum_tiles 8 1024 (partQ m c b)

theorem pay3_entry (X : Vec Ideal S1024x1024 .f32) (i : Fin 1024) (f : ℕ → EReal) (hX : ∀ k : Fin 1024, X (ix2 i k) = f k.val) :
    k0_pay3 X (ix2 i 0) = Ideal.rsqrt (meanSq f) := by
  unfold k0_pay3
  pointwise
  simp only [hX]
  rfl

theorem pay4_entry (X : Vec Ideal S1024x1024 .f32) (i j : Fin 1024) (f : ℕ → EReal) (hX : ∀ k : Fin 1024, X (ix2 i k) = f k.val) :
    k0_pay4 X (ix2 i j) = f j.val * Ideal.rsqrt (meanSq f) := by
  unfold k0_pay4
  pointwise
  rw [pay3_entry X i f hX, hX]

theorem pay5_entry (X Y : Vec Ideal S1024x1024 .f32) (G : Vec Ideal S1x1024 .f32) (i j : Fin 1024)
    (f g y : ℕ → EReal) (hX : ∀ k : Fin 1024, X (ix2 i k) = f k.val) (hG : ∀ k : Fin 1024, G (ix2 0 k) = g k.val)
    (hY : ∀ k : Fin 1024, Y (ix2 i k) = y k.val) :
    k0_pay5 X G Y (ix2 i j) = err f g y j.val := by
  unfold k0_pay5
  pointwise
  rw [pay4_entry X i j f hX, hG, hY]
  rfl

theorem pay9_entry (X Y : Vec Ideal S1024x1024 .f32) (G : Vec Ideal S1x1024 .f32) (i j : Fin 1024)
    (f g y : ℕ → EReal) (hX : ∀ k : Fin 1024, X (ix2 i k) = f k.val) (hG : ∀ k : Fin 1024, G (ix2 0 k) = g k.val)
    (hY : ∀ k : Fin 1024, Y (ix2 i k) = y k.val) :
    k0_pay9 X G Y (ix2 i j) = dy f g y j.val := by
  unfold k0_pay9
  pointwise
  rw [pay5_entry X Y G i j f g y hX hG hY]
  rfl

theorem pay1_entry (X Y : Vec Ideal S1024x1024 .f32) (G : Vec Ideal S1x1024 .f32) (i j : Fin 1024)
    (f g y : ℕ → EReal) (hX : ∀ k : Fin 1024, X (ix2 i k) = f k.val) (hG : ∀ k : Fin 1024, G (ix2 0 k) = g k.val)
    (hY : ∀ k : Fin 1024, Y (ix2 i k) = y k.val) :
    k0_pay1 (k0_pay3 X) (k0_pay4 X) (k0_pay9 X G Y) G (ix2 i j) = rowGrad f (fun k => dy f g y k * g k) 0 j.val := by
  unfold k0_pay1
  pointwise
  simp only [pay3_entry X i f hX, pay4_entry X i _ f hX, pay9_entry X Y G i _ f g y hX hG hY, hG]
  exact (zero_add _).symm

theorem pay2_entry (X Y : Vec Ideal S1024x1024 .f32) (G : Vec Ideal S1x1024 .f32) (i j : Fin 1024)
    (f g y : ℕ → EReal) (hX : ∀ k : Fin 1024, X (ix2 i k) = f k.val) (hG : ∀ k : Fin 1024, G (ix2 0 k) = g k.val)
    (hY : ∀ k : Fin 1024, Y (ix2 i k) = y k.val) :
    k0_pay2 (k0_pay3 X) (k0_pay4 X) (k0_pay9 X G Y) G (ix2 i j) = rowGrad f (fun k => dy f g y k * g k) 0 j.val := by
  unfold k0_pay2
  pointwise
  exact pay1_entry X Y G i j f g y hX hG hY

theorem pay8_entry (X Y : Vec Ideal S1024x1024 .f32) (G Z : Vec Ideal S1x1024 .f32) (j : Fin 1024)
    (f y : ℕ → ℕ → EReal) (g : ℕ → EReal) (hX : ∀ i k : Fin 1024, X (ix2 i k) = f i.val k.val) (hG : ∀ k : Fin 1024, G (ix2 0 k) = g k.val)
    (hY : ∀ i k : Fin 1024, Y (ix2 i k) = y i.val k.val) :
    k0_pay8 X G Y Z (ix2 0 j) = (Z (ix2 0 j) : EReal) + ∑ i : Fin 1024, err (f i.val) g (y i.val) j.val * err (f i.val) g (y i.val) j.val := by
  unfold k0_pay8
  pointwise
  have h := fun i : Fin 1024 => pay5_entry X Y G i j (f i.val) g (y i.val) (hX i) hG (hY i)
  exact congrArg₂ (· + ·) rfl (Finset.sum_congr rfl fun i _ => congrArg₂ (· * ·) (h i) (h i))

theorem pay10_entry (X Y : Vec Ideal S1024x1024 .f32) (G Z : Vec Ideal S1x1024 .f32) (j : Fin 1024)
    (f y : ℕ → ℕ → EReal) (g : ℕ → EReal) (hX : ∀ i k : Fin 1024, X (ix2 i k) = f i.val k.val) (hG : ∀ k : Fin 1024, G (ix2 0 k) = g k.val)
    (hY : ∀ i k : Fin 1024, Y (ix2 i k) = y i.val k.val) :
    k0_pay10 X G Y Z (ix2 0 j) = (Z (ix2 0 j) : EReal)
      + ∑ i : Fin 1024, dy (f i.val) g (y i.val) j.val * (f i.val j.val * Ideal.rsqrt (meanSq (f i.val))) := by
  unfold k0_pay10
  pointwise
  exact congrArg₂ (· + ·) rfl (Finset.sum_congr rfl fun i _ =>
    congrArg₂ (· * ·) (pay9_entry X Y G i j (f i.val) g (y i.val) (hX i) hG (hY i)) (pay4_entry X i j (f i.val) (hX i)))

theorem pay6_entry (j : Fin 1024) : (k0_pay6 (F := Ideal)) (ix2 0 j) = 0 := by
  unfold k0_pay6
  pointwise

theorem pay7_entry (j : Fin 1024) : (k0_pay7 (F := Ideal)) (ix2 0 j) = 0 := by
  unfold k0_pay7
  pointwise

theorem point3_A (t : Fin cfg0.N) (h0 : t.val % 8 = 0) (i j : Fin 1024) :
    (outsAt0 m c t.val t.isLt).1 (ix2 i j) = dh m c (1024 * (t.val) + i.val) j.val := by
  rw [outsAt0_A m c t h0]
  dsimp only
  unfold out0_A_3
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay1_entry (blk0 m c t) (blk2 m c t) (blk1 m c t) i j _ _ _ (fun k => read0 m c t i k) (fun k => read1 m c t 0 k) (fun k => read2 m c t i k)

theorem point3_B (t : Fin cfg0.N) (h0 : ¬t.val % 8 = 0) (i j : Fin 1024) :
    (outsAt0 m c t.val t.isLt).1 (ix2 i j) = dh m c (1024 * (t.val) + i.val) j.val := by
  rw [outsAt0_B m c t h0]
  dsimp only
  unfold out0_B_3
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay1_entry (blk0 m c t) (blk2 m c t) (blk1 m c t) i j _ _ _ (fun k => read0 m c t i k) (fun k => read1 m c t 0 k) (fun k => read2 m c t i k)

/-- What a point leaves in the buffer of the gradient. -/
theorem point3 (t : Fin cfg0.N) (i j : Fin 1024) :
    (outsAt0 m c t.val t.isLt).1 (ix2 i j) = dh m c (1024 * (t.val) + i.val) j.val := by
  by_cases h0 : t.val % 8 = 0
  · exact point3_A m c t h0 i j
  · exact point3_B m c t h0 i j

theorem point4_A (t : Fin cfg0.N) (h0 : t.val % 8 = 0) (i j : Fin 1024) :
    (outsAt0 m c t.val t.isLt).2.1 (ix2 i j) = dh m c (1024 * (t.val) + i.val) j.val := by
  rw [outsAt0_A m c t h0]
  dsimp only
  unfold out0_A_4
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay2_entry (blk0 m c t) (blk2 m c t) (blk1 m c t) i j _ _ _ (fun k => read0 m c t i k) (fun k => read1 m c t 0 k) (fun k => read2 m c t i k)

theorem point4_B (t : Fin cfg0.N) (h0 : ¬t.val % 8 = 0) (i j : Fin 1024) :
    (outsAt0 m c t.val t.isLt).2.1 (ix2 i j) = dh m c (1024 * (t.val) + i.val) j.val := by
  rw [outsAt0_B m c t h0]
  dsimp only
  unfold out0_B_4
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay2_entry (blk0 m c t) (blk2 m c t) (blk1 m c t) i j _ _ _ (fun k => read0 m c t i k) (fun k => read1 m c t 0 k) (fun k => read2 m c t i k)

/-- What a point leaves in the buffer of the gradient. -/
theorem point4 (t : Fin cfg0.N) (i j : Fin 1024) :
    (outsAt0 m c t.val t.isLt).2.1 (ix2 i j) = dh m c (1024 * (t.val) + i.val) j.val := by
  by_cases h0 : t.val % 8 = 0
  · exact point4_A m c t h0 i j
  · exact point4_B m c t h0 i j

/-- The first point starts the gain's gradient. -/
theorem firstG (t : Fin cfg0.N) (h0 : t.val % 8 = 0) (j : Fin 1024) :
    (outsAt0 m c t.val t.isLt).2.2.1 (ix2 0 j) = tileG m c j.val 0 := by
  have hN : cfg0.N = 8 := N_0
  have ht := t.isLt
  rw [outsAt0_A m c t h0]
  dsimp only
  unfold out0_A_5
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_cons_unit_zero (S := S1x1024) zeros2, View.readCov_unit_zero (S := S1x1024) _ zeros2]
  simp only [View.ld_unit_zero (S := S1024x1024) zeros2, View.ld_unit_zero (S := S1x1024) zeros2]
  refine (pay10_entry (blk0 m c t) (blk2 m c t) (blk1 m c t) _ j (fun i => x m c (1024 * t.val + i)) (fun i => aim m c (1024 * t.val + i)) (gain m c)
    (fun i k => read0 m c t i k) (fun k => read1 m c t 0 k) (fun i k => read2 m c t i k)).trans ?_
  refine (congrArg₂ (· + ·) (pay6_entry j) ?_).trans (zero_add _)
  rw [show t.val = 0 by omega]
  rfl

/-- A later point adds its block. -/
theorem nextG (t : Fin cfg0.N) (h0 : ¬t.val % 8 = 0) (j : Fin 1024) :
    (outsAt0 m c t.val t.isLt).2.2.1 (ix2 0 j)
      = (outsAt0 m c (t.val - 1) (Nat.lt_of_le_of_lt (Nat.sub_le _ _) t.isLt)).2.2.1 (ix2 0 j) + tileG m c j.val t.val := by
  rw [outsAt0_B m c t h0]
  dsimp only
  unfold out0_B_5
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay10_entry (blk0 m c t) (blk2 m c t) (blk1 m c t) _ j (fun i => x m c (1024 * t.val + i)) (fun i => aim m c (1024 * t.val + i)) (gain m c)
    (fun i k => read0 m c t i k) (fun k => read1 m c t 0 k) (fun i k => read2 m c t i k)

theorem heldG (j : Fin 1024) (u : ℕ) (hu : u < cfg0.N) :
    (outsAt0 m c u hu).2.2.1 (ix2 0 j) = ∑ v ∈ Finset.range (u % 8 + 1), tileG m c j.val v :=
  run_sum 8 7 cfg0.N (by omega) (fun u hu => (outsAt0 m c u hu).2.2.1 (ix2 0 j)) (fun _ v => tileG m c j.val v)
    (fun u hu h => firstG m c ⟨u, hu⟩ h j)
    (fun u hu h _ => (nextG m c ⟨u + 1, hu⟩ h j).trans (by
      have hN : cfg0.N = 8 := N_0
      rw [Nat.mod_eq_of_lt (show u + 1 < 8 by omega)]
      simp only [Nat.add_sub_cancel])) u hu (by omega)

/-- What the last point leaves. -/
theorem point5 (t : Fin cfg0.N) (h : t.val % 8 = 7) (i : Fin 1) (j : Fin 1024) :
    (outsAt0 m c t.val t.isLt).2.2.1 (ix2 i j) = dg m c i.val j.val := by
  obtain rfl : i = 0 := Subsingleton.elim _ _
  rw [heldG, h, tilesG]
  rfl

/-- The first point starts the squared errors. -/
theorem firstQ (t : Fin cfg0.N) (h0 : t.val % 8 = 0) (j : Fin 1024) :
    (outsAt0 m c t.val t.isLt).2.2.2 (ix2 0 j) = tileQ m c j.val 0 := by
  have hN : cfg0.N = 8 := N_0
  have ht := t.isLt
  rw [outsAt0_A m c t h0]
  dsimp only
  unfold out0_A_6
  rw [View.read_writes_junk_apply_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_cons_unit_zero (S := S1x1024) zeros2, View.readCov_unit_zero (S := S1x1024) _ zeros2]
  simp only [View.ld_unit_zero (S := S1024x1024) zeros2, View.ld_unit_zero (S := S1x1024) zeros2]
  refine (pay8_entry (blk0 m c t) (blk2 m c t) (blk1 m c t) _ j (fun i => x m c (1024 * t.val + i)) (fun i => aim m c (1024 * t.val + i)) (gain m c)
    (fun i k => read0 m c t i k) (fun k => read1 m c t 0 k) (fun i k => read2 m c t i k)).trans ?_
  refine (congrArg₂ (· + ·) (pay7_entry j) ?_).trans (zero_add _)
  rw [show t.val = 0 by omega]
  rfl

/-- A later point adds its block. -/
theorem nextQ (t : Fin cfg0.N) (h0 : ¬t.val % 8 = 0) (j : Fin 1024) :
    (outsAt0 m c t.val t.isLt).2.2.2 (ix2 0 j)
      = (outsAt0 m c (t.val - 1) (Nat.lt_of_le_of_lt (Nat.sub_le _ _) t.isLt)).2.2.2 (ix2 0 j) + tileQ m c j.val t.val := by
  rw [outsAt0_B m c t h0]
  dsimp only
  unfold out0_B_6
  rw [View.read_writes_junk_apply_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero zeros2]
  simp only [View.ld_unit_zero (S := S1024x1024) zeros2, View.ld_unit_zero (S := S1x1024) zeros2]
  exact pay8_entry (blk0 m c t) (blk2 m c t) (blk1 m c t) _ j (fun i => x m c (1024 * t.val + i)) (fun i => aim m c (1024 * t.val + i)) (gain m c)
    (fun i k => read0 m c t i k) (fun k => read1 m c t 0 k) (fun i k => read2 m c t i k)

theorem heldQ (j : Fin 1024) (u : ℕ) (hu : u < cfg0.N) :
    (outsAt0 m c u hu).2.2.2 (ix2 0 j) = ∑ v ∈ Finset.range (u % 8 + 1), tileQ m c j.val v :=
  run_sum 8 7 cfg0.N (by omega) (fun u hu => (outsAt0 m c u hu).2.2.2 (ix2 0 j)) (fun _ v => tileQ m c j.val v)
    (fun u hu h => firstQ m c ⟨u, hu⟩ h j)
    (fun u hu h _ => (nextQ m c ⟨u + 1, hu⟩ h j).trans (by
      have hN : cfg0.N = 8 := N_0
      rw [Nat.mod_eq_of_lt (show u + 1 < 8 by omega)]
      simp only [Nat.add_sub_cancel])) u hu (by omega)

/-- What the last point leaves. -/
theorem point6 (t : Fin cfg0.N) (h : t.val % 8 = 7) (i : Fin 1) (j : Fin 1024) :
    (outsAt0 m c t.val t.isLt).2.2.2 (ix2 i j) = sq m c i.val j.val := by
  obtain rfl : i = 0 := Subsingleton.elim _ _
  rw [heldQ, h, tilesQ]
  rfl

/-- The result array. -/
def out3 : S8192x1024.Idx → EReal := fun i => dh m c (i 0).val (i 1).val

/-- The result array after the run. -/
theorem final3 : (dats m 0 c).arrAt 3 cfg0.N = out3 m c := by
  have hN : cfg0.N = 8 := N_0
  refine (dats m 0 c).arrAt_eq_of_cover 3 (out3 m c) (fun t hf => ?_) fun i => ?_
  · rw [Cert.Kernel28Ideal.Value.flushed3]
    have hi := congrFun (idx3 t)
    have ht := t.isLt
    funext y
    rw [View.read_apply]
    refine ((congrArg ((outsAt0 m c t.val t.isLt).1) (eq_ix2 y)).trans (point3 m c t (y 0) (y 1))).trans (Eq.trans (b := out3 m c (((cfg0.win 3).blk t).view.emb y)) (congrArg₂ (dh m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_3 t, ?_⟩
    have hi := congrFun (idx3 t)
    refine mem_of (View.set_slice_whole main_v0_0 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out4 : S8192x1024.Idx → EReal := fun i => dh m c (i 0).val (i 1).val

/-- The result array after the run. -/
theorem final4 : (dats m 0 c).arrAt 4 cfg0.N = out4 m c := by
  have hN : cfg0.N = 8 := N_0
  refine (dats m 0 c).arrAt_eq_of_cover 4 (out4 m c) (fun t hf => ?_) fun i => ?_
  · rw [Cert.Kernel28Ideal.Value.flushed4]
    have hi := congrFun (idx4 t)
    have ht := t.isLt
    funext y
    rw [View.read_apply]
    refine ((congrArg ((outsAt0 m c t.val t.isLt).2.1) (eq_ix2 y)).trans (point4 m c t (y 0) (y 1))).trans (Eq.trans (b := out4 m c (((cfg0.win 4).blk t).view.emb y)) (congrArg₂ (dh m c) ?_ ?_) (Eq.symm (cast_eq _ _)))
    · exact of_pos 1024 (hi 0) (by simp <;> omega)
    · exact of_pos 1024 (hi 1) (by simp <;> omega)
  · have h0 : (i 0 : ℕ) < 8192 := (i 0).isLt
    have h1 : (i 1 : ℕ) < 1024 := (i 1).isLt
    obtain ⟨t, ht⟩ : ∃ t : Fin cfg0.N, t.val = (i 0 : ℕ) / 1024 :=
      ⟨⟨_, by omega⟩, rfl⟩
    refine ⟨t, flush0_4 t, ?_⟩
    have hi := congrFun (idx4 t)
    refine mem_of (View.set_slice_whole main_v0_1 _) (Rect.mem_set_unit.2 fun a => ?_)
    match a with
    | ⟨0, _⟩ => exact in_block 1024 (i 0) (hi 0) (by simp <;> omega)
    | ⟨1, _⟩ => exact in_block 1024 (i 1) (hi 1) (by simp <;> omega)

/-- The result array. -/
def out5 : S1x1024.Idx → EReal := fun i => dg m c (i 0).val (i 1).val

/-- The result array after the run. -/
theorem final5 : (dats m 0 c).arrAt 5 cfg0.N = out5 m c := by
  have hN : cfg0.N = 8 := N_0
  refine (dats m 0 c).arrAt_eq_of_cover 5 (out5 m c) (fun t hf => ?_) fun i => ?_
  · rw [Cert.Kernel28Ideal.Value.flushed5]
    have hi := congrFun (idx5 t)
    have ht := t.isLt
    funext y
    rw [View.read_apply]
    refine ((congrArg ((outsAt0 m c t.val t.isLt).2.2.1) (eq_ix2 y)).trans (point5 m c t ((flush0_5 t).mp hf) (y 0) (y 1))).trans (Eq.trans (b := out5 m c (((cfg0.win 5).blk t).view.emb y)) (congrArg₂ (dg m c) ?_ ?_) (Eq.symm (cast_eq _ _)))
    · exact of_pos 1 (hi 0) (by simp <;> omega)
    · exact of_pos 1024 (hi 1) (by simp <;> omega)
  · have h0 : (i 0 : ℕ) < 1 := (i 0).isLt
    have h1 : (i 1 : ℕ) < 1024 := (i 1).isLt
    obtain ⟨t, ht⟩ : ∃ t : Fin cfg0.N, t.val = 7 :=
      ⟨⟨_, by omega⟩, rfl⟩
    refine ⟨t, (flush0_5 t).mpr (by omega), ?_⟩
    have hi := congrFun (idx5 t)
    refine mem_of (View.set_slice_whole main_v0_2 _) (Rect.mem_set_unit.2 fun a => ?_)
    match a with
    | ⟨0, _⟩ => exact in_block 1 (i 0) (hi 0) (by simp <;> omega)
    | ⟨1, _⟩ => exact in_block 1024 (i 1) (hi 1) (by simp <;> omega)

/-- The result array. -/
def out6 : S1x1024.Idx → EReal := fun i => sq m c (i 0).val (i 1).val

/-- The result array after the run. -/
theorem final6 : (dats m 0 c).arrAt 6 cfg0.N = out6 m c := by
  have hN : cfg0.N = 8 := N_0
  refine (dats m 0 c).arrAt_eq_of_cover 6 (out6 m c) (fun t hf => ?_) fun i => ?_
  · rw [Cert.Kernel28Ideal.Value.flushed6]
    have hi := congrFun (idx6 t)
    have ht := t.isLt
    funext y
    rw [View.read_apply]
    refine ((congrArg ((outsAt0 m c t.val t.isLt).2.2.2) (eq_ix2 y)).trans (point6 m c t ((flush0_6 t).mp hf) (y 0) (y 1))).trans (Eq.trans (b := out6 m c (((cfg0.win 6).blk t).view.emb y)) (congrArg₂ (sq m c) ?_ ?_) (Eq.symm (cast_eq _ _)))
    · exact of_pos 1 (hi 0) (by simp <;> omega)
    · exact of_pos 1024 (hi 1) (by simp <;> omega)
  · have h0 : (i 0 : ℕ) < 1 := (i 0).isLt
    have h1 : (i 1 : ℕ) < 1024 := (i 1).isLt
    obtain ⟨t, ht⟩ : ∃ t : Fin cfg0.N, t.val = 7 :=
      ⟨⟨_, by omega⟩, rfl⟩
    refine ⟨t, (flush0_6 t).mpr (by omega), ?_⟩
    have hi := congrFun (idx6 t)
    refine mem_of (View.set_slice_whole main_v0_3 _) (Rect.mem_set_unit.2 fun a => ?_)
    match a with
    | ⟨0, _⟩ => exact in_block 1 (i 0) (hi 0) (by simp <;> omega)
    | ⟨1, _⟩ => exact in_block 1024 (i 1) (hi 1) (by simp <;> omega)

end Cert.Kernel28Ideal.Head

namespace Cert.Norm.Head

open Idealize.ShloMosaic Idealize.ShloMosaic.TcCoe Idealize.SL.Sem
open Cert.Product Cert.Kernel28Ideal Cert.Kernel28Ideal.Head Cert.Reference28Ideal.Read Cert.Norm

attribute [local instance] Cert.Kernel28Ideal.Gen.facts Cert.Reference28Ideal.Gen.facts

/-- The reference changes no argument, and declares no semaphore. -/
theorem frame : Cert.quiescent_Reference28Ideal := fun m ρ _ =>
  (θ_run Cert.Reference28Ideal.defs _ _).mono
    (fun r h => ⟨fun c => (h c).2.2.2.2, sem_eq_zero_of_no_sems (by decide) r.2⟩) (Cert.Reference28Ideal.Value.run m ρ)

/-- The reference's gradient of the array, read at an index. -/
theorem plain_dh (X : S8192x1024.Idx → EReal) (G : S1x1024.Idx → EReal) (Y : S8192x1024.Idx → EReal) (i : Fin 8192) (j : Fin 1024)
    (f g y : ℕ → EReal) (hX : ∀ k : Fin 1024, X (ix2 i k) = f k.val) (hG : ∀ k : Fin 1024, G (ix2 0 k) = g k.val)
    (hY : ∀ k : Fin 1024, Y (ix2 i k) = y k.val) :
    val_main_v51 (F := Ideal) X G Y (ix2 i j) = rowGrad f (fun k => dy f g y k * g k) 0 j.val := by
  rw [rowGrad_eq, zero_add]
  unfold val_main_v51 val_main_v50 val_main_v49 val_main_v48 val_main_v47 val_main_v46 val_main_cst_15 val_main_v45 val_main_v44 val_main_cst_14 val_main_v43 val_main_v42 val_main_v41 val_main_v40 val_main_v39 val_main_cst_13 val_main_v38 val_main_v36 val_main_v35 val_main_v31 val_main_v30 val_main_v29 val_main_v28 val_main_cst_10 val_main_v27 val_main_v26 val_main_cst_9 val_main_cst_8 val_main_v20 val_main_v19 val_main_cst_3 val_main_v17 val_main_v16 val_main_v15 val_main_v14 val_main_v13 val_main_v12 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [half_twice, Fin.sum_univ_one, hX, hY, hG]
  rfl

theorem plain_dhb (X : S8192x1024.Idx → EReal) (G : S1x1024.Idx → EReal) (Y : S8192x1024.Idx → EReal) (i : Fin 8192) (j : Fin 1024) :
    val_main_v71 (F := Ideal) X G Y (ix2 i j) = val_main_v51 (F := Ideal) X G Y (ix2 i j) := by
  unfold val_main_v71
  pointwise

/-- The reference's gradient of the gain and its squared errors, read at an index. -/
theorem plain_dg (X : S8192x1024.Idx → EReal) (G : S1x1024.Idx → EReal) (Y : S8192x1024.Idx → EReal) (j : Fin 1024) (f y : ℕ → ℕ → EReal) (g : ℕ → EReal)
    (hX : ∀ (i : Fin 8192) (k : Fin 1024), X (ix2 i k) = f i.val k.val) (hG : ∀ k : Fin 1024, G (ix2 0 k) = g k.val)
    (hY : ∀ (i : Fin 8192) (k : Fin 1024), Y (ix2 i k) = y i.val k.val) :
    val_main_v52 (F := Ideal) X G Y (ix2 0 j) = ∑ i : Fin 8192, dy (f i.val) g (y i.val) j.val * (f i.val j.val * Ideal.rsqrt (meanSq (f i.val))) := by
  unfold val_main_v52 val_main_v37 val_main_cst_12 val_main_v34 val_main_v33 val_main_cst_11 val_main_v32 val_main_v31 val_main_v30 val_main_v29 val_main_v28 val_main_cst_10 val_main_v27 val_main_v26 val_main_cst_9 val_main_cst_8 val_main_v20 val_main_v19 val_main_cst_3 val_main_v17 val_main_v16 val_main_v15 val_main_v14 val_main_v13 val_main_v12 val_main_v8 val_main_v7 val_main_v6 val_main_cst_1 val_main_v5 val_main_v4 val_main_cst_0 val_main_v3 val_main_v2 val_main_cst val_main_v1 val_main_v0
  pointwise
  simp only [half_twice, Fin.sum_univ_one, hX, hY, hG]
  exact Finset.sum_congr rfl fun i _ => mul_comm _ _

theorem plain_sq (X : S8192x1024.Idx → EReal) (G : S1x1024.Idx → EReal) (Y : S8192x1024.Idx → EReal) (j : Fin 1024) (f y : ℕ → ℕ → EReal) (g : ℕ → EReal)
    (hX : ∀ (i : Fin 8192) (k : Fin 1024), X (ix2 i k) = f i.val k.val) (hG : ∀ k : Fin 1024, G (ix2 0 k) = g k.val)
    (hY : ∀ (i : Fin 8192) (k : Fin 1024), Y (ix2 i k) = y i.val k.val) :
    val_main_v70 (F := Ideal) X G Y (ix2 0 j) = ∑ i : Fin 8192, err (f i.val) g (y i.val) j.val * err (f i.val) g (y i.val) j.val := by
  unfold val_main_v70 val_main_v69 val_main_cst_19 val_main_v68 val_main_v67 val_main_v66 val_main_v65 val_main_v64 val_main_v63 val_main_v62 val_main_v61 val_main_v60 val_main_v59 val_main_cst_18 val_main_v58 val_main_v57 val_main_cst_17 val_main_v56 val_main_v55 val_main_cst_16 val_main_v54 val_main_v53
  pointwise
  simp only [hX, hY, hG]
  rfl

theorem whole_dh (m : (ℓ : Loc nD τ sig) → Buf (Elt Ideal) ℓ) (c : Dev nD) (i : S8192x1024.Idx) :
    val_main_v51 (F := Ideal) (argX m c) (argG m c) (argY m c) i = dh m c (i 0).val (i 1).val :=
  (congrArg _ (eq_ix2 i)).trans (plain_dh (argX m c) (argG m c) (argY m c) (i 0) (i 1) (x m c (i 0).val) (gain m c) (aim m c (i 0).val)
    (fun k => at2_val 8192 1024 (argX m c) _ _ _ rfl rfl) (fun k => at2_val 1 1024 (argG m c) _ _ _ rfl rfl)
    (fun k => at2_val 8192 1024 (argY m c) _ _ _ rfl rfl))

/-- The two programs leave the same four arrays. -/
theorem algebraic : Cert.algebraic_Kernel28Ideal_Reference28Ideal := by
  intro m g m' g' _ hargs
  refine ⟨fun c => out3 m c, fun c => out4 m c, fun c => out5 m c, fun c => out6 m c, ?_, ?_⟩
  · exact (θ_run Cert.Kernel28Ideal.defs _ _).mono
      (fun r h c => ⟨(h c).1.trans (final3 m c), (h c).2.1.trans (final4 m c), (h c).2.2.1.trans (final5 m c), (h c).2.2.2.1.trans (final6 m c), (h c).2.2.2.2⟩)
      (Cert.Kernel28Ideal.Value.run_blocks m g)
  · refine (θ_run Cert.Reference28Ideal.defs _ _).mono
      (fun r h c => ⟨(h c).1.trans ?_, (h c).2.1.trans ?_, (h c).2.2.1.trans ?_, (h c).2.2.2.1.trans ?_, (h c).2.2.2.2⟩)
      (Cert.Reference28Ideal.Value.run m' g')
    · refine (val_main_v51_eq _ _).trans ?_
      rw [(hargs c).1, (hargs c).2.1, (hargs c).2.2]
      funext i
      exact whole_dh m c i
    · refine (val_main_v71_eq _ _).trans ?_
      rw [(hargs c).1, (hargs c).2.1, (hargs c).2.2]
      funext i
      exact ((congrArg _ (eq_ix2 i)).trans (plain_dhb _ _ _ (i 0) (i 1))).trans ((congrArg _ (eq_ix2 i).symm).trans (whole_dh m c i))
    · refine (val_main_v52_eq _ _ _).trans ?_
      rw [(hargs c).1, (hargs c).2.1, (hargs c).2.2]
      funext i
      refine (congrArg _ ((eq_ix2 i).trans (congrArg (fun q : Fin 1 => (ix2 q (i 1) : S1x1024.Idx)) (Subsingleton.elim (α := Fin 1) (i 0) 0)))).trans ?_
      exact plain_dg (argX m c) (argG m c) (argY m c) (i 1) (x m c) (aim m c) (gain m c) (fun i k => at2_val 8192 1024 (argX m c) _ _ _ rfl rfl)
        (fun k => at2_val 1 1024 (argG m c) _ _ _ rfl rfl) (fun i k => at2_val 8192 1024 (argY m c) _ _ _ rfl rfl)
    · refine (val_main_v70_eq _ _ _).trans ?_
      rw [(hargs c).1, (hargs c).2.1, (hargs c).2.2]
      funext i
      refine (congrArg _ ((eq_ix2 i).trans (congrArg (fun q : Fin 1 => (ix2 q (i 1) : S1x1024.Idx)) (Subsingleton.elim (α := Fin 1) (i 0) 0)))).trans ?_
      exact plain_sq (argX m c) (argG m c) (argY m c) (i 1) (x m c) (aim m c) (gain m c) (fun i k => at2_val 8192 1024 (argX m c) _ _ _ rfl rfl)
        (fun k => at2_val 1 1024 (argG m c) _ _ _ rfl rfl) (fun i k => at2_val 8192 1024 (argY m c) _ _ _ rfl rfl)

end Cert.Norm.Head
end
-- ==== Proof.Adam.In.lean ====
/-
  The Adam step of the input projection's weight: each of the kernel's three arrays is, entry by entry, the reference's formula.
-/
module

public import proofs.«01_k».proof.Defs
public import proofs.«01_k».proof.Proof.Gen.Kernel29Ideal.Value
public import proofs.«01_k».proof.Proof.Gen.Reference29Ideal.Run

@[expose] public section

noncomputable section

namespace Cert.Adam.In

open Idealize.ShloMosaic Idealize.ShloMosaic.TcCoe Idealize.SL.Sem
open Cert.Kernel29Ideal Cert.Kernel29Ideal.Value

attribute [local instance] Cert.Kernel29Ideal.Gen.facts Cert.Reference29Ideal.Gen.facts

variable (m : (ℓ : Loc nD τ sig) → Buf (Elt Ideal) ℓ) (c : Dev nD)

/-- The gradient, the weight and the two moments of a device. -/
abbrev grad := m ((c.tc : Thread nD τ).loc main_arg0)
abbrev weight := m ((c.tc : Thread nD τ).loc main_arg1)
abbrev first := m ((c.tc : Thread nD τ).loc main_arg2)
abbrev second := m ((c.tc : Thread nD τ).loc main_arg3)

/-- The reference changes no argument, and declares no semaphore. -/
theorem frame : Cert.quiescent_Reference29Ideal := fun m ρ _ =>
  (θ_run Cert.Reference29Ideal.defs _ _).mono
    (fun r h => ⟨fun c => (h c).2.2.2, sem_eq_zero_of_no_sems (by decide) r.2⟩) (Cert.Reference29Ideal.Value.run m ρ)

/-- The two programs leave the same change of the weight and the same two moments. -/
theorem algebraic : Cert.algebraic_Kernel29Ideal_Reference29Ideal := by
  intro m g m' g' _ hargs
  refine ⟨fun c => G4 (grad m c) (first m c) (second m c) (weight m c), fun c => G5 (grad m c) (first m c),
    fun c => G6 (grad m c) (second m c), ?_, ?_⟩
  · exact Cert.Kernel29Ideal.Value.run m g
  · refine (θ_run Cert.Reference29Ideal.defs _ _).mono
      (fun r h c => ⟨(h c).1.trans ?_, (h c).2.1.trans ?_, (h c).2.2.1.trans ?_, (h c).2.2.2⟩)
      (Cert.Reference29Ideal.Value.run m' g')
    · rw [(hargs c).1, (hargs c).2.1, (hargs c).2.2.1, (hargs c).2.2.2]
      rfl
    · rw [(hargs c).1, (hargs c).2.2.1]
      rfl
    · rw [(hargs c).1, (hargs c).2.2.2]
      rfl

end Cert.Adam.In
end
-- ==== Proof.Adam.Kv.lean ====
/-
  The Adam step of the key-value projection's weight: each of the kernel's three arrays is, entry by entry, the reference's formula.
-/
module

public import proofs.«01_k».proof.Defs
public import proofs.«01_k».proof.Proof.Gen.Kernel30Ideal.Value
public import proofs.«01_k».proof.Proof.Gen.Reference30Ideal.Run

@[expose] public section

noncomputable section

namespace Cert.Adam.Kv

open Idealize.ShloMosaic Idealize.ShloMosaic.TcCoe Idealize.SL.Sem
open Cert.Kernel30Ideal Cert.Kernel30Ideal.Value

attribute [local instance] Cert.Kernel30Ideal.Gen.facts Cert.Reference30Ideal.Gen.facts

variable (m : (ℓ : Loc nD τ sig) → Buf (Elt Ideal) ℓ) (c : Dev nD)

/-- The gradient, the weight and the two moments of a device. -/
abbrev grad := m ((c.tc : Thread nD τ).loc main_arg0)
abbrev weight := m ((c.tc : Thread nD τ).loc main_arg1)
abbrev first := m ((c.tc : Thread nD τ).loc main_arg2)
abbrev second := m ((c.tc : Thread nD τ).loc main_arg3)

/-- The reference changes no argument, and declares no semaphore. -/
theorem frame : Cert.quiescent_Reference30Ideal := fun m ρ _ =>
  (θ_run Cert.Reference30Ideal.defs _ _).mono
    (fun r h => ⟨fun c => (h c).2.2.2, sem_eq_zero_of_no_sems (by decide) r.2⟩) (Cert.Reference30Ideal.Value.run m ρ)

/-- The two programs leave the same change of the weight and the same two moments. -/
theorem algebraic : Cert.algebraic_Kernel30Ideal_Reference30Ideal := by
  intro m g m' g' _ hargs
  refine ⟨fun c => G4 (grad m c) (first m c) (second m c) (weight m c), fun c => G5 (grad m c) (first m c),
    fun c => G6 (grad m c) (second m c), ?_, ?_⟩
  · exact Cert.Kernel30Ideal.Value.run m g
  · refine (θ_run Cert.Reference30Ideal.defs _ _).mono
      (fun r h c => ⟨(h c).1.trans ?_, (h c).2.1.trans ?_, (h c).2.2.1.trans ?_, (h c).2.2.2⟩)
      (Cert.Reference30Ideal.Value.run m' g')
    · rw [(hargs c).1, (hargs c).2.1, (hargs c).2.2.1, (hargs c).2.2.2]
      rfl
    · rw [(hargs c).1, (hargs c).2.2.1]
      rfl
    · rw [(hargs c).1, (hargs c).2.2.2]
      rfl

end Cert.Adam.Kv
end
-- ==== Proof.Adam.Up.lean ====
/-
  The Adam step of the feed-forward up projection's weight: each of the kernel's three arrays is, entry by entry, the reference's formula.
-/
module

public import proofs.«01_k».proof.Defs
public import proofs.«01_k».proof.Proof.Gen.Kernel31Ideal.Value
public import proofs.«01_k».proof.Proof.Gen.Reference31Ideal.Run

@[expose] public section

noncomputable section

namespace Cert.Adam.Up

open Idealize.ShloMosaic Idealize.ShloMosaic.TcCoe Idealize.SL.Sem
open Cert.Kernel31Ideal Cert.Kernel31Ideal.Value

attribute [local instance] Cert.Kernel31Ideal.Gen.facts Cert.Reference31Ideal.Gen.facts

variable (m : (ℓ : Loc nD τ sig) → Buf (Elt Ideal) ℓ) (c : Dev nD)

/-- The gradient, the weight and the two moments of a device. -/
abbrev grad := m ((c.tc : Thread nD τ).loc main_arg0)
abbrev weight := m ((c.tc : Thread nD τ).loc main_arg1)
abbrev first := m ((c.tc : Thread nD τ).loc main_arg2)
abbrev second := m ((c.tc : Thread nD τ).loc main_arg3)

/-- The reference changes no argument, and declares no semaphore. -/
theorem frame : Cert.quiescent_Reference31Ideal := fun m ρ _ =>
  (θ_run Cert.Reference31Ideal.defs _ _).mono
    (fun r h => ⟨fun c => (h c).2.2.2, sem_eq_zero_of_no_sems (by decide) r.2⟩) (Cert.Reference31Ideal.Value.run m ρ)

/-- The two programs leave the same change of the weight and the same two moments. -/
theorem algebraic : Cert.algebraic_Kernel31Ideal_Reference31Ideal := by
  intro m g m' g' _ hargs
  refine ⟨fun c => G4 (grad m c) (first m c) (second m c) (weight m c), fun c => G5 (grad m c) (first m c),
    fun c => G6 (grad m c) (second m c), ?_, ?_⟩
  · exact Cert.Kernel31Ideal.Value.run m g
  · refine (θ_run Cert.Reference31Ideal.defs _ _).mono
      (fun r h c => ⟨(h c).1.trans ?_, (h c).2.1.trans ?_, (h c).2.2.1.trans ?_, (h c).2.2.2⟩)
      (Cert.Reference31Ideal.Value.run m' g')
    · rw [(hargs c).1, (hargs c).2.1, (hargs c).2.2.1, (hargs c).2.2.2]
      rfl
    · rw [(hargs c).1, (hargs c).2.2.1]
      rfl
    · rw [(hargs c).1, (hargs c).2.2.2]
      rfl

end Cert.Adam.Up
end
-- ==== Proof.Chip.Word.lean ====
/-
  The precondition of the sums over the chips, read at its one word: the chip named is one of the four.
-/
module

public import proofs.«01_k».proof.Defs

@[expose] public section

namespace Cert.Chip

open Idealize.ShloMosaic

/-- A word that passes both comparisons is a number from 0 to 3. -/
theorem word_le (w : BitVec 32) (h : IntOp.andi (IntOp.cmpi .sge w 0#32) (IntOp.cmpi .sle w 3#32) = 1#1) : w.toNat ≤ 3 := by
  have and_one : ∀ a b : BitVec 1, IntOp.andi a b = 1#1 → a = 1#1 ∧ b = 1#1 := by decide
  have of_one : ∀ b : Bool, BitVec.ofBool b = 1#1 → b = true := by decide
  obtain ⟨h0, h3⟩ := and_one _ _ h
  have a0 : (0#32).sle w = true := of_one _ h0
  have a3 : w.sle 3#32 = true := of_one _ h3
  rw [BitVec.sle, decide_eq_true_eq] at a0 a3
  have z : (0#32 : BitVec 32).toInt = 0 := by decide
  have t : (3#32 : BitVec 32).toInt = 3 := by decide
  rw [z] at a0
  rw [t] at a3
  have e := BitVec.toInt_eq_toNat_of_msb (x := w) (by
    rw [BitVec.msb_eq_toInt]
    simpa using a0)
  omega

end Cert.Chip
-- ==== Proof.Chip.OutPre.lean ====
/-
  The precondition of the sum over the chips of one square weight: the block that the first window reads lies in its array.
-/
module

public import proofs.«01_k».proof.Defs
public import proofs.«01_k».proof.Proof.Chip.Word
public import proofs.«01_k».proof.Proof.Gen.Pre_chip_named33
public import proofs.«01_k».proof.Proof.Gen.Kernel33.Frame
public import proofs.«01_k».proof.Proof.Gen.Kernel33Ideal.Frame

@[expose] public section

namespace Cert.Kernel33.Chip

open Cert.Kernel33 Cert.Kernel33.Gen Idealize.ShloMosaic Idealize.ShloMosaic.TcCoe

variable (m : (ℓ : Loc nD τ sig) → Buf (Elt Bits) ℓ)

/-- The chip named is one of the four. -/
theorem word (h : Cert.Pre_Kernel33 m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 1 := by decide +kernel

/-- The block read lies in the array. -/
theorem ok_of_pre (h : Cert.Pre_Kernel33 m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 128 ≤ 128
    omega
  | ⟨2, _⟩ =>
    show (0 + 1) * 1024 ≤ 1024
    omega

end Cert.Kernel33.Chip

namespace Cert.Kernel33Ideal.Chip

open Cert.Kernel33Ideal Cert.Kernel33Ideal.Gen Idealize.ShloMosaic Idealize.ShloMosaic.TcCoe

variable (m : (ℓ : Loc nD τ sig) → Buf (Elt Ideal) ℓ)

/-- The chip named is one of the four. -/
theorem word (h : Cert.Pre_Kernel33Ideal m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 1 := by decide +kernel

/-- The block read lies in the array. -/
theorem ok_of_pre (h : Cert.Pre_Kernel33Ideal m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 128 ≤ 128
    omega
  | ⟨2, _⟩ =>
    show (0 + 1) * 1024 ≤ 1024
    omega

end Cert.Kernel33Ideal.Chip
end
-- ==== Proof.Chip.Out.lean ====
/-
  The sum over the chips of the gradient of one square weight, and its step of the optimiser: one step for each block of 128 rows.
-/
module

public import proofs.«01_k».proof.Defs
public import proofs.«01_k».proof.Proof.Product.Entries
public import proofs.«01_k».proof.Proof.Chip.OutPre
public import proofs.«01_k».proof.Proof.Gen.Kernel33Ideal.Frame
public import Idealize.ShloMosaic.Lib.Pipeline.Value

@[expose] public section

set_option backward.isDefEq.respectTransparency.types false

noncomputable section

namespace Cert.Kernel33Ideal.Chip

open Cert.Kernel33Ideal Cert.Kernel33Ideal.Gen Cert.Product Idealize.ShloMosaic Idealize.ShloMosaic.TcCoe Idealize.SL.Sem

variable (m : (ℓ : Loc nD τ sig) → Buf (Elt Ideal) ℓ) (hO : Ok m) (c : Dev nD)

/-- The arguments of a device. -/
abbrev argO : S4x128x1024.Idx → EReal := m ((c.tc : Thread nD τ).loc main_arg0)
abbrev argR : S3x128x1024.Idx → EReal := m ((c.tc : Thread nD τ).loc main_arg1)
abbrev argC : S1.Idx → BitVec 32 := m ((c.tc : Thread nD τ).loc main_arg2)
abbrev argW : S128x1024.Idx → EReal := m ((c.tc : Thread nD τ).loc main_arg3)
abbrev argM : S128x1024.Idx → EReal := m ((c.tc : Thread nD τ).loc main_arg4)
abbrev argV : S128x1024.Idx → EReal := m ((c.tc : Thread nD τ).loc main_arg5)

/-- The chip named. -/
def chip : ℕ := (argC m c (ix1 (0 : Fin 1))).toNat

/-- The table has one word. -/
theorem chip_eq (i : S1.Idx) : (argC m c i).toNat = chip m c := by
  unfold chip
  refine congrArg (fun j => (argC m c j).toNat) (funext fun a => ?_)
  match a with
  | ⟨0, _⟩ => exact Subsingleton.elim (α := Fin 1) _ _

/-- The block of each window at a point. -/
theorem idx0 (t : Fin (cfgM m hO).N) : ((cfgM m hO).win 0).index t = ![chip m c, t.val, 0] := by
  have hr := (by decide +kernel : ∀ t : Fin grid0.N, (BitVec.ofNat 32 (grid0.coords t 0).val).toNat = t.val) t
  obtain rfl : c = 0 := Subsingleton.elim _ _
  show cc0_transform_0 _ _ (tbl m) (grid0.coords t) = _
  unfold cc0_transform_0
  funext a
  match a with
  | ⟨0, _⟩ => exact chip_eq m 0 _
  | ⟨1, _⟩ => exact hr
  | ⟨2, _⟩ => rfl
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![t.val, 0] :=
  (by decide +kernel : ∀ t : Fin grid0.N, cc0_transform_2 (grid0.coords t) = ![t.val, 0]) t
theorem idx3 (t : Fin (cfgM m hO).N) : ((cfgM m hO).win 3).index t = ![t.val, 0] :=
  (by decide +kernel : ∀ t : Fin grid0.N, cc0_transform_3 (grid0.coords t) = ![t.val, 0]) t
theorem idx4 (t : Fin (cfgM m hO).N) : ((cfgM m hO).win 4).index t = ![t.val, 0] :=
  (by decide +kernel : ∀ t : Fin grid0.N, cc0_transform_4 (grid0.coords t) = ![t.val, 0]) t
theorem idx5 (t : Fin (cfgM m hO).N) : ((cfgM m hO).win 5).index t = ![t.val, 0] :=
  (by decide +kernel : ∀ t : Fin grid0.N, cc0_transform_5 (grid0.coords t) = ![t.val, 0]) t
theorem idx6 (t : Fin (cfgM m hO).N) : ((cfgM m hO).win 6).index t = ![t.val, 0] :=
  (by decide +kernel : ∀ t : Fin grid0.N, cc0_transform_6 (grid0.coords t) = ![t.val, 0]) t
theorem idx7 (t : Fin (cfgM m hO).N) : ((cfgM m hO).win 7).index t = ![t.val, 0] :=
  (by decide +kernel : ∀ t : Fin grid0.N, cc0_transform_7 (grid0.coords t) = ![t.val, 0]) t
theorem idx8 (t : Fin (cfgM m hO).N) : ((cfgM m hO).win 8).index t = ![t.val, 0] :=
  (by decide +kernel : ∀ t : Fin grid0.N, cc0_transform_8 (grid0.coords t) = ![t.val, 0]) t

/-- The block of the window at a point. -/
abbrev blk0 (t : Fin (cfgM m hO).N) : Vec Ideal S1x128x1024 .bf16 := iblk m hO c 0 t

theorem read0 (t : Fin (cfgM m hO).N) (i : Fin 1) (j : Fin 128) (k : Fin 1024) :
    blk0 m hO c t (ix3 i j k) = at3 4 128 1024 (argO m c) (chip m c) (128 * t.val + j.val) k.val := by
  have hi := congrFun (idx0 m hO c t)
  unfold blk0 iblk
  rw [View.read_apply]
  refine at3_val 4 128 1024 (argO m c) _ _ _ _ ?_ ?_ ?_
  · exact pos_of 1 (hi (0 : Fin 3)) (by simp <;> omega)
  · exact pos_of 128 (hi (1 : Fin 3)) (by simp <;> omega)
  · exact pos_of 1024 (hi (2 : Fin 3)) (by simp <;> omega)

/-- The block of the window at a point. -/
abbrev blk1 (t : Fin (cfgM m hO).N) : Vec Ideal S3x128x1024 .bf16 := iblk m hO c 1 t

theorem read1 (t : Fin (cfgM m hO).N) (i : Fin 3) (j : Fin 128) (k : Fin 1024) :
    blk1 m hO c t (ix3 i j k) = at3 3 128 1024 (argR m c) i.val (128 * t.val + j.val) k.val := by
  have hi := congrFun (idx1 m hO t)
  unfold blk1 iblk
  rw [View.read_apply]
  refine at3_val 3 128 1024 (argR m c) _ _ _ _ ?_ ?_ ?_
  · exact pos_of 3 (hi (0 : Fin 3)) (by simp <;> omega)
  · exact pos_of 128 (hi (1 : Fin 3)) (by simp <;> omega)
  · exact pos_of 1024 (hi (2 : Fin 3)) (by simp <;> omega)

/-- The block of the window at a point. -/
abbrev blk2 (t : Fin (cfgM m hO).N) : Vec Ideal S128x1024 .f32 := iblk m hO c 2 t

theorem read2 (t : Fin (cfgM m hO).N) (i : Fin 128) (j : Fin 1024) :
    blk2 m hO c t (ix2 i j) = at2 128 1024 (argW m c) (128 * t.val + i.val) j.val := by
  have hi := congrFun (idx2 m hO t)
  unfold blk2 iblk
  rw [View.read_apply]
  refine at2_val 128 1024 (argW m c) _ _ _ ?_ ?_
  · exact pos_of 128 (hi (0 : Fin 2)) (by simp <;> omega)
  · exact pos_of 1024 (hi (1 : Fin 2)) (by simp <;> omega)

/-- The block of the window at a point. -/
abbrev blk3 (t : Fin (cfgM m hO).N) : Vec Ideal S128x1024 .f32 := iblk m hO c 3 t

theorem read3 (t : Fin (cfgM m hO).N) (i : Fin 128) (j : Fin 1024) :
    blk3 m hO c t (ix2 i j) = at2 128 1024 (argM m c) (128 * t.val + i.val) j.val := by
  have hi := congrFun (idx3 m hO t)
  unfold blk3 iblk
  rw [View.read_apply]
  refine at2_val 128 1024 (argM m c) _ _ _ ?_ ?_
  · exact pos_of 128 (hi (0 : Fin 2)) (by simp <;> omega)
  · exact pos_of 1024 (hi (1 : Fin 2)) (by simp <;> omega)

/-- The block of the window at a point. -/
abbrev blk4 (t : Fin (cfgM m hO).N) : Vec Ideal S128x1024 .f32 := iblk m hO c 4 t

theorem read4 (t : Fin (cfgM m hO).N) (i : Fin 128) (j : Fin 1024) :
    blk4 m hO c t (ix2 i j) = at2 128 1024 (argV m c) (128 * t.val + i.val) j.val := by
  have hi := congrFun (idx4 m hO t)
  unfold blk4 iblk
  rw [View.read_apply]
  refine at2_val 128 1024 (argV m c) _ _ _ ?_ ?_
  · exact pos_of 128 (hi (0 : Fin 2)) (by simp <;> omega)
  · exact pos_of 1024 (hi (1 : Fin 2)) (by simp <;> omega)

/-- An entry of the sum. -/
def total (a b : ℕ) : EReal :=
  at3 4 128 1024 (argO m c) (chip m c) a b + at3 3 128 1024 (argR m c) 0 a b + at3 3 128 1024 (argR m c) 1 a b
    + at3 3 128 1024 (argR m c) 2 a b

/-- An entry of the first moment after the step. -/
def first (a b : ℕ) : EReal :=
  Ideal.ofBits .f32 0x3F666666#32 * at2 128 1024 (argM m c) a b + Ideal.ofBits .f32 0x3DCCCCCD#32 * total m c a b

/-- An entry of the second moment after the step. -/
def second (a b : ℕ) : EReal :=
  Ideal.ofBits .f32 0x3F7FBE77#32 * at2 128 1024 (argV m c) a b + Ideal.ofBits .f32 0x3A83126F#32 * (total m c a b * total m c a b)

/-- An entry of the step of the weight. -/
def delta (a b : ℕ) : EReal :=
  Ideal.ofBits .f32 0xBA83126F#32
    * (Ideal.div (Ideal.div (first m c a b) (Ideal.ofBits .f32 0x3F26BD02#32))
        (Ideal.sqrt (Ideal.div (second m c a b) (Ideal.ofBits .f32 0x3C231ACC#32)) + Ideal.ofBits .f32 0x322BCC77#32)
      + Ideal.ofBits .f32 0x3C23D70A#32 * at2 128 1024 (argW m c) a b)

theorem sum_entry (x y z w : Vec Ideal S1x128x1024 .bf16) (i : Fin 128) (j : Fin 1024) (a b p q : EReal)
    (hx : x (ix3 0 i j) = a) (hy : y (ix3 0 i j) = b) (hz : z (ix3 0 i j) = p) (hw : w (ix3 0 i j) = q) :
    k0_pay2 x y z w (ix2 i j) = a + b + p + q := by
  unfold k0_pay2
  pointwise
  simp only [hx, hy, hz, hw]
  try rfl

/-- The block summed. -/
abbrev sums (t : Fin (cfgM m hO).N) : Vec Ideal S128x1024 .f32 :=
  k0_pay2 (blk0 m hO c t)
    (View.ld (blk1 m hO c t) (Rect.unit (s := S3x128x1024) ![0, 0, 0] S1x128x1024.size inb_S3x128x1024_S1x128x1024_0_0_0))
    (View.ld (blk1 m hO c t) (Rect.unit (s := S3x128x1024) ![1, 0, 0] S1x128x1024.size inb_S3x128x1024_S1x128x1024_1_0_0))
    (View.ld (blk1 m hO c t) (Rect.unit (s := S3x128x1024) ![2, 0, 0] S1x128x1024.size inb_S3x128x1024_S1x128x1024_2_0_0))

theorem sums_entry (t : Fin (cfgM m hO).N) (i : Fin 128) (j : Fin 1024) :
    sums m hO c t (ix2 i j) = total m c (128 * t.val + i.val) j.val :=
  sum_entry _ _ _ _ i j _ _ _ _ (read0 m hO c t 0 i j) ((ld_slot _ 0 _ i j).trans (read1 m hO c t 0 i j)) ((ld_slot _ 1 _ i j).trans (read1 m hO c t 1 i j)) ((ld_slot _ 2 _ i j).trans (read1 m hO c t 2 i j))

theorem first_entry (x y : Vec Ideal S128x1024 .f32) (i : S128x1024.Idx) (a b : EReal) (hx : x i = a) (hy : y i = b) :
    k0_pay4 x y i = Ideal.ofBits .f32 0x3F666666#32 * b + Ideal.ofBits .f32 0x3DCCCCCD#32 * a := by
  unfold k0_pay4 k0_pay3
  rw [shapeCast_self]
  show Ideal.ofBits .f32 0x3F666666#32 * y i + Ideal.ofBits .f32 0x3DCCCCCD#32 * x i = _
  rw [hx, hy]

theorem second_entry (x y : Vec Ideal S128x1024 .f32) (i : S128x1024.Idx) (a b : EReal) (hx : x i = a) (hy : y i = b) :
    k0_pay5 x y i = Ideal.ofBits .f32 0x3F7FBE77#32 * b + Ideal.ofBits .f32 0x3A83126F#32 * (a * a) := by
  unfold k0_pay5 k0_pay3
  rw [shapeCast_self]
  show Ideal.ofBits .f32 0x3F7FBE77#32 * y i + Ideal.ofBits .f32 0x3A83126F#32 * (x i * x i) = _
  rw [hx, hy]

theorem delta_entry (p q w : Vec Ideal S128x1024 .f32) (i : S128x1024.Idx) (a b d : EReal) (hp : p i = a) (hq : q i = b) (hw : w i = d) :
    k0_pay1 p q w i = Ideal.ofBits .f32 0xBA83126F#32
      * (Ideal.div b (Ideal.sqrt (Ideal.div a (Ideal.ofBits .f32 0x3C231ACC#32)) + Ideal.ofBits .f32 0x322BCC77#32)
        + Ideal.ofBits .f32 0x3C23D70A#32 * d) := by
  unfold k0_pay1
  show Ideal.ofBits .f32 0xBA83126F#32
      * (Ideal.div (q i) (Ideal.sqrt (Ideal.div (p i) (Ideal.ofBits .f32 0x3C231ACC#32)) + Ideal.ofBits .f32 0x322BCC77#32)
        + Ideal.ofBits .f32 0x3C23D70A#32 * w i) = _
  rw [hp, hq, hw]

/-- What a point leaves in the buffer. -/
theorem point5 (t : Fin (cfgM m hO).N) (i : Fin 128) (j : Fin 1024) :
    (outsAt0 m hO c t).1 (ix2 i j) = total m c (128 * t.val + i.val) j.val := by
  unfold outsAt0
  dsimp only
  unfold out0_A_5
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.ld_unit_zero (S := S1x128x1024) zeros3, View.ld_unit_zero (S := S128x1024) zeros2]
  exact sums_entry m hO c t i j

/-- The result array. -/
def out5 : S128x1024.Idx → EReal := fun i => total m c (i 0).val (i 1).val

theorem flushed5 (t : Fin (cfgM m hO).N) :
    (dats m hO 0 c).flushed 5 t = ((cfgM m hO).win 5).cut (grid0.coords t) (outsAt0 m hO c t).1 := by
  show ((cfgM m hO).win 5).cut (grid0.coords t) ((dats m hO 0 c).after 5 t) = _
  rw [after0_5]

/-- The result array after the run. -/
theorem final5 : (dats m hO 0 c).arrAt 5 (cfgM m hO).N = out5 m c := by
  have hN : (cfgM m hO).N = 1 := N_0
  refine (dats m hO 0 c).arrAt_eq_of_cover 5 (out5 m c) (fun t hf => ?_) fun (i : S128x1024.Idx) => ?_
  · rw [flushed5]
    have hi := congrFun (idx5 m hO t)
    refine funext fun (y : S128x1024.Idx) => ?_
    rw [View.read_apply]
    refine ((congrArg ((outsAt0 m hO c t).1) (eq_ix2 y)).trans (point5 m hO c t (y 0) (y 1))).trans (Eq.trans (b := out5 m c ((((cfgM m hO).win 5).blk t).view.emb y)) (congrArg₂ (total m c) ?_ ?_) (Eq.symm (cast_eq _ _)))
    · exact of_pos 128 (hi (0 : Fin 2)) (by simp <;> omega)
    · exact of_pos 1024 (hi (1 : Fin 2)) (by simp <;> omega)
  · have h0 : (i 0 : ℕ) < 128 := (i 0).isLt
    have h1 : (i 1 : ℕ) < 1024 := (i 1).isLt
    obtain ⟨t, ht⟩ : ∃ t : Fin (cfgM m hO).N, t.val = (i 0 : ℕ) / 128 :=
      ⟨⟨_, by rw [hN]; omega⟩, rfl⟩
    refine ⟨t, flush0_5 (adm m hO) t, ?_⟩
    have hi := congrFun (idx5 m hO t)
    refine mem_of (View.set_slice_whole main_v0_0 _) (Rect.mem_set_unit.2 fun a => ?_)
    match a with
    | ⟨0, _⟩ => exact in_block 128 (i 0) (hi (0 : Fin 2)) (by simp <;> omega)
    | ⟨1, _⟩ => exact in_block 1024 (i 1) (hi (1 : Fin 2)) (by simp <;> omega)

/-- What a point leaves in the buffer. -/
theorem point6 (t : Fin (cfgM m hO).N) (i : Fin 128) (j : Fin 1024) :
    (outsAt0 m hO c t).2.1 (ix2 i j) = delta m c (128 * t.val + i.val) j.val := by
  unfold outsAt0
  dsimp only
  unfold out0_A_6
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S128x1024) _ zeros2, View.ld_unit_zero (S := S1x128x1024) zeros3, View.ld_unit_zero (S := S128x1024) zeros2]
  refine delta_entry (k0_pay5 (sums m hO c t) (blk4 m hO c t)) (k0_pay6 (sums m hO c t) (blk3 m hO c t)) (blk2 m hO c t) (ix2 i j) _ _ _
    (second_entry (sums m hO c t) (blk4 m hO c t) (ix2 i j) _ _ (sums_entry m hO c t i j) (read4 m hO c t i j)) ?_ (read2 m hO c t i j)
  exact congrArg (fun e => Ideal.div e (Ideal.ofBits .f32 0x3F26BD02#32))
    (first_entry (sums m hO c t) (blk3 m hO c t) (ix2 i j) _ _ (sums_entry m hO c t i j) (read3 m hO c t i j))

/-- The result array. -/
def out6 : S128x1024.Idx → EReal := fun i => delta m c (i 0).val (i 1).val

theorem flushed6 (t : Fin (cfgM m hO).N) :
    (dats m hO 0 c).flushed 6 t = ((cfgM m hO).win 6).cut (grid0.coords t) (outsAt0 m hO c t).2.1 := by
  show ((cfgM m hO).win 6).cut (grid0.coords t) ((dats m hO 0 c).after 6 t) = _
  rw [after0_6]

/-- The result array after the run. -/
theorem final6 : (dats m hO 0 c).arrAt 6 (cfgM m hO).N = out6 m c := by
  have hN : (cfgM m hO).N = 1 := N_0
  refine (dats m hO 0 c).arrAt_eq_of_cover 6 (out6 m c) (fun t hf => ?_) fun (i : S128x1024.Idx) => ?_
  · rw [flushed6]
    have hi := congrFun (idx6 m hO t)
    refine funext fun (y : S128x1024.Idx) => ?_
    rw [View.read_apply]
    refine ((congrArg ((outsAt0 m hO c t).2.1) (eq_ix2 y)).trans (point6 m hO c t (y 0) (y 1))).trans (Eq.trans (b := out6 m c ((((cfgM m hO).win 6).blk t).view.emb y)) (congrArg₂ (delta m c) ?_ ?_) (Eq.symm (cast_eq _ _)))
    · exact of_pos 128 (hi (0 : Fin 2)) (by simp <;> omega)
    · exact of_pos 1024 (hi (1 : Fin 2)) (by simp <;> omega)
  · have h0 : (i 0 : ℕ) < 128 := (i 0).isLt
    have h1 : (i 1 : ℕ) < 1024 := (i 1).isLt
    obtain ⟨t, ht⟩ : ∃ t : Fin (cfgM m hO).N, t.val = (i 0 : ℕ) / 128 :=
      ⟨⟨_, by rw [hN]; omega⟩, rfl⟩
    refine ⟨t, flush0_6 (adm m hO) t, ?_⟩
    have hi := congrFun (idx6 m hO t)
    refine mem_of (View.set_slice_whole main_v0_1 _) (Rect.mem_set_unit.2 fun a => ?_)
    match a with
    | ⟨0, _⟩ => exact in_block 128 (i 0) (hi (0 : Fin 2)) (by simp <;> omega)
    | ⟨1, _⟩ => exact in_block 1024 (i 1) (hi (1 : Fin 2)) (by simp <;> omega)

/-- What a point leaves in the buffer. -/
theorem point7 (t : Fin (cfgM m hO).N) (i : Fin 128) (j : Fin 1024) :
    (outsAt0 m hO c t).2.2.1 (ix2 i j) = first m c (128 * t.val + i.val) j.val := by
  unfold outsAt0
  dsimp only
  unfold out0_A_7
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S128x1024) _ zeros2, View.ld_unit_zero (S := S1x128x1024) zeros3, View.ld_unit_zero (S := S128x1024) zeros2]
  exact first_entry (sums m hO c t) (blk3 m hO c t) (ix2 i j) _ _ (sums_entry m hO c t i j) (read3 m hO c t i j)

/-- The result array. -/
def out7 : S128x1024.Idx → EReal := fun i => first m c (i 0).val (i 1).val

theorem flushed7 (t : Fin (cfgM m hO).N) :
    (dats m hO 0 c).flushed 7 t = ((cfgM m hO).win 7).cut (grid0.coords t) (outsAt0 m hO c t).2.2.1 := by
  show ((cfgM m hO).win 7).cut (grid0.coords t) ((dats m hO 0 c).after 7 t) = _
  rw [after0_7]

/-- The result array after the run. -/
theorem final7 : (dats m hO 0 c).arrAt 7 (cfgM m hO).N = out7 m c := by
  have hN : (cfgM m hO).N = 1 := N_0
  refine (dats m hO 0 c).arrAt_eq_of_cover 7 (out7 m c) (fun t hf => ?_) fun (i : S128x1024.Idx) => ?_
  · rw [flushed7]
    have hi := congrFun (idx7 m hO t)
    refine funext fun (y : S128x1024.Idx) => ?_
    rw [View.read_apply]
    refine ((congrArg ((outsAt0 m hO c t).2.2.1) (eq_ix2 y)).trans (point7 m hO c t (y 0) (y 1))).trans (Eq.trans (b := out7 m c ((((cfgM m hO).win 7).blk t).view.emb y)) (congrArg₂ (first m c) ?_ ?_) (Eq.symm (cast_eq _ _)))
    · exact of_pos 128 (hi (0 : Fin 2)) (by simp <;> omega)
    · exact of_pos 1024 (hi (1 : Fin 2)) (by simp <;> omega)
  · have h0 : (i 0 : ℕ) < 128 := (i 0).isLt
    have h1 : (i 1 : ℕ) < 1024 := (i 1).isLt
    obtain ⟨t, ht⟩ : ∃ t : Fin (cfgM m hO).N, t.val = (i 0 : ℕ) / 128 :=
      ⟨⟨_, by rw [hN]; omega⟩, rfl⟩
    refine ⟨t, flush0_7 (adm m hO) t, ?_⟩
    have hi := congrFun (idx7 m hO t)
    refine mem_of (View.set_slice_whole main_v0_2 _) (Rect.mem_set_unit.2 fun a => ?_)
    match a with
    | ⟨0, _⟩ => exact in_block 128 (i 0) (hi (0 : Fin 2)) (by simp <;> omega)
    | ⟨1, _⟩ => exact in_block 1024 (i 1) (hi (1 : Fin 2)) (by simp <;> omega)

/-- What a point leaves in the buffer. -/
theorem point8 (t : Fin (cfgM m hO).N) (i : Fin 128) (j : Fin 1024) :
    (outsAt0 m hO c t).2.2.2 (ix2 i j) = second m c (128 * t.val + i.val) j.val := by
  unfold outsAt0
  dsimp only
  unfold out0_A_8
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S128x1024) _ zeros2, View.ld_unit_zero (S := S1x128x1024) zeros3, View.ld_unit_zero (S := S128x1024) zeros2]
  exact second_entry (sums m hO c t) (blk4 m hO c t) (ix2 i j) _ _ (sums_entry m hO c t i j) (read4 m hO c t i j)

/-- The result array. -/
def out8 : S128x1024.Idx → EReal := fun i => second m c (i 0).val (i 1).val

theorem flushed8 (t : Fin (cfgM m hO).N) :
    (dats m hO 0 c).flushed 8 t = ((cfgM m hO).win 8).cut (grid0.coords t) (outsAt0 m hO c t).2.2.2 := by
  show ((cfgM m hO).win 8).cut (grid0.coords t) ((dats m hO 0 c).after 8 t) = _
  rw [after0_8]

/-- The result array after the run. -/
theorem final8 : (dats m hO 0 c).arrAt 8 (cfgM m hO).N = out8 m c := by
  have hN : (cfgM m hO).N = 1 := N_0
  refine (dats m hO 0 c).arrAt_eq_of_cover 8 (out8 m c) (fun t hf => ?_) fun (i : S128x1024.Idx) => ?_
  · rw [flushed8]
    have hi := congrFun (idx8 m hO t)
    refine funext fun (y : S128x1024.Idx) => ?_
    rw [View.read_apply]
    refine ((congrArg ((outsAt0 m hO c t).2.2.2) (eq_ix2 y)).trans (point8 m hO c t (y 0) (y 1))).trans (Eq.trans (b := out8 m c ((((cfgM m hO).win 8).blk t).view.emb y)) (congrArg₂ (second m c) ?_ ?_) (Eq.symm (cast_eq _ _)))
    · exact of_pos 128 (hi (0 : Fin 2)) (by simp <;> omega)
    · exact of_pos 1024 (hi (1 : Fin 2)) (by simp <;> omega)
  · have h0 : (i 0 : ℕ) < 128 := (i 0).isLt
    have h1 : (i 1 : ℕ) < 1024 := (i 1).isLt
    obtain ⟨t, ht⟩ : ∃ t : Fin (cfgM m hO).N, t.val = (i 0 : ℕ) / 128 :=
      ⟨⟨_, by rw [hN]; omega⟩, rfl⟩
    refine ⟨t, flush0_8 (adm m hO) t, ?_⟩
    have hi := congrFun (idx8 m hO t)
    refine mem_of (View.set_slice_whole main_v0_3 _) (Rect.mem_set_unit.2 fun a => ?_)
    match a with
    | ⟨0, _⟩ => exact in_block 128 (i 0) (hi (0 : Fin 2)) (by simp <;> omega)
    | ⟨1, _⟩ => exact in_block 1024 (i 1) (hi (1 : Fin 2)) (by simp <;> omega)

include hO in
/-- The run leaves the results, and changes no argument. -/
theorem run_results (ρ : Dev nD → PrngReg) : θ_run defs (onTc (τ := τ) (main (F := Ideal))) ⟨m, fun _ => 0, ρ⟩ fun r => ∀ c : Dev nD,
      r.2.mem ((c : Thread nD τ).loc main_v0_0) = out5 m c
      ∧ r.2.mem ((c : Thread nD τ).loc main_v0_1) = out6 m c
      ∧ r.2.mem ((c : Thread nD τ).loc main_v0_2) = out7 m c
      ∧ r.2.mem ((c : Thread nD τ).loc main_v0_3) = out8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m hO c),
      ((h c).1 6).trans (final6 m hO c),
      ((h c).1 7).trans (final7 m hO c),
      ((h c).1 8).trans (final8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end Cert.Kernel33Ideal.Chip
end
-- ==== Proof.Chip.Pick.lean ====
/-
  A sum over the four chips that keeps one of them.
-/
module

public import proofs.«01_k».proof.Defs

@[expose] public section

noncomputable section

namespace Cert.Chip

open Idealize.ShloMosaic

/-- Of four terms, each kept where its place is the chip's number and zero elsewhere, the sum is the chip's term. -/
theorem pick (g : ℕ → EReal) (C : BitVec 32) (k : ℕ) (hk : k ≤ 3) (hC : C.toNat = k) (z : EReal) (hz : z = 0) :
    Scalar.select (IntOp.cmpi CmpIPredicate.eq (BitVec.ofNat 32 0) C) (g 0) z
      + Scalar.select (IntOp.cmpi CmpIPredicate.eq (BitVec.ofNat 32 1) C) (g 1) z
      + Scalar.select (IntOp.cmpi CmpIPredicate.eq (BitVec.ofNat 32 2) C) (g 2) z
      + Scalar.select (IntOp.cmpi CmpIPredicate.eq (BitVec.ofNat 32 3) C) (g 3) z = g k := by
  have e : C = BitVec.ofNat 32 k := by rw [← hC]; exact (BitVec.ofNat_toNat 32 C).symm.trans rfl |>.symm ▸ by simp
  subst hz
  rw [e]
  interval_cases k <;> simp [Scalar.select, IntOp.cmpi]

end Cert.Chip
end
-- ==== Proof.Chip.OutClaim.lean ====
/-
  The sum over the chips of the gradient of one square weight: the program and the reference leave the same results.
-/
module

public import proofs.«01_k».proof.Proof.Chip.Out
public import proofs.«01_k».proof.Proof.Chip.Pick
public import proofs.«01_k».proof.Proof.Gen.Reference33Ideal.Read

@[expose] public section

noncomputable section

namespace Cert.Chip.Out

open Idealize.ShloMosaic Idealize.ShloMosaic.TcCoe Idealize.SL.Sem
open Cert.Product Cert.Kernel33Ideal Cert.Kernel33Ideal.Chip Cert.Reference33Ideal.Read Cert.Chip

attribute [local instance] Cert.Kernel33Ideal.Gen.facts Cert.Reference33Ideal.Gen.facts Cert.Pre_chip_named33.Gen.facts

/-- The reference changes no argument, and declares no semaphore. -/
theorem frame : Cert.quiescent_Reference33Ideal := fun m ρ _ =>
  (θ_run Cert.Reference33Ideal.defs _ _).mono
    (fun r h => ⟨fun c => (h c).2.2.2.2, sem_eq_zero_of_no_sems (by decide) r.2⟩) (Cert.Reference33Ideal.Value.run m ρ)

/-- The three received gradients, summed by the reference. -/
theorem plain_rest (Y : S3x128x1024.Idx → EReal) (i : Fin 128) (j : Fin 1024) :
    val_main_v8 (F := Ideal) Y (ix2 i j) = at3 3 128 1024 Y 0 i.val j.val + at3 3 128 1024 Y 1 i.val j.val
      + at3 3 128 1024 Y 2 i.val j.val := by
  have hY : ∀ q : Fin 3, Y (ix3 q i j) = at3 3 128 1024 Y q.val i.val j.val := fun q => at3_val 3 128 1024 Y _ _ _ _ rfl rfl rfl
  unfold val_main_v8 val_main_v7 val_main_cst_1
  pointwise
  simp only [hY, Fin.sum_univ_three]
  rfl

/-- The chip's own gradients, kept by the reference. -/
theorem plain_own (X : S4x128x1024.Idx → EReal) (C : S1.Idx → BitVec 32) (k : ℕ) (hk : k ≤ 3) (hC : ∀ i, (C i).toNat = k)
    (i : Fin 128) (j : Fin 1024) : val_main_v6 (F := Ideal) X C (ix2 i j) = at3 4 128 1024 X k i.val j.val := by
  have hX : ∀ q : Fin 4, X (ix3 q i j) = at3 4 128 1024 X q.val i.val j.val := fun q => at3_val 4 128 1024 X _ _ _ _ rfl rfl rfl
  unfold val_main_v6 val_main_v5 val_main_call0_v2 val_main_call0_v1 val_main_call0_v0 val_main_cst val_main_v4 val_main_v3
    val_main_v2 val_main_v1 val_main_v0 val_main_cst_0
  pointwise
  simp only [hX, Fin.sum_univ_four]
  exact pick (fun q => at3 4 128 1024 X q i.val j.val) (C (ix1 0)) k hk (hC _) (Ideal.ofBits .f32 0x00000000#32)
    (by simp [Ideal.ofBits, Ideal.ieee])

variable (m : (ℓ : Loc nD τ sig) → Buf (Elt Ideal) ℓ) (h : Cert.Pre_Kernel33Ideal m) (c : Dev nD)
include h

/-- The reference's sum is the program's. -/
theorem plain_total (i : S128x1024.Idx) : val_main_v9 (F := Ideal) (argO m c) (argR m c) (argC m c) i = total m c (i 0).val (i 1).val := by
  have hk : chip m c ≤ 3 := (chip_eq m c (ix1 0)).symm ▸ word m h c (ix1 0)
  have e : val_main_v9 (F := Ideal) (argO m c) (argR m c) (argC m c) i
      = val_main_v6 (F := Ideal) (argO m c) (argC m c) (ix2 (i 0) (i 1)) + val_main_v8 (F := Ideal) (argR m c) (ix2 (i 0) (i 1)) := by
    rw [← eq_ix2 i]
    rfl
  rw [e, plain_own (argO m c) (argC m c) (chip m c) hk (chip_eq m c) (i 0) (i 1), plain_rest (argR m c) (i 0) (i 1)]
  unfold total
  simp only [add_assoc]

/-- The reference's first moment is the program's. -/
theorem plain_first (i : S128x1024.Idx) : val_main_v14 (F := Ideal) (argO m c) (argR m c) (argC m c) (argM m c) i = first m c (i 0).val (i 1).val := by
  show Ideal.ofBits .f32 0x3F666666#32 * argM m c i
    + Ideal.ofBits .f32 0x3DCCCCCD#32 * val_main_v9 (F := Ideal) (argO m c) (argR m c) (argC m c) i = _
  rw [plain_total m h c i, at2_val 128 1024 (argM m c) i (i 0).val (i 1).val rfl rfl]
  rfl

/-- The reference's second moment is the program's. -/
theorem plain_second (i : S128x1024.Idx) : val_main_v20 (F := Ideal) (argO m c) (argR m c) (argC m c) (argV m c) i = second m c (i 0).val (i 1).val := by
  show Ideal.ofBits .f32 0x3F7FBE77#32 * argV m c i
    + Ideal.ofBits .f32 0x3A83126F#32 * (val_main_v9 (F := Ideal) (argO m c) (argR m c) (argC m c) i
      * val_main_v9 (F := Ideal) (argO m c) (argR m c) (argC m c) i) = _
  rw [plain_total m h c i, at2_val 128 1024 (argV m c) i (i 0).val (i 1).val rfl rfl]
  rfl

/-- The reference's step of the weight is the program's. -/
theorem plain_delta (i : S128x1024.Idx) :
    val_main_v33 (F := Ideal) (argO m c) (argR m c) (argC m c) (argW m c) (argM m c) (argV m c) i = delta m c (i 0).val (i 1).val := by
  show Ideal.ofBits .f32 0xBA83126F#32
    * (Ideal.div (Ideal.div (val_main_v14 (F := Ideal) (argO m c) (argR m c) (argC m c) (argM m c) i) (Ideal.ofBits .f32 0x3F26BD02#32))
        (Ideal.sqrt (Ideal.div (val_main_v20 (F := Ideal) (argO m c) (argR m c) (argC m c) (argV m c) i) (Ideal.ofBits .f32 0x3C231ACC#32))
          + Ideal.ofBits .f32 0x322BCC77#32)
      + Ideal.ofBits .f32 0x3C23D70A#32 * argW m c i) = _
  rw [plain_first m h c i, plain_second m h c i, at2_val 128 1024 (argW m c) i (i 0).val (i 1).val rfl rfl]
  rfl

omit h in
/-- The two programs leave the same results. -/
theorem algebraic : Cert.algebraic_Kernel33Ideal_Reference33Ideal := by
  intro m g m' g' h hargs
  refine ⟨fun c => out5 m c, fun c => out6 m c, fun c => out7 m c, fun c => out8 m c, ?_, ?_⟩
  · exact run_results m (ok_of_pre m h) g
  · refine (θ_run Cert.Reference33Ideal.defs _ _).mono
      (fun r h' c => ⟨(h' c).1.trans ?_, (h' c).2.1.trans ?_, (h' c).2.2.1.trans ?_, (h' c).2.2.2.1.trans ?_, (h' c).2.2.2.2⟩)
      (Cert.Reference33Ideal.Value.run m' g')
    · refine (val_main_v9_eq _ _ _).trans ?_
      rw [(hargs c).1, (hargs c).2.1, (hargs c).2.2.1]
      exact funext fun (i : S128x1024.Idx) => plain_total m h c i
    · refine (val_main_v33_eq _ _ _ _ _ _).trans ?_
      rw [(hargs c).1, (hargs c).2.1, (hargs c).2.2.1, (hargs c).2.2.2.1, (hargs c).2.2.2.2.1, (hargs c).2.2.2.2.2]
      exact funext fun (i : S128x1024.Idx) => plain_delta m h c i
    · refine (val_main_v14_eq _ _ _ _).trans ?_
      rw [(hargs c).1, (hargs c).2.1, (hargs c).2.2.1, (hargs c).2.2.2.2.1]
      exact funext fun (i : S128x1024.Idx) => plain_first m h c i
    · refine (val_main_v20_eq _ _ _ _).trans ?_
      rw [(hargs c).1, (hargs c).2.1, (hargs c).2.2.1, (hargs c).2.2.2.2.2]
      exact funext fun (i : S128x1024.Idx) => plain_second m h c i

end Cert.Chip.Out
end
-- ==== Proof.Chip.DownPre.lean ====
/-
  The precondition of the sum over the chips of the weight of the feed-forward going down: the block that the first window reads lies in its array.
-/
module

public import proofs.«01_k».proof.Defs
public import proofs.«01_k».proof.Proof.Chip.Word
public import proofs.«01_k».proof.Proof.Gen.Pre_chip_named34
public import proofs.«01_k».proof.Proof.Gen.Kernel34.Frame
public import proofs.«01_k».proof.Proof.Gen.Kernel34Ideal.Frame

@[expose] public section

namespace Cert.Kernel34.Chip

open Cert.Kernel34 Cert.Kernel34.Gen Idealize.ShloMosaic Idealize.ShloMosaic.TcCoe

variable (m : (ℓ : Loc nD τ sig) → Buf (Elt Bits) ℓ)

/-- The chip named is one of the four. -/
theorem word (h : Cert.Pre_Kernel34 m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 2 := by decide +kernel

/-- The block read lies in the array. -/
theorem ok_of_pre (h : Cert.Pre_Kernel34 m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 176 ≤ 352
    omega
  | ⟨2, _⟩ =>
    show (0 + 1) * 1024 ≤ 1024
    omega

end Cert.Kernel34.Chip

namespace Cert.Kernel34Ideal.Chip

open Cert.Kernel34Ideal Cert.Kernel34Ideal.Gen Idealize.ShloMosaic Idealize.ShloMosaic.TcCoe

variable (m : (ℓ : Loc nD τ sig) → Buf (Elt Ideal) ℓ)

/-- The chip named is one of the four. -/
theorem word (h : Cert.Pre_Kernel34Ideal m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 2 := by decide +kernel

/-- The block read lies in the array. -/
theorem ok_of_pre (h : Cert.Pre_Kernel34Ideal m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 176 ≤ 352
    omega
  | ⟨2, _⟩ =>
    show (0 + 1) * 1024 ≤ 1024
    omega

end Cert.Kernel34Ideal.Chip
end
-- ==== Proof.Chip.Down.lean ====
/-
  The sum over the chips of the gradient of the weight of the feed-forward going down, and its step of the optimiser: one step for each block of 176 rows.
-/
module

public import proofs.«01_k».proof.Defs
public import proofs.«01_k».proof.Proof.Product.Entries
public import proofs.«01_k».proof.Proof.Chip.DownPre
public import proofs.«01_k».proof.Proof.Gen.Kernel34Ideal.Frame
public import Idealize.ShloMosaic.Lib.Pipeline.Value

@[expose] public section

set_option backward.isDefEq.respectTransparency.types false

noncomputable section

namespace Cert.Kernel34Ideal.Chip

open Cert.Kernel34Ideal Cert.Kernel34Ideal.Gen Cert.Product Idealize.ShloMosaic Idealize.ShloMosaic.TcCoe Idealize.SL.Sem

variable (m : (ℓ : Loc nD τ sig) → Buf (Elt Ideal) ℓ) (hO : Ok m) (c : Dev nD)

/-- The arguments of a device. -/
abbrev argO : S4x352x1024.Idx → EReal := m ((c.tc : Thread nD τ).loc main_arg0)
abbrev argR : S3x352x1024.Idx → EReal := m ((c.tc : Thread nD τ).loc main_arg1)
abbrev argC : S1.Idx → BitVec 32 := m ((c.tc : Thread nD τ).loc main_arg2)
abbrev argW : S352x1024.Idx → EReal := m ((c.tc : Thread nD τ).loc main_arg3)
abbrev argM : S352x1024.Idx → EReal := m ((c.tc : Thread nD τ).loc main_arg4)
abbrev argV : S352x1024.Idx → EReal := m ((c.tc : Thread nD τ).loc main_arg5)

/-- The chip named. -/
def chip : ℕ := (argC m c (ix1 (0 : Fin 1))).toNat

/-- The table has one word. -/
theorem chip_eq (i : S1.Idx) : (argC m c i).toNat = chip m c := by
  unfold chip
  refine congrArg (fun j => (argC m c j).toNat) (funext fun a => ?_)
  match a with
  | ⟨0, _⟩ => exact Subsingleton.elim (α := Fin 1) _ _

/-- The block of each window at a point. -/
theorem idx0 (t : Fin (cfgM m hO).N) : ((cfgM m hO).win 0).index t = ![chip m c, t.val, 0] := by
  have hr := (by decide +kernel : ∀ t : Fin grid0.N, (BitVec.ofNat 32 (grid0.coords t 0).val).toNat = t.val) t
  obtain rfl : c = 0 := Subsingleton.elim _ _
  show cc0_transform_0 _ _ (tbl m) (grid0.coords t) = _
  unfold cc0_transform_0
  funext a
  match a with
  | ⟨0, _⟩ => exact chip_eq m 0 _
  | ⟨1, _⟩ => exact hr
  | ⟨2, _⟩ => rfl
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![t.val, 0] :=
  (by decide +kernel : ∀ t : Fin grid0.N, cc0_transform_2 (grid0.coords t) = ![t.val, 0]) t
theorem idx3 (t : Fin (cfgM m hO).N) : ((cfgM m hO).win 3).index t = ![t.val, 0] :=
  (by decide +kernel : ∀ t : Fin grid0.N, cc0_transform_3 (grid0.coords t) = ![t.val, 0]) t
theorem idx4 (t : Fin (cfgM m hO).N) : ((cfgM m hO).win 4).index t = ![t.val, 0] :=
  (by decide +kernel : ∀ t : Fin grid0.N, cc0_transform_4 (grid0.coords t) = ![t.val, 0]) t
theorem idx5 (t : Fin (cfgM m hO).N) : ((cfgM m hO).win 5).index t = ![t.val, 0] :=
  (by decide +kernel : ∀ t : Fin grid0.N, cc0_transform_5 (grid0.coords t) = ![t.val, 0]) t
theorem idx6 (t : Fin (cfgM m hO).N) : ((cfgM m hO).win 6).index t = ![t.val, 0] :=
  (by decide +kernel : ∀ t : Fin grid0.N, cc0_transform_6 (grid0.coords t) = ![t.val, 0]) t
theorem idx7 (t : Fin (cfgM m hO).N) : ((cfgM m hO).win 7).index t = ![t.val, 0] :=
  (by decide +kernel : ∀ t : Fin grid0.N, cc0_transform_7 (grid0.coords t) = ![t.val, 0]) t
theorem idx8 (t : Fin (cfgM m hO).N) : ((cfgM m hO).win 8).index t = ![t.val, 0] :=
  (by decide +kernel : ∀ t : Fin grid0.N, cc0_transform_8 (grid0.coords t) = ![t.val, 0]) t

/-- The block of the window at a point. -/
abbrev blk0 (t : Fin (cfgM m hO).N) : Vec Ideal S1x176x1024 .bf16 := iblk m hO c 0 t

theorem read0 (t : Fin (cfgM m hO).N) (i : Fin 1) (j : Fin 176) (k : Fin 1024) :
    blk0 m hO c t (ix3 i j k) = at3 4 352 1024 (argO m c) (chip m c) (176 * t.val + j.val) k.val := by
  have hi := congrFun (idx0 m hO c t)
  unfold blk0 iblk
  rw [View.read_apply]
  refine at3_val 4 352 1024 (argO m c) _ _ _ _ ?_ ?_ ?_
  · exact pos_of 1 (hi (0 : Fin 3)) (by simp <;> omega)
  · exact pos_of 176 (hi (1 : Fin 3)) (by simp <;> omega)
  · exact pos_of 1024 (hi (2 : Fin 3)) (by simp <;> omega)

/-- The block of the window at a point. -/
abbrev blk1 (t : Fin (cfgM m hO).N) : Vec Ideal S3x176x1024 .bf16 := iblk m hO c 1 t

theorem read1 (t : Fin (cfgM m hO).N) (i : Fin 3) (j : Fin 176) (k : Fin 1024) :
    blk1 m hO c t (ix3 i j k) = at3 3 352 1024 (argR m c) i.val (176 * t.val + j.val) k.val := by
  have hi := congrFun (idx1 m hO t)
  unfold blk1 iblk
  rw [View.read_apply]
  refine at3_val 3 352 1024 (argR m c) _ _ _ _ ?_ ?_ ?_
  · exact pos_of 3 (hi (0 : Fin 3)) (by simp <;> omega)
  · exact pos_of 176 (hi (1 : Fin 3)) (by simp <;> omega)
  · exact pos_of 1024 (hi (2 : Fin 3)) (by simp <;> omega)

/-- The block of the window at a point. -/
abbrev blk2 (t : Fin (cfgM m hO).N) : Vec Ideal S176x1024 .f32 := iblk m hO c 2 t

theorem read2 (t : Fin (cfgM m hO).N) (i : Fin 176) (j : Fin 1024) :
    blk2 m hO c t (ix2 i j) = at2 352 1024 (argW m c) (176 * t.val + i.val) j.val := by
  have hi := congrFun (idx2 m hO t)
  unfold blk2 iblk
  rw [View.read_apply]
  refine at2_val 352 1024 (argW m c) _ _ _ ?_ ?_
  · exact pos_of 176 (hi (0 : Fin 2)) (by simp <;> omega)
  · exact pos_of 1024 (hi (1 : Fin 2)) (by simp <;> omega)

/-- The block of the window at a point. -/
abbrev blk3 (t : Fin (cfgM m hO).N) : Vec Ideal S176x1024 .f32 := iblk m hO c 3 t

theorem read3 (t : Fin (cfgM m hO).N) (i : Fin 176) (j : Fin 1024) :
    blk3 m hO c t (ix2 i j) = at2 352 1024 (argM m c) (176 * t.val + i.val) j.val := by
  have hi := congrFun (idx3 m hO t)
  unfold blk3 iblk
  rw [View.read_apply]
  refine at2_val 352 1024 (argM m c) _ _ _ ?_ ?_
  · exact pos_of 176 (hi (0 : Fin 2)) (by simp <;> omega)
  · exact pos_of 1024 (hi (1 : Fin 2)) (by simp <;> omega)

/-- The block of the window at a point. -/
abbrev blk4 (t : Fin (cfgM m hO).N) : Vec Ideal S176x1024 .f32 := iblk m hO c 4 t

theorem read4 (t : Fin (cfgM m hO).N) (i : Fin 176) (j : Fin 1024) :
    blk4 m hO c t (ix2 i j) = at2 352 1024 (argV m c) (176 * t.val + i.val) j.val := by
  have hi := congrFun (idx4 m hO t)
  unfold blk4 iblk
  rw [View.read_apply]
  refine at2_val 352 1024 (argV m c) _ _ _ ?_ ?_
  · exact pos_of 176 (hi (0 : Fin 2)) (by simp <;> omega)
  · exact pos_of 1024 (hi (1 : Fin 2)) (by simp <;> omega)

/-- An entry of the sum. -/
def total (a b : ℕ) : EReal :=
  at3 4 352 1024 (argO m c) (chip m c) a b + at3 3 352 1024 (argR m c) 0 a b + at3 3 352 1024 (argR m c) 1 a b
    + at3 3 352 1024 (argR m c) 2 a b

/-- An entry of the first moment after the step. -/
def first (a b : ℕ) : EReal :=
  Ideal.ofBits .f32 0x3F666666#32 * at2 352 1024 (argM m c) a b + Ideal.ofBits .f32 0x3DCCCCCD#32 * total m c a b

/-- An entry of the second moment after the step. -/
def second (a b : ℕ) : EReal :=
  Ideal.ofBits .f32 0x3F7FBE77#32 * at2 352 1024 (argV m c) a b + Ideal.ofBits .f32 0x3A83126F#32 * (total m c a b * total m c a b)

/-- An entry of the step of the weight. -/
def delta (a b : ℕ) : EReal :=
  Ideal.ofBits .f32 0xBA83126F#32
    * (Ideal.div (Ideal.div (first m c a b) (Ideal.ofBits .f32 0x3F26BD02#32))
        (Ideal.sqrt (Ideal.div (second m c a b) (Ideal.ofBits .f32 0x3C231ACC#32)) + Ideal.ofBits .f32 0x322BCC77#32)
      + Ideal.ofBits .f32 0x3C23D70A#32 * at2 352 1024 (argW m c) a b)

theorem sum_entry (x y z w : Vec Ideal S1x176x1024 .bf16) (i : Fin 176) (j : Fin 1024) (a b p q : EReal)
    (hx : x (ix3 0 i j) = a) (hy : y (ix3 0 i j) = b) (hz : z (ix3 0 i j) = p) (hw : w (ix3 0 i j) = q) :
    k0_pay2 x y z w (ix2 i j) = a + b + p + q := by
  unfold k0_pay2
  pointwise
  simp only [hx, hy, hz, hw]
  try rfl

/-- The block summed. -/
abbrev sums (t : Fin (cfgM m hO).N) : Vec Ideal S176x1024 .f32 :=
  k0_pay2 (blk0 m hO c t)
    (View.ld (blk1 m hO c t) (Rect.unit (s := S3x176x1024) ![0, 0, 0] S1x176x1024.size inb_S3x176x1024_S1x176x1024_0_0_0))
    (View.ld (blk1 m hO c t) (Rect.unit (s := S3x176x1024) ![1, 0, 0] S1x176x1024.size inb_S3x176x1024_S1x176x1024_1_0_0))
    (View.ld (blk1 m hO c t) (Rect.unit (s := S3x176x1024) ![2, 0, 0] S1x176x1024.size inb_S3x176x1024_S1x176x1024_2_0_0))

theorem sums_entry (t : Fin (cfgM m hO).N) (i : Fin 176) (j : Fin 1024) :
    sums m hO c t (ix2 i j) = total m c (176 * t.val + i.val) j.val :=
  sum_entry _ _ _ _ i j _ _ _ _ (read0 m hO c t 0 i j) ((ld_slot _ 0 _ i j).trans (read1 m hO c t 0 i j)) ((ld_slot _ 1 _ i j).trans (read1 m hO c t 1 i j)) ((ld_slot _ 2 _ i j).trans (read1 m hO c t 2 i j))

theorem first_entry (x y : Vec Ideal S176x1024 .f32) (i : S176x1024.Idx) (a b : EReal) (hx : x i = a) (hy : y i = b) :
    k0_pay4 x y i = Ideal.ofBits .f32 0x3F666666#32 * b + Ideal.ofBits .f32 0x3DCCCCCD#32 * a := by
  unfold k0_pay4 k0_pay3
  rw [shapeCast_self]
  show Ideal.ofBits .f32 0x3F666666#32 * y i + Ideal.ofBits .f32 0x3DCCCCCD#32 * x i = _
  rw [hx, hy]

theorem second_entry (x y : Vec Ideal S176x1024 .f32) (i : S176x1024.Idx) (a b : EReal) (hx : x i = a) (hy : y i = b) :
    k0_pay5 x y i = Ideal.ofBits .f32 0x3F7FBE77#32 * b + Ideal.ofBits .f32 0x3A83126F#32 * (a * a) := by
  unfold k0_pay5 k0_pay3
  rw [shapeCast_self]
  show Ideal.ofBits .f32 0x3F7FBE77#32 * y i + Ideal.ofBits .f32 0x3A83126F#32 * (x i * x i) = _
  rw [hx, hy]

theorem delta_entry (p q w : Vec Ideal S176x1024 .f32) (i : S176x1024.Idx) (a b d : EReal) (hp : p i = a) (hq : q i = b) (hw : w i = d) :
    k0_pay1 p q w i = Ideal.ofBits .f32 0xBA83126F#32
      * (Ideal.div b (Ideal.sqrt (Ideal.div a (Ideal.ofBits .f32 0x3C231ACC#32)) + Ideal.ofBits .f32 0x322BCC77#32)
        + Ideal.ofBits .f32 0x3C23D70A#32 * d) := by
  unfold k0_pay1
  show Ideal.ofBits .f32 0xBA83126F#32
      * (Ideal.div (q i) (Ideal.sqrt (Ideal.div (p i) (Ideal.ofBits .f32 0x3C231ACC#32)) + Ideal.ofBits .f32 0x322BCC77#32)
        + Ideal.ofBits .f32 0x3C23D70A#32 * w i) = _
  rw [hp, hq, hw]

/-- What a point leaves in the buffer. -/
theorem point5 (t : Fin (cfgM m hO).N) (i : Fin 176) (j : Fin 1024) :
    (outsAt0 m hO c t).1 (ix2 i j) = total m c (176 * t.val + i.val) j.val := by
  unfold outsAt0
  dsimp only
  unfold out0_A_5
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.ld_unit_zero (S := S1x176x1024) zeros3, View.ld_unit_zero (S := S176x1024) zeros2]
  exact sums_entry m hO c t i j

/-- The result array. -/
def out5 : S352x1024.Idx → EReal := fun i => total m c (i 0).val (i 1).val

theorem flushed5 (t : Fin (cfgM m hO).N) :
    (dats m hO 0 c).flushed 5 t = ((cfgM m hO).win 5).cut (grid0.coords t) (outsAt0 m hO c t).1 := by
  show ((cfgM m hO).win 5).cut (grid0.coords t) ((dats m hO 0 c).after 5 t) = _
  rw [after0_5]

/-- The result array after the run. -/
theorem final5 : (dats m hO 0 c).arrAt 5 (cfgM m hO).N = out5 m c := by
  have hN : (cfgM m hO).N = 2 := N_0
  refine (dats m hO 0 c).arrAt_eq_of_cover 5 (out5 m c) (fun t hf => ?_) fun (i : S352x1024.Idx) => ?_
  · rw [flushed5]
    have hi := congrFun (idx5 m hO t)
    refine funext fun (y : S176x1024.Idx) => ?_
    rw [View.read_apply]
    refine ((congrArg ((outsAt0 m hO c t).1) (eq_ix2 y)).trans (point5 m hO c t (y 0) (y 1))).trans (Eq.trans (b := out5 m c ((((cfgM m hO).win 5).blk t).view.emb y)) (congrArg₂ (total m c) ?_ ?_) (Eq.symm (cast_eq _ _)))
    · exact of_pos 176 (hi (0 : Fin 2)) (by simp <;> omega)
    · exact of_pos 1024 (hi (1 : Fin 2)) (by simp <;> omega)
  · have h0 : (i 0 : ℕ) < 352 := (i 0).isLt
    have h1 : (i 1 : ℕ) < 1024 := (i 1).isLt
    obtain ⟨t, ht⟩ : ∃ t : Fin (cfgM m hO).N, t.val = (i 0 : ℕ) / 176 :=
      ⟨⟨_, by rw [hN]; omega⟩, rfl⟩
    refine ⟨t, flush0_5 (adm m hO) t, ?_⟩
    have hi := congrFun (idx5 m hO t)
    refine mem_of (View.set_slice_whole main_v0_0 _) (Rect.mem_set_unit.2 fun a => ?_)
    match a with
    | ⟨0, _⟩ => exact in_block 176 (i 0) (hi (0 : Fin 2)) (by simp <;> omega)
    | ⟨1, _⟩ => exact in_block 1024 (i 1) (hi (1 : Fin 2)) (by simp <;> omega)

/-- What a point leaves in the buffer. -/
theorem point6 (t : Fin (cfgM m hO).N) (i : Fin 176) (j : Fin 1024) :
    (outsAt0 m hO c t).2.1 (ix2 i j) = delta m c (176 * t.val + i.val) j.val := by
  unfold outsAt0
  dsimp only
  unfold out0_A_6
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S176x1024) _ zeros2, View.ld_unit_zero (S := S1x176x1024) zeros3, View.ld_unit_zero (S := S176x1024) zeros2]
  refine delta_entry (k0_pay5 (sums m hO c t) (blk4 m hO c t)) (k0_pay6 (sums m hO c t) (blk3 m hO c t)) (blk2 m hO c t) (ix2 i j) _ _ _
    (second_entry (sums m hO c t) (blk4 m hO c t) (ix2 i j) _ _ (sums_entry m hO c t i j) (read4 m hO c t i j)) ?_ (read2 m hO c t i j)
  exact congrArg (fun e => Ideal.div e (Ideal.ofBits .f32 0x3F26BD02#32))
    (first_entry (sums m hO c t) (blk3 m hO c t) (ix2 i j) _ _ (sums_entry m hO c t i j) (read3 m hO c t i j))

/-- The result array. -/
def out6 : S352x1024.Idx → EReal := fun i => delta m c (i 0).val (i 1).val

theorem flushed6 (t : Fin (cfgM m hO).N) :
    (dats m hO 0 c).flushed 6 t = ((cfgM m hO).win 6).cut (grid0.coords t) (outsAt0 m hO c t).2.1 := by
  show ((cfgM m hO).win 6).cut (grid0.coords t) ((dats m hO 0 c).after 6 t) = _
  rw [after0_6]

/-- The result array after the run. -/
theorem final6 : (dats m hO 0 c).arrAt 6 (cfgM m hO).N = out6 m c := by
  have hN : (cfgM m hO).N = 2 := N_0
  refine (dats m hO 0 c).arrAt_eq_of_cover 6 (out6 m c) (fun t hf => ?_) fun (i : S352x1024.Idx) => ?_
  · rw [flushed6]
    have hi := congrFun (idx6 m hO t)
    refine funext fun (y : S176x1024.Idx) => ?_
    rw [View.read_apply]
    refine ((congrArg ((outsAt0 m hO c t).2.1) (eq_ix2 y)).trans (point6 m hO c t (y 0) (y 1))).trans (Eq.trans (b := out6 m c ((((cfgM m hO).win 6).blk t).view.emb y)) (congrArg₂ (delta m c) ?_ ?_) (Eq.symm (cast_eq _ _)))
    · exact of_pos 176 (hi (0 : Fin 2)) (by simp <;> omega)
    · exact of_pos 1024 (hi (1 : Fin 2)) (by simp <;> omega)
  · have h0 : (i 0 : ℕ) < 352 := (i 0).isLt
    have h1 : (i 1 : ℕ) < 1024 := (i 1).isLt
    obtain ⟨t, ht⟩ : ∃ t : Fin (cfgM m hO).N, t.val = (i 0 : ℕ) / 176 :=
      ⟨⟨_, by rw [hN]; omega⟩, rfl⟩
    refine ⟨t, flush0_6 (adm m hO) t, ?_⟩
    have hi := congrFun (idx6 m hO t)
    refine mem_of (View.set_slice_whole main_v0_1 _) (Rect.mem_set_unit.2 fun a => ?_)
    match a with
    | ⟨0, _⟩ => exact in_block 176 (i 0) (hi (0 : Fin 2)) (by simp <;> omega)
    | ⟨1, _⟩ => exact in_block 1024 (i 1) (hi (1 : Fin 2)) (by simp <;> omega)

/-- What a point leaves in the buffer. -/
theorem point7 (t : Fin (cfgM m hO).N) (i : Fin 176) (j : Fin 1024) :
    (outsAt0 m hO c t).2.2.1 (ix2 i j) = first m c (176 * t.val + i.val) j.val := by
  unfold outsAt0
  dsimp only
  unfold out0_A_7
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S176x1024) _ zeros2, View.ld_unit_zero (S := S1x176x1024) zeros3, View.ld_unit_zero (S := S176x1024) zeros2]
  exact first_entry (sums m hO c t) (blk3 m hO c t) (ix2 i j) _ _ (sums_entry m hO c t i j) (read3 m hO c t i j)

/-- The result array. -/
def out7 : S352x1024.Idx → EReal := fun i => first m c (i 0).val (i 1).val

theorem flushed7 (t : Fin (cfgM m hO).N) :
    (dats m hO 0 c).flushed 7 t = ((cfgM m hO).win 7).cut (grid0.coords t) (outsAt0 m hO c t).2.2.1 := by
  show ((cfgM m hO).win 7).cut (grid0.coords t) ((dats m hO 0 c).after 7 t) = _
  rw [after0_7]

/-- The result array after the run. -/
theorem final7 : (dats m hO 0 c).arrAt 7 (cfgM m hO).N = out7 m c := by
  have hN : (cfgM m hO).N = 2 := N_0
  refine (dats m hO 0 c).arrAt_eq_of_cover 7 (out7 m c) (fun t hf => ?_) fun (i : S352x1024.Idx) => ?_
  · rw [flushed7]
    have hi := congrFun (idx7 m hO t)
    refine funext fun (y : S176x1024.Idx) => ?_
    rw [View.read_apply]
    refine ((congrArg ((outsAt0 m hO c t).2.2.1) (eq_ix2 y)).trans (point7 m hO c t (y 0) (y 1))).trans (Eq.trans (b := out7 m c ((((cfgM m hO).win 7).blk t).view.emb y)) (congrArg₂ (first m c) ?_ ?_) (Eq.symm (cast_eq _ _)))
    · exact of_pos 176 (hi (0 : Fin 2)) (by simp <;> omega)
    · exact of_pos 1024 (hi (1 : Fin 2)) (by simp <;> omega)
  · have h0 : (i 0 : ℕ) < 352 := (i 0).isLt
    have h1 : (i 1 : ℕ) < 1024 := (i 1).isLt
    obtain ⟨t, ht⟩ : ∃ t : Fin (cfgM m hO).N, t.val = (i 0 : ℕ) / 176 :=
      ⟨⟨_, by rw [hN]; omega⟩, rfl⟩
    refine ⟨t, flush0_7 (adm m hO) t, ?_⟩
    have hi := congrFun (idx7 m hO t)
    refine mem_of (View.set_slice_whole main_v0_2 _) (Rect.mem_set_unit.2 fun a => ?_)
    match a with
    | ⟨0, _⟩ => exact in_block 176 (i 0) (hi (0 : Fin 2)) (by simp <;> omega)
    | ⟨1, _⟩ => exact in_block 1024 (i 1) (hi (1 : Fin 2)) (by simp <;> omega)

/-- What a point leaves in the buffer. -/
theorem point8 (t : Fin (cfgM m hO).N) (i : Fin 176) (j : Fin 1024) :
    (outsAt0 m hO c t).2.2.2 (ix2 i j) = second m c (176 * t.val + i.val) j.val := by
  unfold outsAt0
  dsimp only
  unfold out0_A_8
  rw [View.read_writes_junk_apply_eq_canon]
  unfold kernelRun0_A
  dsimp only
  sl_unfold_words
  simp only [View.readAt_eq_ld, (hs0_0 m hO t).read_unread, (hs0_1 m hO t).read_unread, (hs0_2 m hO t).read_unread, (hs0_3 m hO t).read_unread, (hs0_4 m hO t).read_unread]
  rw [View.canon_unit_zero zeros2]
  simp only [View.readCov_unit_zero (S := S176x1024) _ zeros2, View.ld_unit_zero (S := S1x176x1024) zeros3, View.ld_unit_zero (S := S176x1024) zeros2]
  exact second_entry (sums m hO c t) (blk4 m hO c t) (ix2 i j) _ _ (sums_entry m hO c t i j) (read4 m hO c t i j)

/-- The result array. -/
def out8 : S352x1024.Idx → EReal := fun i => second m c (i 0).val (i 1).val

theorem flushed8 (t : Fin (cfgM m hO).N) :
    (dats m hO 0 c).flushed 8 t = ((cfgM m hO).win 8).cut (grid0.coords t) (outsAt0 m hO c t).2.2.2 := by
  show ((cfgM m hO).win 8).cut (grid0.coords t) ((dats m hO 0 c).after 8 t) = _
  rw [after0_8]

/-- The result array after the run. -/
theorem final8 : (dats m hO 0 c).arrAt 8 (cfgM m hO).N = out8 m c := by
  have hN : (cfgM m hO).N = 2 := N_0
  refine (dats m hO 0 c).arrAt_eq_of_cover 8 (out8 m c) (fun t hf => ?_) fun (i : S352x1024.Idx) => ?_
  · rw [flushed8]
    have hi := congrFun (idx8 m hO t)
    refine funext fun (y : S176x1024.Idx) => ?_
    rw [View.read_apply]
    refine ((congrArg ((outsAt0 m hO c t).2.2.2) (eq_ix2 y)).trans (point8 m hO c t (y 0) (y 1))).trans (Eq.trans (b := out8 m c ((((cfgM m hO).win 8).blk t).view.emb y)) (congrArg₂ (second m c) ?_ ?_) (Eq.symm (cast_eq _ _)))
    · exact of_pos 176 (hi (0 : Fin 2)) (by simp <;> omega)
    · exact of_pos 1024 (hi (1 : Fin 2)) (by simp <;> omega)
  · have h0 : (i 0 : ℕ) < 352 := (i 0).isLt
    have h1 : (i 1 : ℕ) < 1024 := (i 1).isLt
    obtain ⟨t, ht⟩ : ∃ t : Fin (cfgM m hO).N, t.val = (i 0 : ℕ) / 176 :=
      ⟨⟨_, by rw [hN]; omega⟩, rfl⟩
    refine ⟨t, flush0_8 (adm m hO) t, ?_⟩
    have hi := congrFun (idx8 m hO t)
    refine mem_of (View.set_slice_whole main_v0_3 _) (Rect.mem_set_unit.2 fun a => ?_)
    match a with
    | ⟨0, _⟩ => exact in_block 176 (i 0) (hi (0 : Fin 2)) (by simp <;> omega)
    | ⟨1, _⟩ => exact in_block 1024 (i 1) (hi (1 : Fin 2)) (by simp <;> omega)

include hO in
/-- The run leaves the results, and changes no argument. -/
theorem run_results (ρ : Dev nD → PrngReg) : θ_run defs (onTc (τ := τ) (main (F := Ideal))) ⟨m, fun _ => 0, ρ⟩ fun r => ∀ c : Dev nD,
      r.2.mem ((c : Thread nD τ).loc main_v0_0) = out5 m c
      ∧ r.2.mem ((c : Thread nD τ).loc main_v0_1) = out6 m c
      ∧ r.2.mem ((c : Thread nD τ).loc main_v0_2) = out7 m c
      ∧ r.2.mem ((c : Thread nD τ).loc main_v0_3) = out8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m hO c),
      ((h c).1 6).trans (final6 m hO c),
      ((h c).1 7).trans (final7 m hO c),
      ((h c).1 8).trans (final8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end Cert.Kernel34Ideal.Chip
end
-- ==== Proof.Chip.DownClaim.lean ====
/-
  The sum over the chips of the gradient of the down projection: the program and the reference leave the same results.
-/
module

public import proofs.«01_k».proof.Proof.Chip.Down
public import proofs.«01_k».proof.Proof.Chip.Pick
public import proofs.«01_k».proof.Proof.Gen.Reference34Ideal.Read

@[expose] public section

noncomputable section

namespace Cert.Chip.Down

open Idealize.ShloMosaic Idealize.ShloMosaic.TcCoe Idealize.SL.Sem
open Cert.Product Cert.Kernel34Ideal Cert.Kernel34Ideal.Chip Cert.Reference34Ideal.Read Cert.Chip

attribute [local instance] Cert.Kernel34Ideal.Gen.facts Cert.Reference34Ideal.Gen.facts Cert.Pre_chip_named34.Gen.facts

/-- The reference changes no argument, and declares no semaphore. -/
theorem frame : Cert.quiescent_Reference34Ideal := fun m ρ _ =>
  (θ_run Cert.Reference34Ideal.defs _ _).mono
    (fun r h => ⟨fun c => (h c).2.2.2.2, sem_eq_zero_of_no_sems (by decide) r.2⟩) (Cert.Reference34Ideal.Value.run m ρ)

/-- The three received gradients, summed by the reference. -/
theorem plain_rest (Y : S3x352x1024.Idx → EReal) (i : Fin 352) (j : Fin 1024) :
    val_main_v8 (F := Ideal) Y (ix2 i j) = at3 3 352 1024 Y 0 i.val j.val + at3 3 352 1024 Y 1 i.val j.val
      + at3 3 352 1024 Y 2 i.val j.val := by
  have hY : ∀ q : Fin 3, Y (ix3 q i j) = at3 3 352 1024 Y q.val i.val j.val := fun q => at3_val 3 352 1024 Y _ _ _ _ rfl rfl rfl
  unfold val_main_v8 val_main_v7 val_main_cst_1
  pointwise
  simp only [hY, Fin.sum_univ_three]
  rfl

/-- The chip's own gradients, kept by the reference. -/
theorem plain_own (X : S4x352x1024.Idx → EReal) (C : S1.Idx → BitVec 32) (k : ℕ) (hk : k ≤ 3) (hC : ∀ i, (C i).toNat = k)
    (i : Fin 352) (j : Fin 1024) : val_main_v6 (F := Ideal) X C (ix2 i j) = at3 4 352 1024 X k i.val j.val := by
  have hX : ∀ q : Fin 4, X (ix3 q i j) = at3 4 352 1024 X q.val i.val j.val := fun q => at3_val 4 352 1024 X _ _ _ _ rfl rfl rfl
  unfold val_main_v6 val_main_v5 val_main_call0_v2 val_main_call0_v1 val_main_call0_v0 val_main_cst val_main_v4 val_main_v3
    val_main_v2 val_main_v1 val_main_v0 val_main_cst_0
  pointwise
  simp only [hX, Fin.sum_univ_four]
  exact pick (fun q => at3 4 352 1024 X q i.val j.val) (C (ix1 0)) k hk (hC _) (Ideal.ofBits .f32 0x00000000#32)
    (by simp [Ideal.ofBits, Ideal.ieee])

variable (m : (ℓ : Loc nD τ sig) → Buf (Elt Ideal) ℓ) (h : Cert.Pre_Kernel34Ideal m) (c : Dev nD)
include h

/-- The reference's sum is the program's. -/
theorem plain_total (i : S352x1024.Idx) : val_main_v9 (F := Ideal) (argO m c) (argR m c) (argC m c) i = total m c (i 0).val (i 1).val := by
  have hk : chip m c ≤ 3 := (chip_eq m c (ix1 0)).symm ▸ word m h c (ix1 0)
  have e : val_main_v9 (F := Ideal) (argO m c) (argR m c) (argC m c) i
      = val_main_v6 (F := Ideal) (argO m c) (argC m c) (ix2 (i 0) (i 1)) + val_main_v8 (F := Ideal) (argR m c) (ix2 (i 0) (i 1)) := by
    rw [← eq_ix2 i]
    rfl
  rw [e, plain_own (argO m c) (argC m c) (chip m c) hk (chip_eq m c) (i 0) (i 1), plain_rest (argR m c) (i 0) (i 1)]
  unfold total
  simp only [add_assoc]

/-- The reference's first moment is the program's. -/
theorem plain_first (i : S352x1024.Idx) : val_main_v14 (F := Ideal) (argO m c) (argR m c) (argC m c) (argM m c) i = first m c (i 0).val (i 1).val := by
  show Ideal.ofBits .f32 0x3F666666#32 * argM m c i
    + Ideal.ofBits .f32 0x3DCCCCCD#32 * val_main_v9 (F := Ideal) (argO m c) (argR m c) (argC m c) i = _
  rw [plain_total m h c i, at2_val 352 1024 (argM m c) i (i 0).val (i 1).val rfl rfl]
  rfl

/-- The reference's second moment is the program's. -/
theorem plain_second (i : S352x1024.Idx) : val_main_v20 (F := Ideal) (argO m c) (argR m c) (argC m c) (argV m c) i = second m c (i 0).val (i 1).val := by
  show Ideal.ofBits .f32 0x3F7FBE77#32 * argV m c i
    + Ideal.ofBits .f32 0x3A83126F#32 * (val_main_v9 (F := Ideal) (argO m c) (argR m c) (argC m c) i
      * val_main_v9 (F := Ideal) (argO m c) (argR m c) (argC m c) i) = _
  rw [plain_total m h c i, at2_val 352 1024 (argV m c) i (i 0).val (i 1).val rfl rfl]
  rfl

/-- The reference's step of the weight is the program's. -/
theorem plain_delta (i : S352x1024.Idx) :
    val_main_v33 (F := Ideal) (argO m c) (argR m c) (argC m c) (argW m c) (argM m c) (argV m c) i = delta m c (i 0).val (i 1).val := by
  show Ideal.ofBits .f32 0xBA83126F#32
    * (Ideal.div (Ideal.div (val_main_v14 (F := Ideal) (argO m c) (argR m c) (argC m c) (argM m c) i) (Ideal.ofBits .f32 0x3F26BD02#32))
        (Ideal.sqrt (Ideal.div (val_main_v20 (F := Ideal) (argO m c) (argR m c) (argC m c) (argV m c) i) (Ideal.ofBits .f32 0x3C231ACC#32))
          + Ideal.ofBits .f32 0x322BCC77#32)
      + Ideal.ofBits .f32 0x3C23D70A#32 * argW m c i) = _
  rw [plain_first m h c i, plain_second m h c i, at2_val 352 1024 (argW m c) i (i 0).val (i 1).val rfl rfl]
  rfl

omit h in
/-- The two programs leave the same results. -/
theorem algebraic : Cert.algebraic_Kernel34Ideal_Reference34Ideal := by
  intro m g m' g' h hargs
  refine ⟨fun c => out5 m c, fun c => out6 m c, fun c => out7 m c, fun c => out8 m c, ?_, ?_⟩
  · exact run_results m (ok_of_pre m h) g
  · refine (θ_run Cert.Reference34Ideal.defs _ _).mono
      (fun r h' c => ⟨(h' c).1.trans ?_, (h' c).2.1.trans ?_, (h' c).2.2.1.trans ?_, (h' c).2.2.2.1.trans ?_, (h' c).2.2.2.2⟩)
      (Cert.Reference34Ideal.Value.run m' g')
    · refine (val_main_v9_eq _ _ _).trans ?_
      rw [(hargs c).1, (hargs c).2.1, (hargs c).2.2.1]
      exact funext fun (i : S352x1024.Idx) => plain_total m h c i
    · refine (val_main_v33_eq _ _ _ _ _ _).trans ?_
      rw [(hargs c).1, (hargs c).2.1, (hargs c).2.2.1, (hargs c).2.2.2.1, (hargs c).2.2.2.2.1, (hargs c).2.2.2.2.2]
      exact funext fun (i : S352x1024.Idx) => plain_delta m h c i
    · refine (val_main_v14_eq _ _ _ _).trans ?_
      rw [(hargs c).1, (hargs c).2.1, (hargs c).2.2.1, (hargs c).2.2.2.2.1]
      exact funext fun (i : S352x1024.Idx) => plain_first m h c i
    · refine (val_main_v20_eq _ _ _ _).trans ?_
      rw [(hargs c).1, (hargs c).2.1, (hargs c).2.2.1, (hargs c).2.2.2.2.2]
      exact funext fun (i : S352x1024.Idx) => plain_second m h c i

end Cert.Chip.Down
end
-- ==== Proof.Norm.Slots.lean ====
/-
  The sum of eight slots: one step for each block of 72 rows.
-/
module

public import proofs.«01_k».proof.Defs
public import proofs.«01_k».proof.Proof.Product.Entries
public import proofs.«01_k».proof.Proof.Gen.Kernel35Ideal.Value
public import proofs.«01_k».proof.Proof.Gen.Reference35Ideal.Read

@[expose] public section

noncomputable section

namespace Cert.Kernel35Ideal.Slots

open Cert.Kernel35Ideal Cert.Kernel35Ideal.Gen Cert.Product Idealize.ShloMosaic Idealize.ShloMosaic.TcCoe Idealize.SL.Sem

variable (m : (ℓ : Loc nD τ sig) → Buf (Elt Ideal) ℓ) (c : Dev nD)

/-- The arguments of a device. -/
abbrev argR : S8x432x128.Idx → EReal := m ((c.tc : Thread nD τ).loc main_arg0)
/-- The block of each window at a point. -/
theorem idx0 : ∀ t : Fin cfg0.N, win0_0.index t = ![0, t.val, 0] := by decide +kernel
theorem idx1 : ∀ t : Fin cfg0.N, win0_1.index t = ![t.val, 0] := by decide +kernel

/-- The block of the window at a point. -/
abbrev blk0 (t : Fin cfg0.N) : Vec Ideal S8x72x128 .f32 := iblk m c 0 t

theorem read0 (t : Fin cfg0.N) (i : Fin 8) (j : Fin 72) (k : Fin 128) :
    blk0 m c t (ix3 i j k) = at3 8 432 128 (argR m c) (i.val) (72 * (t.val) + j.val) (k.val) := by
  have hN : cfg0.N = 6 := N_0
  have ht := t.isLt
  have hi := congrFun (idx0 t)
  unfold blk0 iblk
  rw [View.read_apply]
  refine at3_val 8 432 128 (argR m c) _ _ _ _ ?_ ?_ ?_
  · exact pos_of 8 (hi 0) (by simp <;> omega)
  · exact pos_of 72 (hi 1) (by simp <;> omega)
  · exact pos_of 128 (hi 2) (by simp <;> omega)

/-- An entry of the sum. -/
def total (a b : ℕ) : EReal := ∑ s : Fin 8, at3 8 432 128 (argR m c) s.val a b

theorem pay_entry (P0 P1 P2 P3 P4 P5 P6 P7 : Vec Ideal S1x72x128 .f32) (i : Fin 72) (j : Fin 128) :
    k0_pay1 P0 P1 P2 P3 P4 P5 P6 P7 (ix2 i j) = (P0 (ix3 0 i j) + P1 (ix3 0 i j) + P2 (ix3 0 i j) + P3 (ix3 0 i j) + P4 (ix3 0 i j)
      + P5 (ix3 0 i j) + P6 (ix3 0 i j) + P7 (ix3 0 i j) : EReal) := by
  unfold k0_pay1
  pointwise

/-- What a point leaves in the buffer. -/
theorem point1 (t : Fin cfg0.N) (i : Fin 72) (j : Fin 128) :
    out0_1 (blk0 m c t) (ix2 i j) = total m c (72 * (t.val) + i.val) j.val := by
  unfold out0_1
  rw [View.canon_unit_zero zeros2, pay_entry]
  unfold total
  have s := fun (p : Fin 8) h => (ld_slot (blk0 m c t) p h i j).trans (read0 m c t p i j)
  rw [Fin.sum_univ_eight]
  exact congrArg₂ (· + ·) (congrArg₂ (· + ·) (congrArg₂ (· + ·) (congrArg₂ (· + ·) (congrArg₂ (· + ·) (congrArg₂ (· + ·) (congrArg₂ (· + ·) (s 0 _) (s 1 _)) (s 2 _)) (s 3 _)) (s 4 _)) (s 5 _)) (s 6 _)) (s 7 _)

/-- The result array. -/
def out1 : S432x128.Idx → EReal := fun i => total m c (i 0).val (i 1).val

/-- The result array after the run. -/
theorem final1 : (dats m 0 c).arrAt 1 cfg0.N = out1 m c := by
  have hN : cfg0.N = 6 := N_0
  refine (dats m 0 c).arrAt_eq_of_cover 1 (out1 m c) (fun t hf => ?_) fun i => ?_
  · rw [Cert.Kernel35Ideal.Value.flushed1]
    have hi := congrFun (idx1 t)
    have ht := t.isLt
    funext y
    rw [View.read_apply]
    refine ((congrArg (out0_1 (blk0 m c t)) (eq_ix2 y)).trans (point1 m c t (y 0) (y 1))).trans (Eq.trans (b := out1 m c (((cfg0.win 1).blk t).view.emb y)) (congrArg₂ (total m c) ?_ ?_) (Eq.symm (cast_eq _ _)))
    · exact of_pos 72 (hi 0) (by simp <;> omega)
    · exact of_pos 128 (hi 1) (by simp <;> omega)
  · have h0 : (i 0 : ℕ) < 432 := (i 0).isLt
    have h1 : (i 1 : ℕ) < 128 := (i 1).isLt
    obtain ⟨t, ht⟩ : ∃ t : Fin cfg0.N, t.val = (i 0 : ℕ) / 72 :=
      ⟨⟨_, by omega⟩, rfl⟩
    refine ⟨t, flush0_1 t, ?_⟩
    have hi := congrFun (idx1 t)
    refine mem_of (View.set_slice_whole main_v0 _) (Rect.mem_set_unit.2 fun a => ?_)
    match a with
    | ⟨0, _⟩ => exact in_block 72 (i 0) (hi 0) (by simp <;> omega)
    | ⟨1, _⟩ => exact in_block 128 (i 1) (hi 1) (by simp <;> omega)

end Cert.Kernel35Ideal.Slots

namespace Cert.Slots

open Idealize.ShloMosaic Idealize.ShloMosaic.TcCoe Idealize.SL.Sem
open Cert.Product Cert.Kernel35Ideal Cert.Kernel35Ideal.Slots Cert.Reference35Ideal.Read

attribute [local instance] Cert.Kernel35Ideal.Gen.facts Cert.Reference35Ideal.Gen.facts

/-- The reference changes no argument, and declares no semaphore. -/
theorem frame : Cert.quiescent_Reference35Ideal := fun m ρ _ =>
  (θ_run Cert.Reference35Ideal.defs _ _).mono
    (fun r h => ⟨fun c => (h c).2, sem_eq_zero_of_no_sems (by decide) r.2⟩) (Cert.Reference35Ideal.Value.run m ρ)

/-- The reference, read at an index. -/
theorem plain (R : S8x432x128.Idx → EReal) (i : Fin 432) (j : Fin 128) :
    val_main_v0 (F := Ideal) R (ix2 i j) = ∑ s : Fin 8, R (ix3 s i j) := by
  unfold val_main_v0 val_main_cst
  pointwise

/-- The two programs leave the same array. -/
theorem algebraic : Cert.algebraic_Kernel35Ideal_Reference35Ideal := by
  intro m g m' g' _ hargs
  refine ⟨fun c => out1 m c, ?_, ?_⟩
  · exact (θ_run Cert.Kernel35Ideal.defs _ _).mono
      (fun r h c => ⟨(h c).1.trans (final1 m c), (h c).2⟩)
      (Cert.Kernel35Ideal.Value.run_blocks m g)
  · refine (θ_run Cert.Reference35Ideal.defs _ _).mono
      (fun r h c => ⟨(h c).1.trans ?_, (h c).2⟩)
      (Cert.Reference35Ideal.Value.run m' g')
    · refine (val_main_v0_eq _).trans ?_
      rw [(hargs c)]
      funext i
      refine ((congrArg _ (eq_ix2 i)).trans (plain (argR m c) (i 0) (i 1))).trans ?_
      show _ = total m c (i 0).val (i 1).val
      unfold total
      exact Finset.sum_congr rfl fun s _ => at3_val 8 432 128 (argR m c) _ _ _ _ rfl rfl rfl

end Cert.Slots
end
-- ==== Proof.Chip.InPre.lean ====
/-
  The precondition of the sum over the chips of the input weight: the block that the first window reads lies in its array.
-/
module

public import proofs.«01_k».proof.Defs
public import proofs.«01_k».proof.Proof.Chip.Word
public import proofs.«01_k».proof.Proof.Gen.Pre_chip_named36
public import proofs.«01_k».proof.Proof.Gen.Kernel36.Frame
public import proofs.«01_k».proof.Proof.Gen.Kernel36Ideal.Frame

@[expose] public section

namespace Cert.Kernel36.Chip

open Cert.Kernel36 Cert.Kernel36.Gen Idealize.ShloMosaic Idealize.ShloMosaic.TcCoe

variable (m : (ℓ : Loc nD τ sig) → Buf (Elt Bits) ℓ)

/-- The chip named is one of the four. -/
theorem word (h : Cert.Pre_Kernel36 m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 2 := by decide +kernel

/-- The block read lies in the array. -/
theorem ok_of_pre (h : Cert.Pre_Kernel36 m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 192 ≤ 384
    omega
  | ⟨2, _⟩ =>
    show (0 + 1) * 1024 ≤ 1024
    omega

end Cert.Kernel36.Chip

namespace Cert.Kernel36Ideal.Chip

open Cert.Kernel36Ideal Cert.Kernel36Ideal.Gen Idealize.ShloMosaic Idealize.ShloMosaic.TcCoe

variable (m : (ℓ : Loc nD τ sig) → Buf (Elt Ideal) ℓ)

/-- The chip named is one of the four. -/
theorem word (h : Cert.Pre_Kernel36Ideal m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 2 := by decide +kernel

/-- The block read lies in the array. -/
theorem ok_of_pre (h : Cert.Pre_Kernel36Ideal m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 192 ≤ 384
    omega
  | ⟨2, _⟩ =>
    show (0 + 1) * 1024 ≤ 1024
    omega

end Cert.Kernel36Ideal.Chip
end
-- ==== Proof.Chip.In.lean ====
/-
  The sum over the chips of the gradient of the input weight: one step for each block of 192 rows.
-/
module

public import proofs.«01_k».proof.Defs
public import proofs.«01_k».proof.Proof.Product.Entries
public import proofs.«01_k».proof.Proof.Chip.InPre
public import proofs.«01_k».proof.Proof.Gen.Kernel36Ideal.Frame
public import Idealize.ShloMosaic.Lib.Pipeline.Value

@[expose] public section

set_option backward.isDefEq.respectTransparency.types false

noncomputable section

namespace Cert.Kernel36Ideal.Chip

open Cert.Kernel36Ideal Cert.Kernel36Ideal.Gen Cert.Product Idealize.ShloMosaic Idealize.ShloMosaic.TcCoe Idealize.SL.Sem

variable (m : (ℓ : Loc nD τ sig) → Buf (Elt Ideal) ℓ) (hO : Ok m) (c : Dev nD)

/-- The arguments of a device. -/
abbrev argO : S4x384x1024.Idx → EReal := m ((c.tc : Thread nD τ).loc main_arg0)
abbrev argR : S3x384x1024.Idx → EReal := m ((c.tc : Thread nD τ).loc main_arg1)
abbrev argC : S1.Idx → BitVec 32 := m ((c.tc : Thread nD τ).loc main_arg2)

/-- The chip named. -/
def chip : ℕ := (argC m c (ix1 (0 : Fin 1))).toNat

/-- The table has one word. -/
theorem chip_eq (i : S1.Idx) : (argC m c i).toNat = chip m c := by
  unfold chip
  refine congrArg (fun j => (argC m c j).toNat) (funext fun a => ?_)
  match a with
  | ⟨0, _⟩ => exact Subsingleton.elim (α := Fin 1) _ _

/-- The block of each window at a point. -/
theorem idx0 (t : Fin (cfgM m hO).N) : ((cfgM m hO).win 0).index t = ![chip m c, t.val, 0] := by
  have hr := (by decide +kernel : ∀ t : Fin grid0.N, (BitVec.ofNat 32 (grid0.coords t 0).val).toNat = t.val) t
  obtain rfl : c = 0 := Subsingleton.elim _ _
  show cc0_transform_0 _ _ (tbl m) (grid0.coords t) = _
  unfold cc0_transform_0
  funext a
  match a with
  | ⟨0, _⟩ => exact chip_eq m 0 _
  | ⟨1, _⟩ => exact hr
  | ⟨2, _⟩ => rfl
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![t.val, 0] :=
  (by decide +kernel : ∀ t : Fin grid0.N, cc0_transform_2 (grid0.coords t) = ![t.val, 0]) t

/-- The block of the window at a point. -/
abbrev blk0 (t : Fin (cfgM m hO).N) : Vec Ideal S1x192x1024 .bf16 := iblk m hO c 0 t

theorem read0 (t : Fin (cfgM m hO).N) (i : Fin 1) (j : Fin 192) (k : Fin 1024) :
    blk0 m hO c t (ix3 i j k) = at3 4 384 1024 (argO m c) (chip m c) (192 * t.val + j.val) k.val := by
  have hi := congrFun (idx0 m hO c t)
  unfold blk0 iblk
  rw [View.read_apply]
  refine at3_val 4 384 1024 (argO m c) _ _ _ _ ?_ ?_ ?_
  · exact pos_of 1 (hi (0 : Fin 3)) (by simp <;> omega)
  · exact pos_of 192 (hi (1 : Fin 3)) (by simp <;> omega)
  · exact pos_of 1024 (hi (2 : Fin 3)) (by simp <;> omega)

/-- The block of the window at a point. -/
abbrev blk1 (t : Fin (cfgM m hO).N) : Vec Ideal S3x192x1024 .bf16 := iblk m hO c 1 t

theorem read1 (t : Fin (cfgM m hO).N) (i : Fin 3) (j : Fin 192) (k : Fin 1024) :
    blk1 m hO c t (ix3 i j k) = at3 3 384 1024 (argR m c) i.val (192 * t.val + j.val) k.val := by
  have hi := congrFun (idx1 m hO t)
  unfold blk1 iblk
  rw [View.read_apply]
  refine at3_val 3 384 1024 (argR m c) _ _ _ _ ?_ ?_ ?_
  · exact pos_of 3 (hi (0 : Fin 3)) (by simp <;> omega)
  · exact pos_of 192 (hi (1 : Fin 3)) (by simp <;> omega)
  · exact pos_of 1024 (hi (2 : Fin 3)) (by simp <;> omega)

/-- An entry of the sum. -/
def total (a b : ℕ) : EReal :=
  at3 4 384 1024 (argO m c) (chip m c) a b + at3 3 384 1024 (argR m c) 0 a b + at3 3 384 1024 (argR m c) 1 a b
    + at3 3 384 1024 (argR m c) 2 a b

theorem sum_entry (x y z w : Vec Ideal S1x192x1024 .bf16) (i : Fin 192) (j : Fin 1024) (a b p q : EReal)
    (hx : x (ix3 0 i j) = a) (hy : y (ix3 0 i j) = b) (hz : z (ix3 0 i j) = p) (hw : w (ix3 0 i j) = q) :
    k0_pay1 x y z w (ix2 i j) = a + b + p + q := by
  unfold k0_pay1
  pointwise
  simp only [hx, hy, hz, hw]
  try rfl

/-- The block summed. -/
abbrev sums (t : Fin (cfgM m hO).N) : Vec Ideal S192x1024 .f32 :=
  k0_pay1 (blk0 m hO c t)
    (View.ld (blk1 m hO c t) (Rect.unit (s := S3x192x1024) ![0, 0, 0] S1x192x1024.size inb_S3x192x1024_S1x192x1024_0_0_0))
    (View.ld (blk1 m hO c t) (Rect.unit (s := S3x192x1024) ![1, 0, 0] S1x192x1024.size inb_S3x192x1024_S1x192x1024_1_0_0))
    (View.ld (blk1 m hO c t) (Rect.unit (s := S3x192x1024) ![2, 0, 0] S1x192x1024.size inb_S3x192x1024_S1x192x1024_2_0_0))

theorem sums_entry (t : Fin (cfgM m hO).N) (i : Fin 192) (j : Fin 1024) :
    sums m hO c t (ix2 i j) = total m c (192 * t.val + i.val) j.val :=
  sum_entry _ _ _ _ i j _ _ _ _ (read0 m hO c t 0 i j) ((ld_slot _ 0 _ i j).trans (read1 m hO c t 0 i j)) ((ld_slot _ 1 _ i j).trans (read1 m hO c t 1 i j)) ((ld_slot _ 2 _ i j).trans (read1 m hO c t 2 i j))

/-- What a point leaves in the buffer. -/
theorem point2 (t : Fin (cfgM m hO).N) (i : Fin 192) (j : Fin 1024) :
    (outsAt0 m hO c t) (ix2 i j) = total m c (192 * t.val + i.val) j.val := by
  unfold outsAt0

  unfold out0_A_2
  rw [View.read_writes_junk_apply_eq_canon]
  unfold kernelRun0_A
  dsimp only
  sl_unfold_words
  simp only [View.readAt_eq_ld, (hs0_0 m hO t).read_unread, (hs0_1 m hO t).read_unread]
  rw [View.canon_unit_zero zeros2]
  simp only [View.ld_unit_zero (S := S1x192x1024) zeros3]
  exact sums_entry m hO c t i j

/-- The result array. -/
def out2 : S384x1024.Idx → EReal := fun i => total m c (i 0).val (i 1).val

theorem flushed2 (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

/-- The result array after the run. -/
theorem final2 : (dats m hO 0 c).arrAt 2 (cfgM m hO).N = out2 m c := by
  have hN : (cfgM m hO).N = 2 := N_0
  refine (dats m hO 0 c).arrAt_eq_of_cover 2 (out2 m c) (fun t hf => ?_) fun (i : S384x1024.Idx) => ?_
  · rw [flushed2]
    have hi := congrFun (idx2 m hO t)
    refine funext fun (y : S192x1024.Idx) => ?_
    rw [View.read_apply]
    refine ((congrArg ((outsAt0 m hO c t)) (eq_ix2 y)).trans (point2 m hO c t (y 0) (y 1))).trans (Eq.trans (b := out2 m c ((((cfgM m hO).win 2).blk t).view.emb y)) (congrArg₂ (total m c) ?_ ?_) (Eq.symm (cast_eq _ _)))
    · exact of_pos 192 (hi (0 : Fin 2)) (by simp <;> omega)
    · exact of_pos 1024 (hi (1 : Fin 2)) (by simp <;> omega)
  · have h0 : (i 0 : ℕ) < 384 := (i 0).isLt
    have h1 : (i 1 : ℕ) < 1024 := (i 1).isLt
    obtain ⟨t, ht⟩ : ∃ t : Fin (cfgM m hO).N, t.val = (i 0 : ℕ) / 192 :=
      ⟨⟨_, by rw [hN]; omega⟩, rfl⟩
    refine ⟨t, flush0_2 (adm m hO) t, ?_⟩
    have hi := congrFun (idx2 m hO t)
    refine mem_of (View.set_slice_whole main_v0 _) (Rect.mem_set_unit.2 fun a => ?_)
    match a with
    | ⟨0, _⟩ => exact in_block 192 (i 0) (hi (0 : Fin 2)) (by simp <;> omega)
    | ⟨1, _⟩ => exact in_block 1024 (i 1) (hi (1 : Fin 2)) (by simp <;> omega)

include hO in
/-- The run leaves the results, and changes no argument. -/
theorem run_results (ρ : Dev nD → PrngReg) : θ_run defs (onTc (τ := τ) (main (F := Ideal))) ⟨m, fun _ => 0, ρ⟩ fun r => ∀ c : Dev nD,
      r.2.mem ((c : Thread nD τ).loc main_v0) = out2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final2 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

end Cert.Kernel36Ideal.Chip
end
-- ==== Proof.Chip.InClaim.lean ====
/-
  The sum over the chips of the gradient of both halves of the input projection: the program and the reference leave the same results.
-/
module

public import proofs.«01_k».proof.Proof.Chip.In
public import proofs.«01_k».proof.Proof.Chip.Pick
public import proofs.«01_k».proof.Proof.Gen.Reference36Ideal.Read

@[expose] public section

noncomputable section

namespace Cert.Chip.In

open Idealize.ShloMosaic Idealize.ShloMosaic.TcCoe Idealize.SL.Sem
open Cert.Product Cert.Kernel36Ideal Cert.Kernel36Ideal.Chip Cert.Reference36Ideal.Read Cert.Chip

attribute [local instance] Cert.Kernel36Ideal.Gen.facts Cert.Reference36Ideal.Gen.facts Cert.Pre_chip_named36.Gen.facts

/-- The reference changes no argument, and declares no semaphore. -/
theorem frame : Cert.quiescent_Reference36Ideal := fun m ρ _ =>
  (θ_run Cert.Reference36Ideal.defs _ _).mono
    (fun r h => ⟨fun c => (h c).2, sem_eq_zero_of_no_sems (by decide) r.2⟩) (Cert.Reference36Ideal.Value.run m ρ)

/-- The three received gradients, summed by the reference. -/
theorem plain_rest (Y : S3x384x1024.Idx → EReal) (i : Fin 384) (j : Fin 1024) :
    val_main_v8 (F := Ideal) Y (ix2 i j) = at3 3 384 1024 Y 0 i.val j.val + at3 3 384 1024 Y 1 i.val j.val
      + at3 3 384 1024 Y 2 i.val j.val := by
  have hY : ∀ q : Fin 3, Y (ix3 q i j) = at3 3 384 1024 Y q.val i.val j.val := fun q => at3_val 3 384 1024 Y _ _ _ _ rfl rfl rfl
  unfold val_main_v8 val_main_v7 val_main_cst_1
  pointwise
  simp only [hY, Fin.sum_univ_three]
  rfl

/-- The chip's own gradients, kept by the reference. -/
theorem plain_own (X : S4x384x1024.Idx → EReal) (C : S1.Idx → BitVec 32) (k : ℕ) (hk : k ≤ 3) (hC : ∀ i, (C i).toNat = k)
    (i : Fin 384) (j : Fin 1024) : val_main_v6 (F := Ideal) X C (ix2 i j) = at3 4 384 1024 X k i.val j.val := by
  have hX : ∀ q : Fin 4, X (ix3 q i j) = at3 4 384 1024 X q.val i.val j.val := fun q => at3_val 4 384 1024 X _ _ _ _ rfl rfl rfl
  unfold val_main_v6 val_main_v5 val_main_call0_v2 val_main_call0_v1 val_main_call0_v0 val_main_cst val_main_v4 val_main_v3
    val_main_v2 val_main_v1 val_main_v0 val_main_cst_0
  pointwise
  simp only [hX, Fin.sum_univ_four]
  exact pick (fun q => at3 4 384 1024 X q i.val j.val) (C (ix1 0)) k hk (hC _) (Ideal.ofBits .f32 0x00000000#32)
    (by simp [Ideal.ofBits, Ideal.ieee])

variable (m : (ℓ : Loc nD τ sig) → Buf (Elt Ideal) ℓ) (h : Cert.Pre_Kernel36Ideal m) (c : Dev nD)
include h

/-- The reference's sum is the program's. -/
theorem plain_total (i : S384x1024.Idx) : val_main_v9 (F := Ideal) (argO m c) (argR m c) (argC m c) i = total m c (i 0).val (i 1).val := by
  have hk : chip m c ≤ 3 := (chip_eq m c (ix1 0)).symm ▸ word m h c (ix1 0)
  have e : val_main_v9 (F := Ideal) (argO m c) (argR m c) (argC m c) i
      = val_main_v6 (F := Ideal) (argO m c) (argC m c) (ix2 (i 0) (i 1)) + val_main_v8 (F := Ideal) (argR m c) (ix2 (i 0) (i 1)) := by
    rw [← eq_ix2 i]
    rfl
  rw [e, plain_own (argO m c) (argC m c) (chip m c) hk (chip_eq m c) (i 0) (i 1), plain_rest (argR m c) (i 0) (i 1)]
  unfold total
  simp only [add_assoc]

omit h in
/-- The two programs leave the same results. -/
theorem algebraic : Cert.algebraic_Kernel36Ideal_Reference36Ideal := by
  intro m g m' g' h hargs
  refine ⟨fun c => out2 m c, ?_, ?_⟩
  · exact run_results m (ok_of_pre m h) g
  · refine (θ_run Cert.Reference36Ideal.defs _ _).mono
      (fun r h' c => ⟨(h' c).1.trans ?_, (h' c).2⟩)
      (Cert.Reference36Ideal.Value.run m' g')
    · refine (val_main_v9_eq _ _ _).trans ?_
      rw [(hargs c).1, (hargs c).2.1, (hargs c).2.2]
      exact funext fun (i : S384x1024.Idx) => plain_total m h c i

end Cert.Chip.In
end
-- ==== Proof.Chip.KvPre.lean ====
/-
  The precondition of the sum over the chips of the weight of the keys and values: the block that the first window reads lies in its array.
-/
module

public import proofs.«01_k».proof.Defs
public import proofs.«01_k».proof.Proof.Chip.Word
public import proofs.«01_k».proof.Proof.Gen.Pre_chip_named37
public import proofs.«01_k».proof.Proof.Gen.Kernel37.Frame
public import proofs.«01_k».proof.Proof.Gen.Kernel37Ideal.Frame

@[expose] public section

namespace Cert.Kernel37.Chip

open Cert.Kernel37 Cert.Kernel37.Gen Idealize.ShloMosaic Idealize.ShloMosaic.TcCoe

variable (m : (ℓ : Loc nD τ sig) → Buf (Elt Bits) ℓ)

/-- The chip named is one of the four. -/
theorem word (h : Cert.Pre_Kernel37 m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 1 := by decide +kernel

/-- The block read lies in the array. -/
theorem ok_of_pre (h : Cert.Pre_Kernel37 m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 256 ≤ 256
    omega
  | ⟨2, _⟩ =>
    show (0 + 1) * 1024 ≤ 1024
    omega

end Cert.Kernel37.Chip

namespace Cert.Kernel37Ideal.Chip

open Cert.Kernel37Ideal Cert.Kernel37Ideal.Gen Idealize.ShloMosaic Idealize.ShloMosaic.TcCoe

variable (m : (ℓ : Loc nD τ sig) → Buf (Elt Ideal) ℓ)

/-- The chip named is one of the four. -/
theorem word (h : Cert.Pre_Kernel37Ideal m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 1 := by decide +kernel

/-- The block read lies in the array. -/
theorem ok_of_pre (h : Cert.Pre_Kernel37Ideal m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 256 ≤ 256
    omega
  | ⟨2, _⟩ =>
    show (0 + 1) * 1024 ≤ 1024
    omega

end Cert.Kernel37Ideal.Chip
end
-- ==== Proof.Chip.Kv.lean ====
/-
  The sum over the chips of the gradient of the weight of the keys and values: one step for each block of 256 rows.
-/
module

public import proofs.«01_k».proof.Defs
public import proofs.«01_k».proof.Proof.Product.Entries
public import proofs.«01_k».proof.Proof.Chip.KvPre
public import proofs.«01_k».proof.Proof.Gen.Kernel37Ideal.Frame
public import Idealize.ShloMosaic.Lib.Pipeline.Value

@[expose] public section

set_option backward.isDefEq.respectTransparency.types false

noncomputable section

namespace Cert.Kernel37Ideal.Chip

open Cert.Kernel37Ideal Cert.Kernel37Ideal.Gen Cert.Product Idealize.ShloMosaic Idealize.ShloMosaic.TcCoe Idealize.SL.Sem

variable (m : (ℓ : Loc nD τ sig) → Buf (Elt Ideal) ℓ) (hO : Ok m) (c : Dev nD)

/-- The arguments of a device. -/
abbrev argO : S4x256x1024.Idx → EReal := m ((c.tc : Thread nD τ).loc main_arg0)
abbrev argR : S3x256x1024.Idx → EReal := m ((c.tc : Thread nD τ).loc main_arg1)
abbrev argC : S1.Idx → BitVec 32 := m ((c.tc : Thread nD τ).loc main_arg2)

/-- The chip named. -/
def chip : ℕ := (argC m c (ix1 (0 : Fin 1))).toNat

/-- The table has one word. -/
theorem chip_eq (i : S1.Idx) : (argC m c i).toNat = chip m c := by
  unfold chip
  refine congrArg (fun j => (argC m c j).toNat) (funext fun a => ?_)
  match a with
  | ⟨0, _⟩ => exact Subsingleton.elim (α := Fin 1) _ _

/-- The block of each window at a point. -/
theorem idx0 (t : Fin (cfgM m hO).N) : ((cfgM m hO).win 0).index t = ![chip m c, t.val, 0] := by
  have hr := (by decide +kernel : ∀ t : Fin grid0.N, (BitVec.ofNat 32 (grid0.coords t 0).val).toNat = t.val) t
  obtain rfl : c = 0 := Subsingleton.elim _ _
  show cc0_transform_0 _ _ (tbl m) (grid0.coords t) = _
  unfold cc0_transform_0
  funext a
  match a with
  | ⟨0, _⟩ => exact chip_eq m 0 _
  | ⟨1, _⟩ => exact hr
  | ⟨2, _⟩ => rfl
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![t.val, 0] :=
  (by decide +kernel : ∀ t : Fin grid0.N, cc0_transform_2 (grid0.coords t) = ![t.val, 0]) t

/-- The block of the window at a point. -/
abbrev blk0 (t : Fin (cfgM m hO).N) : Vec Ideal S1x256x1024 .bf16 := iblk m hO c 0 t

theorem read0 (t : Fin (cfgM m hO).N) (i : Fin 1) (j : Fin 256) (k : Fin 1024) :
    blk0 m hO c t (ix3 i j k) = at3 4 256 1024 (argO m c) (chip m c) (256 * t.val + j.val) k.val := by
  have hi := congrFun (idx0 m hO c t)
  unfold blk0 iblk
  rw [View.read_apply]
  refine at3_val 4 256 1024 (argO m c) _ _ _ _ ?_ ?_ ?_
  · exact pos_of 1 (hi (0 : Fin 3)) (by simp <;> omega)
  · exact pos_of 256 (hi (1 : Fin 3)) (by simp <;> omega)
  · exact pos_of 1024 (hi (2 : Fin 3)) (by simp <;> omega)

/-- The block of the window at a point. -/
abbrev blk1 (t : Fin (cfgM m hO).N) : Vec Ideal S3x256x1024 .bf16 := iblk m hO c 1 t

theorem read1 (t : Fin (cfgM m hO).N) (i : Fin 3) (j : Fin 256) (k : Fin 1024) :
    blk1 m hO c t (ix3 i j k) = at3 3 256 1024 (argR m c) i.val (256 * t.val + j.val) k.val := by
  have hi := congrFun (idx1 m hO t)
  unfold blk1 iblk
  rw [View.read_apply]
  refine at3_val 3 256 1024 (argR m c) _ _ _ _ ?_ ?_ ?_
  · exact pos_of 3 (hi (0 : Fin 3)) (by simp <;> omega)
  · exact pos_of 256 (hi (1 : Fin 3)) (by simp <;> omega)
  · exact pos_of 1024 (hi (2 : Fin 3)) (by simp <;> omega)

/-- An entry of the sum. -/
def total (a b : ℕ) : EReal :=
  at3 4 256 1024 (argO m c) (chip m c) a b + at3 3 256 1024 (argR m c) 0 a b + at3 3 256 1024 (argR m c) 1 a b
    + at3 3 256 1024 (argR m c) 2 a b

theorem sum_entry (x y z w : Vec Ideal S1x256x1024 .bf16) (i : Fin 256) (j : Fin 1024) (a b p q : EReal)
    (hx : x (ix3 0 i j) = a) (hy : y (ix3 0 i j) = b) (hz : z (ix3 0 i j) = p) (hw : w (ix3 0 i j) = q) :
    k0_pay1 x y z w (ix2 i j) = a + b + p + q := by
  unfold k0_pay1
  pointwise
  simp only [hx, hy, hz, hw]
  try rfl

/-- The block summed. -/
abbrev sums (t : Fin (cfgM m hO).N) : Vec Ideal S256x1024 .f32 :=
  k0_pay1 (blk0 m hO c t)
    (View.ld (blk1 m hO c t) (Rect.unit (s := S3x256x1024) ![0, 0, 0] S1x256x1024.size inb_S3x256x1024_S1x256x1024_0_0_0))
    (View.ld (blk1 m hO c t) (Rect.unit (s := S3x256x1024) ![1, 0, 0] S1x256x1024.size inb_S3x256x1024_S1x256x1024_1_0_0))
    (View.ld (blk1 m hO c t) (Rect.unit (s := S3x256x1024) ![2, 0, 0] S1x256x1024.size inb_S3x256x1024_S1x256x1024_2_0_0))

theorem sums_entry (t : Fin (cfgM m hO).N) (i : Fin 256) (j : Fin 1024) :
    sums m hO c t (ix2 i j) = total m c (256 * t.val + i.val) j.val :=
  sum_entry _ _ _ _ i j _ _ _ _ (read0 m hO c t 0 i j) ((ld_slot _ 0 _ i j).trans (read1 m hO c t 0 i j)) ((ld_slot _ 1 _ i j).trans (read1 m hO c t 1 i j)) ((ld_slot _ 2 _ i j).trans (read1 m hO c t 2 i j))

/-- What a point leaves in the buffer. -/
theorem point2 (t : Fin (cfgM m hO).N) (i : Fin 256) (j : Fin 1024) :
    (outsAt0 m hO c t) (ix2 i j) = total m c (256 * t.val + i.val) j.val := by
  unfold outsAt0

  unfold out0_A_2
  rw [View.read_writes_junk_apply_eq_canon]
  unfold kernelRun0_A
  dsimp only
  sl_unfold_words
  simp only [View.readAt_eq_ld, (hs0_0 m hO t).read_unread, (hs0_1 m hO t).read_unread]
  rw [View.canon_unit_zero zeros2]
  simp only [View.ld_unit_zero (S := S1x256x1024) zeros3]
  exact sums_entry m hO c t i j

/-- The result array. -/
def out2 : S256x1024.Idx → EReal := fun i => total m c (i 0).val (i 1).val

theorem flushed2 (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

/-- The result array after the run. -/
theorem final2 : (dats m hO 0 c).arrAt 2 (cfgM m hO).N = out2 m c := by
  have hN : (cfgM m hO).N = 1 := N_0
  refine (dats m hO 0 c).arrAt_eq_of_cover 2 (out2 m c) (fun t hf => ?_) fun (i : S256x1024.Idx) => ?_
  · rw [flushed2]
    have hi := congrFun (idx2 m hO t)
    refine funext fun (y : S256x1024.Idx) => ?_
    rw [View.read_apply]
    refine ((congrArg ((outsAt0 m hO c t)) (eq_ix2 y)).trans (point2 m hO c t (y 0) (y 1))).trans (Eq.trans (b := out2 m c ((((cfgM m hO).win 2).blk t).view.emb y)) (congrArg₂ (total m c) ?_ ?_) (Eq.symm (cast_eq _ _)))
    · exact of_pos 256 (hi (0 : Fin 2)) (by simp <;> omega)
    · exact of_pos 1024 (hi (1 : Fin 2)) (by simp <;> omega)
  · have h0 : (i 0 : ℕ) < 256 := (i 0).isLt
    have h1 : (i 1 : ℕ) < 1024 := (i 1).isLt
    obtain ⟨t, ht⟩ : ∃ t : Fin (cfgM m hO).N, t.val = (i 0 : ℕ) / 256 :=
      ⟨⟨_, by rw [hN]; omega⟩, rfl⟩
    refine ⟨t, flush0_2 (adm m hO) t, ?_⟩
    have hi := congrFun (idx2 m hO t)
    refine mem_of (View.set_slice_whole main_v0 _) (Rect.mem_set_unit.2 fun a => ?_)
    match a with
    | ⟨0, _⟩ => exact in_block 256 (i 0) (hi (0 : Fin 2)) (by simp <;> omega)
    | ⟨1, _⟩ => exact in_block 1024 (i 1) (hi (1 : Fin 2)) (by simp <;> omega)

include hO in
/-- The run leaves the results, and changes no argument. -/
theorem run_results (ρ : Dev nD → PrngReg) : θ_run defs (onTc (τ := τ) (main (F := Ideal))) ⟨m, fun _ => 0, ρ⟩ fun r => ∀ c : Dev nD,
      r.2.mem ((c : Thread nD τ).loc main_v0) = out2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final2 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

end Cert.Kernel37Ideal.Chip
end
-- ==== Proof.Chip.KvClaim.lean ====
/-
  The sum over the chips of the gradient of the key and value projection: the program and the reference leave the same results.
-/
module

public import proofs.«01_k».proof.Proof.Chip.Kv
public import proofs.«01_k».proof.Proof.Chip.Pick
public import proofs.«01_k».proof.Proof.Gen.Reference37Ideal.Read

@[expose] public section

noncomputable section

namespace Cert.Chip.Kv

open Idealize.ShloMosaic Idealize.ShloMosaic.TcCoe Idealize.SL.Sem
open Cert.Product Cert.Kernel37Ideal Cert.Kernel37Ideal.Chip Cert.Reference37Ideal.Read Cert.Chip

attribute [local instance] Cert.Kernel37Ideal.Gen.facts Cert.Reference37Ideal.Gen.facts Cert.Pre_chip_named37.Gen.facts

/-- The reference changes no argument, and declares no semaphore. -/
theorem frame : Cert.quiescent_Reference37Ideal := fun m ρ _ =>
  (θ_run Cert.Reference37Ideal.defs _ _).mono
    (fun r h => ⟨fun c => (h c).2, sem_eq_zero_of_no_sems (by decide) r.2⟩) (Cert.Reference37Ideal.Value.run m ρ)

/-- The three received gradients, summed by the reference. -/
theorem plain_rest (Y : S3x256x1024.Idx → EReal) (i : Fin 256) (j : Fin 1024) :
    val_main_v8 (F := Ideal) Y (ix2 i j) = at3 3 256 1024 Y 0 i.val j.val + at3 3 256 1024 Y 1 i.val j.val
      + at3 3 256 1024 Y 2 i.val j.val := by
  have hY : ∀ q : Fin 3, Y (ix3 q i j) = at3 3 256 1024 Y q.val i.val j.val := fun q => at3_val 3 256 1024 Y _ _ _ _ rfl rfl rfl
  unfold val_main_v8 val_main_v7 val_main_cst_1
  pointwise
  simp only [hY, Fin.sum_univ_three]
  rfl

/-- The chip's own gradients, kept by the reference. -/
theorem plain_own (X : S4x256x1024.Idx → EReal) (C : S1.Idx → BitVec 32) (k : ℕ) (hk : k ≤ 3) (hC : ∀ i, (C i).toNat = k)
    (i : Fin 256) (j : Fin 1024) : val_main_v6 (F := Ideal) X C (ix2 i j) = at3 4 256 1024 X k i.val j.val := by
  have hX : ∀ q : Fin 4, X (ix3 q i j) = at3 4 256 1024 X q.val i.val j.val := fun q => at3_val 4 256 1024 X _ _ _ _ rfl rfl rfl
  unfold val_main_v6 val_main_v5 val_main_call0_v2 val_main_call0_v1 val_main_call0_v0 val_main_cst val_main_v4 val_main_v3
    val_main_v2 val_main_v1 val_main_v0 val_main_cst_0
  pointwise
  simp only [hX, Fin.sum_univ_four]
  exact pick (fun q => at3 4 256 1024 X q i.val j.val) (C (ix1 0)) k hk (hC _) (Ideal.ofBits .f32 0x00000000#32)
    (by simp [Ideal.ofBits, Ideal.ieee])

variable (m : (ℓ : Loc nD τ sig) → Buf (Elt Ideal) ℓ) (h : Cert.Pre_Kernel37Ideal m) (c : Dev nD)
include h

/-- The reference's sum is the program's. -/
theorem plain_total (i : S256x1024.Idx) : val_main_v9 (F := Ideal) (argO m c) (argR m c) (argC m c) i = total m c (i 0).val (i 1).val := by
  have hk : chip m c ≤ 3 := (chip_eq m c (ix1 0)).symm ▸ word m h c (ix1 0)
  have e : val_main_v9 (F := Ideal) (argO m c) (argR m c) (argC m c) i
      = val_main_v6 (F := Ideal) (argO m c) (argC m c) (ix2 (i 0) (i 1)) + val_main_v8 (F := Ideal) (argR m c) (ix2 (i 0) (i 1)) := by
    rw [← eq_ix2 i]
    rfl
  rw [e, plain_own (argO m c) (argC m c) (chip m c) hk (chip_eq m c) (i 0) (i 1), plain_rest (argR m c) (i 0) (i 1)]
  unfold total
  simp only [add_assoc]

omit h in
/-- The two programs leave the same results. -/
theorem algebraic : Cert.algebraic_Kernel37Ideal_Reference37Ideal := by
  intro m g m' g' h hargs
  refine ⟨fun c => out2 m c, ?_, ?_⟩
  · exact run_results m (ok_of_pre m h) g
  · refine (θ_run Cert.Reference37Ideal.defs _ _).mono
      (fun r h' c => ⟨(h' c).1.trans ?_, (h' c).2⟩)
      (Cert.Reference37Ideal.Value.run m' g')
    · refine (val_main_v9_eq _ _ _).trans ?_
      rw [(hargs c).1, (hargs c).2.1, (hargs c).2.2]
      exact funext fun (i : S256x1024.Idx) => plain_total m h c i

end Cert.Chip.Kv
end
-- ==== Proof.Chip.UpPre.lean ====
/-
  The precondition of the sum over the chips of the two weights of the feed-forward going up: the block that the first window reads lies in its array.
-/
module

public import proofs.«01_k».proof.Defs
public import proofs.«01_k».proof.Proof.Chip.Word
public import proofs.«01_k».proof.Proof.Gen.Pre_chip_named38
public import proofs.«01_k».proof.Proof.Gen.Kernel38.Frame
public import proofs.«01_k».proof.Proof.Gen.Kernel38Ideal.Frame

@[expose] public section

namespace Cert.Kernel38.Chip

open Cert.Kernel38 Cert.Kernel38.Gen Idealize.ShloMosaic Idealize.ShloMosaic.TcCoe

variable (m : (ℓ : Loc nD τ sig) → Buf (Elt Bits) ℓ)

/-- The chip named is one of the four. -/
theorem word (h : Cert.Pre_Kernel38 m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 4 := by decide +kernel

/-- The block read lies in the array. -/
theorem ok_of_pre (h : Cert.Pre_Kernel38 m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 176 ≤ 704
    omega
  | ⟨2, _⟩ =>
    show (0 + 1) * 1024 ≤ 1024
    omega

end Cert.Kernel38.Chip

namespace Cert.Kernel38Ideal.Chip

open Cert.Kernel38Ideal Cert.Kernel38Ideal.Gen Idealize.ShloMosaic Idealize.ShloMosaic.TcCoe

variable (m : (ℓ : Loc nD τ sig) → Buf (Elt Ideal) ℓ)

/-- The chip named is one of the four. -/
theorem word (h : Cert.Pre_Kernel38Ideal m) (c : Dev nD) (i : S1.Idx) : (m ((c.tc : Thread nD τ).loc main_arg2) i : BitVec 32).toNat ≤ 3 :=
  Cert.Chip.word_le _ (congrFun (h c) i)

/-- The row block of a point. -/
theorem row : ∀ i : grid0.Coords, (BitVec.ofNat 32 (i 0).val).toNat < 4 := by decide +kernel

/-- The block read lies in the array. -/
theorem ok_of_pre (h : Cert.Pre_Kernel38Ideal m) : Ok m := by
  show ok0 (tbl m)
  unfold ok0
  intro i
  have hr := row i
  refine ⟨fun a => ?_, .inr (Affine.block_words_dvd (of_decide_eq_true rfl) (by decide))⟩
  unfold cc0_transform_0
  match a with
  | ⟨0, _⟩ =>
    have hw := word m h 0
    show ((m (((0 : Dev nD).tc : Thread nD τ).loc main_arg2) _ : BitVec 32).toNat + 1) * 1 ≤ 4
    exact (Nat.mul_le_mul_right 1 (Nat.add_le_add_right (hw _) 1))
  | ⟨1, _⟩ =>
    show ((BitVec.ofNat 32 (i 0).val).toNat + 1) * 176 ≤ 704
    omega
  | ⟨2, _⟩ =>
    show (0 + 1) * 1024 ≤ 1024
    omega

end Cert.Kernel38Ideal.Chip
end
-- ==== Proof.Chip.Up.lean ====
/-
  The sum over the chips of the gradient of the two weights of the feed-forward going up: one step for each block of 176 rows.
-/
module

public import proofs.«01_k».proof.Defs
public import proofs.«01_k».proof.Proof.Product.Entries
public import proofs.«01_k».proof.Proof.Chip.UpPre
public import proofs.«01_k».proof.Proof.Gen.Kernel38Ideal.Frame
public import Idealize.ShloMosaic.Lib.Pipeline.Value

@[expose] public section

set_option backward.isDefEq.respectTransparency.types false

noncomputable section

namespace Cert.Kernel38Ideal.Chip

open Cert.Kernel38Ideal Cert.Kernel38Ideal.Gen Cert.Product Idealize.ShloMosaic Idealize.ShloMosaic.TcCoe Idealize.SL.Sem

variable (m : (ℓ : Loc nD τ sig) → Buf (Elt Ideal) ℓ) (hO : Ok m) (c : Dev nD)

/-- The arguments of a device. -/
abbrev argO : S4x704x1024.Idx → EReal := m ((c.tc : Thread nD τ).loc main_arg0)
abbrev argR : S3x704x1024.Idx → EReal := m ((c.tc : Thread nD τ).loc main_arg1)
abbrev argC : S1.Idx → BitVec 32 := m ((c.tc : Thread nD τ).loc main_arg2)

/-- The chip named. -/
def chip : ℕ := (argC m c (ix1 (0 : Fin 1))).toNat

/-- The table has one word. -/
theorem chip_eq (i : S1.Idx) : (argC m c i).toNat = chip m c := by
  unfold chip
  refine congrArg (fun j => (argC m c j).toNat) (funext fun a => ?_)
  match a with
  | ⟨0, _⟩ => exact Subsingleton.elim (α := Fin 1) _ _

/-- The block of each window at a point. -/
theorem idx0 (t : Fin (cfgM m hO).N) : ((cfgM m hO).win 0).index t = ![chip m c, t.val, 0] := by
  have hr := (by decide +kernel : ∀ t : Fin grid0.N, (BitVec.ofNat 32 (grid0.coords t 0).val).toNat = t.val) t
  obtain rfl : c = 0 := Subsingleton.elim _ _
  show cc0_transform_0 _ _ (tbl m) (grid0.coords t) = _
  unfold cc0_transform_0
  funext a
  match a with
  | ⟨0, _⟩ => exact chip_eq m 0 _
  | ⟨1, _⟩ => exact hr
  | ⟨2, _⟩ => rfl
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![t.val, 0] :=
  (by decide +kernel : ∀ t : Fin grid0.N, cc0_transform_2 (grid0.coords t) = ![t.val, 0]) t

/-- The block of the window at a point. -/
abbrev blk0 (t : Fin (cfgM m hO).N) : Vec Ideal S1x176x1024 .bf16 := iblk m hO c 0 t

theorem read0 (t : Fin (cfgM m hO).N) (i : Fin 1) (j : Fin 176) (k : Fin 1024) :
    blk0 m hO c t (ix3 i j k) = at3 4 704 1024 (argO m c) (chip m c) (176 * t.val + j.val) k.val := by
  have hi := congrFun (idx0 m hO c t)
  unfold blk0 iblk
  rw [View.read_apply]
  refine at3_val 4 704 1024 (argO m c) _ _ _ _ ?_ ?_ ?_
  · exact pos_of 1 (hi (0 : Fin 3)) (by simp <;> omega)
  · exact pos_of 176 (hi (1 : Fin 3)) (by simp <;> omega)
  · exact pos_of 1024 (hi (2 : Fin 3)) (by simp <;> omega)

/-- The block of the window at a point. -/
abbrev blk1 (t : Fin (cfgM m hO).N) : Vec Ideal S3x176x1024 .bf16 := iblk m hO c 1 t

theorem read1 (t : Fin (cfgM m hO).N) (i : Fin 3) (j : Fin 176) (k : Fin 1024) :
    blk1 m hO c t (ix3 i j k) = at3 3 704 1024 (argR m c) i.val (176 * t.val + j.val) k.val := by
  have hi := congrFun (idx1 m hO t)
  unfold blk1 iblk
  rw [View.read_apply]
  refine at3_val 3 704 1024 (argR m c) _ _ _ _ ?_ ?_ ?_
  · exact pos_of 3 (hi (0 : Fin 3)) (by simp <;> omega)
  · exact pos_of 176 (hi (1 : Fin 3)) (by simp <;> omega)
  · exact pos_of 1024 (hi (2 : Fin 3)) (by simp <;> omega)

/-- An entry of the sum. -/
def total (a b : ℕ) : EReal :=
  at3 4 704 1024 (argO m c) (chip m c) a b + at3 3 704 1024 (argR m c) 0 a b + at3 3 704 1024 (argR m c) 1 a b
    + at3 3 704 1024 (argR m c) 2 a b

theorem sum_entry (x y z w : Vec Ideal S1x176x1024 .bf16) (i : Fin 176) (j : Fin 1024) (a b p q : EReal)
    (hx : x (ix3 0 i j) = a) (hy : y (ix3 0 i j) = b) (hz : z (ix3 0 i j) = p) (hw : w (ix3 0 i j) = q) :
    k0_pay1 x y z w (ix2 i j) = a + b + p + q := by
  unfold k0_pay1
  pointwise
  simp only [hx, hy, hz, hw]
  try rfl

/-- The block summed. -/
abbrev sums (t : Fin (cfgM m hO).N) : Vec Ideal S176x1024 .f32 :=
  k0_pay1 (blk0 m hO c t)
    (View.ld (blk1 m hO c t) (Rect.unit (s := S3x176x1024) ![0, 0, 0] S1x176x1024.size inb_S3x176x1024_S1x176x1024_0_0_0))
    (View.ld (blk1 m hO c t) (Rect.unit (s := S3x176x1024) ![1, 0, 0] S1x176x1024.size inb_S3x176x1024_S1x176x1024_1_0_0))
    (View.ld (blk1 m hO c t) (Rect.unit (s := S3x176x1024) ![2, 0, 0] S1x176x1024.size inb_S3x176x1024_S1x176x1024_2_0_0))

theorem sums_entry (t : Fin (cfgM m hO).N) (i : Fin 176) (j : Fin 1024) :
    sums m hO c t (ix2 i j) = total m c (176 * t.val + i.val) j.val :=
  sum_entry _ _ _ _ i j _ _ _ _ (read0 m hO c t 0 i j) ((ld_slot _ 0 _ i j).trans (read1 m hO c t 0 i j)) ((ld_slot _ 1 _ i j).trans (read1 m hO c t 1 i j)) ((ld_slot _ 2 _ i j).trans (read1 m hO c t 2 i j))

/-- What a point leaves in the buffer. -/
theorem point2 (t : Fin (cfgM m hO).N) (i : Fin 176) (j : Fin 1024) :
    (outsAt0 m hO c t) (ix2 i j) = total m c (176 * t.val + i.val) j.val := by
  unfold outsAt0

  unfold out0_A_2
  rw [View.read_writes_junk_apply_eq_canon]
  unfold kernelRun0_A
  dsimp only
  sl_unfold_words
  simp only [View.readAt_eq_ld, (hs0_0 m hO t).read_unread, (hs0_1 m hO t).read_unread]
  rw [View.canon_unit_zero zeros2]
  simp only [View.ld_unit_zero (S := S1x176x1024) zeros3]
  exact sums_entry m hO c t i j

/-- The result array. -/
def out2 : S704x1024.Idx → EReal := fun i => total m c (i 0).val (i 1).val

theorem flushed2 (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

/-- The result array after the run. -/
theorem final2 : (dats m hO 0 c).arrAt 2 (cfgM m hO).N = out2 m c := by
  have hN : (cfgM m hO).N = 4 := N_0
  refine (dats m hO 0 c).arrAt_eq_of_cover 2 (out2 m c) (fun t hf => ?_) fun (i : S704x1024.Idx) => ?_
  · rw [flushed2]
    have hi := congrFun (idx2 m hO t)
    refine funext fun (y : S176x1024.Idx) => ?_
    rw [View.read_apply]
    refine ((congrArg ((outsAt0 m hO c t)) (eq_ix2 y)).trans (point2 m hO c t (y 0) (y 1))).trans (Eq.trans (b := out2 m c ((((cfgM m hO).win 2).blk t).view.emb y)) (congrArg₂ (total m c) ?_ ?_) (Eq.symm (cast_eq _ _)))
    · exact of_pos 176 (hi (0 : Fin 2)) (by simp <;> omega)
    · exact of_pos 1024 (hi (1 : Fin 2)) (by simp <;> omega)
  · have h0 : (i 0 : ℕ) < 704 := (i 0).isLt
    have h1 : (i 1 : ℕ) < 1024 := (i 1).isLt
    obtain ⟨t, ht⟩ : ∃ t : Fin (cfgM m hO).N, t.val = (i 0 : ℕ) / 176 :=
      ⟨⟨_, by rw [hN]; omega⟩, rfl⟩
    refine ⟨t, flush0_2 (adm m hO) t, ?_⟩
    have hi := congrFun (idx2 m hO t)
    refine mem_of (View.set_slice_whole main_v0 _) (Rect.mem_set_unit.2 fun a => ?_)
    match a with
    | ⟨0, _⟩ => exact in_block 176 (i 0) (hi (0 : Fin 2)) (by simp <;> omega)
    | ⟨1, _⟩ => exact in_block 1024 (i 1) (hi (1 : Fin 2)) (by simp <;> omega)

include hO in
/-- The run leaves the results, and changes no argument. -/
theorem run_results (ρ : Dev nD → PrngReg) : θ_run defs (onTc (τ := τ) (main (F := Ideal))) ⟨m, fun _ => 0, ρ⟩ fun r => ∀ c : Dev nD,
      r.2.mem ((c : Thread nD τ).loc main_v0) = out2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final2 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

end Cert.Kernel38Ideal.Chip
end
-- ==== Proof.Chip.UpClaim.lean ====
/-
  The sum over the chips of the gradient of one half of the gate projection: the program and the reference leave the same results.
-/
module

public import proofs.«01_k».proof.Proof.Chip.Up
public import proofs.«01_k».proof.Proof.Chip.Pick
public import proofs.«01_k».proof.Proof.Gen.Reference38Ideal.Read

@[expose] public section

noncomputable section

namespace Cert.Chip.Up

open Idealize.ShloMosaic Idealize.ShloMosaic.TcCoe Idealize.SL.Sem
open Cert.Product Cert.Kernel38Ideal Cert.Kernel38Ideal.Chip Cert.Reference38Ideal.Read Cert.Chip

attribute [local instance] Cert.Kernel38Ideal.Gen.facts Cert.Reference38Ideal.Gen.facts Cert.Pre_chip_named38.Gen.facts

/-- The reference changes no argument, and declares no semaphore. -/
theorem frame : Cert.quiescent_Reference38Ideal := fun m ρ _ =>
  (θ_run Cert.Reference38Ideal.defs _ _).mono
    (fun r h => ⟨fun c => (h c).2, sem_eq_zero_of_no_sems (by decide) r.2⟩) (Cert.Reference38Ideal.Value.run m ρ)

/-- The three received gradients, summed by the reference. -/
theorem plain_rest (Y : S3x704x1024.Idx → EReal) (i : Fin 704) (j : Fin 1024) :
    val_main_v8 (F := Ideal) Y (ix2 i j) = at3 3 704 1024 Y 0 i.val j.val + at3 3 704 1024 Y 1 i.val j.val
      + at3 3 704 1024 Y 2 i.val j.val := by
  have hY : ∀ q : Fin 3, Y (ix3 q i j) = at3 3 704 1024 Y q.val i.val j.val := fun q => at3_val 3 704 1024 Y _ _ _ _ rfl rfl rfl
  unfold val_main_v8 val_main_v7 val_main_cst_1
  pointwise
  simp only [hY, Fin.sum_univ_three]
  rfl

/-- The chip's own gradients, kept by the reference. -/
theorem plain_own (X : S4x704x1024.Idx → EReal) (C : S1.Idx → BitVec 32) (k : ℕ) (hk : k ≤ 3) (hC : ∀ i, (C i).toNat = k)
    (i : Fin 704) (j : Fin 1024) : val_main_v6 (F := Ideal) X C (ix2 i j) = at3 4 704 1024 X k i.val j.val := by
  have hX : ∀ q : Fin 4, X (ix3 q i j) = at3 4 704 1024 X q.val i.val j.val := fun q => at3_val 4 704 1024 X _ _ _ _ rfl rfl rfl
  unfold val_main_v6 val_main_v5 val_main_call0_v2 val_main_call0_v1 val_main_call0_v0 val_main_cst val_main_v4 val_main_v3
    val_main_v2 val_main_v1 val_main_v0 val_main_cst_0
  pointwise
  simp only [hX, Fin.sum_univ_four]
  exact pick (fun q => at3 4 704 1024 X q i.val j.val) (C (ix1 0)) k hk (hC _) (Ideal.ofBits .f32 0x00000000#32)
    (by simp [Ideal.ofBits, Ideal.ieee])

variable (m : (ℓ : Loc nD τ sig) → Buf (Elt Ideal) ℓ) (h : Cert.Pre_Kernel38Ideal m) (c : Dev nD)
include h

/-- The reference's sum is the program's. -/
theorem plain_total (i : S704x1024.Idx) : val_main_v9 (F := Ideal) (argO m c) (argR m c) (argC m c) i = total m c (i 0).val (i 1).val := by
  have hk : chip m c ≤ 3 := (chip_eq m c (ix1 0)).symm ▸ word m h c (ix1 0)
  have e : val_main_v9 (F := Ideal) (argO m c) (argR m c) (argC m c) i
      = val_main_v6 (F := Ideal) (argO m c) (argC m c) (ix2 (i 0) (i 1)) + val_main_v8 (F := Ideal) (argR m c) (ix2 (i 0) (i 1)) := by
    rw [← eq_ix2 i]
    rfl
  rw [e, plain_own (argO m c) (argC m c) (chip m c) hk (chip_eq m c) (i 0) (i 1), plain_rest (argR m c) (i 0) (i 1)]
  unfold total
  simp only [add_assoc]

omit h in
/-- The two programs leave the same results. -/
theorem algebraic : Cert.algebraic_Kernel38Ideal_Reference38Ideal := by
  intro m g m' g' h hargs
  refine ⟨fun c => out2 m c, ?_, ?_⟩
  · exact run_results m (ok_of_pre m h) g
  · refine (θ_run Cert.Reference38Ideal.defs _ _).mono
      (fun r h' c => ⟨(h' c).1.trans ?_, (h' c).2⟩)
      (Cert.Reference38Ideal.Value.run m' g')
    · refine (val_main_v9_eq _ _ _).trans ?_
      rw [(hargs c).1, (hargs c).2.1, (hargs c).2.2]
      exact funext fun (i : S704x1024.Idx) => plain_total m h c i

end Cert.Chip.Up
end
-- ==== Proof.lean ====
/- The certificate: the frames from the runs, and the equality of results from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Conv.Claim
public import proofs.«01_k».proof.Proof.Gen.Kernel2.Frame
public import proofs.«01_k».proof.Proof.Gen.Kernel2Ideal.Frame
public import proofs.«01_k».proof.Proof.Product.UpDxClaim
public import proofs.«01_k».proof.Proof.Gen.Kernel3.Frame
public import proofs.«01_k».proof.Proof.Gen.Kernel3Ideal.Frame
public import proofs.«01_k».proof.Proof.Product.UpDwClaim
public import proofs.«01_k».proof.Proof.Gen.Kernel4.Frame
public import proofs.«01_k».proof.Proof.Gen.Kernel4Ideal.Frame
public import proofs.«01_k».proof.Proof.Product.DownDxClaim
public import proofs.«01_k».proof.Proof.Gen.Kernel5.Frame
public import proofs.«01_k».proof.Proof.Gen.Kernel5Ideal.Frame
public import proofs.«01_k».proof.Proof.Product.DownDwClaim
public import proofs.«01_k».proof.Proof.Gen.Kernel6.Frame
public import proofs.«01_k».proof.Proof.Gen.Kernel6Ideal.Frame
public import proofs.«01_k».proof.Proof.Product.InDxClaim
public import proofs.«01_k».proof.Proof.Gen.Kernel7.Frame
public import proofs.«01_k».proof.Proof.Gen.Kernel7Ideal.Frame
public import proofs.«01_k».proof.Proof.Product.InDwClaim
public import proofs.«01_k».proof.Proof.Gen.Kernel8.Frame
public import proofs.«01_k».proof.Proof.Gen.Kernel8Ideal.Frame
public import proofs.«01_k».proof.Proof.Product.KvDxClaim
public import proofs.«01_k».proof.Proof.Gen.Kernel9.Frame
public import proofs.«01_k».proof.Proof.Gen.Kernel9Ideal.Frame
public import proofs.«01_k».proof.Proof.Product.KvDwClaim
public import proofs.«01_k».proof.Proof.Gen.Kernel10.Frame
public import proofs.«01_k».proof.Proof.Gen.Kernel10Ideal.Frame
public import proofs.«01_k».proof.Proof.Product.QDxClaim
public import proofs.«01_k».proof.Proof.Gen.Kernel11.Frame
public import proofs.«01_k».proof.Proof.Gen.Kernel11Ideal.Frame
public import proofs.«01_k».proof.Proof.Product.QDwClaim
public import proofs.«01_k».proof.Proof.Gen.Kernel12.Frame
public import proofs.«01_k».proof.Proof.Gen.Kernel12Ideal.Frame
public import proofs.«01_k».proof.Proof.Product.ODxClaim
public import proofs.«01_k».proof.Proof.Gen.Kernel13.Frame
public import proofs.«01_k».proof.Proof.Gen.Kernel13Ideal.Frame
public import proofs.«01_k».proof.Proof.Product.ODwClaim
public import proofs.«01_k».proof.Proof.Gen.Kernel14.Frame
public import proofs.«01_k».proof.Proof.Gen.Kernel14Ideal.Frame
public import proofs.«01_k».proof.Proof.Product.OutDxClaim
public import proofs.«01_k».proof.Proof.Gen.Kernel15.Frame
public import proofs.«01_k».proof.Proof.Gen.Kernel15Ideal.Frame
public import proofs.«01_k».proof.Proof.Product.InClaim
public import proofs.«01_k».proof.Proof.Gen.Kernel16.Frame
public import proofs.«01_k».proof.Proof.Gen.Kernel16Ideal.Frame
public import proofs.«01_k».proof.Proof.Product.OutClaim
public import proofs.«01_k».proof.Proof.Gen.Kernel17.Frame
public import proofs.«01_k».proof.Proof.Gen.Kernel17Ideal.Frame
public import proofs.«01_k».proof.Proof.Product.UpClaim
public import proofs.«01_k».proof.Proof.Gen.Kernel18.Frame
public import proofs.«01_k».proof.Proof.Gen.Kernel18Ideal.Frame
public import proofs.«01_k».proof.Proof.Product.DownClaim
public import proofs.«01_k».proof.Proof.Gen.Kernel19.Frame
public import proofs.«01_k».proof.Proof.Gen.Kernel19Ideal.Frame
public import proofs.«01_k».proof.Proof.Product.KvClaim
public import proofs.«01_k».proof.Proof.Gen.Kernel20.Frame
public import proofs.«01_k».proof.Proof.Gen.Kernel20Ideal.Frame
public import proofs.«01_k».proof.Proof.Product.QClaim
public import proofs.«01_k».proof.Proof.Gen.Kernel21.Frame
public import proofs.«01_k».proof.Proof.Gen.Kernel21Ideal.Frame
public import proofs.«01_k».proof.Proof.Norm.BwdClaim
public import proofs.«01_k».proof.Proof.Gen.Kernel22.Frame
public import proofs.«01_k».proof.Proof.Gen.Kernel22Ideal.Frame
public import proofs.«01_k».proof.Proof.Norm.Bwd2Claim
public import proofs.«01_k».proof.Proof.Gen.Kernel23.Frame
public import proofs.«01_k».proof.Proof.Gen.Kernel23Ideal.Frame
public import proofs.«01_k».proof.Proof.Gen.Pre_finite23
public import proofs.«01_k».proof.Proof.Conv.ActBwdClaim
public import proofs.«01_k».proof.Proof.Gen.Kernel24.Frame
public import proofs.«01_k».proof.Proof.Gen.Kernel24Ideal.Frame
public import proofs.«01_k».proof.Proof.Norm.Fwd
public import proofs.«01_k».proof.Proof.Gen.Kernel25.Frame
public import proofs.«01_k».proof.Proof.Gen.Kernel25Ideal.Frame
public import proofs.«01_k».proof.Proof.Norm.Fwd2
public import proofs.«01_k».proof.Proof.Gen.Kernel26.Frame
public import proofs.«01_k».proof.Proof.Gen.Kernel26Ideal.Frame
public import proofs.«01_k».proof.Proof.Conv.GateFwdClaim
public import proofs.«01_k».proof.Proof.Gen.Kernel27.Frame
public import proofs.«01_k».proof.Proof.Gen.Kernel27Ideal.Frame
public import proofs.«01_k».proof.Proof.Conv.ActFwdClaim
public import proofs.«01_k».proof.Proof.Gen.Kernel28.Frame
public import proofs.«01_k».proof.Proof.Gen.Kernel28Ideal.Frame
public import proofs.«01_k».proof.Proof.Norm.Head
public import proofs.«01_k».proof.Proof.Gen.Kernel29.Frame
public import proofs.«01_k».proof.Proof.Gen.Kernel29Ideal.Frame
public import proofs.«01_k».proof.Proof.Adam.In
public import proofs.«01_k».proof.Proof.Gen.Kernel30.Frame
public import proofs.«01_k».proof.Proof.Gen.Kernel30Ideal.Frame
public import proofs.«01_k».proof.Proof.Adam.Kv
public import proofs.«01_k».proof.Proof.Gen.Kernel31.Frame
public import proofs.«01_k».proof.Proof.Gen.Kernel31Ideal.Frame
public import proofs.«01_k».proof.Proof.Adam.Up
public import proofs.«01_k».proof.Proof.Gen.Kernel33.Frame
public import proofs.«01_k».proof.Proof.Gen.Kernel33Ideal.Frame
public import proofs.«01_k».proof.Proof.Gen.Pre_chip_named33
public import proofs.«01_k».proof.Proof.Chip.OutClaim
public import proofs.«01_k».proof.Proof.Gen.Kernel34.Frame
public import proofs.«01_k».proof.Proof.Gen.Kernel34Ideal.Frame
public import proofs.«01_k».proof.Proof.Gen.Pre_chip_named34
public import proofs.«01_k».proof.Proof.Chip.DownClaim
public import proofs.«01_k».proof.Proof.Gen.Kernel35.Frame
public import proofs.«01_k».proof.Proof.Gen.Kernel35Ideal.Frame
public import proofs.«01_k».proof.Proof.Norm.Slots
public import proofs.«01_k».proof.Proof.Gen.Kernel36.Frame
public import proofs.«01_k».proof.Proof.Gen.Kernel36Ideal.Frame
public import proofs.«01_k».proof.Proof.Gen.Pre_chip_named36
public import proofs.«01_k».proof.Proof.Chip.InClaim
public import proofs.«01_k».proof.Proof.Gen.Kernel37.Frame
public import proofs.«01_k».proof.Proof.Gen.Kernel37Ideal.Frame
public import proofs.«01_k».proof.Proof.Gen.Pre_chip_named37
public import proofs.«01_k».proof.Proof.Chip.KvClaim
public import proofs.«01_k».proof.Proof.Gen.Kernel38.Frame
public import proofs.«01_k».proof.Proof.Gen.Kernel38Ideal.Frame
public import proofs.«01_k».proof.Proof.Gen.Pre_chip_named38
public import proofs.«01_k».proof.Proof.Chip.UpClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Pre_finite23.Gen.facts, Cert.Pre_chip_named33.Gen.facts, Cert.Pre_chip_named34.Gen.facts,
    Cert.Pre_chip_named36.Gen.facts, Cert.Pre_chip_named37.Gen.facts, Cert.Pre_chip_named38.Gen.facts,
    fun m ρ _ => Cert.Kernel.Gen.frame m ρ, fun m ρ _ => Cert.KernelIdeal.Gen.frame m ρ, Cert.Conv.frame,
    fun m ρ _ => Cert.Kernel2.Gen.frame m ρ, fun m ρ _ => Cert.Kernel2Ideal.Gen.frame m ρ, Cert.Product.UpDx.frame,
    fun m ρ _ => Cert.Kernel3.Gen.frame m ρ, fun m ρ _ => Cert.Kernel3Ideal.Gen.frame m ρ, Cert.Product.UpDw.frame,
    fun m ρ _ => Cert.Kernel4.Gen.frame m ρ, fun m ρ _ => Cert.Kernel4Ideal.Gen.frame m ρ, Cert.Product.DownDx.frame,
    fun m ρ _ => Cert.Kernel5.Gen.frame m ρ, fun m ρ _ => Cert.Kernel5Ideal.Gen.frame m ρ, Cert.Product.DownDw.frame,
    fun m ρ _ => Cert.Kernel6.Gen.frame m ρ, fun m ρ _ => Cert.Kernel6Ideal.Gen.frame m ρ, Cert.Product.InDx.frame,
    fun m ρ _ => Cert.Kernel7.Gen.frame m ρ, fun m ρ _ => Cert.Kernel7Ideal.Gen.frame m ρ, Cert.Product.InDw.frame,
    fun m ρ _ => Cert.Kernel8.Gen.frame m ρ, fun m ρ _ => Cert.Kernel8Ideal.Gen.frame m ρ, Cert.Product.KvDx.frame,
    fun m ρ _ => Cert.Kernel9.Gen.frame m ρ, fun m ρ _ => Cert.Kernel9Ideal.Gen.frame m ρ, Cert.Product.KvDw.frame,
    fun m ρ _ => Cert.Kernel10.Gen.frame m ρ, fun m ρ _ => Cert.Kernel10Ideal.Gen.frame m ρ, Cert.Product.QDx.frame,
    fun m ρ _ => Cert.Kernel11.Gen.frame m ρ, fun m ρ _ => Cert.Kernel11Ideal.Gen.frame m ρ, Cert.Product.QDw.frame,
    fun m ρ _ => Cert.Kernel12.Gen.frame m ρ, fun m ρ _ => Cert.Kernel12Ideal.Gen.frame m ρ, Cert.Product.ODx.frame,
    fun m ρ _ => Cert.Kernel13.Gen.frame m ρ, fun m ρ _ => Cert.Kernel13Ideal.Gen.frame m ρ, Cert.Product.ODw.frame,
    fun m ρ _ => Cert.Kernel14.Gen.frame m ρ, fun m ρ _ => Cert.Kernel14Ideal.Gen.frame m ρ, Cert.Product.OutDx.frame,
    fun m ρ _ => Cert.Kernel15.Gen.frame m ρ, fun m ρ _ => Cert.Kernel15Ideal.Gen.frame m ρ, Cert.Product.In.frame,
    fun m ρ _ => Cert.Kernel16.Gen.frame m ρ, fun m ρ _ => Cert.Kernel16Ideal.Gen.frame m ρ, Cert.Product.Out.frame,
    fun m ρ _ => Cert.Kernel17.Gen.frame m ρ, fun m ρ _ => Cert.Kernel17Ideal.Gen.frame m ρ, Cert.Product.Up.frame,
    fun m ρ _ => Cert.Kernel18.Gen.frame m ρ, fun m ρ _ => Cert.Kernel18Ideal.Gen.frame m ρ, Cert.Product.Down.frame,
    fun m ρ _ => Cert.Kernel19.Gen.frame m ρ, fun m ρ _ => Cert.Kernel19Ideal.Gen.frame m ρ, Cert.Product.Kv.frame,
    fun m ρ _ => Cert.Kernel20.Gen.frame m ρ, fun m ρ _ => Cert.Kernel20Ideal.Gen.frame m ρ, Cert.Product.Q.frame,
    fun m ρ _ => Cert.Kernel21.Gen.frame m ρ, fun m ρ _ => Cert.Kernel21Ideal.Gen.frame m ρ, Cert.Norm.Bwd.frame,
    fun m ρ _ => Cert.Kernel22.Gen.frame m ρ, fun m ρ _ => Cert.Kernel22Ideal.Gen.frame m ρ, Cert.Norm.Bwd2.frame,
    fun m ρ _ => Cert.Kernel23.Gen.frame m ρ, fun m ρ _ => Cert.Kernel23Ideal.Gen.frame m ρ, Cert.ActBwd.frame,
    fun m ρ _ => Cert.Kernel24.Gen.frame m ρ, fun m ρ _ => Cert.Kernel24Ideal.Gen.frame m ρ, Cert.Norm.Fwd.frame,
    fun m ρ _ => Cert.Kernel25.Gen.frame m ρ, fun m ρ _ => Cert.Kernel25Ideal.Gen.frame m ρ, Cert.Norm.Fwd2.frame,
    fun m ρ _ => Cert.Kernel26.Gen.frame m ρ, fun m ρ _ => Cert.Kernel26Ideal.Gen.frame m ρ, Cert.GateFwd.frame,
    fun m ρ _ => Cert.Kernel27.Gen.frame m ρ, fun m ρ _ => Cert.Kernel27Ideal.Gen.frame m ρ, Cert.ActFwd.frame,
    fun m ρ _ => Cert.Kernel28.Gen.frame m ρ, fun m ρ _ => Cert.Kernel28Ideal.Gen.frame m ρ, Cert.Norm.Head.frame,
    fun m ρ _ => Cert.Kernel29.Gen.frame m ρ, fun m ρ _ => Cert.Kernel29Ideal.Gen.frame m ρ, Cert.Adam.In.frame,
    fun m ρ _ => Cert.Kernel30.Gen.frame m ρ, fun m ρ _ => Cert.Kernel30Ideal.Gen.frame m ρ, Cert.Adam.Kv.frame,
    fun m ρ _ => Cert.Kernel31.Gen.frame m ρ, fun m ρ _ => Cert.Kernel31Ideal.Gen.frame m ρ, Cert.Adam.Up.frame,
    fun m ρ h => Cert.Kernel33.Gen.frame m ρ (Cert.Kernel33.Chip.ok_of_pre m h), fun m ρ h => Cert.Kernel33Ideal.Gen.frame m ρ (Cert.Kernel33Ideal.Chip.ok_of_pre m h), Cert.Chip.Out.frame,
    fun m ρ h => Cert.Kernel34.Gen.frame m ρ (Cert.Kernel34.Chip.ok_of_pre m h), fun m ρ h => Cert.Kernel34Ideal.Gen.frame m ρ (Cert.Kernel34Ideal.Chip.ok_of_pre m h), Cert.Chip.Down.frame,
    fun m ρ _ => Cert.Kernel35.Gen.frame m ρ, fun m ρ _ => Cert.Kernel35Ideal.Gen.frame m ρ, Cert.Slots.frame,
    fun m ρ h => Cert.Kernel36.Gen.frame m ρ (Cert.Kernel36.Chip.ok_of_pre m h), fun m ρ h => Cert.Kernel36Ideal.Gen.frame m ρ (Cert.Kernel36Ideal.Chip.ok_of_pre m h), Cert.Chip.In.frame,
    fun m ρ h => Cert.Kernel37.Gen.frame m ρ (Cert.Kernel37.Chip.ok_of_pre m h), fun m ρ h => Cert.Kernel37Ideal.Gen.frame m ρ (Cert.Kernel37Ideal.Chip.ok_of_pre m h), Cert.Chip.Kv.frame,
    fun m ρ h => Cert.Kernel38.Gen.frame m ρ (Cert.Kernel38.Chip.ok_of_pre m h), fun m ρ h => Cert.Kernel38Ideal.Gen.frame m ρ (Cert.Kernel38Ideal.Chip.ok_of_pre m h), Cert.Chip.Up.frame,
    trivial, Cert.Conv.algebraic,
    trivial, Cert.Product.UpDx.algebraic,
    trivial, Cert.Product.UpDw.algebraic,
    trivial, Cert.Product.DownDx.algebraic,
    trivial, Cert.Product.DownDw.algebraic,
    trivial, Cert.Product.InDx.algebraic,
    trivial, Cert.Product.InDw.algebraic,
    trivial, Cert.Product.KvDx.algebraic,
    trivial, Cert.Product.KvDw.algebraic,
    trivial, Cert.Product.QDx.algebraic,
    trivial, Cert.Product.QDw.algebraic,
    trivial, Cert.Product.ODx.algebraic,
    trivial, Cert.Product.ODw.algebraic,
    trivial, Cert.Product.OutDx.algebraic,
    trivial, Cert.Product.In.algebraic,
    trivial, Cert.Product.Out.algebraic,
    trivial, Cert.Product.Up.algebraic,
    trivial, Cert.Product.Down.algebraic,
    trivial, Cert.Product.Kv.algebraic,
    trivial, Cert.Product.Q.algebraic,
    trivial, Cert.Norm.Bwd.algebraic,
    trivial, Cert.Norm.Bwd2.algebraic,
    trivial, Cert.ActBwd.algebraic,
    trivial, Cert.Norm.Fwd.algebraic,
    trivial, Cert.Norm.Fwd2.algebraic,
    trivial, Cert.GateFwd.algebraic,
    trivial, Cert.ActFwd.algebraic,
    trivial, Cert.Norm.Head.algebraic,
    trivial, Cert.Adam.In.algebraic,
    trivial, Cert.Adam.Kv.algebraic,
    trivial, Cert.Adam.Up.algebraic,
    trivial, Cert.Chip.Out.algebraic,
    trivial, Cert.Chip.Down.algebraic,
    trivial, Cert.Slots.algebraic,
    trivial, Cert.Chip.In.algebraic,
    trivial, Cert.Chip.Kv.algebraic,
    trivial, Cert.Chip.Up.algebraic⟩

end Cert.Proof

end
